-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x32 : Shape := ⟨2, ![1024, 32]⟩
abbrev S1024x1024 : Shape := ⟨2, ![1024, 1024]⟩
abbrev S6 : Shape := ⟨1, ![6]⟩
abbrev S32 : Shape := ⟨1, ![32]⟩
abbrev S_ : Shape := ⟨0, ![]⟩
abbrev S1 : Shape := ⟨1, ![1]⟩
abbrev S16x1024 : Shape := ⟨2, ![16, 1024]⟩
abbrev S32x32 : Shape := ⟨2, ![32, 32]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x32, .f32⟩
  | .hbm, ⟨2, _⟩ => ⟨S1024x32, .f32⟩
  | .local _ .vmem, ⟨0, _⟩ => ⟨S32x1024, .f32⟩
  | .local _ .vmem, ⟨1, _⟩ => ⟨S1024x32, .f32⟩
  | .local _ .vmem, ⟨2, _⟩ => ⟨S1024x32, .f32⟩
  | .local _ .vmem, ⟨3, _⟩ => ⟨S1024x1024, .f32⟩
  | _, _ => ⟨S32x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 155 → Bool
  | ⟨i, _⟩ => dmaSemScopedAt i

abbrev sig : RefSig :=
  (ofTc nBuf bufTy 1 155 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_21 : BitVec 32 := 1#32
  let v52 : BitVec 32 := Scalar.muli v46 c1_i32_21
  let v53 : BitVec 32 := Scalar.addi c0_i32_22 v52
  v53.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_24 : BitVec 32 := 1#32
  let v54 : BitVec 32 := Scalar.muli v37 c1_i32_24
  let v55 : BitVec 32 := Scalar.addi c0_i32_25 v54
  v55.toNat
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_19 : BitVec 32 := 3#32
  let v49 : BitVec 1 := Scalar.cmpi .slt v19 c3_i32_19
  let v56 : BitVec 32 := Scalar.extui v49
  let c0_i32_26 : BitVec 32 := 0#32
  let v57 : BitVec 1 := Scalar.cmpi .ne v56 c0_i32_26
  v57

def k0_dev3 (d0 : Dev nD) : Nat :=
  let c0_i32_2312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2311 : BitVec 32 := 1#32
  let v2865 : BitVec 32 := Scalar.muli v47 c1_i32_2311
  let v2866 : BitVec 32 := Scalar.addi c0_i32_2312 v2865
  v2866.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_20 : BitVec 32 := 0#32
  let v50 : BitVec 1 := Scalar.cmpi .sgt v19 c0_i32_20
  let v58 : BitVec 32 := Scalar.extui v50
  let c0_i32_27 : BitVec 32 := 0#32
  let v59 : BitVec 1 := Scalar.cmpi .ne v58 c0_i32_27
  v59

def k0_dev4 (d0 : Dev nD) : Nat :=
  let c0_i32_2312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2311 : BitVec 32 := 1#32
  let v2865 : BitVec 32 := Scalar.muli v48 c1_i32_2311
  let v2866 : BitVec 32 := Scalar.addi c0_i32_2312 v2865
  v2866.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_32 : BitVec 32 := 32#32
  let v68 : BitVec 32 := Scalar.muli v65 c32_i32_32
  let v69 : Index := Scalar.indexCast v68
  let c0_33 : Index := 0#32
  ![v69.toNat, 0]
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_19 : BitVec 32 := 3#32
  let v49 : BitVec 1 := Scalar.cmpi .slt v19 c3_i32_19
  let v75 : BitVec 32 := Scalar.extui v49
  let c0_i32_38 : BitVec 32 := 0#32
  let v76 : BitVec 1 := Scalar.cmpi .ne v75 c0_i32_38
  v76

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_34 : BitVec 32 := 32#32
  let v73 : BitVec 32 := Scalar.muli v65 c32_i32_34
  let c0_i32_35 : BitVec 32 := 0#32
  let v74 : BitVec 32 := Scalar.addi v73 c0_i32_35
  let c0_i32_2312 : BitVec 32 := 0#32
  ![v74.toNat, 0]
def k0_dev5 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2310 : BitVec 32 := 1#32
  let v2865 : BitVec 32 := Scalar.muli v47 c1_i32_2310
  let v2866 : BitVec 32 := Scalar.addi c0_i32_2311 v2865
  v2866.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_20 : BitVec 32 := 0#32
  let v50 : BitVec 1 := Scalar.cmpi .sgt v19 c0_i32_20
  let v79 : BitVec 32 := Scalar.extui v50
  let c0_i32_43 : BitVec 32 := 0#32
  let v80 : BitVec 1 := Scalar.cmpi .ne v79 c0_i32_43
  v80

def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_39 : BitVec 32 := 32#32
  let v77 : BitVec 32 := Scalar.muli v65 c32_i32_39
  let c0_i32_40 : BitVec 32 := 0#32
  let v78 : BitVec 32 := Scalar.addi v77 c0_i32_40
  let c0_i32_2312 : BitVec 32 := 0#32
  ![v78.toNat, 0]
def k0_dev6 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2310 : BitVec 32 := 1#32
  let v2865 : BitVec 32 := Scalar.muli v48 c1_i32_2310
  let v2866 : BitVec 32 := Scalar.addi c0_i32_2311 v2865
  v2866.toNat
def k0_off4 (d0 : Dev nD) (c0_i32_45 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_44 : BitVec 32 := 2#32
  let v81 : BitVec 32 := Scalar.muli v19 c2_i32_44
  let v82 : BitVec 32 := Scalar.addi v81 c0_i32_45
  ![v82.toNat]
def k0_off5 (d0 : Dev nD) (c0_i32_49 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_48 : BitVec 32 := 32#32
  let v85 : BitVec 32 := Scalar.muli v65 c32_i32_48
  let v86 : BitVec 32 := Scalar.addi v85 c0_i32_49
  let c0_i32_52 : BitVec 32 := 0#32
  ![v86.toNat, 0]
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_50 : BitVec 32 := 1#32
  let v87 : BitVec 32 := Scalar.muli v37 c1_i32_50
  let v88 : BitVec 32 := Scalar.addi c0_i32_51 v87
  v88.toNat
def k0_dev8 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_61 : BitVec 32 := 1#32
  let v101 : BitVec 32 := Scalar.muli v46 c1_i32_61
  let v102 : BitVec 32 := Scalar.addi c0_i32_62 v101
  v102.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_19 : BitVec 32 := 3#32
  let v49 : BitVec 1 := Scalar.cmpi .slt v19 c3_i32_19
  let v111 : BitVec 32 := Scalar.extui v49
  let c0_i32_69 : BitVec 32 := 0#32
  let v112 : BitVec 1 := Scalar.cmpi .ne v111 c0_i32_69
  v112

def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_66 : BitVec 32 := 32#32
  let v109 : BitVec 32 := Scalar.muli v65 c32_i32_66
  let c16_i32 : BitVec 32 := 16#32
  let v110 : BitVec 32 := Scalar.addi v109 c16_i32
  let c0_i32_2312 : BitVec 32 := 0#32
  ![v110.toNat, 0]
def k0_dev9 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2310 : BitVec 32 := 1#32
  let v2865 : BitVec 32 := Scalar.muli v47 c1_i32_2310
  let v2866 : BitVec 32 := Scalar.addi c0_i32_2311 v2865
  v2866.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_20 : BitVec 32 := 0#32
  let v50 : BitVec 1 := Scalar.cmpi .sgt v19 c0_i32_20
  let v115 : BitVec 32 := Scalar.extui v50
  let c0_i32_74 : BitVec 32 := 0#32
  let v116 : BitVec 1 := Scalar.cmpi .ne v115 c0_i32_74
  v116

def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_70 : BitVec 32 := 32#32
  let v113 : BitVec 32 := Scalar.muli v65 c32_i32_70
  let c16_i32_71 : BitVec 32 := 16#32
  let v114 : BitVec 32 := Scalar.addi v113 c16_i32_71
  let c0_i32_2312 : BitVec 32 := 0#32
  ![v114.toNat, 0]
def k0_dev10 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2310 : BitVec 32 := 1#32
  let v2865 : BitVec 32 := Scalar.muli v48 c1_i32_2310
  let v2866 : BitVec 32 := Scalar.addi c0_i32_2311 v2865
  v2866.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_81 : BitVec 32 := 1#32
  let v123 : BitVec 32 := Scalar.muli v37 c1_i32_81
  let v124 : BitVec 32 := Scalar.addi c0_i32_82 v123
  v124.toNat
def k0_dev12 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_92 : BitVec 32 := 1#32
  let v137 : BitVec 32 := Scalar.muli v46 c1_i32_92
  let v138 : BitVec 32 := Scalar.addi c0_i32_93 v137
  v138.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v151 : BitVec 32 := Scalar.extui v146
  let c0_i32_104 : BitVec 32 := 0#32
  let v152 : BitVec 1 := Scalar.cmpi .ne v151 c0_i32_104
  v152

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_100 : BitVec 32 := 32#32
  let v149 : BitVec 32 := Scalar.muli v148 c32_i32_100
  let c0_i32_101 : BitVec 32 := 0#32
  let v150 : BitVec 32 := Scalar.addi v149 c0_i32_101
  let c0_i32_2312 : BitVec 32 := 0#32
  ![v150.toNat, 0]
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let c3_i32_19 : BitVec 32 := 3#32
  let v49 : BitVec 1 := Scalar.cmpi .slt v19 c3_i32_19
  let v153 : BitVec 1 := Scalar.andi v146 v49
  let v158 : BitVec 32 := Scalar.extui v153
  let c0_i32_111 : BitVec 32 := 0#32
  let v159 : BitVec 1 := Scalar.cmpi .ne v158 c0_i32_111
  v159

def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_107 : BitVec 32 := 32#32
  let v156 : BitVec 32 := Scalar.muli v148 c32_i32_107
  let c0_i32_108 : BitVec 32 := 0#32
  let v157 : BitVec 32 := Scalar.addi v156 c0_i32_108
  let c0_i32_2312 : BitVec 32 := 0#32
  ![v157.toNat, 0]
def k0_dev13 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2310 : BitVec 32 := 1#32
  let v2865 : BitVec 32 := Scalar.muli v47 c1_i32_2310
  let v2866 : BitVec 32 := Scalar.addi c0_i32_2311 v2865
  v2866.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v168 : BitVec 32 := Scalar.extui v146
  let c0_i32_120 : BitVec 32 := 0#32
  let v169 : BitVec 1 := Scalar.cmpi .ne v168 c0_i32_120
  v169

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_114 : BitVec 32 := 2#32
  let v162 : BitVec 32 := Scalar.muli v145 c2_i32_114
  let c0_i32_115 : BitVec 32 := 0#32
  let v163 : BitVec 32 := Scalar.addi v162 c0_i32_115
  ![v163.toNat]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_118 : BitVec 32 := 32#32
  let v166 : BitVec 32 := Scalar.muli v148 c32_i32_118
  let c0_i32_119 : BitVec 32 := 0#32
  let v167 : BitVec 32 := Scalar.addi v166 c0_i32_119
  let c0_i32_2312 : BitVec 32 := 0#32
  ![v167.toNat, 0]
def k0_dev14 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v178 : BitVec 32 := Scalar.extui v146
  let c0_i32_129 : BitVec 32 := 0#32
  let v179 : BitVec 1 := Scalar.cmpi .ne v178 c0_i32_129
  v179

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_123 : BitVec 32 := 2#32
  let v172 : BitVec 32 := Scalar.muli v145 c2_i32_123
  let c0_i32_124 : BitVec 32 := 0#32
  let v173 : BitVec 32 := Scalar.addi v172 c0_i32_124
  ![v173.toNat]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_127 : BitVec 32 := 32#32
  let v176 : BitVec 32 := Scalar.muli v148 c32_i32_127
  let c0_i32_128 : BitVec 32 := 0#32
  let v177 : BitVec 32 := Scalar.addi v176 c0_i32_128
  let c0_i32_2312 : BitVec 32 := 0#32
  ![v177.toNat, 0]
def k0_dev15 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v182 : BitVec 32 := Scalar.extui v146
  let c0_i32_134 : BitVec 32 := 0#32
  let v183 : BitVec 1 := Scalar.cmpi .ne v182 c0_i32_134
  v183

def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_130 : BitVec 32 := 32#32
  let v180 : BitVec 32 := Scalar.muli v148 c32_i32_130
  let c16_i32_131 : BitVec 32 := 16#32
  let v181 : BitVec 32 := Scalar.addi v180 c16_i32_131
  let c0_i32_2312 : BitVec 32 := 0#32
  ![v181.toNat, 0]
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let c3_i32_19 : BitVec 32 := 3#32
  let v49 : BitVec 1 := Scalar.cmpi .slt v19 c3_i32_19
  let v184 : BitVec 1 := Scalar.andi v146 v49
  let v189 : BitVec 32 := Scalar.extui v184
  let c0_i32_141 : BitVec 32 := 0#32
  let v190 : BitVec 1 := Scalar.cmpi .ne v189 c0_i32_141
  v190

def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_137 : BitVec 32 := 32#32
  let v187 : BitVec 32 := Scalar.muli v148 c32_i32_137
  let c16_i32_138 : BitVec 32 := 16#32
  let v188 : BitVec 32 := Scalar.addi v187 c16_i32_138
  let c0_i32_2312 : BitVec 32 := 0#32
  ![v188.toNat, 0]
def k0_dev16 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2310 : BitVec 32 := 1#32
  let v2865 : BitVec 32 := Scalar.muli v47 c1_i32_2310
  let v2866 : BitVec 32 := Scalar.addi c0_i32_2311 v2865
  v2866.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v199 : BitVec 32 := Scalar.extui v146
  let c0_i32_150 : BitVec 32 := 0#32
  let v200 : BitVec 1 := Scalar.cmpi .ne v199 c0_i32_150
  v200

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_144 : BitVec 32 := 2#32
  let v193 : BitVec 32 := Scalar.muli v145 c2_i32_144
  let c1_i32_145 : BitVec 32 := 1#32
  let v194 : BitVec 32 := Scalar.addi v193 c1_i32_145
  ![v194.toNat]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_148 : BitVec 32 := 32#32
  let v197 : BitVec 32 := Scalar.muli v148 c32_i32_148
  let c16_i32_149 : BitVec 32 := 16#32
  let v198 : BitVec 32 := Scalar.addi v197 c16_i32_149
  let c0_i32_2312 : BitVec 32 := 0#32
  ![v198.toNat, 0]
def k0_dev17 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v209 : BitVec 32 := Scalar.extui v146
  let c0_i32_159 : BitVec 32 := 0#32
  let v210 : BitVec 1 := Scalar.cmpi .ne v209 c0_i32_159
  v210

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_153 : BitVec 32 := 2#32
  let v203 : BitVec 32 := Scalar.muli v145 c2_i32_153
  let c1_i32_154 : BitVec 32 := 1#32
  let v204 : BitVec 32 := Scalar.addi v203 c1_i32_154
  ![v204.toNat]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_157 : BitVec 32 := 32#32
  let v207 : BitVec 32 := Scalar.muli v148 c32_i32_157
  let c16_i32_158 : BitVec 32 := 16#32
  let v208 : BitVec 32 := Scalar.addi v207 c16_i32_158
  let c0_i32_2312 : BitVec 32 := 0#32
  ![v208.toNat, 0]
def k0_dev18 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v217 : BitVec 32 := Scalar.extui v212
  let c0_i32_167 : BitVec 32 := 0#32
  let v218 : BitVec 1 := Scalar.cmpi .ne v217 c0_i32_167
  v218

def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_163 : BitVec 32 := 32#32
  let v215 : BitVec 32 := Scalar.muli v214 c32_i32_163
  let c0_i32_164 : BitVec 32 := 0#32
  let v216 : BitVec 32 := Scalar.addi v215 c0_i32_164
  let c0_i32_2312 : BitVec 32 := 0#32
  ![v216.toNat, 0]
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let c0_i32_20 : BitVec 32 := 0#32
  let v50 : BitVec 1 := Scalar.cmpi .sgt v19 c0_i32_20
  let v219 : BitVec 1 := Scalar.andi v212 v50
  let v224 : BitVec 32 := Scalar.extui v219
  let c0_i32_174 : BitVec 32 := 0#32
  let v225 : BitVec 1 := Scalar.cmpi .ne v224 c0_i32_174
  v225

def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_170 : BitVec 32 := 32#32
  let v222 : BitVec 32 := Scalar.muli v214 c32_i32_170
  let c0_i32_171 : BitVec 32 := 0#32
  let v223 : BitVec 32 := Scalar.addi v222 c0_i32_171
  let c0_i32_2312 : BitVec 32 := 0#32
  ![v223.toNat, 0]
def k0_dev19 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2310 : BitVec 32 := 1#32
  let v2865 : BitVec 32 := Scalar.muli v48 c1_i32_2310
  let v2866 : BitVec 32 := Scalar.addi c0_i32_2311 v2865
  v2866.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v234 : BitVec 32 := Scalar.extui v212
  let c0_i32_183 : BitVec 32 := 0#32
  let v235 : BitVec 1 := Scalar.cmpi .ne v234 c0_i32_183
  v235

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_177 : BitVec 32 := 2#32
  let v228 : BitVec 32 := Scalar.muli v211 c2_i32_177
  let c0_i32_178 : BitVec 32 := 0#32
  let v229 : BitVec 32 := Scalar.addi v228 c0_i32_178
  ![v229.toNat]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_181 : BitVec 32 := 32#32
  let v232 : BitVec 32 := Scalar.muli v214 c32_i32_181
  let c0_i32_182 : BitVec 32 := 0#32
  let v233 : BitVec 32 := Scalar.addi v232 c0_i32_182
  let c0_i32_2312 : BitVec 32 := 0#32
  ![v233.toNat, 0]
def k0_dev20 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v244 : BitVec 32 := Scalar.extui v212
  let c0_i32_192 : BitVec 32 := 0#32
  let v245 : BitVec 1 := Scalar.cmpi .ne v244 c0_i32_192
  v245

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_186 : BitVec 32 := 2#32
  let v238 : BitVec 32 := Scalar.muli v211 c2_i32_186
  let c0_i32_187 : BitVec 32 := 0#32
  let v239 : BitVec 32 := Scalar.addi v238 c0_i32_187
  ![v239.toNat]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_190 : BitVec 32 := 32#32
  let v242 : BitVec 32 := Scalar.muli v214 c32_i32_190
  let c0_i32_191 : BitVec 32 := 0#32
  let v243 : BitVec 32 := Scalar.addi v242 c0_i32_191
  let c0_i32_2312 : BitVec 32 := 0#32
  ![v243.toNat, 0]
def k0_dev21 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v248 : BitVec 32 := Scalar.extui v212
  let c0_i32_197 : BitVec 32 := 0#32
  let v249 : BitVec 1 := Scalar.cmpi .ne v248 c0_i32_197
  v249

def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_193 : BitVec 32 := 32#32
  let v246 : BitVec 32 := Scalar.muli v214 c32_i32_193
  let c16_i32_194 : BitVec 32 := 16#32
  let v247 : BitVec 32 := Scalar.addi v246 c16_i32_194
  let c0_i32_2312 : BitVec 32 := 0#32
  ![v247.toNat, 0]
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let c0_i32_20 : BitVec 32 := 0#32
  let v50 : BitVec 1 := Scalar.cmpi .sgt v19 c0_i32_20
  let v250 : BitVec 1 := Scalar.andi v212 v50
  let v255 : BitVec 32 := Scalar.extui v250
  let c0_i32_204 : BitVec 32 := 0#32
  let v256 : BitVec 1 := Scalar.cmpi .ne v255 c0_i32_204
  v256

def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_200 : BitVec 32 := 32#32
  let v253 : BitVec 32 := Scalar.muli v214 c32_i32_200
  let c16_i32_201 : BitVec 32 := 16#32
  let v254 : BitVec 32 := Scalar.addi v253 c16_i32_201
  let c0_i32_2312 : BitVec 32 := 0#32
  ![v254.toNat, 0]
def k0_dev22 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2310 : BitVec 32 := 1#32
  let v2865 : BitVec 32 := Scalar.muli v48 c1_i32_2310
  let v2866 : BitVec 32 := Scalar.addi c0_i32_2311 v2865
  v2866.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v265 : BitVec 32 := Scalar.extui v212
  let c0_i32_213 : BitVec 32 := 0#32
  let v266 : BitVec 1 := Scalar.cmpi .ne v265 c0_i32_213
  v266

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_207 : BitVec 32 := 2#32
  let v259 : BitVec 32 := Scalar.muli v211 c2_i32_207
  let c1_i32_208 : BitVec 32 := 1#32
  let v260 : BitVec 32 := Scalar.addi v259 c1_i32_208
  ![v260.toNat]
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_211 : BitVec 32 := 32#32
  let v263 : BitVec 32 := Scalar.muli v214 c32_i32_211
  let c16_i32_212 : BitVec 32 := 16#32
  let v264 : BitVec 32 := Scalar.addi v263 c16_i32_212
  let c0_i32_2312 : BitVec 32 := 0#32
  ![v264.toNat, 0]
def k0_dev23 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v275 : BitVec 32 := Scalar.extui v212
  let c0_i32_222 : BitVec 32 := 0#32
  let v276 : BitVec 1 := Scalar.cmpi .ne v275 c0_i32_222
  v276

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_216 : BitVec 32 := 2#32
  let v269 : BitVec 32 := Scalar.muli v211 c2_i32_216
  let c1_i32_217 : BitVec 32 := 1#32
  let v270 : BitVec 32 := Scalar.addi v269 c1_i32_217
  ![v270.toNat]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_220 : BitVec 32 := 32#32
  let v273 : BitVec 32 := Scalar.muli v214 c32_i32_220
  let c16_i32_221 : BitVec 32 := 16#32
  let v274 : BitVec 32 := Scalar.addi v273 c16_i32_221
  let c0_i32_2312 : BitVec 32 := 0#32
  ![v274.toNat, 0]
def k0_dev24 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v283 : BitVec 32 := Scalar.extui v278
  let c0_i32_230 : BitVec 32 := 0#32
  let v284 : BitVec 1 := Scalar.cmpi .ne v283 c0_i32_230
  v284

def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_226 : BitVec 32 := 32#32
  let v281 : BitVec 32 := Scalar.muli v280 c32_i32_226
  let c0_i32_227 : BitVec 32 := 0#32
  let v282 : BitVec 32 := Scalar.addi v281 c0_i32_227
  let c0_i32_2312 : BitVec 32 := 0#32
  ![v282.toNat, 0]
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let c3_i32_19 : BitVec 32 := 3#32
  let v49 : BitVec 1 := Scalar.cmpi .slt v19 c3_i32_19
  let v285 : BitVec 1 := Scalar.andi v278 v49
  let v290 : BitVec 32 := Scalar.extui v285
  let c0_i32_237 : BitVec 32 := 0#32
  let v291 : BitVec 1 := Scalar.cmpi .ne v290 c0_i32_237
  v291

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_233 : BitVec 32 := 32#32
  let v288 : BitVec 32 := Scalar.muli v280 c32_i32_233
  let c0_i32_234 : BitVec 32 := 0#32
  let v289 : BitVec 32 := Scalar.addi v288 c0_i32_234
  let c0_i32_2312 : BitVec 32 := 0#32
  ![v289.toNat, 0]
def k0_dev25 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2310 : BitVec 32 := 1#32
  let v2865 : BitVec 32 := Scalar.muli v47 c1_i32_2310
  let v2866 : BitVec 32 := Scalar.addi c0_i32_2311 v2865
  v2866.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v300 : BitVec 32 := Scalar.extui v278
  let c0_i32_246 : BitVec 32 := 0#32
  let v301 : BitVec 1 := Scalar.cmpi .ne v300 c0_i32_246
  v301

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_240 : BitVec 32 := 2#32
  let v294 : BitVec 32 := Scalar.muli v277 c2_i32_240
  let c0_i32_241 : BitVec 32 := 0#32
  let v295 : BitVec 32 := Scalar.addi v294 c0_i32_241
  ![v295.toNat]
def k0_off35 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_244 : BitVec 32 := 32#32
  let v298 : BitVec 32 := Scalar.muli v280 c32_i32_244
  let c0_i32_245 : BitVec 32 := 0#32
  let v299 : BitVec 32 := Scalar.addi v298 c0_i32_245
  let c0_i32_2312 : BitVec 32 := 0#32
  ![v299.toNat, 0]
def k0_dev26 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v310 : BitVec 32 := Scalar.extui v278
  let c0_i32_255 : BitVec 32 := 0#32
  let v311 : BitVec 1 := Scalar.cmpi .ne v310 c0_i32_255
  v311

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_249 : BitVec 32 := 2#32
  let v304 : BitVec 32 := Scalar.muli v277 c2_i32_249
  let c0_i32_250 : BitVec 32 := 0#32
  let v305 : BitVec 32 := Scalar.addi v304 c0_i32_250
  ![v305.toNat]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_253 : BitVec 32 := 32#32
  let v308 : BitVec 32 := Scalar.muli v280 c32_i32_253
  let c0_i32_254 : BitVec 32 := 0#32
  let v309 : BitVec 32 := Scalar.addi v308 c0_i32_254
  let c0_i32_2312 : BitVec 32 := 0#32
  ![v309.toNat, 0]
def k0_dev27 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v314 : BitVec 32 := Scalar.extui v278
  let c0_i32_260 : BitVec 32 := 0#32
  let v315 : BitVec 1 := Scalar.cmpi .ne v314 c0_i32_260
  v315

def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_256 : BitVec 32 := 32#32
  let v312 : BitVec 32 := Scalar.muli v280 c32_i32_256
  let c16_i32_257 : BitVec 32 := 16#32
  let v313 : BitVec 32 := Scalar.addi v312 c16_i32_257
  let c0_i32_2312 : BitVec 32 := 0#32
  ![v313.toNat, 0]
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let c3_i32_19 : BitVec 32 := 3#32
  let v49 : BitVec 1 := Scalar.cmpi .slt v19 c3_i32_19
  let v316 : BitVec 1 := Scalar.andi v278 v49
  let v321 : BitVec 32 := Scalar.extui v316
  let c0_i32_267 : BitVec 32 := 0#32
  let v322 : BitVec 1 := Scalar.cmpi .ne v321 c0_i32_267
  v322

def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_263 : BitVec 32 := 32#32
  let v319 : BitVec 32 := Scalar.muli v280 c32_i32_263
  let c16_i32_264 : BitVec 32 := 16#32
  let v320 : BitVec 32 := Scalar.addi v319 c16_i32_264
  let c0_i32_2312 : BitVec 32 := 0#32
  ![v320.toNat, 0]
def k0_dev28 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_17 : BitVec 32 := 8#32
  let v47 : BitVec 32 := Scalar.addi v2 c8_i32_17
  let c1_i32_2310 : BitVec 32 := 1#32
  let v2865 : BitVec 32 := Scalar.muli v47 c1_i32_2310
  let v2866 : BitVec 32 := Scalar.addi c0_i32_2311 v2865
  v2866.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v331 : BitVec 32 := Scalar.extui v278
  let c0_i32_276 : BitVec 32 := 0#32
  let v332 : BitVec 1 := Scalar.cmpi .ne v331 c0_i32_276
  v332

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_270 : BitVec 32 := 2#32
  let v325 : BitVec 32 := Scalar.muli v277 c2_i32_270
  let c1_i32_271 : BitVec 32 := 1#32
  let v326 : BitVec 32 := Scalar.addi v325 c1_i32_271
  ![v326.toNat]
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_274 : BitVec 32 := 32#32
  let v329 : BitVec 32 := Scalar.muli v280 c32_i32_274
  let c16_i32_275 : BitVec 32 := 16#32
  let v330 : BitVec 32 := Scalar.addi v329 c16_i32_275
  let c0_i32_2312 : BitVec 32 := 0#32
  ![v330.toNat, 0]
def k0_dev29 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v341 : BitVec 32 := Scalar.extui v278
  let c0_i32_285 : BitVec 32 := 0#32
  let v342 : BitVec 1 := Scalar.cmpi .ne v341 c0_i32_285
  v342

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_279 : BitVec 32 := 2#32
  let v335 : BitVec 32 := Scalar.muli v277 c2_i32_279
  let c1_i32_280 : BitVec 32 := 1#32
  let v336 : BitVec 32 := Scalar.addi v335 c1_i32_280
  ![v336.toNat]
def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_283 : BitVec 32 := 32#32
  let v339 : BitVec 32 := Scalar.muli v280 c32_i32_283
  let c16_i32_284 : BitVec 32 := 16#32
  let v340 : BitVec 32 := Scalar.addi v339 c16_i32_284
  let c0_i32_2312 : BitVec 32 := 0#32
  ![v340.toNat, 0]
def k0_dev30 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v349 : BitVec 32 := Scalar.extui v344
  let c0_i32_293 : BitVec 32 := 0#32
  let v350 : BitVec 1 := Scalar.cmpi .ne v349 c0_i32_293
  v350

def k0_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_289 : BitVec 32 := 32#32
  let v347 : BitVec 32 := Scalar.muli v346 c32_i32_289
  let c0_i32_290 : BitVec 32 := 0#32
  let v348 : BitVec 32 := Scalar.addi v347 c0_i32_290
  let c0_i32_2312 : BitVec 32 := 0#32
  ![v348.toNat, 0]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let c0_i32_20 : BitVec 32 := 0#32
  let v50 : BitVec 1 := Scalar.cmpi .sgt v19 c0_i32_20
  let v351 : BitVec 1 := Scalar.andi v344 v50
  let v356 : BitVec 32 := Scalar.extui v351
  let c0_i32_300 : BitVec 32 := 0#32
  let v357 : BitVec 1 := Scalar.cmpi .ne v356 c0_i32_300
  v357

def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_296 : BitVec 32 := 32#32
  let v354 : BitVec 32 := Scalar.muli v346 c32_i32_296
  let c0_i32_297 : BitVec 32 := 0#32
  let v355 : BitVec 32 := Scalar.addi v354 c0_i32_297
  let c0_i32_2312 : BitVec 32 := 0#32
  ![v355.toNat, 0]
def k0_dev31 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2310 : BitVec 32 := 1#32
  let v2865 : BitVec 32 := Scalar.muli v48 c1_i32_2310
  let v2866 : BitVec 32 := Scalar.addi c0_i32_2311 v2865
  v2866.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v366 : BitVec 32 := Scalar.extui v344
  let c0_i32_309 : BitVec 32 := 0#32
  let v367 : BitVec 1 := Scalar.cmpi .ne v366 c0_i32_309
  v367

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_303 : BitVec 32 := 2#32
  let v360 : BitVec 32 := Scalar.muli v343 c2_i32_303
  let c0_i32_304 : BitVec 32 := 0#32
  let v361 : BitVec 32 := Scalar.addi v360 c0_i32_304
  ![v361.toNat]
def k0_off47 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_307 : BitVec 32 := 32#32
  let v364 : BitVec 32 := Scalar.muli v346 c32_i32_307
  let c0_i32_308 : BitVec 32 := 0#32
  let v365 : BitVec 32 := Scalar.addi v364 c0_i32_308
  let c0_i32_2312 : BitVec 32 := 0#32
  ![v365.toNat, 0]
def k0_dev32 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v376 : BitVec 32 := Scalar.extui v344
  let c0_i32_318 : BitVec 32 := 0#32
  let v377 : BitVec 1 := Scalar.cmpi .ne v376 c0_i32_318
  v377

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_312 : BitVec 32 := 2#32
  let v370 : BitVec 32 := Scalar.muli v343 c2_i32_312
  let c0_i32_313 : BitVec 32 := 0#32
  let v371 : BitVec 32 := Scalar.addi v370 c0_i32_313
  ![v371.toNat]
def k0_off49 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_316 : BitVec 32 := 32#32
  let v374 : BitVec 32 := Scalar.muli v346 c32_i32_316
  let c0_i32_317 : BitVec 32 := 0#32
  let v375 : BitVec 32 := Scalar.addi v374 c0_i32_317
  let c0_i32_2312 : BitVec 32 := 0#32
  ![v375.toNat, 0]
def k0_dev33 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v380 : BitVec 32 := Scalar.extui v344
  let c0_i32_323 : BitVec 32 := 0#32
  let v381 : BitVec 1 := Scalar.cmpi .ne v380 c0_i32_323
  v381

def k0_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_319 : BitVec 32 := 32#32
  let v378 : BitVec 32 := Scalar.muli v346 c32_i32_319
  let c16_i32_320 : BitVec 32 := 16#32
  let v379 : BitVec 32 := Scalar.addi v378 c16_i32_320
  let c0_i32_2312 : BitVec 32 := 0#32
  ![v379.toNat, 0]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let c0_i32_20 : BitVec 32 := 0#32
  let v50 : BitVec 1 := Scalar.cmpi .sgt v19 c0_i32_20
  let v382 : BitVec 1 := Scalar.andi v344 v50
  let v387 : BitVec 32 := Scalar.extui v382
  let c0_i32_330 : BitVec 32 := 0#32
  let v388 : BitVec 1 := Scalar.cmpi .ne v387 c0_i32_330
  v388

def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_326 : BitVec 32 := 32#32
  let v385 : BitVec 32 := Scalar.muli v346 c32_i32_326
  let c16_i32_327 : BitVec 32 := 16#32
  let v386 : BitVec 32 := Scalar.addi v385 c16_i32_327
  let c0_i32_2312 : BitVec 32 := 0#32
  ![v386.toNat, 0]
def k0_dev34 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_18 : BitVec 32 := 8#32
  let v48 : BitVec 32 := Scalar.subi v2 c8_i32_18
  let c1_i32_2310 : BitVec 32 := 1#32
  let v2865 : BitVec 32 := Scalar.muli v48 c1_i32_2310
  let v2866 : BitVec 32 := Scalar.addi c0_i32_2311 v2865
  v2866.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v397 : BitVec 32 := Scalar.extui v344
  let c0_i32_339 : BitVec 32 := 0#32
  let v398 : BitVec 1 := Scalar.cmpi .ne v397 c0_i32_339
  v398

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_333 : BitVec 32 := 2#32
  let v391 : BitVec 32 := Scalar.muli v343 c2_i32_333
  let c1_i32_334 : BitVec 32 := 1#32
  let v392 : BitVec 32 := Scalar.addi v391 c1_i32_334
  ![v392.toNat]
def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_337 : BitVec 32 := 32#32
  let v395 : BitVec 32 := Scalar.muli v346 c32_i32_337
  let c16_i32_338 : BitVec 32 := 16#32
  let v396 : BitVec 32 := Scalar.addi v395 c16_i32_338
  let c0_i32_2312 : BitVec 32 := 0#32
  ![v396.toNat, 0]
def k0_dev35 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v407 : BitVec 32 := Scalar.extui v344
  let c0_i32_348 : BitVec 32 := 0#32
  let v408 : BitVec 1 := Scalar.cmpi .ne v407 c0_i32_348
  v408

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_342 : BitVec 32 := 2#32
  let v401 : BitVec 32 := Scalar.muli v343 c2_i32_342
  let c1_i32_343 : BitVec 32 := 1#32
  let v402 : BitVec 32 := Scalar.addi v401 c1_i32_343
  ![v402.toNat]
def k0_off55 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_346 : BitVec 32 := 32#32
  let v405 : BitVec 32 := Scalar.muli v346 c32_i32_346
  let c16_i32_347 : BitVec 32 := 16#32
  let v406 : BitVec 32 := Scalar.addi v405 c16_i32_347
  let c0_i32_2312 : BitVec 32 := 0#32
  ![v406.toNat, 0]
def k0_dev36 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v415 : BitVec 32 := Scalar.extui v410
  let c0_i32_356 : BitVec 32 := 0#32
  let v416 : BitVec 1 := Scalar.cmpi .ne v415 c0_i32_356
  v416

def k0_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_352 : BitVec 32 := 32#32
  let v413 : BitVec 32 := Scalar.muli v412 c32_i32_352
  let c0_i32_353 : BitVec 32 := 0#32
  let v414 : BitVec 32 := Scalar.addi v413 c0_i32_353
  let c0_i32_2312 : BitVec 32 := 0#32
  ![v414.toNat, 0]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v425 : BitVec 32 := Scalar.extui v410
  let c0_i32_365 : BitVec 32 := 0#32
  let v426 : BitVec 1 := Scalar.cmpi .ne v425 c0_i32_365
  v426

def k0_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_359 : BitVec 32 := 2#32
  let v419 : BitVec 32 := Scalar.muli v409 c2_i32_359
  let c0_i32_360 : BitVec 32 := 0#32
  let v420 : BitVec 32 := Scalar.addi v419 c0_i32_360
  ![v420.toNat]
def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_363 : BitVec 32 := 32#32
  let v423 : BitVec 32 := Scalar.muli v412 c32_i32_363
  let c0_i32_364 : BitVec 32 := 0#32
  let v424 : BitVec 32 := Scalar.addi v423 c0_i32_364
  let c0_i32_2312 : BitVec 32 := 0#32
  ![v424.toNat, 0]
def k0_dev37 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v435 : BitVec 32 := Scalar.extui v410
  let c0_i32_374 : BitVec 32 := 0#32
  let v436 : BitVec 1 := Scalar.cmpi .ne v435 c0_i32_374
  v436

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_368 : BitVec 32 := 2#32
  let v429 : BitVec 32 := Scalar.muli v409 c2_i32_368
  let c0_i32_369 : BitVec 32 := 0#32
  let v430 : BitVec 32 := Scalar.addi v429 c0_i32_369
  ![v430.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_372 : BitVec 32 := 32#32
  let v433 : BitVec 32 := Scalar.muli v412 c32_i32_372
  let c0_i32_373 : BitVec 32 := 0#32
  let v434 : BitVec 32 := Scalar.addi v433 c0_i32_373
  let c0_i32_2312 : BitVec 32 := 0#32
  ![v434.toNat, 0]
def k0_dev38 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v439 : BitVec 32 := Scalar.extui v410
  let c0_i32_379 : BitVec 32 := 0#32
  let v440 : BitVec 1 := Scalar.cmpi .ne v439 c0_i32_379
  v440

def k0_off61 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_375 : BitVec 32 := 32#32
  let v437 : BitVec 32 := Scalar.muli v412 c32_i32_375
  let c16_i32_376 : BitVec 32 := 16#32
  let v438 : BitVec 32 := Scalar.addi v437 c16_i32_376
  let c0_i32_2312 : BitVec 32 := 0#32
  ![v438.toNat, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v449 : BitVec 32 := Scalar.extui v410
  let c0_i32_388 : BitVec 32 := 0#32
  let v450 : BitVec 1 := Scalar.cmpi .ne v449 c0_i32_388
  v450

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_382 : BitVec 32 := 2#32
  let v443 : BitVec 32 := Scalar.muli v409 c2_i32_382
  let c1_i32_383 : BitVec 32 := 1#32
  let v444 : BitVec 32 := Scalar.addi v443 c1_i32_383
  ![v444.toNat]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_386 : BitVec 32 := 32#32
  let v447 : BitVec 32 := Scalar.muli v412 c32_i32_386
  let c16_i32_387 : BitVec 32 := 16#32
  let v448 : BitVec 32 := Scalar.addi v447 c16_i32_387
  let c0_i32_2312 : BitVec 32 := 0#32
  ![v448.toNat, 0]
def k0_dev39 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v459 : BitVec 32 := Scalar.extui v410
  let c0_i32_397 : BitVec 32 := 0#32
  let v460 : BitVec 1 := Scalar.cmpi .ne v459 c0_i32_397
  v460

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_391 : BitVec 32 := 2#32
  let v453 : BitVec 32 := Scalar.muli v409 c2_i32_391
  let c1_i32_392 : BitVec 32 := 1#32
  let v454 : BitVec 32 := Scalar.addi v453 c1_i32_392
  ![v454.toNat]
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_395 : BitVec 32 := 32#32
  let v457 : BitVec 32 := Scalar.muli v412 c32_i32_395
  let c16_i32_396 : BitVec 32 := 16#32
  let v458 : BitVec 32 := Scalar.addi v457 c16_i32_396
  let c0_i32_2312 : BitVec 32 := 0#32
  ![v458.toNat, 0]
def k0_dev40 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v467 : BitVec 32 := Scalar.extui v462
  let c0_i32_405 : BitVec 32 := 0#32
  let v468 : BitVec 1 := Scalar.cmpi .ne v467 c0_i32_405
  v468

def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_401 : BitVec 32 := 32#32
  let v465 : BitVec 32 := Scalar.muli v464 c32_i32_401
  let c0_i32_402 : BitVec 32 := 0#32
  let v466 : BitVec 32 := Scalar.addi v465 c0_i32_402
  let c0_i32_2312 : BitVec 32 := 0#32
  ![v466.toNat, 0]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v477 : BitVec 32 := Scalar.extui v462
  let c0_i32_414 : BitVec 32 := 0#32
  let v478 : BitVec 1 := Scalar.cmpi .ne v477 c0_i32_414
  v478

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_408 : BitVec 32 := 2#32
  let v471 : BitVec 32 := Scalar.muli v461 c2_i32_408
  let c0_i32_409 : BitVec 32 := 0#32
  let v472 : BitVec 32 := Scalar.addi v471 c0_i32_409
  ![v472.toNat]
def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_412 : BitVec 32 := 32#32
  let v475 : BitVec 32 := Scalar.muli v464 c32_i32_412
  let c0_i32_413 : BitVec 32 := 0#32
  let v476 : BitVec 32 := Scalar.addi v475 c0_i32_413
  let c0_i32_2312 : BitVec 32 := 0#32
  ![v476.toNat, 0]
def k0_dev41 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v487 : BitVec 32 := Scalar.extui v462
  let c0_i32_423 : BitVec 32 := 0#32
  let v488 : BitVec 1 := Scalar.cmpi .ne v487 c0_i32_423
  v488

def k0_off69 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_417 : BitVec 32 := 2#32
  let v481 : BitVec 32 := Scalar.muli v461 c2_i32_417
  let c0_i32_418 : BitVec 32 := 0#32
  let v482 : BitVec 32 := Scalar.addi v481 c0_i32_418
  ![v482.toNat]
def k0_off70 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_421 : BitVec 32 := 32#32
  let v485 : BitVec 32 := Scalar.muli v464 c32_i32_421
  let c0_i32_422 : BitVec 32 := 0#32
  let v486 : BitVec 32 := Scalar.addi v485 c0_i32_422
  let c0_i32_2312 : BitVec 32 := 0#32
  ![v486.toNat, 0]
def k0_dev42 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v491 : BitVec 32 := Scalar.extui v462
  let c0_i32_428 : BitVec 32 := 0#32
  let v492 : BitVec 1 := Scalar.cmpi .ne v491 c0_i32_428
  v492

def k0_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_424 : BitVec 32 := 32#32
  let v489 : BitVec 32 := Scalar.muli v464 c32_i32_424
  let c16_i32_425 : BitVec 32 := 16#32
  let v490 : BitVec 32 := Scalar.addi v489 c16_i32_425
  let c0_i32_2312 : BitVec 32 := 0#32
  ![v490.toNat, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v501 : BitVec 32 := Scalar.extui v462
  let c0_i32_437 : BitVec 32 := 0#32
  let v502 : BitVec 1 := Scalar.cmpi .ne v501 c0_i32_437
  v502

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_431 : BitVec 32 := 2#32
  let v495 : BitVec 32 := Scalar.muli v461 c2_i32_431
  let c1_i32_432 : BitVec 32 := 1#32
  let v496 : BitVec 32 := Scalar.addi v495 c1_i32_432
  ![v496.toNat]
def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_435 : BitVec 32 := 32#32
  let v499 : BitVec 32 := Scalar.muli v464 c32_i32_435
  let c16_i32_436 : BitVec 32 := 16#32
  let v500 : BitVec 32 := Scalar.addi v499 c16_i32_436
  let c0_i32_2312 : BitVec 32 := 0#32
  ![v500.toNat, 0]
def k0_dev43 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v511 : BitVec 32 := Scalar.extui v462
  let c0_i32_446 : BitVec 32 := 0#32
  let v512 : BitVec 1 := Scalar.cmpi .ne v511 c0_i32_446
  v512

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_440 : BitVec 32 := 2#32
  let v505 : BitVec 32 := Scalar.muli v461 c2_i32_440
  let c1_i32_441 : BitVec 32 := 1#32
  let v506 : BitVec 32 := Scalar.addi v505 c1_i32_441
  ![v506.toNat]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_444 : BitVec 32 := 32#32
  let v509 : BitVec 32 := Scalar.muli v464 c32_i32_444
  let c16_i32_445 : BitVec 32 := 16#32
  let v510 : BitVec 32 := Scalar.addi v509 c16_i32_445
  let c0_i32_2312 : BitVec 32 := 0#32
  ![v510.toNat, 0]
def k0_dev44 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_off76 (d0 : Dev nD) (c0_i32_464 : BitVec 32) (c0_i32_462 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_461 : BitVec 32 := 2#32
  let v532 : BitVec 32 := Scalar.muli v19 c2_i32_461
  let v533 : BitVec 32 := Scalar.addi v532 c0_i32_462
  let v535 : BitVec 32 := Scalar.addi c0_i32_464 v533
  ![v535.toNat]
def k0_off77 (d0 : Dev nD) (c1_i32_447 : BitVec 32) (c0_i32_466 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_460 : BitVec 32 := 4#32
  let v530 : BitVec 32 := Scalar.muli v521 c4_i32_460
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v531 : BitVec 32 := Scalar.addi v530 v19
  let c32_i32_465 : BitVec 32 := 32#32
  let v536 : BitVec 32 := Scalar.muli v531 c32_i32_465
  let v537 : BitVec 32 := Scalar.addi v536 c0_i32_466
  let c0_i32_469 : BitVec 32 := 0#32
  ![v537.toNat, 0]
def k0_dev45 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_478 : BitVec 32 := 1#32
  let v550 : BitVec 32 := Scalar.muli v37 c1_i32_478
  let v551 : BitVec 32 := Scalar.addi c0_i32_479 v550
  v551.toNat
def k0_dev46 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_499 : BitVec 32 := 1#32
  let v576 : BitVec 32 := Scalar.muli v37 c1_i32_499
  let v577 : BitVec 32 := Scalar.addi c0_i32_500 v576
  v577.toNat
def k0_off78 (d0 : Dev nD) (c1_i32_454 : BitVec 32) (c0_i32_509 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_503 : BitVec 32 := 4#32
  let v584 : BitVec 32 := Scalar.muli v529 c4_i32_503
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v585 : BitVec 32 := Scalar.addi v584 v19
  let c32_i32_508 : BitVec 32 := 32#32
  let v590 : BitVec 32 := Scalar.muli v585 c32_i32_508
  let v591 : BitVec 32 := Scalar.addi v590 c0_i32_509
  let c0_i32_512 : BitVec 32 := 0#32
  ![v591.toNat, 0]
def k0_dev47 (d0 : Dev nD) : Nat :=
  let c0_i32_522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_521 : BitVec 32 := 1#32
  let v604 : BitVec 32 := Scalar.muli v46 c1_i32_521
  let v605 : BitVec 32 := Scalar.addi c0_i32_522 v604
  v605.toNat
def k0_dev48 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_542 : BitVec 32 := 1#32
  let v630 : BitVec 32 := Scalar.muli v46 c1_i32_542
  let v631 : BitVec 32 := Scalar.addi c0_i32_543 v630
  v631.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v648 : BitVec 32 := Scalar.extui v638
  let c0_i32_555 : BitVec 32 := 0#32
  let v649 : BitVec 1 := Scalar.cmpi .ne v648 c0_i32_555
  v649

def k0_off79 (d0 : Dev nD) : Fin 1 → Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_549 : BitVec 32 := 2#32
  let v642 : BitVec 32 := Scalar.muli v639 c2_i32_549
  let c0_i32_550 : BitVec 32 := 0#32
  let v643 : BitVec 32 := Scalar.addi v642 c0_i32_550
  let v645 : BitVec 32 := Scalar.addi c0_i32_552 v643
  ![v645.toNat]
def k0_off80 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_548 : BitVec 32 := 4#32
  let v640 : BitVec 32 := Scalar.muli v521 c4_i32_548
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v641 : BitVec 32 := Scalar.addi v640 v639
  let c32_i32_553 : BitVec 32 := 32#32
  let v646 : BitVec 32 := Scalar.muli v641 c32_i32_553
  let c0_i32_554 : BitVec 32 := 0#32
  let v647 : BitVec 32 := Scalar.addi v646 c0_i32_554
  let c0_i32_2312 : BitVec 32 := 0#32
  ![v647.toNat, 0]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v656 : BitVec 32 := Scalar.extui v638
  let c0_i32_562 : BitVec 32 := 0#32
  let v657 : BitVec 1 := Scalar.cmpi .ne v656 c0_i32_562
  v657

def k0_off81 (d0 : Dev nD) : Fin 1 → Nat :=
  let c8_i32_558 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_549 : BitVec 32 := 2#32
  let v642 : BitVec 32 := Scalar.muli v639 c2_i32_549
  let c0_i32_550 : BitVec 32 := 0#32
  let v643 : BitVec 32 := Scalar.addi v642 c0_i32_550
  let v652 : BitVec 32 := Scalar.addi c8_i32_558 v643
  ![v652.toNat]
def k0_off82 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_548 : BitVec 32 := 4#32
  let v640 : BitVec 32 := Scalar.muli v521 c4_i32_548
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v641 : BitVec 32 := Scalar.addi v640 v639
  let c32_i32_560 : BitVec 32 := 32#32
  let v654 : BitVec 32 := Scalar.muli v641 c32_i32_560
  let c0_i32_561 : BitVec 32 := 0#32
  let v655 : BitVec 32 := Scalar.addi v654 c0_i32_561
  let c0_i32_2312 : BitVec 32 := 0#32
  ![v655.toNat, 0]
def k0_dev49 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v664 : BitVec 32 := Scalar.extui v638
  let c0_i32_569 : BitVec 32 := 0#32
  let v665 : BitVec 1 := Scalar.cmpi .ne v664 c0_i32_569
  v665

def k0_off83 (d0 : Dev nD) : Fin 1 → Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_563 : BitVec 32 := 2#32
  let v658 : BitVec 32 := Scalar.muli v639 c2_i32_563
  let c1_i32_564 : BitVec 32 := 1#32
  let v659 : BitVec 32 := Scalar.addi v658 c1_i32_564
  let v661 : BitVec 32 := Scalar.addi c0_i32_566 v659
  ![v661.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_548 : BitVec 32 := 4#32
  let v640 : BitVec 32 := Scalar.muli v521 c4_i32_548
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v641 : BitVec 32 := Scalar.addi v640 v639
  let c32_i32_567 : BitVec 32 := 32#32
  let v662 : BitVec 32 := Scalar.muli v641 c32_i32_567
  let c16_i32_568 : BitVec 32 := 16#32
  let v663 : BitVec 32 := Scalar.addi v662 c16_i32_568
  let c0_i32_2312 : BitVec 32 := 0#32
  ![v663.toNat, 0]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v672 : BitVec 32 := Scalar.extui v638
  let c0_i32_576 : BitVec 32 := 0#32
  let v673 : BitVec 1 := Scalar.cmpi .ne v672 c0_i32_576
  v673

def k0_off85 (d0 : Dev nD) : Fin 1 → Nat :=
  let c8_i32_572 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_563 : BitVec 32 := 2#32
  let v658 : BitVec 32 := Scalar.muli v639 c2_i32_563
  let c1_i32_564 : BitVec 32 := 1#32
  let v659 : BitVec 32 := Scalar.addi v658 c1_i32_564
  let v668 : BitVec 32 := Scalar.addi c8_i32_572 v659
  ![v668.toNat]
def k0_off86 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_548 : BitVec 32 := 4#32
  let v640 : BitVec 32 := Scalar.muli v521 c4_i32_548
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v641 : BitVec 32 := Scalar.addi v640 v639
  let c32_i32_574 : BitVec 32 := 32#32
  let v670 : BitVec 32 := Scalar.muli v641 c32_i32_574
  let c16_i32_575 : BitVec 32 := 16#32
  let v671 : BitVec 32 := Scalar.addi v670 c16_i32_575
  let c0_i32_2312 : BitVec 32 := 0#32
  ![v671.toNat, 0]
def k0_dev50 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v682 : BitVec 32 := Scalar.extui v638
  let c0_i32_584 : BitVec 32 := 0#32
  let v683 : BitVec 1 := Scalar.cmpi .ne v682 c0_i32_584
  v683

def k0_off87 (d0 : Dev nD) : Fin 1 → Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_578 : BitVec 32 := 2#32
  let v676 : BitVec 32 := Scalar.muli v639 c2_i32_578
  let c0_i32_579 : BitVec 32 := 0#32
  let v677 : BitVec 32 := Scalar.addi v676 c0_i32_579
  let v679 : BitVec 32 := Scalar.addi c0_i32_581 v677
  ![v679.toNat]
def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_577 : BitVec 32 := 4#32
  let v674 : BitVec 32 := Scalar.muli v529 c4_i32_577
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v675 : BitVec 32 := Scalar.addi v674 v639
  let c32_i32_582 : BitVec 32 := 32#32
  let v680 : BitVec 32 := Scalar.muli v675 c32_i32_582
  let c0_i32_583 : BitVec 32 := 0#32
  let v681 : BitVec 32 := Scalar.addi v680 c0_i32_583
  let c0_i32_2312 : BitVec 32 := 0#32
  ![v681.toNat, 0]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v690 : BitVec 32 := Scalar.extui v638
  let c0_i32_591 : BitVec 32 := 0#32
  let v691 : BitVec 1 := Scalar.cmpi .ne v690 c0_i32_591
  v691

def k0_off89 (d0 : Dev nD) : Fin 1 → Nat :=
  let c8_i32_587 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_578 : BitVec 32 := 2#32
  let v676 : BitVec 32 := Scalar.muli v639 c2_i32_578
  let c0_i32_579 : BitVec 32 := 0#32
  let v677 : BitVec 32 := Scalar.addi v676 c0_i32_579
  let v686 : BitVec 32 := Scalar.addi c8_i32_587 v677
  ![v686.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_577 : BitVec 32 := 4#32
  let v674 : BitVec 32 := Scalar.muli v529 c4_i32_577
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v675 : BitVec 32 := Scalar.addi v674 v639
  let c32_i32_589 : BitVec 32 := 32#32
  let v688 : BitVec 32 := Scalar.muli v675 c32_i32_589
  let c0_i32_590 : BitVec 32 := 0#32
  let v689 : BitVec 32 := Scalar.addi v688 c0_i32_590
  let c0_i32_2312 : BitVec 32 := 0#32
  ![v689.toNat, 0]
def k0_dev51 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v698 : BitVec 32 := Scalar.extui v638
  let c0_i32_598 : BitVec 32 := 0#32
  let v699 : BitVec 1 := Scalar.cmpi .ne v698 c0_i32_598
  v699

def k0_off91 (d0 : Dev nD) : Fin 1 → Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_592 : BitVec 32 := 2#32
  let v692 : BitVec 32 := Scalar.muli v639 c2_i32_592
  let c1_i32_593 : BitVec 32 := 1#32
  let v693 : BitVec 32 := Scalar.addi v692 c1_i32_593
  let v695 : BitVec 32 := Scalar.addi c0_i32_595 v693
  ![v695.toNat]
def k0_off92 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_577 : BitVec 32 := 4#32
  let v674 : BitVec 32 := Scalar.muli v529 c4_i32_577
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v675 : BitVec 32 := Scalar.addi v674 v639
  let c32_i32_596 : BitVec 32 := 32#32
  let v696 : BitVec 32 := Scalar.muli v675 c32_i32_596
  let c16_i32_597 : BitVec 32 := 16#32
  let v697 : BitVec 32 := Scalar.addi v696 c16_i32_597
  let c0_i32_2312 : BitVec 32 := 0#32
  ![v697.toNat, 0]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v706 : BitVec 32 := Scalar.extui v638
  let c0_i32_605 : BitVec 32 := 0#32
  let v707 : BitVec 1 := Scalar.cmpi .ne v706 c0_i32_605
  v707

def k0_off93 (d0 : Dev nD) : Fin 1 → Nat :=
  let c8_i32_601 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_592 : BitVec 32 := 2#32
  let v692 : BitVec 32 := Scalar.muli v639 c2_i32_592
  let c1_i32_593 : BitVec 32 := 1#32
  let v693 : BitVec 32 := Scalar.addi v692 c1_i32_593
  let v702 : BitVec 32 := Scalar.addi c8_i32_601 v693
  ![v702.toNat]
def k0_off94 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_577 : BitVec 32 := 4#32
  let v674 : BitVec 32 := Scalar.muli v529 c4_i32_577
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v675 : BitVec 32 := Scalar.addi v674 v639
  let c32_i32_603 : BitVec 32 := 32#32
  let v704 : BitVec 32 := Scalar.muli v675 c32_i32_603
  let c16_i32_604 : BitVec 32 := 16#32
  let v705 : BitVec 32 := Scalar.addi v704 c16_i32_604
  let c0_i32_2312 : BitVec 32 := 0#32
  ![v705.toNat, 0]
def k0_dev52 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v719 : BitVec 32 := Scalar.extui v709
  let c0_i32_616 : BitVec 32 := 0#32
  let v720 : BitVec 1 := Scalar.cmpi .ne v719 c0_i32_616
  v720

def k0_off95 (d0 : Dev nD) : Fin 1 → Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_610 : BitVec 32 := 2#32
  let v713 : BitVec 32 := Scalar.muli v710 c2_i32_610
  let c0_i32_611 : BitVec 32 := 0#32
  let v714 : BitVec 32 := Scalar.addi v713 c0_i32_611
  let v716 : BitVec 32 := Scalar.addi c0_i32_613 v714
  ![v716.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_609 : BitVec 32 := 4#32
  let v711 : BitVec 32 := Scalar.muli v521 c4_i32_609
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v712 : BitVec 32 := Scalar.addi v711 v710
  let c32_i32_614 : BitVec 32 := 32#32
  let v717 : BitVec 32 := Scalar.muli v712 c32_i32_614
  let c0_i32_615 : BitVec 32 := 0#32
  let v718 : BitVec 32 := Scalar.addi v717 c0_i32_615
  let c0_i32_2312 : BitVec 32 := 0#32
  ![v718.toNat, 0]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v727 : BitVec 32 := Scalar.extui v709
  let c0_i32_623 : BitVec 32 := 0#32
  let v728 : BitVec 1 := Scalar.cmpi .ne v727 c0_i32_623
  v728

def k0_off97 (d0 : Dev nD) : Fin 1 → Nat :=
  let c8_i32_619 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_610 : BitVec 32 := 2#32
  let v713 : BitVec 32 := Scalar.muli v710 c2_i32_610
  let c0_i32_611 : BitVec 32 := 0#32
  let v714 : BitVec 32 := Scalar.addi v713 c0_i32_611
  let v723 : BitVec 32 := Scalar.addi c8_i32_619 v714
  ![v723.toNat]
def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_609 : BitVec 32 := 4#32
  let v711 : BitVec 32 := Scalar.muli v521 c4_i32_609
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v712 : BitVec 32 := Scalar.addi v711 v710
  let c32_i32_621 : BitVec 32 := 32#32
  let v725 : BitVec 32 := Scalar.muli v712 c32_i32_621
  let c0_i32_622 : BitVec 32 := 0#32
  let v726 : BitVec 32 := Scalar.addi v725 c0_i32_622
  let c0_i32_2312 : BitVec 32 := 0#32
  ![v726.toNat, 0]
def k0_dev53 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v735 : BitVec 32 := Scalar.extui v709
  let c0_i32_630 : BitVec 32 := 0#32
  let v736 : BitVec 1 := Scalar.cmpi .ne v735 c0_i32_630
  v736

def k0_off99 (d0 : Dev nD) : Fin 1 → Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_624 : BitVec 32 := 2#32
  let v729 : BitVec 32 := Scalar.muli v710 c2_i32_624
  let c1_i32_625 : BitVec 32 := 1#32
  let v730 : BitVec 32 := Scalar.addi v729 c1_i32_625
  let v732 : BitVec 32 := Scalar.addi c0_i32_627 v730
  ![v732.toNat]
def k0_off100 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_609 : BitVec 32 := 4#32
  let v711 : BitVec 32 := Scalar.muli v521 c4_i32_609
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v712 : BitVec 32 := Scalar.addi v711 v710
  let c32_i32_628 : BitVec 32 := 32#32
  let v733 : BitVec 32 := Scalar.muli v712 c32_i32_628
  let c16_i32_629 : BitVec 32 := 16#32
  let v734 : BitVec 32 := Scalar.addi v733 c16_i32_629
  let c0_i32_2312 : BitVec 32 := 0#32
  ![v734.toNat, 0]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v743 : BitVec 32 := Scalar.extui v709
  let c0_i32_637 : BitVec 32 := 0#32
  let v744 : BitVec 1 := Scalar.cmpi .ne v743 c0_i32_637
  v744

def k0_off101 (d0 : Dev nD) : Fin 1 → Nat :=
  let c8_i32_633 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_624 : BitVec 32 := 2#32
  let v729 : BitVec 32 := Scalar.muli v710 c2_i32_624
  let c1_i32_625 : BitVec 32 := 1#32
  let v730 : BitVec 32 := Scalar.addi v729 c1_i32_625
  let v739 : BitVec 32 := Scalar.addi c8_i32_633 v730
  ![v739.toNat]
def k0_off102 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_609 : BitVec 32 := 4#32
  let v711 : BitVec 32 := Scalar.muli v521 c4_i32_609
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v712 : BitVec 32 := Scalar.addi v711 v710
  let c32_i32_635 : BitVec 32 := 32#32
  let v741 : BitVec 32 := Scalar.muli v712 c32_i32_635
  let c16_i32_636 : BitVec 32 := 16#32
  let v742 : BitVec 32 := Scalar.addi v741 c16_i32_636
  let c0_i32_2312 : BitVec 32 := 0#32
  ![v742.toNat, 0]
def k0_dev54 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v753 : BitVec 32 := Scalar.extui v709
  let c0_i32_645 : BitVec 32 := 0#32
  let v754 : BitVec 1 := Scalar.cmpi .ne v753 c0_i32_645
  v754

def k0_off103 (d0 : Dev nD) : Fin 1 → Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_639 : BitVec 32 := 2#32
  let v747 : BitVec 32 := Scalar.muli v710 c2_i32_639
  let c0_i32_640 : BitVec 32 := 0#32
  let v748 : BitVec 32 := Scalar.addi v747 c0_i32_640
  let v750 : BitVec 32 := Scalar.addi c0_i32_642 v748
  ![v750.toNat]
def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_638 : BitVec 32 := 4#32
  let v745 : BitVec 32 := Scalar.muli v529 c4_i32_638
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v746 : BitVec 32 := Scalar.addi v745 v710
  let c32_i32_643 : BitVec 32 := 32#32
  let v751 : BitVec 32 := Scalar.muli v746 c32_i32_643
  let c0_i32_644 : BitVec 32 := 0#32
  let v752 : BitVec 32 := Scalar.addi v751 c0_i32_644
  let c0_i32_2312 : BitVec 32 := 0#32
  ![v752.toNat, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v761 : BitVec 32 := Scalar.extui v709
  let c0_i32_652 : BitVec 32 := 0#32
  let v762 : BitVec 1 := Scalar.cmpi .ne v761 c0_i32_652
  v762

def k0_off105 (d0 : Dev nD) : Fin 1 → Nat :=
  let c8_i32_648 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_639 : BitVec 32 := 2#32
  let v747 : BitVec 32 := Scalar.muli v710 c2_i32_639
  let c0_i32_640 : BitVec 32 := 0#32
  let v748 : BitVec 32 := Scalar.addi v747 c0_i32_640
  let v757 : BitVec 32 := Scalar.addi c8_i32_648 v748
  ![v757.toNat]
def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_638 : BitVec 32 := 4#32
  let v745 : BitVec 32 := Scalar.muli v529 c4_i32_638
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v746 : BitVec 32 := Scalar.addi v745 v710
  let c32_i32_650 : BitVec 32 := 32#32
  let v759 : BitVec 32 := Scalar.muli v746 c32_i32_650
  let c0_i32_651 : BitVec 32 := 0#32
  let v760 : BitVec 32 := Scalar.addi v759 c0_i32_651
  let c0_i32_2312 : BitVec 32 := 0#32
  ![v760.toNat, 0]
def k0_dev55 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v769 : BitVec 32 := Scalar.extui v709
  let c0_i32_659 : BitVec 32 := 0#32
  let v770 : BitVec 1 := Scalar.cmpi .ne v769 c0_i32_659
  v770

def k0_off107 (d0 : Dev nD) : Fin 1 → Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_653 : BitVec 32 := 2#32
  let v763 : BitVec 32 := Scalar.muli v710 c2_i32_653
  let c1_i32_654 : BitVec 32 := 1#32
  let v764 : BitVec 32 := Scalar.addi v763 c1_i32_654
  let v766 : BitVec 32 := Scalar.addi c0_i32_656 v764
  ![v766.toNat]
def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_638 : BitVec 32 := 4#32
  let v745 : BitVec 32 := Scalar.muli v529 c4_i32_638
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v746 : BitVec 32 := Scalar.addi v745 v710
  let c32_i32_657 : BitVec 32 := 32#32
  let v767 : BitVec 32 := Scalar.muli v746 c32_i32_657
  let c16_i32_658 : BitVec 32 := 16#32
  let v768 : BitVec 32 := Scalar.addi v767 c16_i32_658
  let c0_i32_2312 : BitVec 32 := 0#32
  ![v768.toNat, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v777 : BitVec 32 := Scalar.extui v709
  let c0_i32_666 : BitVec 32 := 0#32
  let v778 : BitVec 1 := Scalar.cmpi .ne v777 c0_i32_666
  v778

def k0_off109 (d0 : Dev nD) : Fin 1 → Nat :=
  let c8_i32_662 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_653 : BitVec 32 := 2#32
  let v763 : BitVec 32 := Scalar.muli v710 c2_i32_653
  let c1_i32_654 : BitVec 32 := 1#32
  let v764 : BitVec 32 := Scalar.addi v763 c1_i32_654
  let v773 : BitVec 32 := Scalar.addi c8_i32_662 v764
  ![v773.toNat]
def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_638 : BitVec 32 := 4#32
  let v745 : BitVec 32 := Scalar.muli v529 c4_i32_638
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v746 : BitVec 32 := Scalar.addi v745 v710
  let c32_i32_664 : BitVec 32 := 32#32
  let v775 : BitVec 32 := Scalar.muli v746 c32_i32_664
  let c16_i32_665 : BitVec 32 := 16#32
  let v776 : BitVec 32 := Scalar.addi v775 c16_i32_665
  let c0_i32_2312 : BitVec 32 := 0#32
  ![v776.toNat, 0]
def k0_dev56 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v789 : BitVec 32 := Scalar.extui v779
  let c0_i32_676 : BitVec 32 := 0#32
  let v790 : BitVec 1 := Scalar.cmpi .ne v789 c0_i32_676
  v790

def k0_off111 (d0 : Dev nD) : Fin 1 → Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_670 : BitVec 32 := 2#32
  let v783 : BitVec 32 := Scalar.muli v780 c2_i32_670
  let c0_i32_671 : BitVec 32 := 0#32
  let v784 : BitVec 32 := Scalar.addi v783 c0_i32_671
  let v786 : BitVec 32 := Scalar.addi c0_i32_673 v784
  ![v786.toNat]
def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_669 : BitVec 32 := 4#32
  let v781 : BitVec 32 := Scalar.muli v521 c4_i32_669
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v782 : BitVec 32 := Scalar.addi v781 v780
  let c32_i32_674 : BitVec 32 := 32#32
  let v787 : BitVec 32 := Scalar.muli v782 c32_i32_674
  let c0_i32_675 : BitVec 32 := 0#32
  let v788 : BitVec 32 := Scalar.addi v787 c0_i32_675
  let c0_i32_2312 : BitVec 32 := 0#32
  ![v788.toNat, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v797 : BitVec 32 := Scalar.extui v779
  let c0_i32_683 : BitVec 32 := 0#32
  let v798 : BitVec 1 := Scalar.cmpi .ne v797 c0_i32_683
  v798

def k0_off113 (d0 : Dev nD) : Fin 1 → Nat :=
  let c8_i32_679 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_670 : BitVec 32 := 2#32
  let v783 : BitVec 32 := Scalar.muli v780 c2_i32_670
  let c0_i32_671 : BitVec 32 := 0#32
  let v784 : BitVec 32 := Scalar.addi v783 c0_i32_671
  let v793 : BitVec 32 := Scalar.addi c8_i32_679 v784
  ![v793.toNat]
def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_669 : BitVec 32 := 4#32
  let v781 : BitVec 32 := Scalar.muli v521 c4_i32_669
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v782 : BitVec 32 := Scalar.addi v781 v780
  let c32_i32_681 : BitVec 32 := 32#32
  let v795 : BitVec 32 := Scalar.muli v782 c32_i32_681
  let c0_i32_682 : BitVec 32 := 0#32
  let v796 : BitVec 32 := Scalar.addi v795 c0_i32_682
  let c0_i32_2312 : BitVec 32 := 0#32
  ![v796.toNat, 0]
def k0_dev57 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v805 : BitVec 32 := Scalar.extui v779
  let c0_i32_690 : BitVec 32 := 0#32
  let v806 : BitVec 1 := Scalar.cmpi .ne v805 c0_i32_690
  v806

def k0_off115 (d0 : Dev nD) : Fin 1 → Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_684 : BitVec 32 := 2#32
  let v799 : BitVec 32 := Scalar.muli v780 c2_i32_684
  let c1_i32_685 : BitVec 32 := 1#32
  let v800 : BitVec 32 := Scalar.addi v799 c1_i32_685
  let v802 : BitVec 32 := Scalar.addi c0_i32_687 v800
  ![v802.toNat]
def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_669 : BitVec 32 := 4#32
  let v781 : BitVec 32 := Scalar.muli v521 c4_i32_669
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v782 : BitVec 32 := Scalar.addi v781 v780
  let c32_i32_688 : BitVec 32 := 32#32
  let v803 : BitVec 32 := Scalar.muli v782 c32_i32_688
  let c16_i32_689 : BitVec 32 := 16#32
  let v804 : BitVec 32 := Scalar.addi v803 c16_i32_689
  let c0_i32_2312 : BitVec 32 := 0#32
  ![v804.toNat, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v813 : BitVec 32 := Scalar.extui v779
  let c0_i32_697 : BitVec 32 := 0#32
  let v814 : BitVec 1 := Scalar.cmpi .ne v813 c0_i32_697
  v814

def k0_off117 (d0 : Dev nD) : Fin 1 → Nat :=
  let c8_i32_693 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_684 : BitVec 32 := 2#32
  let v799 : BitVec 32 := Scalar.muli v780 c2_i32_684
  let c1_i32_685 : BitVec 32 := 1#32
  let v800 : BitVec 32 := Scalar.addi v799 c1_i32_685
  let v809 : BitVec 32 := Scalar.addi c8_i32_693 v800
  ![v809.toNat]
def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_669 : BitVec 32 := 4#32
  let v781 : BitVec 32 := Scalar.muli v521 c4_i32_669
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v782 : BitVec 32 := Scalar.addi v781 v780
  let c32_i32_695 : BitVec 32 := 32#32
  let v811 : BitVec 32 := Scalar.muli v782 c32_i32_695
  let c16_i32_696 : BitVec 32 := 16#32
  let v812 : BitVec 32 := Scalar.addi v811 c16_i32_696
  let c0_i32_2312 : BitVec 32 := 0#32
  ![v812.toNat, 0]
def k0_dev58 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v823 : BitVec 32 := Scalar.extui v779
  let c0_i32_705 : BitVec 32 := 0#32
  let v824 : BitVec 1 := Scalar.cmpi .ne v823 c0_i32_705
  v824

def k0_off119 (d0 : Dev nD) : Fin 1 → Nat :=
  let c0_i32_702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_699 : BitVec 32 := 2#32
  let v817 : BitVec 32 := Scalar.muli v780 c2_i32_699
  let c0_i32_700 : BitVec 32 := 0#32
  let v818 : BitVec 32 := Scalar.addi v817 c0_i32_700
  let v820 : BitVec 32 := Scalar.addi c0_i32_702 v818
  ![v820.toNat]
def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_698 : BitVec 32 := 4#32
  let v815 : BitVec 32 := Scalar.muli v529 c4_i32_698
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v816 : BitVec 32 := Scalar.addi v815 v780
  let c32_i32_703 : BitVec 32 := 32#32
  let v821 : BitVec 32 := Scalar.muli v816 c32_i32_703
  let c0_i32_704 : BitVec 32 := 0#32
  let v822 : BitVec 32 := Scalar.addi v821 c0_i32_704
  let c0_i32_2312 : BitVec 32 := 0#32
  ![v822.toNat, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v831 : BitVec 32 := Scalar.extui v779
  let c0_i32_712 : BitVec 32 := 0#32
  let v832 : BitVec 1 := Scalar.cmpi .ne v831 c0_i32_712
  v832

def k0_off121 (d0 : Dev nD) : Fin 1 → Nat :=
  let c8_i32_708 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_699 : BitVec 32 := 2#32
  let v817 : BitVec 32 := Scalar.muli v780 c2_i32_699
  let c0_i32_700 : BitVec 32 := 0#32
  let v818 : BitVec 32 := Scalar.addi v817 c0_i32_700
  let v827 : BitVec 32 := Scalar.addi c8_i32_708 v818
  ![v827.toNat]
def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_698 : BitVec 32 := 4#32
  let v815 : BitVec 32 := Scalar.muli v529 c4_i32_698
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v816 : BitVec 32 := Scalar.addi v815 v780
  let c32_i32_710 : BitVec 32 := 32#32
  let v829 : BitVec 32 := Scalar.muli v816 c32_i32_710
  let c0_i32_711 : BitVec 32 := 0#32
  let v830 : BitVec 32 := Scalar.addi v829 c0_i32_711
  let c0_i32_2312 : BitVec 32 := 0#32
  ![v830.toNat, 0]
def k0_dev59 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v839 : BitVec 32 := Scalar.extui v779
  let c0_i32_719 : BitVec 32 := 0#32
  let v840 : BitVec 1 := Scalar.cmpi .ne v839 c0_i32_719
  v840

def k0_off123 (d0 : Dev nD) : Fin 1 → Nat :=
  let c0_i32_716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_713 : BitVec 32 := 2#32
  let v833 : BitVec 32 := Scalar.muli v780 c2_i32_713
  let c1_i32_714 : BitVec 32 := 1#32
  let v834 : BitVec 32 := Scalar.addi v833 c1_i32_714
  let v836 : BitVec 32 := Scalar.addi c0_i32_716 v834
  ![v836.toNat]
def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_698 : BitVec 32 := 4#32
  let v815 : BitVec 32 := Scalar.muli v529 c4_i32_698
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v816 : BitVec 32 := Scalar.addi v815 v780
  let c32_i32_717 : BitVec 32 := 32#32
  let v837 : BitVec 32 := Scalar.muli v816 c32_i32_717
  let c16_i32_718 : BitVec 32 := 16#32
  let v838 : BitVec 32 := Scalar.addi v837 c16_i32_718
  let c0_i32_2312 : BitVec 32 := 0#32
  ![v838.toNat, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v847 : BitVec 32 := Scalar.extui v779
  let c0_i32_726 : BitVec 32 := 0#32
  let v848 : BitVec 1 := Scalar.cmpi .ne v847 c0_i32_726
  v848

def k0_off125 (d0 : Dev nD) : Fin 1 → Nat :=
  let c8_i32_722 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_713 : BitVec 32 := 2#32
  let v833 : BitVec 32 := Scalar.muli v780 c2_i32_713
  let c1_i32_714 : BitVec 32 := 1#32
  let v834 : BitVec 32 := Scalar.addi v833 c1_i32_714
  let v843 : BitVec 32 := Scalar.addi c8_i32_722 v834
  ![v843.toNat]
def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_698 : BitVec 32 := 4#32
  let v815 : BitVec 32 := Scalar.muli v529 c4_i32_698
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v816 : BitVec 32 := Scalar.addi v815 v780
  let c32_i32_724 : BitVec 32 := 32#32
  let v845 : BitVec 32 := Scalar.muli v816 c32_i32_724
  let c16_i32_725 : BitVec 32 := 16#32
  let v846 : BitVec 32 := Scalar.addi v845 c16_i32_725
  let c0_i32_2312 : BitVec 32 := 0#32
  ![v846.toNat, 0]
def k0_dev60 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v860 : BitVec 32 := Scalar.extui v850
  let c0_i32_737 : BitVec 32 := 0#32
  let v861 : BitVec 1 := Scalar.cmpi .ne v860 c0_i32_737
  v861

def k0_off127 (d0 : Dev nD) : Fin 1 → Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_731 : BitVec 32 := 2#32
  let v854 : BitVec 32 := Scalar.muli v851 c2_i32_731
  let c0_i32_732 : BitVec 32 := 0#32
  let v855 : BitVec 32 := Scalar.addi v854 c0_i32_732
  let v857 : BitVec 32 := Scalar.addi c0_i32_734 v855
  ![v857.toNat]
def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_730 : BitVec 32 := 4#32
  let v852 : BitVec 32 := Scalar.muli v521 c4_i32_730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v853 : BitVec 32 := Scalar.addi v852 v851
  let c32_i32_735 : BitVec 32 := 32#32
  let v858 : BitVec 32 := Scalar.muli v853 c32_i32_735
  let c0_i32_736 : BitVec 32 := 0#32
  let v859 : BitVec 32 := Scalar.addi v858 c0_i32_736
  let c0_i32_2312 : BitVec 32 := 0#32
  ![v859.toNat, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v868 : BitVec 32 := Scalar.extui v850
  let c0_i32_744 : BitVec 32 := 0#32
  let v869 : BitVec 1 := Scalar.cmpi .ne v868 c0_i32_744
  v869

def k0_off129 (d0 : Dev nD) : Fin 1 → Nat :=
  let c8_i32_740 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_731 : BitVec 32 := 2#32
  let v854 : BitVec 32 := Scalar.muli v851 c2_i32_731
  let c0_i32_732 : BitVec 32 := 0#32
  let v855 : BitVec 32 := Scalar.addi v854 c0_i32_732
  let v864 : BitVec 32 := Scalar.addi c8_i32_740 v855
  ![v864.toNat]
def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_730 : BitVec 32 := 4#32
  let v852 : BitVec 32 := Scalar.muli v521 c4_i32_730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v853 : BitVec 32 := Scalar.addi v852 v851
  let c32_i32_742 : BitVec 32 := 32#32
  let v866 : BitVec 32 := Scalar.muli v853 c32_i32_742
  let c0_i32_743 : BitVec 32 := 0#32
  let v867 : BitVec 32 := Scalar.addi v866 c0_i32_743
  let c0_i32_2312 : BitVec 32 := 0#32
  ![v867.toNat, 0]
def k0_dev61 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v876 : BitVec 32 := Scalar.extui v850
  let c0_i32_751 : BitVec 32 := 0#32
  let v877 : BitVec 1 := Scalar.cmpi .ne v876 c0_i32_751
  v877

def k0_off131 (d0 : Dev nD) : Fin 1 → Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_745 : BitVec 32 := 2#32
  let v870 : BitVec 32 := Scalar.muli v851 c2_i32_745
  let c1_i32_746 : BitVec 32 := 1#32
  let v871 : BitVec 32 := Scalar.addi v870 c1_i32_746
  let v873 : BitVec 32 := Scalar.addi c0_i32_748 v871
  ![v873.toNat]
def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_730 : BitVec 32 := 4#32
  let v852 : BitVec 32 := Scalar.muli v521 c4_i32_730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v853 : BitVec 32 := Scalar.addi v852 v851
  let c32_i32_749 : BitVec 32 := 32#32
  let v874 : BitVec 32 := Scalar.muli v853 c32_i32_749
  let c16_i32_750 : BitVec 32 := 16#32
  let v875 : BitVec 32 := Scalar.addi v874 c16_i32_750
  let c0_i32_2312 : BitVec 32 := 0#32
  ![v875.toNat, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v884 : BitVec 32 := Scalar.extui v850
  let c0_i32_758 : BitVec 32 := 0#32
  let v885 : BitVec 1 := Scalar.cmpi .ne v884 c0_i32_758
  v885

def k0_off133 (d0 : Dev nD) : Fin 1 → Nat :=
  let c8_i32_754 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_745 : BitVec 32 := 2#32
  let v870 : BitVec 32 := Scalar.muli v851 c2_i32_745
  let c1_i32_746 : BitVec 32 := 1#32
  let v871 : BitVec 32 := Scalar.addi v870 c1_i32_746
  let v880 : BitVec 32 := Scalar.addi c8_i32_754 v871
  ![v880.toNat]
def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_730 : BitVec 32 := 4#32
  let v852 : BitVec 32 := Scalar.muli v521 c4_i32_730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v853 : BitVec 32 := Scalar.addi v852 v851
  let c32_i32_756 : BitVec 32 := 32#32
  let v882 : BitVec 32 := Scalar.muli v853 c32_i32_756
  let c16_i32_757 : BitVec 32 := 16#32
  let v883 : BitVec 32 := Scalar.addi v882 c16_i32_757
  let c0_i32_2312 : BitVec 32 := 0#32
  ![v883.toNat, 0]
def k0_dev62 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v894 : BitVec 32 := Scalar.extui v850
  let c0_i32_766 : BitVec 32 := 0#32
  let v895 : BitVec 1 := Scalar.cmpi .ne v894 c0_i32_766
  v895

def k0_off135 (d0 : Dev nD) : Fin 1 → Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_760 : BitVec 32 := 2#32
  let v888 : BitVec 32 := Scalar.muli v851 c2_i32_760
  let c0_i32_761 : BitVec 32 := 0#32
  let v889 : BitVec 32 := Scalar.addi v888 c0_i32_761
  let v891 : BitVec 32 := Scalar.addi c0_i32_763 v889
  ![v891.toNat]
def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_759 : BitVec 32 := 4#32
  let v886 : BitVec 32 := Scalar.muli v529 c4_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v887 : BitVec 32 := Scalar.addi v886 v851
  let c32_i32_764 : BitVec 32 := 32#32
  let v892 : BitVec 32 := Scalar.muli v887 c32_i32_764
  let c0_i32_765 : BitVec 32 := 0#32
  let v893 : BitVec 32 := Scalar.addi v892 c0_i32_765
  let c0_i32_2312 : BitVec 32 := 0#32
  ![v893.toNat, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v902 : BitVec 32 := Scalar.extui v850
  let c0_i32_773 : BitVec 32 := 0#32
  let v903 : BitVec 1 := Scalar.cmpi .ne v902 c0_i32_773
  v903

def k0_off137 (d0 : Dev nD) : Fin 1 → Nat :=
  let c8_i32_769 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_760 : BitVec 32 := 2#32
  let v888 : BitVec 32 := Scalar.muli v851 c2_i32_760
  let c0_i32_761 : BitVec 32 := 0#32
  let v889 : BitVec 32 := Scalar.addi v888 c0_i32_761
  let v898 : BitVec 32 := Scalar.addi c8_i32_769 v889
  ![v898.toNat]
def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_759 : BitVec 32 := 4#32
  let v886 : BitVec 32 := Scalar.muli v529 c4_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v887 : BitVec 32 := Scalar.addi v886 v851
  let c32_i32_771 : BitVec 32 := 32#32
  let v900 : BitVec 32 := Scalar.muli v887 c32_i32_771
  let c0_i32_772 : BitVec 32 := 0#32
  let v901 : BitVec 32 := Scalar.addi v900 c0_i32_772
  let c0_i32_2312 : BitVec 32 := 0#32
  ![v901.toNat, 0]
def k0_dev63 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v910 : BitVec 32 := Scalar.extui v850
  let c0_i32_780 : BitVec 32 := 0#32
  let v911 : BitVec 1 := Scalar.cmpi .ne v910 c0_i32_780
  v911

def k0_off139 (d0 : Dev nD) : Fin 1 → Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_774 : BitVec 32 := 2#32
  let v904 : BitVec 32 := Scalar.muli v851 c2_i32_774
  let c1_i32_775 : BitVec 32 := 1#32
  let v905 : BitVec 32 := Scalar.addi v904 c1_i32_775
  let v907 : BitVec 32 := Scalar.addi c0_i32_777 v905
  ![v907.toNat]
def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_759 : BitVec 32 := 4#32
  let v886 : BitVec 32 := Scalar.muli v529 c4_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v887 : BitVec 32 := Scalar.addi v886 v851
  let c32_i32_778 : BitVec 32 := 32#32
  let v908 : BitVec 32 := Scalar.muli v887 c32_i32_778
  let c16_i32_779 : BitVec 32 := 16#32
  let v909 : BitVec 32 := Scalar.addi v908 c16_i32_779
  let c0_i32_2312 : BitVec 32 := 0#32
  ![v909.toNat, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v918 : BitVec 32 := Scalar.extui v850
  let c0_i32_787 : BitVec 32 := 0#32
  let v919 : BitVec 1 := Scalar.cmpi .ne v918 c0_i32_787
  v919

def k0_off141 (d0 : Dev nD) : Fin 1 → Nat :=
  let c8_i32_783 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_774 : BitVec 32 := 2#32
  let v904 : BitVec 32 := Scalar.muli v851 c2_i32_774
  let c1_i32_775 : BitVec 32 := 1#32
  let v905 : BitVec 32 := Scalar.addi v904 c1_i32_775
  let v914 : BitVec 32 := Scalar.addi c8_i32_783 v905
  ![v914.toNat]
def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_759 : BitVec 32 := 4#32
  let v886 : BitVec 32 := Scalar.muli v529 c4_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v887 : BitVec 32 := Scalar.addi v886 v851
  let c32_i32_785 : BitVec 32 := 32#32
  let v916 : BitVec 32 := Scalar.muli v887 c32_i32_785
  let c16_i32_786 : BitVec 32 := 16#32
  let v917 : BitVec 32 := Scalar.addi v916 c16_i32_786
  let c0_i32_2312 : BitVec 32 := 0#32
  ![v917.toNat, 0]
def k0_dev64 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v930 : BitVec 32 := Scalar.extui v920
  let c0_i32_797 : BitVec 32 := 0#32
  let v931 : BitVec 1 := Scalar.cmpi .ne v930 c0_i32_797
  v931

def k0_off143 (d0 : Dev nD) : Fin 1 → Nat :=
  let c0_i32_794 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_791 : BitVec 32 := 2#32
  let v924 : BitVec 32 := Scalar.muli v921 c2_i32_791
  let c0_i32_792 : BitVec 32 := 0#32
  let v925 : BitVec 32 := Scalar.addi v924 c0_i32_792
  let v927 : BitVec 32 := Scalar.addi c0_i32_794 v925
  ![v927.toNat]
def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_790 : BitVec 32 := 4#32
  let v922 : BitVec 32 := Scalar.muli v521 c4_i32_790
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v923 : BitVec 32 := Scalar.addi v922 v921
  let c32_i32_795 : BitVec 32 := 32#32
  let v928 : BitVec 32 := Scalar.muli v923 c32_i32_795
  let c0_i32_796 : BitVec 32 := 0#32
  let v929 : BitVec 32 := Scalar.addi v928 c0_i32_796
  let c0_i32_2312 : BitVec 32 := 0#32
  ![v929.toNat, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v938 : BitVec 32 := Scalar.extui v920
  let c0_i32_804 : BitVec 32 := 0#32
  let v939 : BitVec 1 := Scalar.cmpi .ne v938 c0_i32_804
  v939

def k0_off145 (d0 : Dev nD) : Fin 1 → Nat :=
  let c8_i32_800 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_791 : BitVec 32 := 2#32
  let v924 : BitVec 32 := Scalar.muli v921 c2_i32_791
  let c0_i32_792 : BitVec 32 := 0#32
  let v925 : BitVec 32 := Scalar.addi v924 c0_i32_792
  let v934 : BitVec 32 := Scalar.addi c8_i32_800 v925
  ![v934.toNat]
def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_790 : BitVec 32 := 4#32
  let v922 : BitVec 32 := Scalar.muli v521 c4_i32_790
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v923 : BitVec 32 := Scalar.addi v922 v921
  let c32_i32_802 : BitVec 32 := 32#32
  let v936 : BitVec 32 := Scalar.muli v923 c32_i32_802
  let c0_i32_803 : BitVec 32 := 0#32
  let v937 : BitVec 32 := Scalar.addi v936 c0_i32_803
  let c0_i32_2312 : BitVec 32 := 0#32
  ![v937.toNat, 0]
def k0_dev65 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v946 : BitVec 32 := Scalar.extui v920
  let c0_i32_811 : BitVec 32 := 0#32
  let v947 : BitVec 1 := Scalar.cmpi .ne v946 c0_i32_811
  v947

def k0_off147 (d0 : Dev nD) : Fin 1 → Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_805 : BitVec 32 := 2#32
  let v940 : BitVec 32 := Scalar.muli v921 c2_i32_805
  let c1_i32_806 : BitVec 32 := 1#32
  let v941 : BitVec 32 := Scalar.addi v940 c1_i32_806
  let v943 : BitVec 32 := Scalar.addi c0_i32_808 v941
  ![v943.toNat]
def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_790 : BitVec 32 := 4#32
  let v922 : BitVec 32 := Scalar.muli v521 c4_i32_790
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v923 : BitVec 32 := Scalar.addi v922 v921
  let c32_i32_809 : BitVec 32 := 32#32
  let v944 : BitVec 32 := Scalar.muli v923 c32_i32_809
  let c16_i32_810 : BitVec 32 := 16#32
  let v945 : BitVec 32 := Scalar.addi v944 c16_i32_810
  let c0_i32_2312 : BitVec 32 := 0#32
  ![v945.toNat, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v954 : BitVec 32 := Scalar.extui v920
  let c0_i32_818 : BitVec 32 := 0#32
  let v955 : BitVec 1 := Scalar.cmpi .ne v954 c0_i32_818
  v955

def k0_off149 (d0 : Dev nD) : Fin 1 → Nat :=
  let c8_i32_814 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_805 : BitVec 32 := 2#32
  let v940 : BitVec 32 := Scalar.muli v921 c2_i32_805
  let c1_i32_806 : BitVec 32 := 1#32
  let v941 : BitVec 32 := Scalar.addi v940 c1_i32_806
  let v950 : BitVec 32 := Scalar.addi c8_i32_814 v941
  ![v950.toNat]
def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_790 : BitVec 32 := 4#32
  let v922 : BitVec 32 := Scalar.muli v521 c4_i32_790
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v923 : BitVec 32 := Scalar.addi v922 v921
  let c32_i32_816 : BitVec 32 := 32#32
  let v952 : BitVec 32 := Scalar.muli v923 c32_i32_816
  let c16_i32_817 : BitVec 32 := 16#32
  let v953 : BitVec 32 := Scalar.addi v952 c16_i32_817
  let c0_i32_2312 : BitVec 32 := 0#32
  ![v953.toNat, 0]
def k0_dev66 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v964 : BitVec 32 := Scalar.extui v920
  let c0_i32_826 : BitVec 32 := 0#32
  let v965 : BitVec 1 := Scalar.cmpi .ne v964 c0_i32_826
  v965

def k0_off151 (d0 : Dev nD) : Fin 1 → Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_820 : BitVec 32 := 2#32
  let v958 : BitVec 32 := Scalar.muli v921 c2_i32_820
  let c0_i32_821 : BitVec 32 := 0#32
  let v959 : BitVec 32 := Scalar.addi v958 c0_i32_821
  let v961 : BitVec 32 := Scalar.addi c0_i32_823 v959
  ![v961.toNat]
def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_819 : BitVec 32 := 4#32
  let v956 : BitVec 32 := Scalar.muli v529 c4_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v957 : BitVec 32 := Scalar.addi v956 v921
  let c32_i32_824 : BitVec 32 := 32#32
  let v962 : BitVec 32 := Scalar.muli v957 c32_i32_824
  let c0_i32_825 : BitVec 32 := 0#32
  let v963 : BitVec 32 := Scalar.addi v962 c0_i32_825
  let c0_i32_2312 : BitVec 32 := 0#32
  ![v963.toNat, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v972 : BitVec 32 := Scalar.extui v920
  let c0_i32_833 : BitVec 32 := 0#32
  let v973 : BitVec 1 := Scalar.cmpi .ne v972 c0_i32_833
  v973

def k0_off153 (d0 : Dev nD) : Fin 1 → Nat :=
  let c8_i32_829 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_820 : BitVec 32 := 2#32
  let v958 : BitVec 32 := Scalar.muli v921 c2_i32_820
  let c0_i32_821 : BitVec 32 := 0#32
  let v959 : BitVec 32 := Scalar.addi v958 c0_i32_821
  let v968 : BitVec 32 := Scalar.addi c8_i32_829 v959
  ![v968.toNat]
def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_819 : BitVec 32 := 4#32
  let v956 : BitVec 32 := Scalar.muli v529 c4_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v957 : BitVec 32 := Scalar.addi v956 v921
  let c32_i32_831 : BitVec 32 := 32#32
  let v970 : BitVec 32 := Scalar.muli v957 c32_i32_831
  let c0_i32_832 : BitVec 32 := 0#32
  let v971 : BitVec 32 := Scalar.addi v970 c0_i32_832
  let c0_i32_2312 : BitVec 32 := 0#32
  ![v971.toNat, 0]
def k0_dev67 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v980 : BitVec 32 := Scalar.extui v920
  let c0_i32_840 : BitVec 32 := 0#32
  let v981 : BitVec 1 := Scalar.cmpi .ne v980 c0_i32_840
  v981

def k0_off155 (d0 : Dev nD) : Fin 1 → Nat :=
  let c0_i32_837 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_834 : BitVec 32 := 2#32
  let v974 : BitVec 32 := Scalar.muli v921 c2_i32_834
  let c1_i32_835 : BitVec 32 := 1#32
  let v975 : BitVec 32 := Scalar.addi v974 c1_i32_835
  let v977 : BitVec 32 := Scalar.addi c0_i32_837 v975
  ![v977.toNat]
def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_819 : BitVec 32 := 4#32
  let v956 : BitVec 32 := Scalar.muli v529 c4_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v957 : BitVec 32 := Scalar.addi v956 v921
  let c32_i32_838 : BitVec 32 := 32#32
  let v978 : BitVec 32 := Scalar.muli v957 c32_i32_838
  let c16_i32_839 : BitVec 32 := 16#32
  let v979 : BitVec 32 := Scalar.addi v978 c16_i32_839
  let c0_i32_2312 : BitVec 32 := 0#32
  ![v979.toNat, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v988 : BitVec 32 := Scalar.extui v920
  let c0_i32_847 : BitVec 32 := 0#32
  let v989 : BitVec 1 := Scalar.cmpi .ne v988 c0_i32_847
  v989

def k0_off157 (d0 : Dev nD) : Fin 1 → Nat :=
  let c8_i32_843 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_834 : BitVec 32 := 2#32
  let v974 : BitVec 32 := Scalar.muli v921 c2_i32_834
  let c1_i32_835 : BitVec 32 := 1#32
  let v975 : BitVec 32 := Scalar.addi v974 c1_i32_835
  let v984 : BitVec 32 := Scalar.addi c8_i32_843 v975
  ![v984.toNat]
def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_819 : BitVec 32 := 4#32
  let v956 : BitVec 32 := Scalar.muli v529 c4_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v957 : BitVec 32 := Scalar.addi v956 v921
  let c32_i32_845 : BitVec 32 := 32#32
  let v986 : BitVec 32 := Scalar.muli v957 c32_i32_845
  let c16_i32_846 : BitVec 32 := 16#32
  let v987 : BitVec 32 := Scalar.addi v986 c16_i32_846
  let c0_i32_2312 : BitVec 32 := 0#32
  ![v987.toNat, 0]
def k0_dev68 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1001 : BitVec 32 := Scalar.extui v991
  let c0_i32_858 : BitVec 32 := 0#32
  let v1002 : BitVec 1 := Scalar.cmpi .ne v1001 c0_i32_858
  v1002

def k0_off159 (d0 : Dev nD) : Fin 1 → Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_852 : BitVec 32 := 2#32
  let v995 : BitVec 32 := Scalar.muli v992 c2_i32_852
  let c0_i32_853 : BitVec 32 := 0#32
  let v996 : BitVec 32 := Scalar.addi v995 c0_i32_853
  let v998 : BitVec 32 := Scalar.addi c0_i32_855 v996
  ![v998.toNat]
def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_851 : BitVec 32 := 4#32
  let v993 : BitVec 32 := Scalar.muli v521 c4_i32_851
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v994 : BitVec 32 := Scalar.addi v993 v992
  let c32_i32_856 : BitVec 32 := 32#32
  let v999 : BitVec 32 := Scalar.muli v994 c32_i32_856
  let c0_i32_857 : BitVec 32 := 0#32
  let v1000 : BitVec 32 := Scalar.addi v999 c0_i32_857
  let c0_i32_2312 : BitVec 32 := 0#32
  ![v1000.toNat, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1009 : BitVec 32 := Scalar.extui v991
  let c0_i32_865 : BitVec 32 := 0#32
  let v1010 : BitVec 1 := Scalar.cmpi .ne v1009 c0_i32_865
  v1010

def k0_off161 (d0 : Dev nD) : Fin 1 → Nat :=
  let c8_i32_861 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_852 : BitVec 32 := 2#32
  let v995 : BitVec 32 := Scalar.muli v992 c2_i32_852
  let c0_i32_853 : BitVec 32 := 0#32
  let v996 : BitVec 32 := Scalar.addi v995 c0_i32_853
  let v1005 : BitVec 32 := Scalar.addi c8_i32_861 v996
  ![v1005.toNat]
def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_851 : BitVec 32 := 4#32
  let v993 : BitVec 32 := Scalar.muli v521 c4_i32_851
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v994 : BitVec 32 := Scalar.addi v993 v992
  let c32_i32_863 : BitVec 32 := 32#32
  let v1007 : BitVec 32 := Scalar.muli v994 c32_i32_863
  let c0_i32_864 : BitVec 32 := 0#32
  let v1008 : BitVec 32 := Scalar.addi v1007 c0_i32_864
  let c0_i32_2312 : BitVec 32 := 0#32
  ![v1008.toNat, 0]
def k0_dev69 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1017 : BitVec 32 := Scalar.extui v991
  let c0_i32_872 : BitVec 32 := 0#32
  let v1018 : BitVec 1 := Scalar.cmpi .ne v1017 c0_i32_872
  v1018

def k0_off163 (d0 : Dev nD) : Fin 1 → Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_866 : BitVec 32 := 2#32
  let v1011 : BitVec 32 := Scalar.muli v992 c2_i32_866
  let c1_i32_867 : BitVec 32 := 1#32
  let v1012 : BitVec 32 := Scalar.addi v1011 c1_i32_867
  let v1014 : BitVec 32 := Scalar.addi c0_i32_869 v1012
  ![v1014.toNat]
def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_851 : BitVec 32 := 4#32
  let v993 : BitVec 32 := Scalar.muli v521 c4_i32_851
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v994 : BitVec 32 := Scalar.addi v993 v992
  let c32_i32_870 : BitVec 32 := 32#32
  let v1015 : BitVec 32 := Scalar.muli v994 c32_i32_870
  let c16_i32_871 : BitVec 32 := 16#32
  let v1016 : BitVec 32 := Scalar.addi v1015 c16_i32_871
  let c0_i32_2312 : BitVec 32 := 0#32
  ![v1016.toNat, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1025 : BitVec 32 := Scalar.extui v991
  let c0_i32_879 : BitVec 32 := 0#32
  let v1026 : BitVec 1 := Scalar.cmpi .ne v1025 c0_i32_879
  v1026

def k0_off165 (d0 : Dev nD) : Fin 1 → Nat :=
  let c8_i32_875 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_866 : BitVec 32 := 2#32
  let v1011 : BitVec 32 := Scalar.muli v992 c2_i32_866
  let c1_i32_867 : BitVec 32 := 1#32
  let v1012 : BitVec 32 := Scalar.addi v1011 c1_i32_867
  let v1021 : BitVec 32 := Scalar.addi c8_i32_875 v1012
  ![v1021.toNat]
def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_851 : BitVec 32 := 4#32
  let v993 : BitVec 32 := Scalar.muli v521 c4_i32_851
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v994 : BitVec 32 := Scalar.addi v993 v992
  let c32_i32_877 : BitVec 32 := 32#32
  let v1023 : BitVec 32 := Scalar.muli v994 c32_i32_877
  let c16_i32_878 : BitVec 32 := 16#32
  let v1024 : BitVec 32 := Scalar.addi v1023 c16_i32_878
  let c0_i32_2312 : BitVec 32 := 0#32
  ![v1024.toNat, 0]
def k0_dev70 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1035 : BitVec 32 := Scalar.extui v991
  let c0_i32_887 : BitVec 32 := 0#32
  let v1036 : BitVec 1 := Scalar.cmpi .ne v1035 c0_i32_887
  v1036

def k0_off167 (d0 : Dev nD) : Fin 1 → Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_881 : BitVec 32 := 2#32
  let v1029 : BitVec 32 := Scalar.muli v992 c2_i32_881
  let c0_i32_882 : BitVec 32 := 0#32
  let v1030 : BitVec 32 := Scalar.addi v1029 c0_i32_882
  let v1032 : BitVec 32 := Scalar.addi c0_i32_884 v1030
  ![v1032.toNat]
def k0_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_880 : BitVec 32 := 4#32
  let v1027 : BitVec 32 := Scalar.muli v529 c4_i32_880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v1028 : BitVec 32 := Scalar.addi v1027 v992
  let c32_i32_885 : BitVec 32 := 32#32
  let v1033 : BitVec 32 := Scalar.muli v1028 c32_i32_885
  let c0_i32_886 : BitVec 32 := 0#32
  let v1034 : BitVec 32 := Scalar.addi v1033 c0_i32_886
  let c0_i32_2312 : BitVec 32 := 0#32
  ![v1034.toNat, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1043 : BitVec 32 := Scalar.extui v991
  let c0_i32_894 : BitVec 32 := 0#32
  let v1044 : BitVec 1 := Scalar.cmpi .ne v1043 c0_i32_894
  v1044

def k0_off169 (d0 : Dev nD) : Fin 1 → Nat :=
  let c8_i32_890 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_881 : BitVec 32 := 2#32
  let v1029 : BitVec 32 := Scalar.muli v992 c2_i32_881
  let c0_i32_882 : BitVec 32 := 0#32
  let v1030 : BitVec 32 := Scalar.addi v1029 c0_i32_882
  let v1039 : BitVec 32 := Scalar.addi c8_i32_890 v1030
  ![v1039.toNat]
def k0_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_880 : BitVec 32 := 4#32
  let v1027 : BitVec 32 := Scalar.muli v529 c4_i32_880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v1028 : BitVec 32 := Scalar.addi v1027 v992
  let c32_i32_892 : BitVec 32 := 32#32
  let v1041 : BitVec 32 := Scalar.muli v1028 c32_i32_892
  let c0_i32_893 : BitVec 32 := 0#32
  let v1042 : BitVec 32 := Scalar.addi v1041 c0_i32_893
  let c0_i32_2312 : BitVec 32 := 0#32
  ![v1042.toNat, 0]
def k0_dev71 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1051 : BitVec 32 := Scalar.extui v991
  let c0_i32_901 : BitVec 32 := 0#32
  let v1052 : BitVec 1 := Scalar.cmpi .ne v1051 c0_i32_901
  v1052

def k0_off171 (d0 : Dev nD) : Fin 1 → Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_895 : BitVec 32 := 2#32
  let v1045 : BitVec 32 := Scalar.muli v992 c2_i32_895
  let c1_i32_896 : BitVec 32 := 1#32
  let v1046 : BitVec 32 := Scalar.addi v1045 c1_i32_896
  let v1048 : BitVec 32 := Scalar.addi c0_i32_898 v1046
  ![v1048.toNat]
def k0_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_880 : BitVec 32 := 4#32
  let v1027 : BitVec 32 := Scalar.muli v529 c4_i32_880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v1028 : BitVec 32 := Scalar.addi v1027 v992
  let c32_i32_899 : BitVec 32 := 32#32
  let v1049 : BitVec 32 := Scalar.muli v1028 c32_i32_899
  let c16_i32_900 : BitVec 32 := 16#32
  let v1050 : BitVec 32 := Scalar.addi v1049 c16_i32_900
  let c0_i32_2312 : BitVec 32 := 0#32
  ![v1050.toNat, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v1059 : BitVec 32 := Scalar.extui v991
  let c0_i32_908 : BitVec 32 := 0#32
  let v1060 : BitVec 1 := Scalar.cmpi .ne v1059 c0_i32_908
  v1060

def k0_off173 (d0 : Dev nD) : Fin 1 → Nat :=
  let c8_i32_904 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_895 : BitVec 32 := 2#32
  let v1045 : BitVec 32 := Scalar.muli v992 c2_i32_895
  let c1_i32_896 : BitVec 32 := 1#32
  let v1046 : BitVec 32 := Scalar.addi v1045 c1_i32_896
  let v1055 : BitVec 32 := Scalar.addi c8_i32_904 v1046
  ![v1055.toNat]
def k0_off174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_880 : BitVec 32 := 4#32
  let v1027 : BitVec 32 := Scalar.muli v529 c4_i32_880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v1028 : BitVec 32 := Scalar.addi v1027 v992
  let c32_i32_906 : BitVec 32 := 32#32
  let v1057 : BitVec 32 := Scalar.muli v1028 c32_i32_906
  let c16_i32_907 : BitVec 32 := 16#32
  let v1058 : BitVec 32 := Scalar.addi v1057 c16_i32_907
  let c0_i32_2312 : BitVec 32 := 0#32
  ![v1058.toNat, 0]
def k0_dev72 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_dev73 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_940 : BitVec 32 := 1#32
  let v1098 : BitVec 32 := Scalar.muli v37 c1_i32_940
  let v1099 : BitVec 32 := Scalar.addi c0_i32_941 v1098
  v1099.toNat
def k0_dev74 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_961 : BitVec 32 := 1#32
  let v1124 : BitVec 32 := Scalar.muli v37 c1_i32_961
  let v1125 : BitVec 32 := Scalar.addi c0_i32_962 v1124
  v1125.toNat
def k0_dev75 (d0 : Dev nD) : Nat :=
  let c0_i32_984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_983 : BitVec 32 := 1#32
  let v1152 : BitVec 32 := Scalar.muli v46 c1_i32_983
  let v1153 : BitVec 32 := Scalar.addi c0_i32_984 v1152
  v1153.toNat
def k0_dev76 (d0 : Dev nD) : Nat :=
  let c0_i32_1005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_1004 : BitVec 32 := 1#32
  let v1178 : BitVec 32 := Scalar.muli v46 c1_i32_1004
  let v1179 : BitVec 32 := Scalar.addi c0_i32_1005 v1178
  v1179.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1196 : BitVec 32 := Scalar.extui v1186
  let c0_i32_1017 : BitVec 32 := 0#32
  let v1197 : BitVec 1 := Scalar.cmpi .ne v1196 c0_i32_1017
  v1197

def k0_off175 (d0 : Dev nD) : Fin 1 → Nat :=
  let c8_i32_1014 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1011 : BitVec 32 := 2#32
  let v1190 : BitVec 32 := Scalar.muli v1187 c2_i32_1011
  let c0_i32_1012 : BitVec 32 := 0#32
  let v1191 : BitVec 32 := Scalar.addi v1190 c0_i32_1012
  let v1193 : BitVec 32 := Scalar.addi c8_i32_1014 v1191
  ![v1193.toNat]
def k0_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1010 : BitVec 32 := 4#32
  let v1188 : BitVec 32 := Scalar.muli v1069 c4_i32_1010
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1189 : BitVec 32 := Scalar.addi v1188 v1187
  let c32_i32_1015 : BitVec 32 := 32#32
  let v1194 : BitVec 32 := Scalar.muli v1189 c32_i32_1015
  let c0_i32_1016 : BitVec 32 := 0#32
  let v1195 : BitVec 32 := Scalar.addi v1194 c0_i32_1016
  let c0_i32_2312 : BitVec 32 := 0#32
  ![v1195.toNat, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1204 : BitVec 32 := Scalar.extui v1186
  let c0_i32_1024 : BitVec 32 := 0#32
  let v1205 : BitVec 1 := Scalar.cmpi .ne v1204 c0_i32_1024
  v1205

def k0_off177 (d0 : Dev nD) : Fin 1 → Nat :=
  let c16_i32_1020 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1011 : BitVec 32 := 2#32
  let v1190 : BitVec 32 := Scalar.muli v1187 c2_i32_1011
  let c0_i32_1012 : BitVec 32 := 0#32
  let v1191 : BitVec 32 := Scalar.addi v1190 c0_i32_1012
  let v1200 : BitVec 32 := Scalar.addi c16_i32_1020 v1191
  ![v1200.toNat]
def k0_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1010 : BitVec 32 := 4#32
  let v1188 : BitVec 32 := Scalar.muli v1069 c4_i32_1010
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1189 : BitVec 32 := Scalar.addi v1188 v1187
  let c32_i32_1022 : BitVec 32 := 32#32
  let v1202 : BitVec 32 := Scalar.muli v1189 c32_i32_1022
  let c0_i32_1023 : BitVec 32 := 0#32
  let v1203 : BitVec 32 := Scalar.addi v1202 c0_i32_1023
  let c0_i32_2312 : BitVec 32 := 0#32
  ![v1203.toNat, 0]
def k0_dev77 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1212 : BitVec 32 := Scalar.extui v1186
  let c0_i32_1031 : BitVec 32 := 0#32
  let v1213 : BitVec 1 := Scalar.cmpi .ne v1212 c0_i32_1031
  v1213

def k0_off179 (d0 : Dev nD) : Fin 1 → Nat :=
  let c8_i32_1028 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1025 : BitVec 32 := 2#32
  let v1206 : BitVec 32 := Scalar.muli v1187 c2_i32_1025
  let c1_i32_1026 : BitVec 32 := 1#32
  let v1207 : BitVec 32 := Scalar.addi v1206 c1_i32_1026
  let v1209 : BitVec 32 := Scalar.addi c8_i32_1028 v1207
  ![v1209.toNat]
def k0_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1010 : BitVec 32 := 4#32
  let v1188 : BitVec 32 := Scalar.muli v1069 c4_i32_1010
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1189 : BitVec 32 := Scalar.addi v1188 v1187
  let c32_i32_1029 : BitVec 32 := 32#32
  let v1210 : BitVec 32 := Scalar.muli v1189 c32_i32_1029
  let c16_i32_1030 : BitVec 32 := 16#32
  let v1211 : BitVec 32 := Scalar.addi v1210 c16_i32_1030
  let c0_i32_2312 : BitVec 32 := 0#32
  ![v1211.toNat, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1220 : BitVec 32 := Scalar.extui v1186
  let c0_i32_1038 : BitVec 32 := 0#32
  let v1221 : BitVec 1 := Scalar.cmpi .ne v1220 c0_i32_1038
  v1221

def k0_off181 (d0 : Dev nD) : Fin 1 → Nat :=
  let c16_i32_1034 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1025 : BitVec 32 := 2#32
  let v1206 : BitVec 32 := Scalar.muli v1187 c2_i32_1025
  let c1_i32_1026 : BitVec 32 := 1#32
  let v1207 : BitVec 32 := Scalar.addi v1206 c1_i32_1026
  let v1216 : BitVec 32 := Scalar.addi c16_i32_1034 v1207
  ![v1216.toNat]
def k0_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1010 : BitVec 32 := 4#32
  let v1188 : BitVec 32 := Scalar.muli v1069 c4_i32_1010
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1189 : BitVec 32 := Scalar.addi v1188 v1187
  let c32_i32_1036 : BitVec 32 := 32#32
  let v1218 : BitVec 32 := Scalar.muli v1189 c32_i32_1036
  let c16_i32_1037 : BitVec 32 := 16#32
  let v1219 : BitVec 32 := Scalar.addi v1218 c16_i32_1037
  let c0_i32_2312 : BitVec 32 := 0#32
  ![v1219.toNat, 0]
def k0_dev78 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1230 : BitVec 32 := Scalar.extui v1186
  let c0_i32_1046 : BitVec 32 := 0#32
  let v1231 : BitVec 1 := Scalar.cmpi .ne v1230 c0_i32_1046
  v1231

def k0_off183 (d0 : Dev nD) : Fin 1 → Nat :=
  let c8_i32_1043 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1040 : BitVec 32 := 2#32
  let v1224 : BitVec 32 := Scalar.muli v1187 c2_i32_1040
  let c0_i32_1041 : BitVec 32 := 0#32
  let v1225 : BitVec 32 := Scalar.addi v1224 c0_i32_1041
  let v1227 : BitVec 32 := Scalar.addi c8_i32_1043 v1225
  ![v1227.toNat]
def k0_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1039 : BitVec 32 := 4#32
  let v1222 : BitVec 32 := Scalar.muli v1077 c4_i32_1039
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1223 : BitVec 32 := Scalar.addi v1222 v1187
  let c32_i32_1044 : BitVec 32 := 32#32
  let v1228 : BitVec 32 := Scalar.muli v1223 c32_i32_1044
  let c0_i32_1045 : BitVec 32 := 0#32
  let v1229 : BitVec 32 := Scalar.addi v1228 c0_i32_1045
  let c0_i32_2312 : BitVec 32 := 0#32
  ![v1229.toNat, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1238 : BitVec 32 := Scalar.extui v1186
  let c0_i32_1053 : BitVec 32 := 0#32
  let v1239 : BitVec 1 := Scalar.cmpi .ne v1238 c0_i32_1053
  v1239

def k0_off185 (d0 : Dev nD) : Fin 1 → Nat :=
  let c16_i32_1049 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1040 : BitVec 32 := 2#32
  let v1224 : BitVec 32 := Scalar.muli v1187 c2_i32_1040
  let c0_i32_1041 : BitVec 32 := 0#32
  let v1225 : BitVec 32 := Scalar.addi v1224 c0_i32_1041
  let v1234 : BitVec 32 := Scalar.addi c16_i32_1049 v1225
  ![v1234.toNat]
def k0_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1039 : BitVec 32 := 4#32
  let v1222 : BitVec 32 := Scalar.muli v1077 c4_i32_1039
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1223 : BitVec 32 := Scalar.addi v1222 v1187
  let c32_i32_1051 : BitVec 32 := 32#32
  let v1236 : BitVec 32 := Scalar.muli v1223 c32_i32_1051
  let c0_i32_1052 : BitVec 32 := 0#32
  let v1237 : BitVec 32 := Scalar.addi v1236 c0_i32_1052
  let c0_i32_2312 : BitVec 32 := 0#32
  ![v1237.toNat, 0]
def k0_dev79 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1246 : BitVec 32 := Scalar.extui v1186
  let c0_i32_1060 : BitVec 32 := 0#32
  let v1247 : BitVec 1 := Scalar.cmpi .ne v1246 c0_i32_1060
  v1247

def k0_off187 (d0 : Dev nD) : Fin 1 → Nat :=
  let c8_i32_1057 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1054 : BitVec 32 := 2#32
  let v1240 : BitVec 32 := Scalar.muli v1187 c2_i32_1054
  let c1_i32_1055 : BitVec 32 := 1#32
  let v1241 : BitVec 32 := Scalar.addi v1240 c1_i32_1055
  let v1243 : BitVec 32 := Scalar.addi c8_i32_1057 v1241
  ![v1243.toNat]
def k0_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1039 : BitVec 32 := 4#32
  let v1222 : BitVec 32 := Scalar.muli v1077 c4_i32_1039
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1223 : BitVec 32 := Scalar.addi v1222 v1187
  let c32_i32_1058 : BitVec 32 := 32#32
  let v1244 : BitVec 32 := Scalar.muli v1223 c32_i32_1058
  let c16_i32_1059 : BitVec 32 := 16#32
  let v1245 : BitVec 32 := Scalar.addi v1244 c16_i32_1059
  let c0_i32_2312 : BitVec 32 := 0#32
  ![v1245.toNat, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v1254 : BitVec 32 := Scalar.extui v1186
  let c0_i32_1067 : BitVec 32 := 0#32
  let v1255 : BitVec 1 := Scalar.cmpi .ne v1254 c0_i32_1067
  v1255

def k0_off189 (d0 : Dev nD) : Fin 1 → Nat :=
  let c16_i32_1063 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1054 : BitVec 32 := 2#32
  let v1240 : BitVec 32 := Scalar.muli v1187 c2_i32_1054
  let c1_i32_1055 : BitVec 32 := 1#32
  let v1241 : BitVec 32 := Scalar.addi v1240 c1_i32_1055
  let v1250 : BitVec 32 := Scalar.addi c16_i32_1063 v1241
  ![v1250.toNat]
def k0_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1039 : BitVec 32 := 4#32
  let v1222 : BitVec 32 := Scalar.muli v1077 c4_i32_1039
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1223 : BitVec 32 := Scalar.addi v1222 v1187
  let c32_i32_1065 : BitVec 32 := 32#32
  let v1252 : BitVec 32 := Scalar.muli v1223 c32_i32_1065
  let c16_i32_1066 : BitVec 32 := 16#32
  let v1253 : BitVec 32 := Scalar.addi v1252 c16_i32_1066
  let c0_i32_2312 : BitVec 32 := 0#32
  ![v1253.toNat, 0]
def k0_dev80 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1267 : BitVec 32 := Scalar.extui v1257
  let c0_i32_1078 : BitVec 32 := 0#32
  let v1268 : BitVec 1 := Scalar.cmpi .ne v1267 c0_i32_1078
  v1268

def k0_off191 (d0 : Dev nD) : Fin 1 → Nat :=
  let c8_i32_1075 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1072 : BitVec 32 := 2#32
  let v1261 : BitVec 32 := Scalar.muli v1258 c2_i32_1072
  let c0_i32_1073 : BitVec 32 := 0#32
  let v1262 : BitVec 32 := Scalar.addi v1261 c0_i32_1073
  let v1264 : BitVec 32 := Scalar.addi c8_i32_1075 v1262
  ![v1264.toNat]
def k0_off192 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1071 : BitVec 32 := 4#32
  let v1259 : BitVec 32 := Scalar.muli v1069 c4_i32_1071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1260 : BitVec 32 := Scalar.addi v1259 v1258
  let c32_i32_1076 : BitVec 32 := 32#32
  let v1265 : BitVec 32 := Scalar.muli v1260 c32_i32_1076
  let c0_i32_1077 : BitVec 32 := 0#32
  let v1266 : BitVec 32 := Scalar.addi v1265 c0_i32_1077
  let c0_i32_2312 : BitVec 32 := 0#32
  ![v1266.toNat, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1275 : BitVec 32 := Scalar.extui v1257
  let c0_i32_1085 : BitVec 32 := 0#32
  let v1276 : BitVec 1 := Scalar.cmpi .ne v1275 c0_i32_1085
  v1276

def k0_off193 (d0 : Dev nD) : Fin 1 → Nat :=
  let c16_i32_1081 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1072 : BitVec 32 := 2#32
  let v1261 : BitVec 32 := Scalar.muli v1258 c2_i32_1072
  let c0_i32_1073 : BitVec 32 := 0#32
  let v1262 : BitVec 32 := Scalar.addi v1261 c0_i32_1073
  let v1271 : BitVec 32 := Scalar.addi c16_i32_1081 v1262
  ![v1271.toNat]
def k0_off194 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1071 : BitVec 32 := 4#32
  let v1259 : BitVec 32 := Scalar.muli v1069 c4_i32_1071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1260 : BitVec 32 := Scalar.addi v1259 v1258
  let c32_i32_1083 : BitVec 32 := 32#32
  let v1273 : BitVec 32 := Scalar.muli v1260 c32_i32_1083
  let c0_i32_1084 : BitVec 32 := 0#32
  let v1274 : BitVec 32 := Scalar.addi v1273 c0_i32_1084
  let c0_i32_2312 : BitVec 32 := 0#32
  ![v1274.toNat, 0]
def k0_dev81 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1283 : BitVec 32 := Scalar.extui v1257
  let c0_i32_1092 : BitVec 32 := 0#32
  let v1284 : BitVec 1 := Scalar.cmpi .ne v1283 c0_i32_1092
  v1284

def k0_off195 (d0 : Dev nD) : Fin 1 → Nat :=
  let c8_i32_1089 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1086 : BitVec 32 := 2#32
  let v1277 : BitVec 32 := Scalar.muli v1258 c2_i32_1086
  let c1_i32_1087 : BitVec 32 := 1#32
  let v1278 : BitVec 32 := Scalar.addi v1277 c1_i32_1087
  let v1280 : BitVec 32 := Scalar.addi c8_i32_1089 v1278
  ![v1280.toNat]
def k0_off196 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1071 : BitVec 32 := 4#32
  let v1259 : BitVec 32 := Scalar.muli v1069 c4_i32_1071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1260 : BitVec 32 := Scalar.addi v1259 v1258
  let c32_i32_1090 : BitVec 32 := 32#32
  let v1281 : BitVec 32 := Scalar.muli v1260 c32_i32_1090
  let c16_i32_1091 : BitVec 32 := 16#32
  let v1282 : BitVec 32 := Scalar.addi v1281 c16_i32_1091
  let c0_i32_2312 : BitVec 32 := 0#32
  ![v1282.toNat, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1291 : BitVec 32 := Scalar.extui v1257
  let c0_i32_1099 : BitVec 32 := 0#32
  let v1292 : BitVec 1 := Scalar.cmpi .ne v1291 c0_i32_1099
  v1292

def k0_off197 (d0 : Dev nD) : Fin 1 → Nat :=
  let c16_i32_1095 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1086 : BitVec 32 := 2#32
  let v1277 : BitVec 32 := Scalar.muli v1258 c2_i32_1086
  let c1_i32_1087 : BitVec 32 := 1#32
  let v1278 : BitVec 32 := Scalar.addi v1277 c1_i32_1087
  let v1287 : BitVec 32 := Scalar.addi c16_i32_1095 v1278
  ![v1287.toNat]
def k0_off198 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1071 : BitVec 32 := 4#32
  let v1259 : BitVec 32 := Scalar.muli v1069 c4_i32_1071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1260 : BitVec 32 := Scalar.addi v1259 v1258
  let c32_i32_1097 : BitVec 32 := 32#32
  let v1289 : BitVec 32 := Scalar.muli v1260 c32_i32_1097
  let c16_i32_1098 : BitVec 32 := 16#32
  let v1290 : BitVec 32 := Scalar.addi v1289 c16_i32_1098
  let c0_i32_2312 : BitVec 32 := 0#32
  ![v1290.toNat, 0]
def k0_dev82 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1301 : BitVec 32 := Scalar.extui v1257
  let c0_i32_1107 : BitVec 32 := 0#32
  let v1302 : BitVec 1 := Scalar.cmpi .ne v1301 c0_i32_1107
  v1302

def k0_off199 (d0 : Dev nD) : Fin 1 → Nat :=
  let c8_i32_1104 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1101 : BitVec 32 := 2#32
  let v1295 : BitVec 32 := Scalar.muli v1258 c2_i32_1101
  let c0_i32_1102 : BitVec 32 := 0#32
  let v1296 : BitVec 32 := Scalar.addi v1295 c0_i32_1102
  let v1298 : BitVec 32 := Scalar.addi c8_i32_1104 v1296
  ![v1298.toNat]
def k0_off200 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1100 : BitVec 32 := 4#32
  let v1293 : BitVec 32 := Scalar.muli v1077 c4_i32_1100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1294 : BitVec 32 := Scalar.addi v1293 v1258
  let c32_i32_1105 : BitVec 32 := 32#32
  let v1299 : BitVec 32 := Scalar.muli v1294 c32_i32_1105
  let c0_i32_1106 : BitVec 32 := 0#32
  let v1300 : BitVec 32 := Scalar.addi v1299 c0_i32_1106
  let c0_i32_2312 : BitVec 32 := 0#32
  ![v1300.toNat, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1309 : BitVec 32 := Scalar.extui v1257
  let c0_i32_1114 : BitVec 32 := 0#32
  let v1310 : BitVec 1 := Scalar.cmpi .ne v1309 c0_i32_1114
  v1310

def k0_off201 (d0 : Dev nD) : Fin 1 → Nat :=
  let c16_i32_1110 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1101 : BitVec 32 := 2#32
  let v1295 : BitVec 32 := Scalar.muli v1258 c2_i32_1101
  let c0_i32_1102 : BitVec 32 := 0#32
  let v1296 : BitVec 32 := Scalar.addi v1295 c0_i32_1102
  let v1305 : BitVec 32 := Scalar.addi c16_i32_1110 v1296
  ![v1305.toNat]
def k0_off202 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1100 : BitVec 32 := 4#32
  let v1293 : BitVec 32 := Scalar.muli v1077 c4_i32_1100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1294 : BitVec 32 := Scalar.addi v1293 v1258
  let c32_i32_1112 : BitVec 32 := 32#32
  let v1307 : BitVec 32 := Scalar.muli v1294 c32_i32_1112
  let c0_i32_1113 : BitVec 32 := 0#32
  let v1308 : BitVec 32 := Scalar.addi v1307 c0_i32_1113
  let c0_i32_2312 : BitVec 32 := 0#32
  ![v1308.toNat, 0]
def k0_dev83 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1317 : BitVec 32 := Scalar.extui v1257
  let c0_i32_1121 : BitVec 32 := 0#32
  let v1318 : BitVec 1 := Scalar.cmpi .ne v1317 c0_i32_1121
  v1318

def k0_off203 (d0 : Dev nD) : Fin 1 → Nat :=
  let c8_i32_1118 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1115 : BitVec 32 := 2#32
  let v1311 : BitVec 32 := Scalar.muli v1258 c2_i32_1115
  let c1_i32_1116 : BitVec 32 := 1#32
  let v1312 : BitVec 32 := Scalar.addi v1311 c1_i32_1116
  let v1314 : BitVec 32 := Scalar.addi c8_i32_1118 v1312
  ![v1314.toNat]
def k0_off204 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1100 : BitVec 32 := 4#32
  let v1293 : BitVec 32 := Scalar.muli v1077 c4_i32_1100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1294 : BitVec 32 := Scalar.addi v1293 v1258
  let c32_i32_1119 : BitVec 32 := 32#32
  let v1315 : BitVec 32 := Scalar.muli v1294 c32_i32_1119
  let c16_i32_1120 : BitVec 32 := 16#32
  let v1316 : BitVec 32 := Scalar.addi v1315 c16_i32_1120
  let c0_i32_2312 : BitVec 32 := 0#32
  ![v1316.toNat, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v1325 : BitVec 32 := Scalar.extui v1257
  let c0_i32_1128 : BitVec 32 := 0#32
  let v1326 : BitVec 1 := Scalar.cmpi .ne v1325 c0_i32_1128
  v1326

def k0_off205 (d0 : Dev nD) : Fin 1 → Nat :=
  let c16_i32_1124 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1115 : BitVec 32 := 2#32
  let v1311 : BitVec 32 := Scalar.muli v1258 c2_i32_1115
  let c1_i32_1116 : BitVec 32 := 1#32
  let v1312 : BitVec 32 := Scalar.addi v1311 c1_i32_1116
  let v1321 : BitVec 32 := Scalar.addi c16_i32_1124 v1312
  ![v1321.toNat]
def k0_off206 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1100 : BitVec 32 := 4#32
  let v1293 : BitVec 32 := Scalar.muli v1077 c4_i32_1100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1294 : BitVec 32 := Scalar.addi v1293 v1258
  let c32_i32_1126 : BitVec 32 := 32#32
  let v1323 : BitVec 32 := Scalar.muli v1294 c32_i32_1126
  let c16_i32_1127 : BitVec 32 := 16#32
  let v1324 : BitVec 32 := Scalar.addi v1323 c16_i32_1127
  let c0_i32_2312 : BitVec 32 := 0#32
  ![v1324.toNat, 0]
def k0_dev84 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1337 : BitVec 32 := Scalar.extui v1327
  let c0_i32_1138 : BitVec 32 := 0#32
  let v1338 : BitVec 1 := Scalar.cmpi .ne v1337 c0_i32_1138
  v1338

def k0_off207 (d0 : Dev nD) : Fin 1 → Nat :=
  let c8_i32_1135 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1132 : BitVec 32 := 2#32
  let v1331 : BitVec 32 := Scalar.muli v1328 c2_i32_1132
  let c0_i32_1133 : BitVec 32 := 0#32
  let v1332 : BitVec 32 := Scalar.addi v1331 c0_i32_1133
  let v1334 : BitVec 32 := Scalar.addi c8_i32_1135 v1332
  ![v1334.toNat]
def k0_off208 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1131 : BitVec 32 := 4#32
  let v1329 : BitVec 32 := Scalar.muli v1069 c4_i32_1131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1330 : BitVec 32 := Scalar.addi v1329 v1328
  let c32_i32_1136 : BitVec 32 := 32#32
  let v1335 : BitVec 32 := Scalar.muli v1330 c32_i32_1136
  let c0_i32_1137 : BitVec 32 := 0#32
  let v1336 : BitVec 32 := Scalar.addi v1335 c0_i32_1137
  let c0_i32_2312 : BitVec 32 := 0#32
  ![v1336.toNat, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1345 : BitVec 32 := Scalar.extui v1327
  let c0_i32_1145 : BitVec 32 := 0#32
  let v1346 : BitVec 1 := Scalar.cmpi .ne v1345 c0_i32_1145
  v1346

def k0_off209 (d0 : Dev nD) : Fin 1 → Nat :=
  let c16_i32_1141 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1132 : BitVec 32 := 2#32
  let v1331 : BitVec 32 := Scalar.muli v1328 c2_i32_1132
  let c0_i32_1133 : BitVec 32 := 0#32
  let v1332 : BitVec 32 := Scalar.addi v1331 c0_i32_1133
  let v1341 : BitVec 32 := Scalar.addi c16_i32_1141 v1332
  ![v1341.toNat]
def k0_off210 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1131 : BitVec 32 := 4#32
  let v1329 : BitVec 32 := Scalar.muli v1069 c4_i32_1131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1330 : BitVec 32 := Scalar.addi v1329 v1328
  let c32_i32_1143 : BitVec 32 := 32#32
  let v1343 : BitVec 32 := Scalar.muli v1330 c32_i32_1143
  let c0_i32_1144 : BitVec 32 := 0#32
  let v1344 : BitVec 32 := Scalar.addi v1343 c0_i32_1144
  let c0_i32_2312 : BitVec 32 := 0#32
  ![v1344.toNat, 0]
def k0_dev85 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1353 : BitVec 32 := Scalar.extui v1327
  let c0_i32_1152 : BitVec 32 := 0#32
  let v1354 : BitVec 1 := Scalar.cmpi .ne v1353 c0_i32_1152
  v1354

def k0_off211 (d0 : Dev nD) : Fin 1 → Nat :=
  let c8_i32_1149 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1146 : BitVec 32 := 2#32
  let v1347 : BitVec 32 := Scalar.muli v1328 c2_i32_1146
  let c1_i32_1147 : BitVec 32 := 1#32
  let v1348 : BitVec 32 := Scalar.addi v1347 c1_i32_1147
  let v1350 : BitVec 32 := Scalar.addi c8_i32_1149 v1348
  ![v1350.toNat]
def k0_off212 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1131 : BitVec 32 := 4#32
  let v1329 : BitVec 32 := Scalar.muli v1069 c4_i32_1131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1330 : BitVec 32 := Scalar.addi v1329 v1328
  let c32_i32_1150 : BitVec 32 := 32#32
  let v1351 : BitVec 32 := Scalar.muli v1330 c32_i32_1150
  let c16_i32_1151 : BitVec 32 := 16#32
  let v1352 : BitVec 32 := Scalar.addi v1351 c16_i32_1151
  let c0_i32_2312 : BitVec 32 := 0#32
  ![v1352.toNat, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1361 : BitVec 32 := Scalar.extui v1327
  let c0_i32_1159 : BitVec 32 := 0#32
  let v1362 : BitVec 1 := Scalar.cmpi .ne v1361 c0_i32_1159
  v1362

def k0_off213 (d0 : Dev nD) : Fin 1 → Nat :=
  let c16_i32_1155 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1146 : BitVec 32 := 2#32
  let v1347 : BitVec 32 := Scalar.muli v1328 c2_i32_1146
  let c1_i32_1147 : BitVec 32 := 1#32
  let v1348 : BitVec 32 := Scalar.addi v1347 c1_i32_1147
  let v1357 : BitVec 32 := Scalar.addi c16_i32_1155 v1348
  ![v1357.toNat]
def k0_off214 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1131 : BitVec 32 := 4#32
  let v1329 : BitVec 32 := Scalar.muli v1069 c4_i32_1131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1330 : BitVec 32 := Scalar.addi v1329 v1328
  let c32_i32_1157 : BitVec 32 := 32#32
  let v1359 : BitVec 32 := Scalar.muli v1330 c32_i32_1157
  let c16_i32_1158 : BitVec 32 := 16#32
  let v1360 : BitVec 32 := Scalar.addi v1359 c16_i32_1158
  let c0_i32_2312 : BitVec 32 := 0#32
  ![v1360.toNat, 0]
def k0_dev86 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1371 : BitVec 32 := Scalar.extui v1327
  let c0_i32_1167 : BitVec 32 := 0#32
  let v1372 : BitVec 1 := Scalar.cmpi .ne v1371 c0_i32_1167
  v1372

def k0_off215 (d0 : Dev nD) : Fin 1 → Nat :=
  let c8_i32_1164 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1161 : BitVec 32 := 2#32
  let v1365 : BitVec 32 := Scalar.muli v1328 c2_i32_1161
  let c0_i32_1162 : BitVec 32 := 0#32
  let v1366 : BitVec 32 := Scalar.addi v1365 c0_i32_1162
  let v1368 : BitVec 32 := Scalar.addi c8_i32_1164 v1366
  ![v1368.toNat]
def k0_off216 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1160 : BitVec 32 := 4#32
  let v1363 : BitVec 32 := Scalar.muli v1077 c4_i32_1160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1364 : BitVec 32 := Scalar.addi v1363 v1328
  let c32_i32_1165 : BitVec 32 := 32#32
  let v1369 : BitVec 32 := Scalar.muli v1364 c32_i32_1165
  let c0_i32_1166 : BitVec 32 := 0#32
  let v1370 : BitVec 32 := Scalar.addi v1369 c0_i32_1166
  let c0_i32_2312 : BitVec 32 := 0#32
  ![v1370.toNat, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1379 : BitVec 32 := Scalar.extui v1327
  let c0_i32_1174 : BitVec 32 := 0#32
  let v1380 : BitVec 1 := Scalar.cmpi .ne v1379 c0_i32_1174
  v1380

def k0_off217 (d0 : Dev nD) : Fin 1 → Nat :=
  let c16_i32_1170 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1161 : BitVec 32 := 2#32
  let v1365 : BitVec 32 := Scalar.muli v1328 c2_i32_1161
  let c0_i32_1162 : BitVec 32 := 0#32
  let v1366 : BitVec 32 := Scalar.addi v1365 c0_i32_1162
  let v1375 : BitVec 32 := Scalar.addi c16_i32_1170 v1366
  ![v1375.toNat]
def k0_off218 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1160 : BitVec 32 := 4#32
  let v1363 : BitVec 32 := Scalar.muli v1077 c4_i32_1160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1364 : BitVec 32 := Scalar.addi v1363 v1328
  let c32_i32_1172 : BitVec 32 := 32#32
  let v1377 : BitVec 32 := Scalar.muli v1364 c32_i32_1172
  let c0_i32_1173 : BitVec 32 := 0#32
  let v1378 : BitVec 32 := Scalar.addi v1377 c0_i32_1173
  let c0_i32_2312 : BitVec 32 := 0#32
  ![v1378.toNat, 0]
def k0_dev87 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1387 : BitVec 32 := Scalar.extui v1327
  let c0_i32_1181 : BitVec 32 := 0#32
  let v1388 : BitVec 1 := Scalar.cmpi .ne v1387 c0_i32_1181
  v1388

def k0_off219 (d0 : Dev nD) : Fin 1 → Nat :=
  let c8_i32_1178 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1175 : BitVec 32 := 2#32
  let v1381 : BitVec 32 := Scalar.muli v1328 c2_i32_1175
  let c1_i32_1176 : BitVec 32 := 1#32
  let v1382 : BitVec 32 := Scalar.addi v1381 c1_i32_1176
  let v1384 : BitVec 32 := Scalar.addi c8_i32_1178 v1382
  ![v1384.toNat]
def k0_off220 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1160 : BitVec 32 := 4#32
  let v1363 : BitVec 32 := Scalar.muli v1077 c4_i32_1160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1364 : BitVec 32 := Scalar.addi v1363 v1328
  let c32_i32_1179 : BitVec 32 := 32#32
  let v1385 : BitVec 32 := Scalar.muli v1364 c32_i32_1179
  let c16_i32_1180 : BitVec 32 := 16#32
  let v1386 : BitVec 32 := Scalar.addi v1385 c16_i32_1180
  let c0_i32_2312 : BitVec 32 := 0#32
  ![v1386.toNat, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v1395 : BitVec 32 := Scalar.extui v1327
  let c0_i32_1188 : BitVec 32 := 0#32
  let v1396 : BitVec 1 := Scalar.cmpi .ne v1395 c0_i32_1188
  v1396

def k0_off221 (d0 : Dev nD) : Fin 1 → Nat :=
  let c16_i32_1184 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1175 : BitVec 32 := 2#32
  let v1381 : BitVec 32 := Scalar.muli v1328 c2_i32_1175
  let c1_i32_1176 : BitVec 32 := 1#32
  let v1382 : BitVec 32 := Scalar.addi v1381 c1_i32_1176
  let v1391 : BitVec 32 := Scalar.addi c16_i32_1184 v1382
  ![v1391.toNat]
def k0_off222 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1160 : BitVec 32 := 4#32
  let v1363 : BitVec 32 := Scalar.muli v1077 c4_i32_1160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1364 : BitVec 32 := Scalar.addi v1363 v1328
  let c32_i32_1186 : BitVec 32 := 32#32
  let v1393 : BitVec 32 := Scalar.muli v1364 c32_i32_1186
  let c16_i32_1187 : BitVec 32 := 16#32
  let v1394 : BitVec 32 := Scalar.addi v1393 c16_i32_1187
  let c0_i32_2312 : BitVec 32 := 0#32
  ![v1394.toNat, 0]
def k0_dev88 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1408 : BitVec 32 := Scalar.extui v1398
  let c0_i32_1199 : BitVec 32 := 0#32
  let v1409 : BitVec 1 := Scalar.cmpi .ne v1408 c0_i32_1199
  v1409

def k0_off223 (d0 : Dev nD) : Fin 1 → Nat :=
  let c8_i32_1196 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1193 : BitVec 32 := 2#32
  let v1402 : BitVec 32 := Scalar.muli v1399 c2_i32_1193
  let c0_i32_1194 : BitVec 32 := 0#32
  let v1403 : BitVec 32 := Scalar.addi v1402 c0_i32_1194
  let v1405 : BitVec 32 := Scalar.addi c8_i32_1196 v1403
  ![v1405.toNat]
def k0_off224 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1192 : BitVec 32 := 4#32
  let v1400 : BitVec 32 := Scalar.muli v1069 c4_i32_1192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1401 : BitVec 32 := Scalar.addi v1400 v1399
  let c32_i32_1197 : BitVec 32 := 32#32
  let v1406 : BitVec 32 := Scalar.muli v1401 c32_i32_1197
  let c0_i32_1198 : BitVec 32 := 0#32
  let v1407 : BitVec 32 := Scalar.addi v1406 c0_i32_1198
  let c0_i32_2312 : BitVec 32 := 0#32
  ![v1407.toNat, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1416 : BitVec 32 := Scalar.extui v1398
  let c0_i32_1206 : BitVec 32 := 0#32
  let v1417 : BitVec 1 := Scalar.cmpi .ne v1416 c0_i32_1206
  v1417

def k0_off225 (d0 : Dev nD) : Fin 1 → Nat :=
  let c16_i32_1202 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1193 : BitVec 32 := 2#32
  let v1402 : BitVec 32 := Scalar.muli v1399 c2_i32_1193
  let c0_i32_1194 : BitVec 32 := 0#32
  let v1403 : BitVec 32 := Scalar.addi v1402 c0_i32_1194
  let v1412 : BitVec 32 := Scalar.addi c16_i32_1202 v1403
  ![v1412.toNat]
def k0_off226 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1192 : BitVec 32 := 4#32
  let v1400 : BitVec 32 := Scalar.muli v1069 c4_i32_1192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1401 : BitVec 32 := Scalar.addi v1400 v1399
  let c32_i32_1204 : BitVec 32 := 32#32
  let v1414 : BitVec 32 := Scalar.muli v1401 c32_i32_1204
  let c0_i32_1205 : BitVec 32 := 0#32
  let v1415 : BitVec 32 := Scalar.addi v1414 c0_i32_1205
  let c0_i32_2312 : BitVec 32 := 0#32
  ![v1415.toNat, 0]
def k0_dev89 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1424 : BitVec 32 := Scalar.extui v1398
  let c0_i32_1213 : BitVec 32 := 0#32
  let v1425 : BitVec 1 := Scalar.cmpi .ne v1424 c0_i32_1213
  v1425

def k0_off227 (d0 : Dev nD) : Fin 1 → Nat :=
  let c8_i32_1210 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1207 : BitVec 32 := 2#32
  let v1418 : BitVec 32 := Scalar.muli v1399 c2_i32_1207
  let c1_i32_1208 : BitVec 32 := 1#32
  let v1419 : BitVec 32 := Scalar.addi v1418 c1_i32_1208
  let v1421 : BitVec 32 := Scalar.addi c8_i32_1210 v1419
  ![v1421.toNat]
def k0_off228 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1192 : BitVec 32 := 4#32
  let v1400 : BitVec 32 := Scalar.muli v1069 c4_i32_1192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1401 : BitVec 32 := Scalar.addi v1400 v1399
  let c32_i32_1211 : BitVec 32 := 32#32
  let v1422 : BitVec 32 := Scalar.muli v1401 c32_i32_1211
  let c16_i32_1212 : BitVec 32 := 16#32
  let v1423 : BitVec 32 := Scalar.addi v1422 c16_i32_1212
  let c0_i32_2312 : BitVec 32 := 0#32
  ![v1423.toNat, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1432 : BitVec 32 := Scalar.extui v1398
  let c0_i32_1220 : BitVec 32 := 0#32
  let v1433 : BitVec 1 := Scalar.cmpi .ne v1432 c0_i32_1220
  v1433

def k0_off229 (d0 : Dev nD) : Fin 1 → Nat :=
  let c16_i32_1216 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1207 : BitVec 32 := 2#32
  let v1418 : BitVec 32 := Scalar.muli v1399 c2_i32_1207
  let c1_i32_1208 : BitVec 32 := 1#32
  let v1419 : BitVec 32 := Scalar.addi v1418 c1_i32_1208
  let v1428 : BitVec 32 := Scalar.addi c16_i32_1216 v1419
  ![v1428.toNat]
def k0_off230 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1192 : BitVec 32 := 4#32
  let v1400 : BitVec 32 := Scalar.muli v1069 c4_i32_1192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1401 : BitVec 32 := Scalar.addi v1400 v1399
  let c32_i32_1218 : BitVec 32 := 32#32
  let v1430 : BitVec 32 := Scalar.muli v1401 c32_i32_1218
  let c16_i32_1219 : BitVec 32 := 16#32
  let v1431 : BitVec 32 := Scalar.addi v1430 c16_i32_1219
  let c0_i32_2312 : BitVec 32 := 0#32
  ![v1431.toNat, 0]
def k0_dev90 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1442 : BitVec 32 := Scalar.extui v1398
  let c0_i32_1228 : BitVec 32 := 0#32
  let v1443 : BitVec 1 := Scalar.cmpi .ne v1442 c0_i32_1228
  v1443

def k0_off231 (d0 : Dev nD) : Fin 1 → Nat :=
  let c8_i32_1225 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1222 : BitVec 32 := 2#32
  let v1436 : BitVec 32 := Scalar.muli v1399 c2_i32_1222
  let c0_i32_1223 : BitVec 32 := 0#32
  let v1437 : BitVec 32 := Scalar.addi v1436 c0_i32_1223
  let v1439 : BitVec 32 := Scalar.addi c8_i32_1225 v1437
  ![v1439.toNat]
def k0_off232 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1221 : BitVec 32 := 4#32
  let v1434 : BitVec 32 := Scalar.muli v1077 c4_i32_1221
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1435 : BitVec 32 := Scalar.addi v1434 v1399
  let c32_i32_1226 : BitVec 32 := 32#32
  let v1440 : BitVec 32 := Scalar.muli v1435 c32_i32_1226
  let c0_i32_1227 : BitVec 32 := 0#32
  let v1441 : BitVec 32 := Scalar.addi v1440 c0_i32_1227
  let c0_i32_2312 : BitVec 32 := 0#32
  ![v1441.toNat, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1450 : BitVec 32 := Scalar.extui v1398
  let c0_i32_1235 : BitVec 32 := 0#32
  let v1451 : BitVec 1 := Scalar.cmpi .ne v1450 c0_i32_1235
  v1451

def k0_off233 (d0 : Dev nD) : Fin 1 → Nat :=
  let c16_i32_1231 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1222 : BitVec 32 := 2#32
  let v1436 : BitVec 32 := Scalar.muli v1399 c2_i32_1222
  let c0_i32_1223 : BitVec 32 := 0#32
  let v1437 : BitVec 32 := Scalar.addi v1436 c0_i32_1223
  let v1446 : BitVec 32 := Scalar.addi c16_i32_1231 v1437
  ![v1446.toNat]
def k0_off234 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1221 : BitVec 32 := 4#32
  let v1434 : BitVec 32 := Scalar.muli v1077 c4_i32_1221
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1435 : BitVec 32 := Scalar.addi v1434 v1399
  let c32_i32_1233 : BitVec 32 := 32#32
  let v1448 : BitVec 32 := Scalar.muli v1435 c32_i32_1233
  let c0_i32_1234 : BitVec 32 := 0#32
  let v1449 : BitVec 32 := Scalar.addi v1448 c0_i32_1234
  let c0_i32_2312 : BitVec 32 := 0#32
  ![v1449.toNat, 0]
def k0_dev91 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1458 : BitVec 32 := Scalar.extui v1398
  let c0_i32_1242 : BitVec 32 := 0#32
  let v1459 : BitVec 1 := Scalar.cmpi .ne v1458 c0_i32_1242
  v1459

def k0_off235 (d0 : Dev nD) : Fin 1 → Nat :=
  let c8_i32_1239 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1236 : BitVec 32 := 2#32
  let v1452 : BitVec 32 := Scalar.muli v1399 c2_i32_1236
  let c1_i32_1237 : BitVec 32 := 1#32
  let v1453 : BitVec 32 := Scalar.addi v1452 c1_i32_1237
  let v1455 : BitVec 32 := Scalar.addi c8_i32_1239 v1453
  ![v1455.toNat]
def k0_off236 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1221 : BitVec 32 := 4#32
  let v1434 : BitVec 32 := Scalar.muli v1077 c4_i32_1221
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1435 : BitVec 32 := Scalar.addi v1434 v1399
  let c32_i32_1240 : BitVec 32 := 32#32
  let v1456 : BitVec 32 := Scalar.muli v1435 c32_i32_1240
  let c16_i32_1241 : BitVec 32 := 16#32
  let v1457 : BitVec 32 := Scalar.addi v1456 c16_i32_1241
  let c0_i32_2312 : BitVec 32 := 0#32
  ![v1457.toNat, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v1466 : BitVec 32 := Scalar.extui v1398
  let c0_i32_1249 : BitVec 32 := 0#32
  let v1467 : BitVec 1 := Scalar.cmpi .ne v1466 c0_i32_1249
  v1467

def k0_off237 (d0 : Dev nD) : Fin 1 → Nat :=
  let c16_i32_1245 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1236 : BitVec 32 := 2#32
  let v1452 : BitVec 32 := Scalar.muli v1399 c2_i32_1236
  let c1_i32_1237 : BitVec 32 := 1#32
  let v1453 : BitVec 32 := Scalar.addi v1452 c1_i32_1237
  let v1462 : BitVec 32 := Scalar.addi c16_i32_1245 v1453
  ![v1462.toNat]
def k0_off238 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1221 : BitVec 32 := 4#32
  let v1434 : BitVec 32 := Scalar.muli v1077 c4_i32_1221
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1435 : BitVec 32 := Scalar.addi v1434 v1399
  let c32_i32_1247 : BitVec 32 := 32#32
  let v1464 : BitVec 32 := Scalar.muli v1435 c32_i32_1247
  let c16_i32_1248 : BitVec 32 := 16#32
  let v1465 : BitVec 32 := Scalar.addi v1464 c16_i32_1248
  let c0_i32_2312 : BitVec 32 := 0#32
  ![v1465.toNat, 0]
def k0_dev92 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1478 : BitVec 32 := Scalar.extui v1468
  let c0_i32_1259 : BitVec 32 := 0#32
  let v1479 : BitVec 1 := Scalar.cmpi .ne v1478 c0_i32_1259
  v1479

def k0_off239 (d0 : Dev nD) : Fin 1 → Nat :=
  let c8_i32_1256 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1253 : BitVec 32 := 2#32
  let v1472 : BitVec 32 := Scalar.muli v1469 c2_i32_1253
  let c0_i32_1254 : BitVec 32 := 0#32
  let v1473 : BitVec 32 := Scalar.addi v1472 c0_i32_1254
  let v1475 : BitVec 32 := Scalar.addi c8_i32_1256 v1473
  ![v1475.toNat]
def k0_off240 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1252 : BitVec 32 := 4#32
  let v1470 : BitVec 32 := Scalar.muli v1069 c4_i32_1252
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1471 : BitVec 32 := Scalar.addi v1470 v1469
  let c32_i32_1257 : BitVec 32 := 32#32
  let v1476 : BitVec 32 := Scalar.muli v1471 c32_i32_1257
  let c0_i32_1258 : BitVec 32 := 0#32
  let v1477 : BitVec 32 := Scalar.addi v1476 c0_i32_1258
  let c0_i32_2312 : BitVec 32 := 0#32
  ![v1477.toNat, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1486 : BitVec 32 := Scalar.extui v1468
  let c0_i32_1266 : BitVec 32 := 0#32
  let v1487 : BitVec 1 := Scalar.cmpi .ne v1486 c0_i32_1266
  v1487

def k0_off241 (d0 : Dev nD) : Fin 1 → Nat :=
  let c16_i32_1262 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1253 : BitVec 32 := 2#32
  let v1472 : BitVec 32 := Scalar.muli v1469 c2_i32_1253
  let c0_i32_1254 : BitVec 32 := 0#32
  let v1473 : BitVec 32 := Scalar.addi v1472 c0_i32_1254
  let v1482 : BitVec 32 := Scalar.addi c16_i32_1262 v1473
  ![v1482.toNat]
def k0_off242 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1252 : BitVec 32 := 4#32
  let v1470 : BitVec 32 := Scalar.muli v1069 c4_i32_1252
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1471 : BitVec 32 := Scalar.addi v1470 v1469
  let c32_i32_1264 : BitVec 32 := 32#32
  let v1484 : BitVec 32 := Scalar.muli v1471 c32_i32_1264
  let c0_i32_1265 : BitVec 32 := 0#32
  let v1485 : BitVec 32 := Scalar.addi v1484 c0_i32_1265
  let c0_i32_2312 : BitVec 32 := 0#32
  ![v1485.toNat, 0]
def k0_dev93 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1494 : BitVec 32 := Scalar.extui v1468
  let c0_i32_1273 : BitVec 32 := 0#32
  let v1495 : BitVec 1 := Scalar.cmpi .ne v1494 c0_i32_1273
  v1495

def k0_off243 (d0 : Dev nD) : Fin 1 → Nat :=
  let c8_i32_1270 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1267 : BitVec 32 := 2#32
  let v1488 : BitVec 32 := Scalar.muli v1469 c2_i32_1267
  let c1_i32_1268 : BitVec 32 := 1#32
  let v1489 : BitVec 32 := Scalar.addi v1488 c1_i32_1268
  let v1491 : BitVec 32 := Scalar.addi c8_i32_1270 v1489
  ![v1491.toNat]
def k0_off244 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1252 : BitVec 32 := 4#32
  let v1470 : BitVec 32 := Scalar.muli v1069 c4_i32_1252
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1471 : BitVec 32 := Scalar.addi v1470 v1469
  let c32_i32_1271 : BitVec 32 := 32#32
  let v1492 : BitVec 32 := Scalar.muli v1471 c32_i32_1271
  let c16_i32_1272 : BitVec 32 := 16#32
  let v1493 : BitVec 32 := Scalar.addi v1492 c16_i32_1272
  let c0_i32_2312 : BitVec 32 := 0#32
  ![v1493.toNat, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1502 : BitVec 32 := Scalar.extui v1468
  let c0_i32_1280 : BitVec 32 := 0#32
  let v1503 : BitVec 1 := Scalar.cmpi .ne v1502 c0_i32_1280
  v1503

def k0_off245 (d0 : Dev nD) : Fin 1 → Nat :=
  let c16_i32_1276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1267 : BitVec 32 := 2#32
  let v1488 : BitVec 32 := Scalar.muli v1469 c2_i32_1267
  let c1_i32_1268 : BitVec 32 := 1#32
  let v1489 : BitVec 32 := Scalar.addi v1488 c1_i32_1268
  let v1498 : BitVec 32 := Scalar.addi c16_i32_1276 v1489
  ![v1498.toNat]
def k0_off246 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1252 : BitVec 32 := 4#32
  let v1470 : BitVec 32 := Scalar.muli v1069 c4_i32_1252
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1471 : BitVec 32 := Scalar.addi v1470 v1469
  let c32_i32_1278 : BitVec 32 := 32#32
  let v1500 : BitVec 32 := Scalar.muli v1471 c32_i32_1278
  let c16_i32_1279 : BitVec 32 := 16#32
  let v1501 : BitVec 32 := Scalar.addi v1500 c16_i32_1279
  let c0_i32_2312 : BitVec 32 := 0#32
  ![v1501.toNat, 0]
def k0_dev94 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1512 : BitVec 32 := Scalar.extui v1468
  let c0_i32_1288 : BitVec 32 := 0#32
  let v1513 : BitVec 1 := Scalar.cmpi .ne v1512 c0_i32_1288
  v1513

def k0_off247 (d0 : Dev nD) : Fin 1 → Nat :=
  let c8_i32_1285 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1282 : BitVec 32 := 2#32
  let v1506 : BitVec 32 := Scalar.muli v1469 c2_i32_1282
  let c0_i32_1283 : BitVec 32 := 0#32
  let v1507 : BitVec 32 := Scalar.addi v1506 c0_i32_1283
  let v1509 : BitVec 32 := Scalar.addi c8_i32_1285 v1507
  ![v1509.toNat]
def k0_off248 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1281 : BitVec 32 := 4#32
  let v1504 : BitVec 32 := Scalar.muli v1077 c4_i32_1281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1505 : BitVec 32 := Scalar.addi v1504 v1469
  let c32_i32_1286 : BitVec 32 := 32#32
  let v1510 : BitVec 32 := Scalar.muli v1505 c32_i32_1286
  let c0_i32_1287 : BitVec 32 := 0#32
  let v1511 : BitVec 32 := Scalar.addi v1510 c0_i32_1287
  let c0_i32_2312 : BitVec 32 := 0#32
  ![v1511.toNat, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1520 : BitVec 32 := Scalar.extui v1468
  let c0_i32_1295 : BitVec 32 := 0#32
  let v1521 : BitVec 1 := Scalar.cmpi .ne v1520 c0_i32_1295
  v1521

def k0_off249 (d0 : Dev nD) : Fin 1 → Nat :=
  let c16_i32_1291 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1282 : BitVec 32 := 2#32
  let v1506 : BitVec 32 := Scalar.muli v1469 c2_i32_1282
  let c0_i32_1283 : BitVec 32 := 0#32
  let v1507 : BitVec 32 := Scalar.addi v1506 c0_i32_1283
  let v1516 : BitVec 32 := Scalar.addi c16_i32_1291 v1507
  ![v1516.toNat]
def k0_off250 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1281 : BitVec 32 := 4#32
  let v1504 : BitVec 32 := Scalar.muli v1077 c4_i32_1281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1505 : BitVec 32 := Scalar.addi v1504 v1469
  let c32_i32_1293 : BitVec 32 := 32#32
  let v1518 : BitVec 32 := Scalar.muli v1505 c32_i32_1293
  let c0_i32_1294 : BitVec 32 := 0#32
  let v1519 : BitVec 32 := Scalar.addi v1518 c0_i32_1294
  let c0_i32_2312 : BitVec 32 := 0#32
  ![v1519.toNat, 0]
def k0_dev95 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1528 : BitVec 32 := Scalar.extui v1468
  let c0_i32_1302 : BitVec 32 := 0#32
  let v1529 : BitVec 1 := Scalar.cmpi .ne v1528 c0_i32_1302
  v1529

def k0_off251 (d0 : Dev nD) : Fin 1 → Nat :=
  let c8_i32_1299 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1296 : BitVec 32 := 2#32
  let v1522 : BitVec 32 := Scalar.muli v1469 c2_i32_1296
  let c1_i32_1297 : BitVec 32 := 1#32
  let v1523 : BitVec 32 := Scalar.addi v1522 c1_i32_1297
  let v1525 : BitVec 32 := Scalar.addi c8_i32_1299 v1523
  ![v1525.toNat]
def k0_off252 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1281 : BitVec 32 := 4#32
  let v1504 : BitVec 32 := Scalar.muli v1077 c4_i32_1281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1505 : BitVec 32 := Scalar.addi v1504 v1469
  let c32_i32_1300 : BitVec 32 := 32#32
  let v1526 : BitVec 32 := Scalar.muli v1505 c32_i32_1300
  let c16_i32_1301 : BitVec 32 := 16#32
  let v1527 : BitVec 32 := Scalar.addi v1526 c16_i32_1301
  let c0_i32_2312 : BitVec 32 := 0#32
  ![v1527.toNat, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v1536 : BitVec 32 := Scalar.extui v1468
  let c0_i32_1309 : BitVec 32 := 0#32
  let v1537 : BitVec 1 := Scalar.cmpi .ne v1536 c0_i32_1309
  v1537

def k0_off253 (d0 : Dev nD) : Fin 1 → Nat :=
  let c16_i32_1305 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1296 : BitVec 32 := 2#32
  let v1522 : BitVec 32 := Scalar.muli v1469 c2_i32_1296
  let c1_i32_1297 : BitVec 32 := 1#32
  let v1523 : BitVec 32 := Scalar.addi v1522 c1_i32_1297
  let v1532 : BitVec 32 := Scalar.addi c16_i32_1305 v1523
  ![v1532.toNat]
def k0_off254 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1281 : BitVec 32 := 4#32
  let v1504 : BitVec 32 := Scalar.muli v1077 c4_i32_1281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1505 : BitVec 32 := Scalar.addi v1504 v1469
  let c32_i32_1307 : BitVec 32 := 32#32
  let v1534 : BitVec 32 := Scalar.muli v1505 c32_i32_1307
  let c16_i32_1308 : BitVec 32 := 16#32
  let v1535 : BitVec 32 := Scalar.addi v1534 c16_i32_1308
  let c0_i32_2312 : BitVec 32 := 0#32
  ![v1535.toNat, 0]
def k0_dev96 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1549 : BitVec 32 := Scalar.extui v1539
  let c0_i32_1320 : BitVec 32 := 0#32
  let v1550 : BitVec 1 := Scalar.cmpi .ne v1549 c0_i32_1320
  v1550

def k0_off255 (d0 : Dev nD) : Fin 1 → Nat :=
  let c8_i32_1317 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1314 : BitVec 32 := 2#32
  let v1543 : BitVec 32 := Scalar.muli v1540 c2_i32_1314
  let c0_i32_1315 : BitVec 32 := 0#32
  let v1544 : BitVec 32 := Scalar.addi v1543 c0_i32_1315
  let v1546 : BitVec 32 := Scalar.addi c8_i32_1317 v1544
  ![v1546.toNat]
def k0_off256 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1313 : BitVec 32 := 4#32
  let v1541 : BitVec 32 := Scalar.muli v1069 c4_i32_1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1542 : BitVec 32 := Scalar.addi v1541 v1540
  let c32_i32_1318 : BitVec 32 := 32#32
  let v1547 : BitVec 32 := Scalar.muli v1542 c32_i32_1318
  let c0_i32_1319 : BitVec 32 := 0#32
  let v1548 : BitVec 32 := Scalar.addi v1547 c0_i32_1319
  let c0_i32_2312 : BitVec 32 := 0#32
  ![v1548.toNat, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1557 : BitVec 32 := Scalar.extui v1539
  let c0_i32_1327 : BitVec 32 := 0#32
  let v1558 : BitVec 1 := Scalar.cmpi .ne v1557 c0_i32_1327
  v1558

def k0_off257 (d0 : Dev nD) : Fin 1 → Nat :=
  let c16_i32_1323 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1314 : BitVec 32 := 2#32
  let v1543 : BitVec 32 := Scalar.muli v1540 c2_i32_1314
  let c0_i32_1315 : BitVec 32 := 0#32
  let v1544 : BitVec 32 := Scalar.addi v1543 c0_i32_1315
  let v1553 : BitVec 32 := Scalar.addi c16_i32_1323 v1544
  ![v1553.toNat]
def k0_off258 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1313 : BitVec 32 := 4#32
  let v1541 : BitVec 32 := Scalar.muli v1069 c4_i32_1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1542 : BitVec 32 := Scalar.addi v1541 v1540
  let c32_i32_1325 : BitVec 32 := 32#32
  let v1555 : BitVec 32 := Scalar.muli v1542 c32_i32_1325
  let c0_i32_1326 : BitVec 32 := 0#32
  let v1556 : BitVec 32 := Scalar.addi v1555 c0_i32_1326
  let c0_i32_2312 : BitVec 32 := 0#32
  ![v1556.toNat, 0]
def k0_dev97 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1565 : BitVec 32 := Scalar.extui v1539
  let c0_i32_1334 : BitVec 32 := 0#32
  let v1566 : BitVec 1 := Scalar.cmpi .ne v1565 c0_i32_1334
  v1566

def k0_off259 (d0 : Dev nD) : Fin 1 → Nat :=
  let c8_i32_1331 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1328 : BitVec 32 := 2#32
  let v1559 : BitVec 32 := Scalar.muli v1540 c2_i32_1328
  let c1_i32_1329 : BitVec 32 := 1#32
  let v1560 : BitVec 32 := Scalar.addi v1559 c1_i32_1329
  let v1562 : BitVec 32 := Scalar.addi c8_i32_1331 v1560
  ![v1562.toNat]
def k0_off260 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1313 : BitVec 32 := 4#32
  let v1541 : BitVec 32 := Scalar.muli v1069 c4_i32_1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1542 : BitVec 32 := Scalar.addi v1541 v1540
  let c32_i32_1332 : BitVec 32 := 32#32
  let v1563 : BitVec 32 := Scalar.muli v1542 c32_i32_1332
  let c16_i32_1333 : BitVec 32 := 16#32
  let v1564 : BitVec 32 := Scalar.addi v1563 c16_i32_1333
  let c0_i32_2312 : BitVec 32 := 0#32
  ![v1564.toNat, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1573 : BitVec 32 := Scalar.extui v1539
  let c0_i32_1341 : BitVec 32 := 0#32
  let v1574 : BitVec 1 := Scalar.cmpi .ne v1573 c0_i32_1341
  v1574

def k0_off261 (d0 : Dev nD) : Fin 1 → Nat :=
  let c16_i32_1337 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1328 : BitVec 32 := 2#32
  let v1559 : BitVec 32 := Scalar.muli v1540 c2_i32_1328
  let c1_i32_1329 : BitVec 32 := 1#32
  let v1560 : BitVec 32 := Scalar.addi v1559 c1_i32_1329
  let v1569 : BitVec 32 := Scalar.addi c16_i32_1337 v1560
  ![v1569.toNat]
def k0_off262 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1313 : BitVec 32 := 4#32
  let v1541 : BitVec 32 := Scalar.muli v1069 c4_i32_1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1542 : BitVec 32 := Scalar.addi v1541 v1540
  let c32_i32_1339 : BitVec 32 := 32#32
  let v1571 : BitVec 32 := Scalar.muli v1542 c32_i32_1339
  let c16_i32_1340 : BitVec 32 := 16#32
  let v1572 : BitVec 32 := Scalar.addi v1571 c16_i32_1340
  let c0_i32_2312 : BitVec 32 := 0#32
  ![v1572.toNat, 0]
def k0_dev98 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1583 : BitVec 32 := Scalar.extui v1539
  let c0_i32_1349 : BitVec 32 := 0#32
  let v1584 : BitVec 1 := Scalar.cmpi .ne v1583 c0_i32_1349
  v1584

def k0_off263 (d0 : Dev nD) : Fin 1 → Nat :=
  let c8_i32_1346 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1343 : BitVec 32 := 2#32
  let v1577 : BitVec 32 := Scalar.muli v1540 c2_i32_1343
  let c0_i32_1344 : BitVec 32 := 0#32
  let v1578 : BitVec 32 := Scalar.addi v1577 c0_i32_1344
  let v1580 : BitVec 32 := Scalar.addi c8_i32_1346 v1578
  ![v1580.toNat]
def k0_off264 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1342 : BitVec 32 := 4#32
  let v1575 : BitVec 32 := Scalar.muli v1077 c4_i32_1342
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1576 : BitVec 32 := Scalar.addi v1575 v1540
  let c32_i32_1347 : BitVec 32 := 32#32
  let v1581 : BitVec 32 := Scalar.muli v1576 c32_i32_1347
  let c0_i32_1348 : BitVec 32 := 0#32
  let v1582 : BitVec 32 := Scalar.addi v1581 c0_i32_1348
  let c0_i32_2312 : BitVec 32 := 0#32
  ![v1582.toNat, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1591 : BitVec 32 := Scalar.extui v1539
  let c0_i32_1356 : BitVec 32 := 0#32
  let v1592 : BitVec 1 := Scalar.cmpi .ne v1591 c0_i32_1356
  v1592

def k0_off265 (d0 : Dev nD) : Fin 1 → Nat :=
  let c16_i32_1352 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1343 : BitVec 32 := 2#32
  let v1577 : BitVec 32 := Scalar.muli v1540 c2_i32_1343
  let c0_i32_1344 : BitVec 32 := 0#32
  let v1578 : BitVec 32 := Scalar.addi v1577 c0_i32_1344
  let v1587 : BitVec 32 := Scalar.addi c16_i32_1352 v1578
  ![v1587.toNat]
def k0_off266 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1342 : BitVec 32 := 4#32
  let v1575 : BitVec 32 := Scalar.muli v1077 c4_i32_1342
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1576 : BitVec 32 := Scalar.addi v1575 v1540
  let c32_i32_1354 : BitVec 32 := 32#32
  let v1589 : BitVec 32 := Scalar.muli v1576 c32_i32_1354
  let c0_i32_1355 : BitVec 32 := 0#32
  let v1590 : BitVec 32 := Scalar.addi v1589 c0_i32_1355
  let c0_i32_2312 : BitVec 32 := 0#32
  ![v1590.toNat, 0]
def k0_dev99 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1599 : BitVec 32 := Scalar.extui v1539
  let c0_i32_1363 : BitVec 32 := 0#32
  let v1600 : BitVec 1 := Scalar.cmpi .ne v1599 c0_i32_1363
  v1600

def k0_off267 (d0 : Dev nD) : Fin 1 → Nat :=
  let c8_i32_1360 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1357 : BitVec 32 := 2#32
  let v1593 : BitVec 32 := Scalar.muli v1540 c2_i32_1357
  let c1_i32_1358 : BitVec 32 := 1#32
  let v1594 : BitVec 32 := Scalar.addi v1593 c1_i32_1358
  let v1596 : BitVec 32 := Scalar.addi c8_i32_1360 v1594
  ![v1596.toNat]
def k0_off268 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1342 : BitVec 32 := 4#32
  let v1575 : BitVec 32 := Scalar.muli v1077 c4_i32_1342
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1576 : BitVec 32 := Scalar.addi v1575 v1540
  let c32_i32_1361 : BitVec 32 := 32#32
  let v1597 : BitVec 32 := Scalar.muli v1576 c32_i32_1361
  let c16_i32_1362 : BitVec 32 := 16#32
  let v1598 : BitVec 32 := Scalar.addi v1597 c16_i32_1362
  let c0_i32_2312 : BitVec 32 := 0#32
  ![v1598.toNat, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v1607 : BitVec 32 := Scalar.extui v1539
  let c0_i32_1370 : BitVec 32 := 0#32
  let v1608 : BitVec 1 := Scalar.cmpi .ne v1607 c0_i32_1370
  v1608

def k0_off269 (d0 : Dev nD) : Fin 1 → Nat :=
  let c16_i32_1366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1357 : BitVec 32 := 2#32
  let v1593 : BitVec 32 := Scalar.muli v1540 c2_i32_1357
  let c1_i32_1358 : BitVec 32 := 1#32
  let v1594 : BitVec 32 := Scalar.addi v1593 c1_i32_1358
  let v1603 : BitVec 32 := Scalar.addi c16_i32_1366 v1594
  ![v1603.toNat]
def k0_off270 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1342 : BitVec 32 := 4#32
  let v1575 : BitVec 32 := Scalar.muli v1077 c4_i32_1342
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1576 : BitVec 32 := Scalar.addi v1575 v1540
  let c32_i32_1368 : BitVec 32 := 32#32
  let v1605 : BitVec 32 := Scalar.muli v1576 c32_i32_1368
  let c16_i32_1369 : BitVec 32 := 16#32
  let v1606 : BitVec 32 := Scalar.addi v1605 c16_i32_1369
  let c0_i32_2312 : BitVec 32 := 0#32
  ![v1606.toNat, 0]
def k0_dev100 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1396 : BitVec 32 := 2#32
  let v1640 : BitVec 1 := Scalar.cmpi .slt v19 c2_i32_1396
  let v1647 : BitVec 32 := Scalar.extui v1640
  let c0_i32_1402 : BitVec 32 := 0#32
  let v1648 : BitVec 1 := Scalar.cmpi .ne v1647 c0_i32_1402
  v1648

def k0_off271 (d0 : Dev nD) : Fin 1 → Nat :=
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1385 : BitVec 32 := 2#32
  let v1628 : BitVec 32 := Scalar.muli v19 c2_i32_1385
  let c0_i32_1386 : BitVec 32 := 0#32
  let v1629 : BitVec 32 := Scalar.addi v1628 c0_i32_1386
  let v1643 : BitVec 32 := Scalar.addi c24_i32 v1629
  ![v1643.toNat]
def k0_off272 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1384 : BitVec 32 := 4#32
  let v1626 : BitVec 32 := Scalar.muli v1617 c4_i32_1384
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1627 : BitVec 32 := Scalar.addi v1626 v19
  let c32_i32_1400 : BitVec 32 := 32#32
  let v1645 : BitVec 32 := Scalar.muli v1627 c32_i32_1400
  let c0_i32_1401 : BitVec 32 := 0#32
  let v1646 : BitVec 32 := Scalar.addi v1645 c0_i32_1401
  let c0_i32_2312 : BitVec 32 := 0#32
  ![v1646.toNat, 0]
def k0_dev101 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1414 : BitVec 32 := 2#32
  let v1661 : BitVec 1 := Scalar.cmpi .slt v19 c2_i32_1414
  let v1668 : BitVec 32 := Scalar.extui v1661
  let c0_i32_1421 : BitVec 32 := 0#32
  let v1669 : BitVec 1 := Scalar.cmpi .ne v1668 c0_i32_1421
  v1669

def k0_off273 (d0 : Dev nD) : Fin 1 → Nat :=
  let c24_i32_1417 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1403 : BitVec 32 := 2#32
  let v1649 : BitVec 32 := Scalar.muli v19 c2_i32_1403
  let c1_i32_1404 : BitVec 32 := 1#32
  let v1650 : BitVec 32 := Scalar.addi v1649 c1_i32_1404
  let v1664 : BitVec 32 := Scalar.addi c24_i32_1417 v1650
  ![v1664.toNat]
def k0_off274 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1384 : BitVec 32 := 4#32
  let v1626 : BitVec 32 := Scalar.muli v1617 c4_i32_1384
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1627 : BitVec 32 := Scalar.addi v1626 v19
  let c32_i32_1419 : BitVec 32 := 32#32
  let v1666 : BitVec 32 := Scalar.muli v1627 c32_i32_1419
  let c16_i32_1420 : BitVec 32 := 16#32
  let v1667 : BitVec 32 := Scalar.addi v1666 c16_i32_1420
  let c0_i32_2312 : BitVec 32 := 0#32
  ![v1667.toNat, 0]
def k0_dev102 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1434 : BitVec 32 := 2#32
  let v1684 : BitVec 1 := Scalar.cmpi .sge v19 c2_i32_1434
  let v1691 : BitVec 32 := Scalar.extui v1684
  let c0_i32_1441 : BitVec 32 := 0#32
  let v1692 : BitVec 1 := Scalar.cmpi .ne v1691 c0_i32_1441
  v1692

def k0_off275 (d0 : Dev nD) : Fin 1 → Nat :=
  let c24_i32_1437 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1423 : BitVec 32 := 2#32
  let v1672 : BitVec 32 := Scalar.muli v19 c2_i32_1423
  let c0_i32_1424 : BitVec 32 := 0#32
  let v1673 : BitVec 32 := Scalar.addi v1672 c0_i32_1424
  let v1687 : BitVec 32 := Scalar.addi c24_i32_1437 v1673
  ![v1687.toNat]
def k0_off276 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1422 : BitVec 32 := 4#32
  let v1670 : BitVec 32 := Scalar.muli v1625 c4_i32_1422
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1671 : BitVec 32 := Scalar.addi v1670 v19
  let c32_i32_1439 : BitVec 32 := 32#32
  let v1689 : BitVec 32 := Scalar.muli v1671 c32_i32_1439
  let c0_i32_1440 : BitVec 32 := 0#32
  let v1690 : BitVec 32 := Scalar.addi v1689 c0_i32_1440
  let c0_i32_2312 : BitVec 32 := 0#32
  ![v1690.toNat, 0]
def k0_dev103 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1453 : BitVec 32 := 2#32
  let v1705 : BitVec 1 := Scalar.cmpi .sge v19 c2_i32_1453
  let v1712 : BitVec 32 := Scalar.extui v1705
  let c0_i32_1460 : BitVec 32 := 0#32
  let v1713 : BitVec 1 := Scalar.cmpi .ne v1712 c0_i32_1460
  v1713

def k0_off277 (d0 : Dev nD) : Fin 1 → Nat :=
  let c24_i32_1456 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1442 : BitVec 32 := 2#32
  let v1693 : BitVec 32 := Scalar.muli v19 c2_i32_1442
  let c1_i32_1443 : BitVec 32 := 1#32
  let v1694 : BitVec 32 := Scalar.addi v1693 c1_i32_1443
  let v1708 : BitVec 32 := Scalar.addi c24_i32_1456 v1694
  ![v1708.toNat]
def k0_off278 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1422 : BitVec 32 := 4#32
  let v1670 : BitVec 32 := Scalar.muli v1625 c4_i32_1422
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1671 : BitVec 32 := Scalar.addi v1670 v19
  let c32_i32_1458 : BitVec 32 := 32#32
  let v1710 : BitVec 32 := Scalar.muli v1671 c32_i32_1458
  let c16_i32_1459 : BitVec 32 := 16#32
  let v1711 : BitVec 32 := Scalar.addi v1710 c16_i32_1459
  let c0_i32_2312 : BitVec 32 := 0#32
  ![v1711.toNat, 0]
def k0_dev104 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let v1724 : BitVec 32 := Scalar.extui v1714
  let c0_i32_1470 : BitVec 32 := 0#32
  let v1725 : BitVec 1 := Scalar.cmpi .ne v1724 c0_i32_1470
  v1725

def k0_off279 (d0 : Dev nD) : Fin 1 → Nat :=
  let c16_i32_1467 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1464 : BitVec 32 := 2#32
  let v1718 : BitVec 32 := Scalar.muli v1715 c2_i32_1464
  let c0_i32_1465 : BitVec 32 := 0#32
  let v1719 : BitVec 32 := Scalar.addi v1718 c0_i32_1465
  let v1721 : BitVec 32 := Scalar.addi c16_i32_1467 v1719
  ![v1721.toNat]
def k0_off280 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1463 : BitVec 32 := 4#32
  let v1716 : BitVec 32 := Scalar.muli v1617 c4_i32_1463
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1717 : BitVec 32 := Scalar.addi v1716 v1715
  let c32_i32_1468 : BitVec 32 := 32#32
  let v1722 : BitVec 32 := Scalar.muli v1717 c32_i32_1468
  let c0_i32_1469 : BitVec 32 := 0#32
  let v1723 : BitVec 32 := Scalar.addi v1722 c0_i32_1469
  let c0_i32_2312 : BitVec 32 := 0#32
  ![v1723.toNat, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1471 : BitVec 32 := 2#32
  let v1726 : BitVec 1 := Scalar.cmpi .slt v1715 c2_i32_1471
  let v1727 : BitVec 1 := Scalar.andi v1714 v1726
  let v1734 : BitVec 32 := Scalar.extui v1727
  let c0_i32_1478 : BitVec 32 := 0#32
  let v1735 : BitVec 1 := Scalar.cmpi .ne v1734 c0_i32_1478
  v1735

def k0_off281 (d0 : Dev nD) : Fin 1 → Nat :=
  let c24_i32_1474 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1464 : BitVec 32 := 2#32
  let v1718 : BitVec 32 := Scalar.muli v1715 c2_i32_1464
  let c0_i32_1465 : BitVec 32 := 0#32
  let v1719 : BitVec 32 := Scalar.addi v1718 c0_i32_1465
  let v1730 : BitVec 32 := Scalar.addi c24_i32_1474 v1719
  ![v1730.toNat]
def k0_off282 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1463 : BitVec 32 := 4#32
  let v1716 : BitVec 32 := Scalar.muli v1617 c4_i32_1463
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1717 : BitVec 32 := Scalar.addi v1716 v1715
  let c32_i32_1476 : BitVec 32 := 32#32
  let v1732 : BitVec 32 := Scalar.muli v1717 c32_i32_1476
  let c0_i32_1477 : BitVec 32 := 0#32
  let v1733 : BitVec 32 := Scalar.addi v1732 c0_i32_1477
  let c0_i32_2312 : BitVec 32 := 0#32
  ![v1733.toNat, 0]
def k0_dev105 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let v1742 : BitVec 32 := Scalar.extui v1714
  let c0_i32_1485 : BitVec 32 := 0#32
  let v1743 : BitVec 1 := Scalar.cmpi .ne v1742 c0_i32_1485
  v1743

def k0_off283 (d0 : Dev nD) : Fin 1 → Nat :=
  let c16_i32_1482 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1479 : BitVec 32 := 2#32
  let v1736 : BitVec 32 := Scalar.muli v1715 c2_i32_1479
  let c1_i32_1480 : BitVec 32 := 1#32
  let v1737 : BitVec 32 := Scalar.addi v1736 c1_i32_1480
  let v1739 : BitVec 32 := Scalar.addi c16_i32_1482 v1737
  ![v1739.toNat]
def k0_off284 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1463 : BitVec 32 := 4#32
  let v1716 : BitVec 32 := Scalar.muli v1617 c4_i32_1463
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1717 : BitVec 32 := Scalar.addi v1716 v1715
  let c32_i32_1483 : BitVec 32 := 32#32
  let v1740 : BitVec 32 := Scalar.muli v1717 c32_i32_1483
  let c16_i32_1484 : BitVec 32 := 16#32
  let v1741 : BitVec 32 := Scalar.addi v1740 c16_i32_1484
  let c0_i32_2312 : BitVec 32 := 0#32
  ![v1741.toNat, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1486 : BitVec 32 := 2#32
  let v1744 : BitVec 1 := Scalar.cmpi .slt v1715 c2_i32_1486
  let v1745 : BitVec 1 := Scalar.andi v1714 v1744
  let v1752 : BitVec 32 := Scalar.extui v1745
  let c0_i32_1493 : BitVec 32 := 0#32
  let v1753 : BitVec 1 := Scalar.cmpi .ne v1752 c0_i32_1493
  v1753

def k0_off285 (d0 : Dev nD) : Fin 1 → Nat :=
  let c24_i32_1489 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1479 : BitVec 32 := 2#32
  let v1736 : BitVec 32 := Scalar.muli v1715 c2_i32_1479
  let c1_i32_1480 : BitVec 32 := 1#32
  let v1737 : BitVec 32 := Scalar.addi v1736 c1_i32_1480
  let v1748 : BitVec 32 := Scalar.addi c24_i32_1489 v1737
  ![v1748.toNat]
def k0_off286 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1463 : BitVec 32 := 4#32
  let v1716 : BitVec 32 := Scalar.muli v1617 c4_i32_1463
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1717 : BitVec 32 := Scalar.addi v1716 v1715
  let c32_i32_1491 : BitVec 32 := 32#32
  let v1750 : BitVec 32 := Scalar.muli v1717 c32_i32_1491
  let c16_i32_1492 : BitVec 32 := 16#32
  let v1751 : BitVec 32 := Scalar.addi v1750 c16_i32_1492
  let c0_i32_2312 : BitVec 32 := 0#32
  ![v1751.toNat, 0]
def k0_dev106 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let v1762 : BitVec 32 := Scalar.extui v1714
  let c0_i32_1501 : BitVec 32 := 0#32
  let v1763 : BitVec 1 := Scalar.cmpi .ne v1762 c0_i32_1501
  v1763

def k0_off287 (d0 : Dev nD) : Fin 1 → Nat :=
  let c16_i32_1498 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1495 : BitVec 32 := 2#32
  let v1756 : BitVec 32 := Scalar.muli v1715 c2_i32_1495
  let c0_i32_1496 : BitVec 32 := 0#32
  let v1757 : BitVec 32 := Scalar.addi v1756 c0_i32_1496
  let v1759 : BitVec 32 := Scalar.addi c16_i32_1498 v1757
  ![v1759.toNat]
def k0_off288 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1494 : BitVec 32 := 4#32
  let v1754 : BitVec 32 := Scalar.muli v1625 c4_i32_1494
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1755 : BitVec 32 := Scalar.addi v1754 v1715
  let c32_i32_1499 : BitVec 32 := 32#32
  let v1760 : BitVec 32 := Scalar.muli v1755 c32_i32_1499
  let c0_i32_1500 : BitVec 32 := 0#32
  let v1761 : BitVec 32 := Scalar.addi v1760 c0_i32_1500
  let c0_i32_2312 : BitVec 32 := 0#32
  ![v1761.toNat, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1502 : BitVec 32 := 2#32
  let v1764 : BitVec 1 := Scalar.cmpi .sge v1715 c2_i32_1502
  let v1765 : BitVec 1 := Scalar.andi v1714 v1764
  let v1772 : BitVec 32 := Scalar.extui v1765
  let c0_i32_1509 : BitVec 32 := 0#32
  let v1773 : BitVec 1 := Scalar.cmpi .ne v1772 c0_i32_1509
  v1773

def k0_off289 (d0 : Dev nD) : Fin 1 → Nat :=
  let c24_i32_1505 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1495 : BitVec 32 := 2#32
  let v1756 : BitVec 32 := Scalar.muli v1715 c2_i32_1495
  let c0_i32_1496 : BitVec 32 := 0#32
  let v1757 : BitVec 32 := Scalar.addi v1756 c0_i32_1496
  let v1768 : BitVec 32 := Scalar.addi c24_i32_1505 v1757
  ![v1768.toNat]
def k0_off290 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1494 : BitVec 32 := 4#32
  let v1754 : BitVec 32 := Scalar.muli v1625 c4_i32_1494
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1755 : BitVec 32 := Scalar.addi v1754 v1715
  let c32_i32_1507 : BitVec 32 := 32#32
  let v1770 : BitVec 32 := Scalar.muli v1755 c32_i32_1507
  let c0_i32_1508 : BitVec 32 := 0#32
  let v1771 : BitVec 32 := Scalar.addi v1770 c0_i32_1508
  let c0_i32_2312 : BitVec 32 := 0#32
  ![v1771.toNat, 0]
def k0_dev107 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let v1780 : BitVec 32 := Scalar.extui v1714
  let c0_i32_1516 : BitVec 32 := 0#32
  let v1781 : BitVec 1 := Scalar.cmpi .ne v1780 c0_i32_1516
  v1781

def k0_off291 (d0 : Dev nD) : Fin 1 → Nat :=
  let c16_i32_1513 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1510 : BitVec 32 := 2#32
  let v1774 : BitVec 32 := Scalar.muli v1715 c2_i32_1510
  let c1_i32_1511 : BitVec 32 := 1#32
  let v1775 : BitVec 32 := Scalar.addi v1774 c1_i32_1511
  let v1777 : BitVec 32 := Scalar.addi c16_i32_1513 v1775
  ![v1777.toNat]
def k0_off292 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1494 : BitVec 32 := 4#32
  let v1754 : BitVec 32 := Scalar.muli v1625 c4_i32_1494
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1755 : BitVec 32 := Scalar.addi v1754 v1715
  let c32_i32_1514 : BitVec 32 := 32#32
  let v1778 : BitVec 32 := Scalar.muli v1755 c32_i32_1514
  let c16_i32_1515 : BitVec 32 := 16#32
  let v1779 : BitVec 32 := Scalar.addi v1778 c16_i32_1515
  let c0_i32_2312 : BitVec 32 := 0#32
  ![v1779.toNat, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1517 : BitVec 32 := 2#32
  let v1782 : BitVec 1 := Scalar.cmpi .sge v1715 c2_i32_1517
  let v1783 : BitVec 1 := Scalar.andi v1714 v1782
  let v1790 : BitVec 32 := Scalar.extui v1783
  let c0_i32_1524 : BitVec 32 := 0#32
  let v1791 : BitVec 1 := Scalar.cmpi .ne v1790 c0_i32_1524
  v1791

def k0_off293 (d0 : Dev nD) : Fin 1 → Nat :=
  let c24_i32_1520 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1510 : BitVec 32 := 2#32
  let v1774 : BitVec 32 := Scalar.muli v1715 c2_i32_1510
  let c1_i32_1511 : BitVec 32 := 1#32
  let v1775 : BitVec 32 := Scalar.addi v1774 c1_i32_1511
  let v1786 : BitVec 32 := Scalar.addi c24_i32_1520 v1775
  ![v1786.toNat]
def k0_off294 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1494 : BitVec 32 := 4#32
  let v1754 : BitVec 32 := Scalar.muli v1625 c4_i32_1494
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1755 : BitVec 32 := Scalar.addi v1754 v1715
  let c32_i32_1522 : BitVec 32 := 32#32
  let v1788 : BitVec 32 := Scalar.muli v1755 c32_i32_1522
  let c16_i32_1523 : BitVec 32 := 16#32
  let v1789 : BitVec 32 := Scalar.addi v1788 c16_i32_1523
  let c0_i32_2312 : BitVec 32 := 0#32
  ![v1789.toNat, 0]
def k0_dev108 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let v1803 : BitVec 32 := Scalar.extui v1793
  let c0_i32_1535 : BitVec 32 := 0#32
  let v1804 : BitVec 1 := Scalar.cmpi .ne v1803 c0_i32_1535
  v1804

def k0_off295 (d0 : Dev nD) : Fin 1 → Nat :=
  let c16_i32_1532 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1529 : BitVec 32 := 2#32
  let v1797 : BitVec 32 := Scalar.muli v1794 c2_i32_1529
  let c0_i32_1530 : BitVec 32 := 0#32
  let v1798 : BitVec 32 := Scalar.addi v1797 c0_i32_1530
  let v1800 : BitVec 32 := Scalar.addi c16_i32_1532 v1798
  ![v1800.toNat]
def k0_off296 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1528 : BitVec 32 := 4#32
  let v1795 : BitVec 32 := Scalar.muli v1617 c4_i32_1528
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1796 : BitVec 32 := Scalar.addi v1795 v1794
  let c32_i32_1533 : BitVec 32 := 32#32
  let v1801 : BitVec 32 := Scalar.muli v1796 c32_i32_1533
  let c0_i32_1534 : BitVec 32 := 0#32
  let v1802 : BitVec 32 := Scalar.addi v1801 c0_i32_1534
  let c0_i32_2312 : BitVec 32 := 0#32
  ![v1802.toNat, 0]
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1536 : BitVec 32 := 2#32
  let v1805 : BitVec 1 := Scalar.cmpi .slt v1794 c2_i32_1536
  let v1806 : BitVec 1 := Scalar.andi v1793 v1805
  let v1813 : BitVec 32 := Scalar.extui v1806
  let c0_i32_1543 : BitVec 32 := 0#32
  let v1814 : BitVec 1 := Scalar.cmpi .ne v1813 c0_i32_1543
  v1814

def k0_off297 (d0 : Dev nD) : Fin 1 → Nat :=
  let c24_i32_1539 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1529 : BitVec 32 := 2#32
  let v1797 : BitVec 32 := Scalar.muli v1794 c2_i32_1529
  let c0_i32_1530 : BitVec 32 := 0#32
  let v1798 : BitVec 32 := Scalar.addi v1797 c0_i32_1530
  let v1809 : BitVec 32 := Scalar.addi c24_i32_1539 v1798
  ![v1809.toNat]
def k0_off298 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1528 : BitVec 32 := 4#32
  let v1795 : BitVec 32 := Scalar.muli v1617 c4_i32_1528
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1796 : BitVec 32 := Scalar.addi v1795 v1794
  let c32_i32_1541 : BitVec 32 := 32#32
  let v1811 : BitVec 32 := Scalar.muli v1796 c32_i32_1541
  let c0_i32_1542 : BitVec 32 := 0#32
  let v1812 : BitVec 32 := Scalar.addi v1811 c0_i32_1542
  let c0_i32_2312 : BitVec 32 := 0#32
  ![v1812.toNat, 0]
def k0_dev109 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let v1821 : BitVec 32 := Scalar.extui v1793
  let c0_i32_1550 : BitVec 32 := 0#32
  let v1822 : BitVec 1 := Scalar.cmpi .ne v1821 c0_i32_1550
  v1822

def k0_off299 (d0 : Dev nD) : Fin 1 → Nat :=
  let c16_i32_1547 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1544 : BitVec 32 := 2#32
  let v1815 : BitVec 32 := Scalar.muli v1794 c2_i32_1544
  let c1_i32_1545 : BitVec 32 := 1#32
  let v1816 : BitVec 32 := Scalar.addi v1815 c1_i32_1545
  let v1818 : BitVec 32 := Scalar.addi c16_i32_1547 v1816
  ![v1818.toNat]
def k0_off300 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1528 : BitVec 32 := 4#32
  let v1795 : BitVec 32 := Scalar.muli v1617 c4_i32_1528
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1796 : BitVec 32 := Scalar.addi v1795 v1794
  let c32_i32_1548 : BitVec 32 := 32#32
  let v1819 : BitVec 32 := Scalar.muli v1796 c32_i32_1548
  let c16_i32_1549 : BitVec 32 := 16#32
  let v1820 : BitVec 32 := Scalar.addi v1819 c16_i32_1549
  let c0_i32_2312 : BitVec 32 := 0#32
  ![v1820.toNat, 0]
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1551 : BitVec 32 := 2#32
  let v1823 : BitVec 1 := Scalar.cmpi .slt v1794 c2_i32_1551
  let v1824 : BitVec 1 := Scalar.andi v1793 v1823
  let v1831 : BitVec 32 := Scalar.extui v1824
  let c0_i32_1558 : BitVec 32 := 0#32
  let v1832 : BitVec 1 := Scalar.cmpi .ne v1831 c0_i32_1558
  v1832

def k0_off301 (d0 : Dev nD) : Fin 1 → Nat :=
  let c24_i32_1554 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1544 : BitVec 32 := 2#32
  let v1815 : BitVec 32 := Scalar.muli v1794 c2_i32_1544
  let c1_i32_1545 : BitVec 32 := 1#32
  let v1816 : BitVec 32 := Scalar.addi v1815 c1_i32_1545
  let v1827 : BitVec 32 := Scalar.addi c24_i32_1554 v1816
  ![v1827.toNat]
def k0_off302 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1528 : BitVec 32 := 4#32
  let v1795 : BitVec 32 := Scalar.muli v1617 c4_i32_1528
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1796 : BitVec 32 := Scalar.addi v1795 v1794
  let c32_i32_1556 : BitVec 32 := 32#32
  let v1829 : BitVec 32 := Scalar.muli v1796 c32_i32_1556
  let c16_i32_1557 : BitVec 32 := 16#32
  let v1830 : BitVec 32 := Scalar.addi v1829 c16_i32_1557
  let c0_i32_2312 : BitVec 32 := 0#32
  ![v1830.toNat, 0]
def k0_dev110 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let v1841 : BitVec 32 := Scalar.extui v1793
  let c0_i32_1566 : BitVec 32 := 0#32
  let v1842 : BitVec 1 := Scalar.cmpi .ne v1841 c0_i32_1566
  v1842

def k0_off303 (d0 : Dev nD) : Fin 1 → Nat :=
  let c16_i32_1563 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1560 : BitVec 32 := 2#32
  let v1835 : BitVec 32 := Scalar.muli v1794 c2_i32_1560
  let c0_i32_1561 : BitVec 32 := 0#32
  let v1836 : BitVec 32 := Scalar.addi v1835 c0_i32_1561
  let v1838 : BitVec 32 := Scalar.addi c16_i32_1563 v1836
  ![v1838.toNat]
def k0_off304 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1559 : BitVec 32 := 4#32
  let v1833 : BitVec 32 := Scalar.muli v1625 c4_i32_1559
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1834 : BitVec 32 := Scalar.addi v1833 v1794
  let c32_i32_1564 : BitVec 32 := 32#32
  let v1839 : BitVec 32 := Scalar.muli v1834 c32_i32_1564
  let c0_i32_1565 : BitVec 32 := 0#32
  let v1840 : BitVec 32 := Scalar.addi v1839 c0_i32_1565
  let c0_i32_2312 : BitVec 32 := 0#32
  ![v1840.toNat, 0]
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1567 : BitVec 32 := 2#32
  let v1843 : BitVec 1 := Scalar.cmpi .sge v1794 c2_i32_1567
  let v1844 : BitVec 1 := Scalar.andi v1793 v1843
  let v1851 : BitVec 32 := Scalar.extui v1844
  let c0_i32_1574 : BitVec 32 := 0#32
  let v1852 : BitVec 1 := Scalar.cmpi .ne v1851 c0_i32_1574
  v1852

def k0_off305 (d0 : Dev nD) : Fin 1 → Nat :=
  let c24_i32_1570 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1560 : BitVec 32 := 2#32
  let v1835 : BitVec 32 := Scalar.muli v1794 c2_i32_1560
  let c0_i32_1561 : BitVec 32 := 0#32
  let v1836 : BitVec 32 := Scalar.addi v1835 c0_i32_1561
  let v1847 : BitVec 32 := Scalar.addi c24_i32_1570 v1836
  ![v1847.toNat]
def k0_off306 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1559 : BitVec 32 := 4#32
  let v1833 : BitVec 32 := Scalar.muli v1625 c4_i32_1559
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1834 : BitVec 32 := Scalar.addi v1833 v1794
  let c32_i32_1572 : BitVec 32 := 32#32
  let v1849 : BitVec 32 := Scalar.muli v1834 c32_i32_1572
  let c0_i32_1573 : BitVec 32 := 0#32
  let v1850 : BitVec 32 := Scalar.addi v1849 c0_i32_1573
  let c0_i32_2312 : BitVec 32 := 0#32
  ![v1850.toNat, 0]
def k0_dev111 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let v1859 : BitVec 32 := Scalar.extui v1793
  let c0_i32_1581 : BitVec 32 := 0#32
  let v1860 : BitVec 1 := Scalar.cmpi .ne v1859 c0_i32_1581
  v1860

def k0_off307 (d0 : Dev nD) : Fin 1 → Nat :=
  let c16_i32_1578 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1575 : BitVec 32 := 2#32
  let v1853 : BitVec 32 := Scalar.muli v1794 c2_i32_1575
  let c1_i32_1576 : BitVec 32 := 1#32
  let v1854 : BitVec 32 := Scalar.addi v1853 c1_i32_1576
  let v1856 : BitVec 32 := Scalar.addi c16_i32_1578 v1854
  ![v1856.toNat]
def k0_off308 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1559 : BitVec 32 := 4#32
  let v1833 : BitVec 32 := Scalar.muli v1625 c4_i32_1559
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1834 : BitVec 32 := Scalar.addi v1833 v1794
  let c32_i32_1579 : BitVec 32 := 32#32
  let v1857 : BitVec 32 := Scalar.muli v1834 c32_i32_1579
  let c16_i32_1580 : BitVec 32 := 16#32
  let v1858 : BitVec 32 := Scalar.addi v1857 c16_i32_1580
  let c0_i32_2312 : BitVec 32 := 0#32
  ![v1858.toNat, 0]
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1582 : BitVec 32 := 2#32
  let v1861 : BitVec 1 := Scalar.cmpi .sge v1794 c2_i32_1582
  let v1862 : BitVec 1 := Scalar.andi v1793 v1861
  let v1869 : BitVec 32 := Scalar.extui v1862
  let c0_i32_1589 : BitVec 32 := 0#32
  let v1870 : BitVec 1 := Scalar.cmpi .ne v1869 c0_i32_1589
  v1870

def k0_off309 (d0 : Dev nD) : Fin 1 → Nat :=
  let c24_i32_1585 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1575 : BitVec 32 := 2#32
  let v1853 : BitVec 32 := Scalar.muli v1794 c2_i32_1575
  let c1_i32_1576 : BitVec 32 := 1#32
  let v1854 : BitVec 32 := Scalar.addi v1853 c1_i32_1576
  let v1865 : BitVec 32 := Scalar.addi c24_i32_1585 v1854
  ![v1865.toNat]
def k0_off310 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1559 : BitVec 32 := 4#32
  let v1833 : BitVec 32 := Scalar.muli v1625 c4_i32_1559
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1834 : BitVec 32 := Scalar.addi v1833 v1794
  let c32_i32_1587 : BitVec 32 := 32#32
  let v1867 : BitVec 32 := Scalar.muli v1834 c32_i32_1587
  let c16_i32_1588 : BitVec 32 := 16#32
  let v1868 : BitVec 32 := Scalar.addi v1867 c16_i32_1588
  let c0_i32_2312 : BitVec 32 := 0#32
  ![v1868.toNat, 0]
def k0_dev112 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let v1881 : BitVec 32 := Scalar.extui v1871
  let c0_i32_1599 : BitVec 32 := 0#32
  let v1882 : BitVec 1 := Scalar.cmpi .ne v1881 c0_i32_1599
  v1882

def k0_off311 (d0 : Dev nD) : Fin 1 → Nat :=
  let c16_i32_1596 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1593 : BitVec 32 := 2#32
  let v1875 : BitVec 32 := Scalar.muli v1872 c2_i32_1593
  let c0_i32_1594 : BitVec 32 := 0#32
  let v1876 : BitVec 32 := Scalar.addi v1875 c0_i32_1594
  let v1878 : BitVec 32 := Scalar.addi c16_i32_1596 v1876
  ![v1878.toNat]
def k0_off312 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1592 : BitVec 32 := 4#32
  let v1873 : BitVec 32 := Scalar.muli v1617 c4_i32_1592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1874 : BitVec 32 := Scalar.addi v1873 v1872
  let c32_i32_1597 : BitVec 32 := 32#32
  let v1879 : BitVec 32 := Scalar.muli v1874 c32_i32_1597
  let c0_i32_1598 : BitVec 32 := 0#32
  let v1880 : BitVec 32 := Scalar.addi v1879 c0_i32_1598
  let c0_i32_2312 : BitVec 32 := 0#32
  ![v1880.toNat, 0]
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1600 : BitVec 32 := 2#32
  let v1883 : BitVec 1 := Scalar.cmpi .slt v1872 c2_i32_1600
  let v1884 : BitVec 1 := Scalar.andi v1871 v1883
  let v1891 : BitVec 32 := Scalar.extui v1884
  let c0_i32_1607 : BitVec 32 := 0#32
  let v1892 : BitVec 1 := Scalar.cmpi .ne v1891 c0_i32_1607
  v1892

def k0_off313 (d0 : Dev nD) : Fin 1 → Nat :=
  let c24_i32_1603 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1593 : BitVec 32 := 2#32
  let v1875 : BitVec 32 := Scalar.muli v1872 c2_i32_1593
  let c0_i32_1594 : BitVec 32 := 0#32
  let v1876 : BitVec 32 := Scalar.addi v1875 c0_i32_1594
  let v1887 : BitVec 32 := Scalar.addi c24_i32_1603 v1876
  ![v1887.toNat]
def k0_off314 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1592 : BitVec 32 := 4#32
  let v1873 : BitVec 32 := Scalar.muli v1617 c4_i32_1592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1874 : BitVec 32 := Scalar.addi v1873 v1872
  let c32_i32_1605 : BitVec 32 := 32#32
  let v1889 : BitVec 32 := Scalar.muli v1874 c32_i32_1605
  let c0_i32_1606 : BitVec 32 := 0#32
  let v1890 : BitVec 32 := Scalar.addi v1889 c0_i32_1606
  let c0_i32_2312 : BitVec 32 := 0#32
  ![v1890.toNat, 0]
def k0_dev113 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let v1899 : BitVec 32 := Scalar.extui v1871
  let c0_i32_1614 : BitVec 32 := 0#32
  let v1900 : BitVec 1 := Scalar.cmpi .ne v1899 c0_i32_1614
  v1900

def k0_off315 (d0 : Dev nD) : Fin 1 → Nat :=
  let c16_i32_1611 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1608 : BitVec 32 := 2#32
  let v1893 : BitVec 32 := Scalar.muli v1872 c2_i32_1608
  let c1_i32_1609 : BitVec 32 := 1#32
  let v1894 : BitVec 32 := Scalar.addi v1893 c1_i32_1609
  let v1896 : BitVec 32 := Scalar.addi c16_i32_1611 v1894
  ![v1896.toNat]
def k0_off316 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1592 : BitVec 32 := 4#32
  let v1873 : BitVec 32 := Scalar.muli v1617 c4_i32_1592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1874 : BitVec 32 := Scalar.addi v1873 v1872
  let c32_i32_1612 : BitVec 32 := 32#32
  let v1897 : BitVec 32 := Scalar.muli v1874 c32_i32_1612
  let c16_i32_1613 : BitVec 32 := 16#32
  let v1898 : BitVec 32 := Scalar.addi v1897 c16_i32_1613
  let c0_i32_2312 : BitVec 32 := 0#32
  ![v1898.toNat, 0]
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1615 : BitVec 32 := 2#32
  let v1901 : BitVec 1 := Scalar.cmpi .slt v1872 c2_i32_1615
  let v1902 : BitVec 1 := Scalar.andi v1871 v1901
  let v1909 : BitVec 32 := Scalar.extui v1902
  let c0_i32_1622 : BitVec 32 := 0#32
  let v1910 : BitVec 1 := Scalar.cmpi .ne v1909 c0_i32_1622
  v1910

def k0_off317 (d0 : Dev nD) : Fin 1 → Nat :=
  let c24_i32_1618 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1608 : BitVec 32 := 2#32
  let v1893 : BitVec 32 := Scalar.muli v1872 c2_i32_1608
  let c1_i32_1609 : BitVec 32 := 1#32
  let v1894 : BitVec 32 := Scalar.addi v1893 c1_i32_1609
  let v1905 : BitVec 32 := Scalar.addi c24_i32_1618 v1894
  ![v1905.toNat]
def k0_off318 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1592 : BitVec 32 := 4#32
  let v1873 : BitVec 32 := Scalar.muli v1617 c4_i32_1592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1874 : BitVec 32 := Scalar.addi v1873 v1872
  let c32_i32_1620 : BitVec 32 := 32#32
  let v1907 : BitVec 32 := Scalar.muli v1874 c32_i32_1620
  let c16_i32_1621 : BitVec 32 := 16#32
  let v1908 : BitVec 32 := Scalar.addi v1907 c16_i32_1621
  let c0_i32_2312 : BitVec 32 := 0#32
  ![v1908.toNat, 0]
def k0_dev114 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let v1919 : BitVec 32 := Scalar.extui v1871
  let c0_i32_1630 : BitVec 32 := 0#32
  let v1920 : BitVec 1 := Scalar.cmpi .ne v1919 c0_i32_1630
  v1920

def k0_off319 (d0 : Dev nD) : Fin 1 → Nat :=
  let c16_i32_1627 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1624 : BitVec 32 := 2#32
  let v1913 : BitVec 32 := Scalar.muli v1872 c2_i32_1624
  let c0_i32_1625 : BitVec 32 := 0#32
  let v1914 : BitVec 32 := Scalar.addi v1913 c0_i32_1625
  let v1916 : BitVec 32 := Scalar.addi c16_i32_1627 v1914
  ![v1916.toNat]
def k0_off320 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1623 : BitVec 32 := 4#32
  let v1911 : BitVec 32 := Scalar.muli v1625 c4_i32_1623
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1912 : BitVec 32 := Scalar.addi v1911 v1872
  let c32_i32_1628 : BitVec 32 := 32#32
  let v1917 : BitVec 32 := Scalar.muli v1912 c32_i32_1628
  let c0_i32_1629 : BitVec 32 := 0#32
  let v1918 : BitVec 32 := Scalar.addi v1917 c0_i32_1629
  let c0_i32_2312 : BitVec 32 := 0#32
  ![v1918.toNat, 0]
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1631 : BitVec 32 := 2#32
  let v1921 : BitVec 1 := Scalar.cmpi .sge v1872 c2_i32_1631
  let v1922 : BitVec 1 := Scalar.andi v1871 v1921
  let v1929 : BitVec 32 := Scalar.extui v1922
  let c0_i32_1638 : BitVec 32 := 0#32
  let v1930 : BitVec 1 := Scalar.cmpi .ne v1929 c0_i32_1638
  v1930

def k0_off321 (d0 : Dev nD) : Fin 1 → Nat :=
  let c24_i32_1634 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1624 : BitVec 32 := 2#32
  let v1913 : BitVec 32 := Scalar.muli v1872 c2_i32_1624
  let c0_i32_1625 : BitVec 32 := 0#32
  let v1914 : BitVec 32 := Scalar.addi v1913 c0_i32_1625
  let v1925 : BitVec 32 := Scalar.addi c24_i32_1634 v1914
  ![v1925.toNat]
def k0_off322 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1623 : BitVec 32 := 4#32
  let v1911 : BitVec 32 := Scalar.muli v1625 c4_i32_1623
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1912 : BitVec 32 := Scalar.addi v1911 v1872
  let c32_i32_1636 : BitVec 32 := 32#32
  let v1927 : BitVec 32 := Scalar.muli v1912 c32_i32_1636
  let c0_i32_1637 : BitVec 32 := 0#32
  let v1928 : BitVec 32 := Scalar.addi v1927 c0_i32_1637
  let c0_i32_2312 : BitVec 32 := 0#32
  ![v1928.toNat, 0]
def k0_dev115 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let v1937 : BitVec 32 := Scalar.extui v1871
  let c0_i32_1645 : BitVec 32 := 0#32
  let v1938 : BitVec 1 := Scalar.cmpi .ne v1937 c0_i32_1645
  v1938

def k0_off323 (d0 : Dev nD) : Fin 1 → Nat :=
  let c16_i32_1642 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1639 : BitVec 32 := 2#32
  let v1931 : BitVec 32 := Scalar.muli v1872 c2_i32_1639
  let c1_i32_1640 : BitVec 32 := 1#32
  let v1932 : BitVec 32 := Scalar.addi v1931 c1_i32_1640
  let v1934 : BitVec 32 := Scalar.addi c16_i32_1642 v1932
  ![v1934.toNat]
def k0_off324 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1623 : BitVec 32 := 4#32
  let v1911 : BitVec 32 := Scalar.muli v1625 c4_i32_1623
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1912 : BitVec 32 := Scalar.addi v1911 v1872
  let c32_i32_1643 : BitVec 32 := 32#32
  let v1935 : BitVec 32 := Scalar.muli v1912 c32_i32_1643
  let c16_i32_1644 : BitVec 32 := 16#32
  let v1936 : BitVec 32 := Scalar.addi v1935 c16_i32_1644
  let c0_i32_2312 : BitVec 32 := 0#32
  ![v1936.toNat, 0]
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1646 : BitVec 32 := 2#32
  let v1939 : BitVec 1 := Scalar.cmpi .sge v1872 c2_i32_1646
  let v1940 : BitVec 1 := Scalar.andi v1871 v1939
  let v1947 : BitVec 32 := Scalar.extui v1940
  let c0_i32_1653 : BitVec 32 := 0#32
  let v1948 : BitVec 1 := Scalar.cmpi .ne v1947 c0_i32_1653
  v1948

def k0_off325 (d0 : Dev nD) : Fin 1 → Nat :=
  let c24_i32_1649 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1639 : BitVec 32 := 2#32
  let v1931 : BitVec 32 := Scalar.muli v1872 c2_i32_1639
  let c1_i32_1640 : BitVec 32 := 1#32
  let v1932 : BitVec 32 := Scalar.addi v1931 c1_i32_1640
  let v1943 : BitVec 32 := Scalar.addi c24_i32_1649 v1932
  ![v1943.toNat]
def k0_off326 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1623 : BitVec 32 := 4#32
  let v1911 : BitVec 32 := Scalar.muli v1625 c4_i32_1623
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1912 : BitVec 32 := Scalar.addi v1911 v1872
  let c32_i32_1651 : BitVec 32 := 32#32
  let v1945 : BitVec 32 := Scalar.muli v1912 c32_i32_1651
  let c16_i32_1652 : BitVec 32 := 16#32
  let v1946 : BitVec 32 := Scalar.addi v1945 c16_i32_1652
  let c0_i32_2312 : BitVec 32 := 0#32
  ![v1946.toNat, 0]
def k0_dev116 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let v1960 : BitVec 32 := Scalar.extui v1950
  let c0_i32_1664 : BitVec 32 := 0#32
  let v1961 : BitVec 1 := Scalar.cmpi .ne v1960 c0_i32_1664
  v1961

def k0_off327 (d0 : Dev nD) : Fin 1 → Nat :=
  let c16_i32_1661 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1658 : BitVec 32 := 2#32
  let v1954 : BitVec 32 := Scalar.muli v1951 c2_i32_1658
  let c0_i32_1659 : BitVec 32 := 0#32
  let v1955 : BitVec 32 := Scalar.addi v1954 c0_i32_1659
  let v1957 : BitVec 32 := Scalar.addi c16_i32_1661 v1955
  ![v1957.toNat]
def k0_off328 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1657 : BitVec 32 := 4#32
  let v1952 : BitVec 32 := Scalar.muli v1617 c4_i32_1657
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1953 : BitVec 32 := Scalar.addi v1952 v1951
  let c32_i32_1662 : BitVec 32 := 32#32
  let v1958 : BitVec 32 := Scalar.muli v1953 c32_i32_1662
  let c0_i32_1663 : BitVec 32 := 0#32
  let v1959 : BitVec 32 := Scalar.addi v1958 c0_i32_1663
  let c0_i32_2312 : BitVec 32 := 0#32
  ![v1959.toNat, 0]
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1665 : BitVec 32 := 2#32
  let v1962 : BitVec 1 := Scalar.cmpi .slt v1951 c2_i32_1665
  let v1963 : BitVec 1 := Scalar.andi v1950 v1962
  let v1970 : BitVec 32 := Scalar.extui v1963
  let c0_i32_1672 : BitVec 32 := 0#32
  let v1971 : BitVec 1 := Scalar.cmpi .ne v1970 c0_i32_1672
  v1971

def k0_off329 (d0 : Dev nD) : Fin 1 → Nat :=
  let c24_i32_1668 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1658 : BitVec 32 := 2#32
  let v1954 : BitVec 32 := Scalar.muli v1951 c2_i32_1658
  let c0_i32_1659 : BitVec 32 := 0#32
  let v1955 : BitVec 32 := Scalar.addi v1954 c0_i32_1659
  let v1966 : BitVec 32 := Scalar.addi c24_i32_1668 v1955
  ![v1966.toNat]
def k0_off330 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1657 : BitVec 32 := 4#32
  let v1952 : BitVec 32 := Scalar.muli v1617 c4_i32_1657
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1953 : BitVec 32 := Scalar.addi v1952 v1951
  let c32_i32_1670 : BitVec 32 := 32#32
  let v1968 : BitVec 32 := Scalar.muli v1953 c32_i32_1670
  let c0_i32_1671 : BitVec 32 := 0#32
  let v1969 : BitVec 32 := Scalar.addi v1968 c0_i32_1671
  let c0_i32_2312 : BitVec 32 := 0#32
  ![v1969.toNat, 0]
def k0_dev117 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let v1978 : BitVec 32 := Scalar.extui v1950
  let c0_i32_1679 : BitVec 32 := 0#32
  let v1979 : BitVec 1 := Scalar.cmpi .ne v1978 c0_i32_1679
  v1979

def k0_off331 (d0 : Dev nD) : Fin 1 → Nat :=
  let c16_i32_1676 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1673 : BitVec 32 := 2#32
  let v1972 : BitVec 32 := Scalar.muli v1951 c2_i32_1673
  let c1_i32_1674 : BitVec 32 := 1#32
  let v1973 : BitVec 32 := Scalar.addi v1972 c1_i32_1674
  let v1975 : BitVec 32 := Scalar.addi c16_i32_1676 v1973
  ![v1975.toNat]
def k0_off332 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1657 : BitVec 32 := 4#32
  let v1952 : BitVec 32 := Scalar.muli v1617 c4_i32_1657
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1953 : BitVec 32 := Scalar.addi v1952 v1951
  let c32_i32_1677 : BitVec 32 := 32#32
  let v1976 : BitVec 32 := Scalar.muli v1953 c32_i32_1677
  let c16_i32_1678 : BitVec 32 := 16#32
  let v1977 : BitVec 32 := Scalar.addi v1976 c16_i32_1678
  let c0_i32_2312 : BitVec 32 := 0#32
  ![v1977.toNat, 0]
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1680 : BitVec 32 := 2#32
  let v1980 : BitVec 1 := Scalar.cmpi .slt v1951 c2_i32_1680
  let v1981 : BitVec 1 := Scalar.andi v1950 v1980
  let v1988 : BitVec 32 := Scalar.extui v1981
  let c0_i32_1687 : BitVec 32 := 0#32
  let v1989 : BitVec 1 := Scalar.cmpi .ne v1988 c0_i32_1687
  v1989

def k0_off333 (d0 : Dev nD) : Fin 1 → Nat :=
  let c24_i32_1683 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1673 : BitVec 32 := 2#32
  let v1972 : BitVec 32 := Scalar.muli v1951 c2_i32_1673
  let c1_i32_1674 : BitVec 32 := 1#32
  let v1973 : BitVec 32 := Scalar.addi v1972 c1_i32_1674
  let v1984 : BitVec 32 := Scalar.addi c24_i32_1683 v1973
  ![v1984.toNat]
def k0_off334 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1657 : BitVec 32 := 4#32
  let v1952 : BitVec 32 := Scalar.muli v1617 c4_i32_1657
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1953 : BitVec 32 := Scalar.addi v1952 v1951
  let c32_i32_1685 : BitVec 32 := 32#32
  let v1986 : BitVec 32 := Scalar.muli v1953 c32_i32_1685
  let c16_i32_1686 : BitVec 32 := 16#32
  let v1987 : BitVec 32 := Scalar.addi v1986 c16_i32_1686
  let c0_i32_2312 : BitVec 32 := 0#32
  ![v1987.toNat, 0]
def k0_dev118 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let v1998 : BitVec 32 := Scalar.extui v1950
  let c0_i32_1695 : BitVec 32 := 0#32
  let v1999 : BitVec 1 := Scalar.cmpi .ne v1998 c0_i32_1695
  v1999

def k0_off335 (d0 : Dev nD) : Fin 1 → Nat :=
  let c16_i32_1692 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1689 : BitVec 32 := 2#32
  let v1992 : BitVec 32 := Scalar.muli v1951 c2_i32_1689
  let c0_i32_1690 : BitVec 32 := 0#32
  let v1993 : BitVec 32 := Scalar.addi v1992 c0_i32_1690
  let v1995 : BitVec 32 := Scalar.addi c16_i32_1692 v1993
  ![v1995.toNat]
def k0_off336 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1688 : BitVec 32 := 4#32
  let v1990 : BitVec 32 := Scalar.muli v1625 c4_i32_1688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1991 : BitVec 32 := Scalar.addi v1990 v1951
  let c32_i32_1693 : BitVec 32 := 32#32
  let v1996 : BitVec 32 := Scalar.muli v1991 c32_i32_1693
  let c0_i32_1694 : BitVec 32 := 0#32
  let v1997 : BitVec 32 := Scalar.addi v1996 c0_i32_1694
  let c0_i32_2312 : BitVec 32 := 0#32
  ![v1997.toNat, 0]
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1696 : BitVec 32 := 2#32
  let v2000 : BitVec 1 := Scalar.cmpi .sge v1951 c2_i32_1696
  let v2001 : BitVec 1 := Scalar.andi v1950 v2000
  let v2008 : BitVec 32 := Scalar.extui v2001
  let c0_i32_1703 : BitVec 32 := 0#32
  let v2009 : BitVec 1 := Scalar.cmpi .ne v2008 c0_i32_1703
  v2009

def k0_off337 (d0 : Dev nD) : Fin 1 → Nat :=
  let c24_i32_1699 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1689 : BitVec 32 := 2#32
  let v1992 : BitVec 32 := Scalar.muli v1951 c2_i32_1689
  let c0_i32_1690 : BitVec 32 := 0#32
  let v1993 : BitVec 32 := Scalar.addi v1992 c0_i32_1690
  let v2004 : BitVec 32 := Scalar.addi c24_i32_1699 v1993
  ![v2004.toNat]
def k0_off338 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1688 : BitVec 32 := 4#32
  let v1990 : BitVec 32 := Scalar.muli v1625 c4_i32_1688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1991 : BitVec 32 := Scalar.addi v1990 v1951
  let c32_i32_1701 : BitVec 32 := 32#32
  let v2006 : BitVec 32 := Scalar.muli v1991 c32_i32_1701
  let c0_i32_1702 : BitVec 32 := 0#32
  let v2007 : BitVec 32 := Scalar.addi v2006 c0_i32_1702
  let c0_i32_2312 : BitVec 32 := 0#32
  ![v2007.toNat, 0]
def k0_dev119 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let v2016 : BitVec 32 := Scalar.extui v1950
  let c0_i32_1710 : BitVec 32 := 0#32
  let v2017 : BitVec 1 := Scalar.cmpi .ne v2016 c0_i32_1710
  v2017

def k0_off339 (d0 : Dev nD) : Fin 1 → Nat :=
  let c16_i32_1707 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1704 : BitVec 32 := 2#32
  let v2010 : BitVec 32 := Scalar.muli v1951 c2_i32_1704
  let c1_i32_1705 : BitVec 32 := 1#32
  let v2011 : BitVec 32 := Scalar.addi v2010 c1_i32_1705
  let v2013 : BitVec 32 := Scalar.addi c16_i32_1707 v2011
  ![v2013.toNat]
def k0_off340 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1688 : BitVec 32 := 4#32
  let v1990 : BitVec 32 := Scalar.muli v1625 c4_i32_1688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1991 : BitVec 32 := Scalar.addi v1990 v1951
  let c32_i32_1708 : BitVec 32 := 32#32
  let v2014 : BitVec 32 := Scalar.muli v1991 c32_i32_1708
  let c16_i32_1709 : BitVec 32 := 16#32
  let v2015 : BitVec 32 := Scalar.addi v2014 c16_i32_1709
  let c0_i32_2312 : BitVec 32 := 0#32
  ![v2015.toNat, 0]
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1711 : BitVec 32 := 2#32
  let v2018 : BitVec 1 := Scalar.cmpi .sge v1951 c2_i32_1711
  let v2019 : BitVec 1 := Scalar.andi v1950 v2018
  let v2026 : BitVec 32 := Scalar.extui v2019
  let c0_i32_1718 : BitVec 32 := 0#32
  let v2027 : BitVec 1 := Scalar.cmpi .ne v2026 c0_i32_1718
  v2027

def k0_off341 (d0 : Dev nD) : Fin 1 → Nat :=
  let c24_i32_1714 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1704 : BitVec 32 := 2#32
  let v2010 : BitVec 32 := Scalar.muli v1951 c2_i32_1704
  let c1_i32_1705 : BitVec 32 := 1#32
  let v2011 : BitVec 32 := Scalar.addi v2010 c1_i32_1705
  let v2022 : BitVec 32 := Scalar.addi c24_i32_1714 v2011
  ![v2022.toNat]
def k0_off342 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1688 : BitVec 32 := 4#32
  let v1990 : BitVec 32 := Scalar.muli v1625 c4_i32_1688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1991 : BitVec 32 := Scalar.addi v1990 v1951
  let c32_i32_1716 : BitVec 32 := 32#32
  let v2024 : BitVec 32 := Scalar.muli v1991 c32_i32_1716
  let c16_i32_1717 : BitVec 32 := 16#32
  let v2025 : BitVec 32 := Scalar.addi v2024 c16_i32_1717
  let c0_i32_2312 : BitVec 32 := 0#32
  ![v2025.toNat, 0]
def k0_dev120 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let v2038 : BitVec 32 := Scalar.extui v2028
  let c0_i32_1728 : BitVec 32 := 0#32
  let v2039 : BitVec 1 := Scalar.cmpi .ne v2038 c0_i32_1728
  v2039

def k0_off343 (d0 : Dev nD) : Fin 1 → Nat :=
  let c16_i32_1725 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1722 : BitVec 32 := 2#32
  let v2032 : BitVec 32 := Scalar.muli v2029 c2_i32_1722
  let c0_i32_1723 : BitVec 32 := 0#32
  let v2033 : BitVec 32 := Scalar.addi v2032 c0_i32_1723
  let v2035 : BitVec 32 := Scalar.addi c16_i32_1725 v2033
  ![v2035.toNat]
def k0_off344 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1721 : BitVec 32 := 4#32
  let v2030 : BitVec 32 := Scalar.muli v1617 c4_i32_1721
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2031 : BitVec 32 := Scalar.addi v2030 v2029
  let c32_i32_1726 : BitVec 32 := 32#32
  let v2036 : BitVec 32 := Scalar.muli v2031 c32_i32_1726
  let c0_i32_1727 : BitVec 32 := 0#32
  let v2037 : BitVec 32 := Scalar.addi v2036 c0_i32_1727
  let c0_i32_2312 : BitVec 32 := 0#32
  ![v2037.toNat, 0]
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1729 : BitVec 32 := 2#32
  let v2040 : BitVec 1 := Scalar.cmpi .slt v2029 c2_i32_1729
  let v2041 : BitVec 1 := Scalar.andi v2028 v2040
  let v2048 : BitVec 32 := Scalar.extui v2041
  let c0_i32_1736 : BitVec 32 := 0#32
  let v2049 : BitVec 1 := Scalar.cmpi .ne v2048 c0_i32_1736
  v2049

def k0_off345 (d0 : Dev nD) : Fin 1 → Nat :=
  let c24_i32_1732 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1722 : BitVec 32 := 2#32
  let v2032 : BitVec 32 := Scalar.muli v2029 c2_i32_1722
  let c0_i32_1723 : BitVec 32 := 0#32
  let v2033 : BitVec 32 := Scalar.addi v2032 c0_i32_1723
  let v2044 : BitVec 32 := Scalar.addi c24_i32_1732 v2033
  ![v2044.toNat]
def k0_off346 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1721 : BitVec 32 := 4#32
  let v2030 : BitVec 32 := Scalar.muli v1617 c4_i32_1721
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2031 : BitVec 32 := Scalar.addi v2030 v2029
  let c32_i32_1734 : BitVec 32 := 32#32
  let v2046 : BitVec 32 := Scalar.muli v2031 c32_i32_1734
  let c0_i32_1735 : BitVec 32 := 0#32
  let v2047 : BitVec 32 := Scalar.addi v2046 c0_i32_1735
  let c0_i32_2312 : BitVec 32 := 0#32
  ![v2047.toNat, 0]
def k0_dev121 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let v2056 : BitVec 32 := Scalar.extui v2028
  let c0_i32_1743 : BitVec 32 := 0#32
  let v2057 : BitVec 1 := Scalar.cmpi .ne v2056 c0_i32_1743
  v2057

def k0_off347 (d0 : Dev nD) : Fin 1 → Nat :=
  let c16_i32_1740 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1737 : BitVec 32 := 2#32
  let v2050 : BitVec 32 := Scalar.muli v2029 c2_i32_1737
  let c1_i32_1738 : BitVec 32 := 1#32
  let v2051 : BitVec 32 := Scalar.addi v2050 c1_i32_1738
  let v2053 : BitVec 32 := Scalar.addi c16_i32_1740 v2051
  ![v2053.toNat]
def k0_off348 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1721 : BitVec 32 := 4#32
  let v2030 : BitVec 32 := Scalar.muli v1617 c4_i32_1721
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2031 : BitVec 32 := Scalar.addi v2030 v2029
  let c32_i32_1741 : BitVec 32 := 32#32
  let v2054 : BitVec 32 := Scalar.muli v2031 c32_i32_1741
  let c16_i32_1742 : BitVec 32 := 16#32
  let v2055 : BitVec 32 := Scalar.addi v2054 c16_i32_1742
  let c0_i32_2312 : BitVec 32 := 0#32
  ![v2055.toNat, 0]
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1744 : BitVec 32 := 2#32
  let v2058 : BitVec 1 := Scalar.cmpi .slt v2029 c2_i32_1744
  let v2059 : BitVec 1 := Scalar.andi v2028 v2058
  let v2066 : BitVec 32 := Scalar.extui v2059
  let c0_i32_1751 : BitVec 32 := 0#32
  let v2067 : BitVec 1 := Scalar.cmpi .ne v2066 c0_i32_1751
  v2067

def k0_off349 (d0 : Dev nD) : Fin 1 → Nat :=
  let c24_i32_1747 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1737 : BitVec 32 := 2#32
  let v2050 : BitVec 32 := Scalar.muli v2029 c2_i32_1737
  let c1_i32_1738 : BitVec 32 := 1#32
  let v2051 : BitVec 32 := Scalar.addi v2050 c1_i32_1738
  let v2062 : BitVec 32 := Scalar.addi c24_i32_1747 v2051
  ![v2062.toNat]
def k0_off350 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1721 : BitVec 32 := 4#32
  let v2030 : BitVec 32 := Scalar.muli v1617 c4_i32_1721
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2031 : BitVec 32 := Scalar.addi v2030 v2029
  let c32_i32_1749 : BitVec 32 := 32#32
  let v2064 : BitVec 32 := Scalar.muli v2031 c32_i32_1749
  let c16_i32_1750 : BitVec 32 := 16#32
  let v2065 : BitVec 32 := Scalar.addi v2064 c16_i32_1750
  let c0_i32_2312 : BitVec 32 := 0#32
  ![v2065.toNat, 0]
def k0_dev122 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let v2076 : BitVec 32 := Scalar.extui v2028
  let c0_i32_1759 : BitVec 32 := 0#32
  let v2077 : BitVec 1 := Scalar.cmpi .ne v2076 c0_i32_1759
  v2077

def k0_off351 (d0 : Dev nD) : Fin 1 → Nat :=
  let c16_i32_1756 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1753 : BitVec 32 := 2#32
  let v2070 : BitVec 32 := Scalar.muli v2029 c2_i32_1753
  let c0_i32_1754 : BitVec 32 := 0#32
  let v2071 : BitVec 32 := Scalar.addi v2070 c0_i32_1754
  let v2073 : BitVec 32 := Scalar.addi c16_i32_1756 v2071
  ![v2073.toNat]
def k0_off352 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1752 : BitVec 32 := 4#32
  let v2068 : BitVec 32 := Scalar.muli v1625 c4_i32_1752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2069 : BitVec 32 := Scalar.addi v2068 v2029
  let c32_i32_1757 : BitVec 32 := 32#32
  let v2074 : BitVec 32 := Scalar.muli v2069 c32_i32_1757
  let c0_i32_1758 : BitVec 32 := 0#32
  let v2075 : BitVec 32 := Scalar.addi v2074 c0_i32_1758
  let c0_i32_2312 : BitVec 32 := 0#32
  ![v2075.toNat, 0]
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1760 : BitVec 32 := 2#32
  let v2078 : BitVec 1 := Scalar.cmpi .sge v2029 c2_i32_1760
  let v2079 : BitVec 1 := Scalar.andi v2028 v2078
  let v2086 : BitVec 32 := Scalar.extui v2079
  let c0_i32_1767 : BitVec 32 := 0#32
  let v2087 : BitVec 1 := Scalar.cmpi .ne v2086 c0_i32_1767
  v2087

def k0_off353 (d0 : Dev nD) : Fin 1 → Nat :=
  let c24_i32_1763 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1753 : BitVec 32 := 2#32
  let v2070 : BitVec 32 := Scalar.muli v2029 c2_i32_1753
  let c0_i32_1754 : BitVec 32 := 0#32
  let v2071 : BitVec 32 := Scalar.addi v2070 c0_i32_1754
  let v2082 : BitVec 32 := Scalar.addi c24_i32_1763 v2071
  ![v2082.toNat]
def k0_off354 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1752 : BitVec 32 := 4#32
  let v2068 : BitVec 32 := Scalar.muli v1625 c4_i32_1752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2069 : BitVec 32 := Scalar.addi v2068 v2029
  let c32_i32_1765 : BitVec 32 := 32#32
  let v2084 : BitVec 32 := Scalar.muli v2069 c32_i32_1765
  let c0_i32_1766 : BitVec 32 := 0#32
  let v2085 : BitVec 32 := Scalar.addi v2084 c0_i32_1766
  let c0_i32_2312 : BitVec 32 := 0#32
  ![v2085.toNat, 0]
def k0_dev123 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let v2094 : BitVec 32 := Scalar.extui v2028
  let c0_i32_1774 : BitVec 32 := 0#32
  let v2095 : BitVec 1 := Scalar.cmpi .ne v2094 c0_i32_1774
  v2095

def k0_off355 (d0 : Dev nD) : Fin 1 → Nat :=
  let c16_i32_1771 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1768 : BitVec 32 := 2#32
  let v2088 : BitVec 32 := Scalar.muli v2029 c2_i32_1768
  let c1_i32_1769 : BitVec 32 := 1#32
  let v2089 : BitVec 32 := Scalar.addi v2088 c1_i32_1769
  let v2091 : BitVec 32 := Scalar.addi c16_i32_1771 v2089
  ![v2091.toNat]
def k0_off356 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1752 : BitVec 32 := 4#32
  let v2068 : BitVec 32 := Scalar.muli v1625 c4_i32_1752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2069 : BitVec 32 := Scalar.addi v2068 v2029
  let c32_i32_1772 : BitVec 32 := 32#32
  let v2092 : BitVec 32 := Scalar.muli v2069 c32_i32_1772
  let c16_i32_1773 : BitVec 32 := 16#32
  let v2093 : BitVec 32 := Scalar.addi v2092 c16_i32_1773
  let c0_i32_2312 : BitVec 32 := 0#32
  ![v2093.toNat, 0]
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1775 : BitVec 32 := 2#32
  let v2096 : BitVec 1 := Scalar.cmpi .sge v2029 c2_i32_1775
  let v2097 : BitVec 1 := Scalar.andi v2028 v2096
  let v2104 : BitVec 32 := Scalar.extui v2097
  let c0_i32_1782 : BitVec 32 := 0#32
  let v2105 : BitVec 1 := Scalar.cmpi .ne v2104 c0_i32_1782
  v2105

def k0_off357 (d0 : Dev nD) : Fin 1 → Nat :=
  let c24_i32_1778 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1768 : BitVec 32 := 2#32
  let v2088 : BitVec 32 := Scalar.muli v2029 c2_i32_1768
  let c1_i32_1769 : BitVec 32 := 1#32
  let v2089 : BitVec 32 := Scalar.addi v2088 c1_i32_1769
  let v2100 : BitVec 32 := Scalar.addi c24_i32_1778 v2089
  ![v2100.toNat]
def k0_off358 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1752 : BitVec 32 := 4#32
  let v2068 : BitVec 32 := Scalar.muli v1625 c4_i32_1752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2069 : BitVec 32 := Scalar.addi v2068 v2029
  let c32_i32_1780 : BitVec 32 := 32#32
  let v2102 : BitVec 32 := Scalar.muli v2069 c32_i32_1780
  let c16_i32_1781 : BitVec 32 := 16#32
  let v2103 : BitVec 32 := Scalar.addi v2102 c16_i32_1781
  let c0_i32_2312 : BitVec 32 := 0#32
  ![v2103.toNat, 0]
def k0_dev124 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let v2117 : BitVec 32 := Scalar.extui v2107
  let c0_i32_1793 : BitVec 32 := 0#32
  let v2118 : BitVec 1 := Scalar.cmpi .ne v2117 c0_i32_1793
  v2118

def k0_off359 (d0 : Dev nD) : Fin 1 → Nat :=
  let c16_i32_1790 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1787 : BitVec 32 := 2#32
  let v2111 : BitVec 32 := Scalar.muli v2108 c2_i32_1787
  let c0_i32_1788 : BitVec 32 := 0#32
  let v2112 : BitVec 32 := Scalar.addi v2111 c0_i32_1788
  let v2114 : BitVec 32 := Scalar.addi c16_i32_1790 v2112
  ![v2114.toNat]
def k0_off360 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1786 : BitVec 32 := 4#32
  let v2109 : BitVec 32 := Scalar.muli v1617 c4_i32_1786
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2110 : BitVec 32 := Scalar.addi v2109 v2108
  let c32_i32_1791 : BitVec 32 := 32#32
  let v2115 : BitVec 32 := Scalar.muli v2110 c32_i32_1791
  let c0_i32_1792 : BitVec 32 := 0#32
  let v2116 : BitVec 32 := Scalar.addi v2115 c0_i32_1792
  let c0_i32_2312 : BitVec 32 := 0#32
  ![v2116.toNat, 0]
def k0_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1794 : BitVec 32 := 2#32
  let v2119 : BitVec 1 := Scalar.cmpi .slt v2108 c2_i32_1794
  let v2120 : BitVec 1 := Scalar.andi v2107 v2119
  let v2127 : BitVec 32 := Scalar.extui v2120
  let c0_i32_1801 : BitVec 32 := 0#32
  let v2128 : BitVec 1 := Scalar.cmpi .ne v2127 c0_i32_1801
  v2128

def k0_off361 (d0 : Dev nD) : Fin 1 → Nat :=
  let c24_i32_1797 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1787 : BitVec 32 := 2#32
  let v2111 : BitVec 32 := Scalar.muli v2108 c2_i32_1787
  let c0_i32_1788 : BitVec 32 := 0#32
  let v2112 : BitVec 32 := Scalar.addi v2111 c0_i32_1788
  let v2123 : BitVec 32 := Scalar.addi c24_i32_1797 v2112
  ![v2123.toNat]
def k0_off362 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1786 : BitVec 32 := 4#32
  let v2109 : BitVec 32 := Scalar.muli v1617 c4_i32_1786
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2110 : BitVec 32 := Scalar.addi v2109 v2108
  let c32_i32_1799 : BitVec 32 := 32#32
  let v2125 : BitVec 32 := Scalar.muli v2110 c32_i32_1799
  let c0_i32_1800 : BitVec 32 := 0#32
  let v2126 : BitVec 32 := Scalar.addi v2125 c0_i32_1800
  let c0_i32_2312 : BitVec 32 := 0#32
  ![v2126.toNat, 0]
def k0_dev125 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let v2135 : BitVec 32 := Scalar.extui v2107
  let c0_i32_1808 : BitVec 32 := 0#32
  let v2136 : BitVec 1 := Scalar.cmpi .ne v2135 c0_i32_1808
  v2136

def k0_off363 (d0 : Dev nD) : Fin 1 → Nat :=
  let c16_i32_1805 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1802 : BitVec 32 := 2#32
  let v2129 : BitVec 32 := Scalar.muli v2108 c2_i32_1802
  let c1_i32_1803 : BitVec 32 := 1#32
  let v2130 : BitVec 32 := Scalar.addi v2129 c1_i32_1803
  let v2132 : BitVec 32 := Scalar.addi c16_i32_1805 v2130
  ![v2132.toNat]
def k0_off364 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1786 : BitVec 32 := 4#32
  let v2109 : BitVec 32 := Scalar.muli v1617 c4_i32_1786
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2110 : BitVec 32 := Scalar.addi v2109 v2108
  let c32_i32_1806 : BitVec 32 := 32#32
  let v2133 : BitVec 32 := Scalar.muli v2110 c32_i32_1806
  let c16_i32_1807 : BitVec 32 := 16#32
  let v2134 : BitVec 32 := Scalar.addi v2133 c16_i32_1807
  let c0_i32_2312 : BitVec 32 := 0#32
  ![v2134.toNat, 0]
def k0_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1809 : BitVec 32 := 2#32
  let v2137 : BitVec 1 := Scalar.cmpi .slt v2108 c2_i32_1809
  let v2138 : BitVec 1 := Scalar.andi v2107 v2137
  let v2145 : BitVec 32 := Scalar.extui v2138
  let c0_i32_1816 : BitVec 32 := 0#32
  let v2146 : BitVec 1 := Scalar.cmpi .ne v2145 c0_i32_1816
  v2146

def k0_off365 (d0 : Dev nD) : Fin 1 → Nat :=
  let c24_i32_1812 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1802 : BitVec 32 := 2#32
  let v2129 : BitVec 32 := Scalar.muli v2108 c2_i32_1802
  let c1_i32_1803 : BitVec 32 := 1#32
  let v2130 : BitVec 32 := Scalar.addi v2129 c1_i32_1803
  let v2141 : BitVec 32 := Scalar.addi c24_i32_1812 v2130
  ![v2141.toNat]
def k0_off366 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1786 : BitVec 32 := 4#32
  let v2109 : BitVec 32 := Scalar.muli v1617 c4_i32_1786
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2110 : BitVec 32 := Scalar.addi v2109 v2108
  let c32_i32_1814 : BitVec 32 := 32#32
  let v2143 : BitVec 32 := Scalar.muli v2110 c32_i32_1814
  let c16_i32_1815 : BitVec 32 := 16#32
  let v2144 : BitVec 32 := Scalar.addi v2143 c16_i32_1815
  let c0_i32_2312 : BitVec 32 := 0#32
  ![v2144.toNat, 0]
def k0_dev126 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_6 : BitVec 32 := 1#32
  let v29 : BitVec 32 := Scalar.addi v28 c1_i32_6
  let c8_i32_7 : BitVec 32 := 8#32
  let v30 : BitVec 32 := Scalar.remsi v29 c8_i32_7
  let c3_i32_8 : BitVec 32 := 3#32
  let v31 : BitVec 1 := Scalar.cmpi .slt v30 c3_i32_8
  let c6_i32_9 : BitVec 32 := 6#32
  let v32 : BitVec 1 := Scalar.cmpi .slt v30 c6_i32_9
  let c2_i32_10 : BitVec 32 := 2#32
  let v33 : BitVec 32 := Scalar.addi v30 c2_i32_10
  let c10_i32 : BitVec 32 := 10#32
  let v34 : BitVec 32 := Scalar.subi c10_i32 v30
  let v35 : BitVec 32 := Scalar.select v32 v33 v34
  let v36 : BitVec 32 := Scalar.select v31 v30 v35
  let v37 : BitVec 32 := Scalar.addi v21 v36
  let c1_i32_2310 : BitVec 32 := 1#32
  let v2865 : BitVec 32 := Scalar.muli v37 c1_i32_2310
  let v2866 : BitVec 32 := Scalar.addi c0_i32_2311 v2865
  v2866.toNat
def k0_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let v2155 : BitVec 32 := Scalar.extui v2107
  let c0_i32_1824 : BitVec 32 := 0#32
  let v2156 : BitVec 1 := Scalar.cmpi .ne v2155 c0_i32_1824
  v2156

def k0_off367 (d0 : Dev nD) : Fin 1 → Nat :=
  let c16_i32_1821 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1818 : BitVec 32 := 2#32
  let v2149 : BitVec 32 := Scalar.muli v2108 c2_i32_1818
  let c0_i32_1819 : BitVec 32 := 0#32
  let v2150 : BitVec 32 := Scalar.addi v2149 c0_i32_1819
  let v2152 : BitVec 32 := Scalar.addi c16_i32_1821 v2150
  ![v2152.toNat]
def k0_off368 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1817 : BitVec 32 := 4#32
  let v2147 : BitVec 32 := Scalar.muli v1625 c4_i32_1817
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2148 : BitVec 32 := Scalar.addi v2147 v2108
  let c32_i32_1822 : BitVec 32 := 32#32
  let v2153 : BitVec 32 := Scalar.muli v2148 c32_i32_1822
  let c0_i32_1823 : BitVec 32 := 0#32
  let v2154 : BitVec 32 := Scalar.addi v2153 c0_i32_1823
  let c0_i32_2312 : BitVec 32 := 0#32
  ![v2154.toNat, 0]
def k0_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1825 : BitVec 32 := 2#32
  let v2157 : BitVec 1 := Scalar.cmpi .sge v2108 c2_i32_1825
  let v2158 : BitVec 1 := Scalar.andi v2107 v2157
  let v2165 : BitVec 32 := Scalar.extui v2158
  let c0_i32_1832 : BitVec 32 := 0#32
  let v2166 : BitVec 1 := Scalar.cmpi .ne v2165 c0_i32_1832
  v2166

def k0_off369 (d0 : Dev nD) : Fin 1 → Nat :=
  let c24_i32_1828 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1818 : BitVec 32 := 2#32
  let v2149 : BitVec 32 := Scalar.muli v2108 c2_i32_1818
  let c0_i32_1819 : BitVec 32 := 0#32
  let v2150 : BitVec 32 := Scalar.addi v2149 c0_i32_1819
  let v2161 : BitVec 32 := Scalar.addi c24_i32_1828 v2150
  ![v2161.toNat]
def k0_off370 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1817 : BitVec 32 := 4#32
  let v2147 : BitVec 32 := Scalar.muli v1625 c4_i32_1817
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2148 : BitVec 32 := Scalar.addi v2147 v2108
  let c32_i32_1830 : BitVec 32 := 32#32
  let v2163 : BitVec 32 := Scalar.muli v2148 c32_i32_1830
  let c0_i32_1831 : BitVec 32 := 0#32
  let v2164 : BitVec 32 := Scalar.addi v2163 c0_i32_1831
  let c0_i32_2312 : BitVec 32 := 0#32
  ![v2164.toNat, 0]
def k0_dev127 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let v2173 : BitVec 32 := Scalar.extui v2107
  let c0_i32_1839 : BitVec 32 := 0#32
  let v2174 : BitVec 1 := Scalar.cmpi .ne v2173 c0_i32_1839
  v2174

def k0_off371 (d0 : Dev nD) : Fin 1 → Nat :=
  let c16_i32_1836 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1833 : BitVec 32 := 2#32
  let v2167 : BitVec 32 := Scalar.muli v2108 c2_i32_1833
  let c1_i32_1834 : BitVec 32 := 1#32
  let v2168 : BitVec 32 := Scalar.addi v2167 c1_i32_1834
  let v2170 : BitVec 32 := Scalar.addi c16_i32_1836 v2168
  ![v2170.toNat]
def k0_off372 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1817 : BitVec 32 := 4#32
  let v2147 : BitVec 32 := Scalar.muli v1625 c4_i32_1817
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2148 : BitVec 32 := Scalar.addi v2147 v2108
  let c32_i32_1837 : BitVec 32 := 32#32
  let v2171 : BitVec 32 := Scalar.muli v2148 c32_i32_1837
  let c16_i32_1838 : BitVec 32 := 16#32
  let v2172 : BitVec 32 := Scalar.addi v2171 c16_i32_1838
  let c0_i32_2312 : BitVec 32 := 0#32
  ![v2172.toNat, 0]
def k0_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1840 : BitVec 32 := 2#32
  let v2175 : BitVec 1 := Scalar.cmpi .sge v2108 c2_i32_1840
  let v2176 : BitVec 1 := Scalar.andi v2107 v2175
  let v2183 : BitVec 32 := Scalar.extui v2176
  let c0_i32_1847 : BitVec 32 := 0#32
  let v2184 : BitVec 1 := Scalar.cmpi .ne v2183 c0_i32_1847
  v2184

def k0_off373 (d0 : Dev nD) : Fin 1 → Nat :=
  let c24_i32_1843 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1833 : BitVec 32 := 2#32
  let v2167 : BitVec 32 := Scalar.muli v2108 c2_i32_1833
  let c1_i32_1834 : BitVec 32 := 1#32
  let v2168 : BitVec 32 := Scalar.addi v2167 c1_i32_1834
  let v2179 : BitVec 32 := Scalar.addi c24_i32_1843 v2168
  ![v2179.toNat]
def k0_off374 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1817 : BitVec 32 := 4#32
  let v2147 : BitVec 32 := Scalar.muli v1625 c4_i32_1817
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2148 : BitVec 32 := Scalar.addi v2147 v2108
  let c32_i32_1845 : BitVec 32 := 32#32
  let v2181 : BitVec 32 := Scalar.muli v2148 c32_i32_1845
  let c16_i32_1846 : BitVec 32 := 16#32
  let v2182 : BitVec 32 := Scalar.addi v2181 c16_i32_1846
  let c0_i32_2312 : BitVec 32 := 0#32
  ![v2182.toNat, 0]
def k0_dev128 (d0 : Dev nD) : Nat :=
  let c0_i32_2311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.subi v2 v20
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c7_i32_11 : BitVec 32 := 7#32
  let v38 : BitVec 32 := Scalar.addi v28 c7_i32_11
  let c8_i32_12 : BitVec 32 := 8#32
  let v39 : BitVec 32 := Scalar.remsi v38 c8_i32_12
  let c3_i32_13 : BitVec 32 := 3#32
  let v40 : BitVec 1 := Scalar.cmpi .slt v39 c3_i32_13
  let c6_i32_14 : BitVec 32 := 6#32
  let v41 : BitVec 1 := Scalar.cmpi .slt v39 c6_i32_14
  let c2_i32_15 : BitVec 32 := 2#32
  let v42 : BitVec 32 := Scalar.addi v39 c2_i32_15
  let c10_i32_16 : BitVec 32 := 10#32
  let v43 : BitVec 32 := Scalar.subi c10_i32_16 v39
  let v44 : BitVec 32 := Scalar.select v41 v42 v43
  let v45 : BitVec 32 := Scalar.select v40 v39 v44
  let v46 : BitVec 32 := Scalar.addi v21 v45
  let c1_i32_2310 : BitVec 32 := 1#32
  let v2865 : BitVec 32 := Scalar.muli v46 c1_i32_2310
  let v2866 : BitVec 32 := Scalar.addi c0_i32_2311 v2865
  v2866.toNat
def k0_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1856 : BitVec 32 := 2#32
  let v2195 : BitVec 1 := Scalar.cmpi .slt v19 c2_i32_1856
  let v2202 : BitVec 32 := Scalar.extui v2195
  let c0_i32_1862 : BitVec 32 := 0#32
  let v2203 : BitVec 1 := Scalar.cmpi .ne v2202 c0_i32_1862
  v2203

def k0_off375 (d0 : Dev nD) : Fin 1 → Nat :=
  let c24_i32_1859 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1854 : BitVec 32 := 2#32
  let v2193 : BitVec 32 := Scalar.muli v19 c2_i32_1854
  let c0_i32_1855 : BitVec 32 := 0#32
  let v2194 : BitVec 32 := Scalar.addi v2193 c0_i32_1855
  let v2199 : BitVec 32 := Scalar.addi c24_i32_1859 v2194
  ![v2199.toNat]
def k0_off376 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1857 : BitVec 32 := 4#32
  let v2196 : BitVec 32 := Scalar.muli v2192 c4_i32_1857
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2197 : BitVec 32 := Scalar.addi v2196 v19
  let c32_i32_1860 : BitVec 32 := 32#32
  let v2200 : BitVec 32 := Scalar.muli v2197 c32_i32_1860
  let c0_i32_1861 : BitVec 32 := 0#32
  let v2201 : BitVec 32 := Scalar.addi v2200 c0_i32_1861
  let c0_i32_2312 : BitVec 32 := 0#32
  ![v2201.toNat, 0]
def k0_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1863 : BitVec 32 := 2#32
  let v2204 : BitVec 1 := Scalar.cmpi .sge v19 c2_i32_1863
  let v2211 : BitVec 32 := Scalar.extui v2204
  let c0_i32_1869 : BitVec 32 := 0#32
  let v2212 : BitVec 1 := Scalar.cmpi .ne v2211 c0_i32_1869
  v2212

def k0_off377 (d0 : Dev nD) : Fin 1 → Nat :=
  let c24_i32_1866 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1854 : BitVec 32 := 2#32
  let v2193 : BitVec 32 := Scalar.muli v19 c2_i32_1854
  let c0_i32_1855 : BitVec 32 := 0#32
  let v2194 : BitVec 32 := Scalar.addi v2193 c0_i32_1855
  let v2208 : BitVec 32 := Scalar.addi c24_i32_1866 v2194
  ![v2208.toNat]
def k0_off378 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1864 : BitVec 32 := 4#32
  let v2205 : BitVec 32 := Scalar.muli v2192 c4_i32_1864
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2206 : BitVec 32 := Scalar.addi v2205 v19
  let c32_i32_1867 : BitVec 32 := 32#32
  let v2209 : BitVec 32 := Scalar.muli v2206 c32_i32_1867
  let c0_i32_1868 : BitVec 32 := 0#32
  let v2210 : BitVec 32 := Scalar.addi v2209 c0_i32_1868
  let c0_i32_2312 : BitVec 32 := 0#32
  ![v2210.toNat, 0]
def k0_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1872 : BitVec 32 := 2#32
  let v2215 : BitVec 1 := Scalar.cmpi .slt v19 c2_i32_1872
  let v2222 : BitVec 32 := Scalar.extui v2215
  let c0_i32_1878 : BitVec 32 := 0#32
  let v2223 : BitVec 1 := Scalar.cmpi .ne v2222 c0_i32_1878
  v2223

def k0_off379 (d0 : Dev nD) : Fin 1 → Nat :=
  let c24_i32_1875 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1870 : BitVec 32 := 2#32
  let v2213 : BitVec 32 := Scalar.muli v19 c2_i32_1870
  let c1_i32_1871 : BitVec 32 := 1#32
  let v2214 : BitVec 32 := Scalar.addi v2213 c1_i32_1871
  let v2219 : BitVec 32 := Scalar.addi c24_i32_1875 v2214
  ![v2219.toNat]
def k0_off380 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1873 : BitVec 32 := 4#32
  let v2216 : BitVec 32 := Scalar.muli v2192 c4_i32_1873
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2217 : BitVec 32 := Scalar.addi v2216 v19
  let c32_i32_1876 : BitVec 32 := 32#32
  let v2220 : BitVec 32 := Scalar.muli v2217 c32_i32_1876
  let c16_i32_1877 : BitVec 32 := 16#32
  let v2221 : BitVec 32 := Scalar.addi v2220 c16_i32_1877
  let c0_i32_2312 : BitVec 32 := 0#32
  ![v2221.toNat, 0]
def k0_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1879 : BitVec 32 := 2#32
  let v2224 : BitVec 1 := Scalar.cmpi .sge v19 c2_i32_1879
  let v2231 : BitVec 32 := Scalar.extui v2224
  let c0_i32_1885 : BitVec 32 := 0#32
  let v2232 : BitVec 1 := Scalar.cmpi .ne v2231 c0_i32_1885
  v2232

def k0_off381 (d0 : Dev nD) : Fin 1 → Nat :=
  let c24_i32_1882 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1870 : BitVec 32 := 2#32
  let v2213 : BitVec 32 := Scalar.muli v19 c2_i32_1870
  let c1_i32_1871 : BitVec 32 := 1#32
  let v2214 : BitVec 32 := Scalar.addi v2213 c1_i32_1871
  let v2228 : BitVec 32 := Scalar.addi c24_i32_1882 v2214
  ![v2228.toNat]
def k0_off382 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1880 : BitVec 32 := 4#32
  let v2225 : BitVec 32 := Scalar.muli v2192 c4_i32_1880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2226 : BitVec 32 := Scalar.addi v2225 v19
  let c32_i32_1883 : BitVec 32 := 32#32
  let v2229 : BitVec 32 := Scalar.muli v2226 c32_i32_1883
  let c16_i32_1884 : BitVec 32 := 16#32
  let v2230 : BitVec 32 := Scalar.addi v2229 c16_i32_1884
  let c0_i32_2312 : BitVec 32 := 0#32
  ![v2230.toNat, 0]
def k0_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1886 : BitVec 32 := 1#32
  let v2233 : BitVec 1 := Scalar.cmpi .sge v19 c1_i32_1886
  let c1_i32_1887 : BitVec 32 := 1#32
  let v2234 : BitVec 32 := Scalar.subi v19 c1_i32_1887
  let c2_i32_1890 : BitVec 32 := 2#32
  let v2237 : BitVec 1 := Scalar.cmpi .slt v2234 c2_i32_1890
  let v2238 : BitVec 1 := Scalar.andi v2233 v2237
  let v2245 : BitVec 32 := Scalar.extui v2238
  let c0_i32_1896 : BitVec 32 := 0#32
  let v2246 : BitVec 1 := Scalar.cmpi .ne v2245 c0_i32_1896
  v2246

def k0_off383 (d0 : Dev nD) : Fin 1 → Nat :=
  let c24_i32_1893 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let c2_i32_1888 : BitVec 32 := 2#32
  let v2235 : BitVec 32 := Scalar.muli v2234 c2_i32_1888
  let c0_i32_1889 : BitVec 32 := 0#32
  let v2236 : BitVec 32 := Scalar.addi v2235 c0_i32_1889
  let v2242 : BitVec 32 := Scalar.addi c24_i32_1893 v2236
  ![v2242.toNat]
def k0_off384 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1891 : BitVec 32 := 4#32
  let v2239 : BitVec 32 := Scalar.muli v2192 c4_i32_1891
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let v2240 : BitVec 32 := Scalar.addi v2239 v2234
  let c32_i32_1894 : BitVec 32 := 32#32
  let v2243 : BitVec 32 := Scalar.muli v2240 c32_i32_1894
  let c0_i32_1895 : BitVec 32 := 0#32
  let v2244 : BitVec 32 := Scalar.addi v2243 c0_i32_1895
  let c0_i32_2312 : BitVec 32 := 0#32
  ![v2244.toNat, 0]
def k0_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1886 : BitVec 32 := 1#32
  let v2233 : BitVec 1 := Scalar.cmpi .sge v19 c1_i32_1886
  let c1_i32_1887 : BitVec 32 := 1#32
  let v2234 : BitVec 32 := Scalar.subi v19 c1_i32_1887
  let c2_i32_1897 : BitVec 32 := 2#32
  let v2247 : BitVec 1 := Scalar.cmpi .sge v2234 c2_i32_1897
  let v2248 : BitVec 1 := Scalar.andi v2233 v2247
  let v2255 : BitVec 32 := Scalar.extui v2248
  let c0_i32_1903 : BitVec 32 := 0#32
  let v2256 : BitVec 1 := Scalar.cmpi .ne v2255 c0_i32_1903
  v2256

def k0_off385 (d0 : Dev nD) : Fin 1 → Nat :=
  let c24_i32_1900 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let c2_i32_1888 : BitVec 32 := 2#32
  let v2235 : BitVec 32 := Scalar.muli v2234 c2_i32_1888
  let c0_i32_1889 : BitVec 32 := 0#32
  let v2236 : BitVec 32 := Scalar.addi v2235 c0_i32_1889
  let v2252 : BitVec 32 := Scalar.addi c24_i32_1900 v2236
  ![v2252.toNat]
def k0_off386 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1898 : BitVec 32 := 4#32
  let v2249 : BitVec 32 := Scalar.muli v2192 c4_i32_1898
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let v2250 : BitVec 32 := Scalar.addi v2249 v2234
  let c32_i32_1901 : BitVec 32 := 32#32
  let v2253 : BitVec 32 := Scalar.muli v2250 c32_i32_1901
  let c0_i32_1902 : BitVec 32 := 0#32
  let v2254 : BitVec 32 := Scalar.addi v2253 c0_i32_1902
  let c0_i32_2312 : BitVec 32 := 0#32
  ![v2254.toNat, 0]
def k0_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1886 : BitVec 32 := 1#32
  let v2233 : BitVec 1 := Scalar.cmpi .sge v19 c1_i32_1886
  let c1_i32_1887 : BitVec 32 := 1#32
  let v2234 : BitVec 32 := Scalar.subi v19 c1_i32_1887
  let c2_i32_1906 : BitVec 32 := 2#32
  let v2259 : BitVec 1 := Scalar.cmpi .slt v2234 c2_i32_1906
  let v2260 : BitVec 1 := Scalar.andi v2233 v2259
  let v2267 : BitVec 32 := Scalar.extui v2260
  let c0_i32_1912 : BitVec 32 := 0#32
  let v2268 : BitVec 1 := Scalar.cmpi .ne v2267 c0_i32_1912
  v2268

def k0_off387 (d0 : Dev nD) : Fin 1 → Nat :=
  let c24_i32_1909 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let c2_i32_1904 : BitVec 32 := 2#32
  let v2257 : BitVec 32 := Scalar.muli v2234 c2_i32_1904
  let c1_i32_1905 : BitVec 32 := 1#32
  let v2258 : BitVec 32 := Scalar.addi v2257 c1_i32_1905
  let v2264 : BitVec 32 := Scalar.addi c24_i32_1909 v2258
  ![v2264.toNat]
def k0_off388 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1907 : BitVec 32 := 4#32
  let v2261 : BitVec 32 := Scalar.muli v2192 c4_i32_1907
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let v2262 : BitVec 32 := Scalar.addi v2261 v2234
  let c32_i32_1910 : BitVec 32 := 32#32
  let v2265 : BitVec 32 := Scalar.muli v2262 c32_i32_1910
  let c16_i32_1911 : BitVec 32 := 16#32
  let v2266 : BitVec 32 := Scalar.addi v2265 c16_i32_1911
  let c0_i32_2312 : BitVec 32 := 0#32
  ![v2266.toNat, 0]
def k0_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1886 : BitVec 32 := 1#32
  let v2233 : BitVec 1 := Scalar.cmpi .sge v19 c1_i32_1886
  let c1_i32_1887 : BitVec 32 := 1#32
  let v2234 : BitVec 32 := Scalar.subi v19 c1_i32_1887
  let c2_i32_1913 : BitVec 32 := 2#32
  let v2269 : BitVec 1 := Scalar.cmpi .sge v2234 c2_i32_1913
  let v2270 : BitVec 1 := Scalar.andi v2233 v2269
  let v2277 : BitVec 32 := Scalar.extui v2270
  let c0_i32_1919 : BitVec 32 := 0#32
  let v2278 : BitVec 1 := Scalar.cmpi .ne v2277 c0_i32_1919
  v2278

def k0_off389 (d0 : Dev nD) : Fin 1 → Nat :=
  let c24_i32_1916 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let c2_i32_1904 : BitVec 32 := 2#32
  let v2257 : BitVec 32 := Scalar.muli v2234 c2_i32_1904
  let c1_i32_1905 : BitVec 32 := 1#32
  let v2258 : BitVec 32 := Scalar.addi v2257 c1_i32_1905
  let v2274 : BitVec 32 := Scalar.addi c24_i32_1916 v2258
  ![v2274.toNat]
def k0_off390 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1914 : BitVec 32 := 4#32
  let v2271 : BitVec 32 := Scalar.muli v2192 c4_i32_1914
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1887 : BitVec 32 := 1#32
  let v2234 : BitVec 32 := Scalar.subi v19 c1_i32_1887
  let v2272 : BitVec 32 := Scalar.addi v2271 v2234
  let c32_i32_1917 : BitVec 32 := 32#32
  let v2275 : BitVec 32 := Scalar.muli v2272 c32_i32_1917
  let c16_i32_1918 : BitVec 32 := 16#32
  let v2276 : BitVec 32 := Scalar.addi v2275 c16_i32_1918
  let c0_i32_2312 : BitVec 32 := 0#32
  ![v2276.toNat, 0]
def k0_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1920 : BitVec 32 := 1#32
  let v2279 : BitVec 32 := Scalar.addi v19 c1_i32_1920
  let c3_i32_1921 : BitVec 32 := 3#32
  let v2280 : BitVec 1 := Scalar.cmpi .sle v2279 c3_i32_1921
  let c1_i32_1922 : BitVec 32 := 1#32
  let v2281 : BitVec 32 := Scalar.addi v19 c1_i32_1922
  let c2_i32_1925 : BitVec 32 := 2#32
  let v2284 : BitVec 1 := Scalar.cmpi .slt v2281 c2_i32_1925
  let v2285 : BitVec 1 := Scalar.andi v2280 v2284
  let v2292 : BitVec 32 := Scalar.extui v2285
  let c0_i32_1931 : BitVec 32 := 0#32
  let v2293 : BitVec 1 := Scalar.cmpi .ne v2292 c0_i32_1931
  v2293

def k0_off391 (d0 : Dev nD) : Fin 1 → Nat :=
  let c24_i32_1928 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let c2_i32_1923 : BitVec 32 := 2#32
  let v2282 : BitVec 32 := Scalar.muli v2281 c2_i32_1923
  let c0_i32_1924 : BitVec 32 := 0#32
  let v2283 : BitVec 32 := Scalar.addi v2282 c0_i32_1924
  let v2289 : BitVec 32 := Scalar.addi c24_i32_1928 v2283
  ![v2289.toNat]
def k0_off392 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1926 : BitVec 32 := 4#32
  let v2286 : BitVec 32 := Scalar.muli v2192 c4_i32_1926
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let v2287 : BitVec 32 := Scalar.addi v2286 v2281
  let c32_i32_1929 : BitVec 32 := 32#32
  let v2290 : BitVec 32 := Scalar.muli v2287 c32_i32_1929
  let c0_i32_1930 : BitVec 32 := 0#32
  let v2291 : BitVec 32 := Scalar.addi v2290 c0_i32_1930
  let c0_i32_2312 : BitVec 32 := 0#32
  ![v2291.toNat, 0]
def k0_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1920 : BitVec 32 := 1#32
  let v2279 : BitVec 32 := Scalar.addi v19 c1_i32_1920
  let c3_i32_1921 : BitVec 32 := 3#32
  let v2280 : BitVec 1 := Scalar.cmpi .sle v2279 c3_i32_1921
  let c1_i32_1922 : BitVec 32 := 1#32
  let v2281 : BitVec 32 := Scalar.addi v19 c1_i32_1922
  let c2_i32_1932 : BitVec 32 := 2#32
  let v2294 : BitVec 1 := Scalar.cmpi .sge v2281 c2_i32_1932
  let v2295 : BitVec 1 := Scalar.andi v2280 v2294
  let v2302 : BitVec 32 := Scalar.extui v2295
  let c0_i32_1938 : BitVec 32 := 0#32
  let v2303 : BitVec 1 := Scalar.cmpi .ne v2302 c0_i32_1938
  v2303

def k0_off393 (d0 : Dev nD) : Fin 1 → Nat :=
  let c24_i32_1935 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let c2_i32_1923 : BitVec 32 := 2#32
  let v2282 : BitVec 32 := Scalar.muli v2281 c2_i32_1923
  let c0_i32_1924 : BitVec 32 := 0#32
  let v2283 : BitVec 32 := Scalar.addi v2282 c0_i32_1924
  let v2299 : BitVec 32 := Scalar.addi c24_i32_1935 v2283
  ![v2299.toNat]
def k0_off394 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1933 : BitVec 32 := 4#32
  let v2296 : BitVec 32 := Scalar.muli v2192 c4_i32_1933
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let v2297 : BitVec 32 := Scalar.addi v2296 v2281
  let c32_i32_1936 : BitVec 32 := 32#32
  let v2300 : BitVec 32 := Scalar.muli v2297 c32_i32_1936
  let c0_i32_1937 : BitVec 32 := 0#32
  let v2301 : BitVec 32 := Scalar.addi v2300 c0_i32_1937
  let c0_i32_2312 : BitVec 32 := 0#32
  ![v2301.toNat, 0]
def k0_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1920 : BitVec 32 := 1#32
  let v2279 : BitVec 32 := Scalar.addi v19 c1_i32_1920
  let c3_i32_1921 : BitVec 32 := 3#32
  let v2280 : BitVec 1 := Scalar.cmpi .sle v2279 c3_i32_1921
  let c1_i32_1922 : BitVec 32 := 1#32
  let v2281 : BitVec 32 := Scalar.addi v19 c1_i32_1922
  let c2_i32_1941 : BitVec 32 := 2#32
  let v2306 : BitVec 1 := Scalar.cmpi .slt v2281 c2_i32_1941
  let v2307 : BitVec 1 := Scalar.andi v2280 v2306
  let v2314 : BitVec 32 := Scalar.extui v2307
  let c0_i32_1947 : BitVec 32 := 0#32
  let v2315 : BitVec 1 := Scalar.cmpi .ne v2314 c0_i32_1947
  v2315

def k0_off395 (d0 : Dev nD) : Fin 1 → Nat :=
  let c24_i32_1944 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let c2_i32_1939 : BitVec 32 := 2#32
  let v2304 : BitVec 32 := Scalar.muli v2281 c2_i32_1939
  let c1_i32_1940 : BitVec 32 := 1#32
  let v2305 : BitVec 32 := Scalar.addi v2304 c1_i32_1940
  let v2311 : BitVec 32 := Scalar.addi c24_i32_1944 v2305
  ![v2311.toNat]
def k0_off396 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1942 : BitVec 32 := 4#32
  let v2308 : BitVec 32 := Scalar.muli v2192 c4_i32_1942
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let v2309 : BitVec 32 := Scalar.addi v2308 v2281
  let c32_i32_1945 : BitVec 32 := 32#32
  let v2312 : BitVec 32 := Scalar.muli v2309 c32_i32_1945
  let c16_i32_1946 : BitVec 32 := 16#32
  let v2313 : BitVec 32 := Scalar.addi v2312 c16_i32_1946
  let c0_i32_2312 : BitVec 32 := 0#32
  ![v2313.toNat, 0]
def k0_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1920 : BitVec 32 := 1#32
  let v2279 : BitVec 32 := Scalar.addi v19 c1_i32_1920
  let c3_i32_1921 : BitVec 32 := 3#32
  let v2280 : BitVec 1 := Scalar.cmpi .sle v2279 c3_i32_1921
  let c1_i32_1922 : BitVec 32 := 1#32
  let v2281 : BitVec 32 := Scalar.addi v19 c1_i32_1922
  let c2_i32_1948 : BitVec 32 := 2#32
  let v2316 : BitVec 1 := Scalar.cmpi .sge v2281 c2_i32_1948
  let v2317 : BitVec 1 := Scalar.andi v2280 v2316
  let v2324 : BitVec 32 := Scalar.extui v2317
  let c0_i32_1954 : BitVec 32 := 0#32
  let v2325 : BitVec 1 := Scalar.cmpi .ne v2324 c0_i32_1954
  v2325

def k0_off397 (d0 : Dev nD) : Fin 1 → Nat :=
  let c24_i32_1951 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let c2_i32_1939 : BitVec 32 := 2#32
  let v2304 : BitVec 32 := Scalar.muli v2281 c2_i32_1939
  let c1_i32_1940 : BitVec 32 := 1#32
  let v2305 : BitVec 32 := Scalar.addi v2304 c1_i32_1940
  let v2321 : BitVec 32 := Scalar.addi c24_i32_1951 v2305
  ![v2321.toNat]
def k0_off398 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1949 : BitVec 32 := 4#32
  let v2318 : BitVec 32 := Scalar.muli v2192 c4_i32_1949
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1922 : BitVec 32 := 1#32
  let v2281 : BitVec 32 := Scalar.addi v19 c1_i32_1922
  let v2319 : BitVec 32 := Scalar.addi v2318 v2281
  let c32_i32_1952 : BitVec 32 := 32#32
  let v2322 : BitVec 32 := Scalar.muli v2319 c32_i32_1952
  let c16_i32_1953 : BitVec 32 := 16#32
  let v2323 : BitVec 32 := Scalar.addi v2322 c16_i32_1953
  let c0_i32_2312 : BitVec 32 := 0#32
  ![v2323.toNat, 0]
def k0_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1955 : BitVec 32 := 2#32
  let v2326 : BitVec 1 := Scalar.cmpi .sge v19 c2_i32_1955
  let c2_i32_1956 : BitVec 32 := 2#32
  let v2327 : BitVec 32 := Scalar.subi v19 c2_i32_1956
  let c2_i32_1959 : BitVec 32 := 2#32
  let v2330 : BitVec 1 := Scalar.cmpi .slt v2327 c2_i32_1959
  let v2331 : BitVec 1 := Scalar.andi v2326 v2330
  let v2338 : BitVec 32 := Scalar.extui v2331
  let c0_i32_1965 : BitVec 32 := 0#32
  let v2339 : BitVec 1 := Scalar.cmpi .ne v2338 c0_i32_1965
  v2339

def k0_off399 (d0 : Dev nD) : Fin 1 → Nat :=
  let c24_i32_1962 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let c2_i32_1957 : BitVec 32 := 2#32
  let v2328 : BitVec 32 := Scalar.muli v2327 c2_i32_1957
  let c0_i32_1958 : BitVec 32 := 0#32
  let v2329 : BitVec 32 := Scalar.addi v2328 c0_i32_1958
  let v2335 : BitVec 32 := Scalar.addi c24_i32_1962 v2329
  ![v2335.toNat]
def k0_off400 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1960 : BitVec 32 := 4#32
  let v2332 : BitVec 32 := Scalar.muli v2192 c4_i32_1960
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let v2333 : BitVec 32 := Scalar.addi v2332 v2327
  let c32_i32_1963 : BitVec 32 := 32#32
  let v2336 : BitVec 32 := Scalar.muli v2333 c32_i32_1963
  let c0_i32_1964 : BitVec 32 := 0#32
  let v2337 : BitVec 32 := Scalar.addi v2336 c0_i32_1964
  let c0_i32_2312 : BitVec 32 := 0#32
  ![v2337.toNat, 0]
def k0_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1955 : BitVec 32 := 2#32
  let v2326 : BitVec 1 := Scalar.cmpi .sge v19 c2_i32_1955
  let c2_i32_1956 : BitVec 32 := 2#32
  let v2327 : BitVec 32 := Scalar.subi v19 c2_i32_1956
  let c2_i32_1966 : BitVec 32 := 2#32
  let v2340 : BitVec 1 := Scalar.cmpi .sge v2327 c2_i32_1966
  let v2341 : BitVec 1 := Scalar.andi v2326 v2340
  let v2348 : BitVec 32 := Scalar.extui v2341
  let c0_i32_1972 : BitVec 32 := 0#32
  let v2349 : BitVec 1 := Scalar.cmpi .ne v2348 c0_i32_1972
  v2349

def k0_off401 (d0 : Dev nD) : Fin 1 → Nat :=
  let c24_i32_1969 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let c2_i32_1957 : BitVec 32 := 2#32
  let v2328 : BitVec 32 := Scalar.muli v2327 c2_i32_1957
  let c0_i32_1958 : BitVec 32 := 0#32
  let v2329 : BitVec 32 := Scalar.addi v2328 c0_i32_1958
  let v2345 : BitVec 32 := Scalar.addi c24_i32_1969 v2329
  ![v2345.toNat]
def k0_off402 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1967 : BitVec 32 := 4#32
  let v2342 : BitVec 32 := Scalar.muli v2192 c4_i32_1967
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let v2343 : BitVec 32 := Scalar.addi v2342 v2327
  let c32_i32_1970 : BitVec 32 := 32#32
  let v2346 : BitVec 32 := Scalar.muli v2343 c32_i32_1970
  let c0_i32_1971 : BitVec 32 := 0#32
  let v2347 : BitVec 32 := Scalar.addi v2346 c0_i32_1971
  let c0_i32_2312 : BitVec 32 := 0#32
  ![v2347.toNat, 0]
def k0_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1955 : BitVec 32 := 2#32
  let v2326 : BitVec 1 := Scalar.cmpi .sge v19 c2_i32_1955
  let c2_i32_1956 : BitVec 32 := 2#32
  let v2327 : BitVec 32 := Scalar.subi v19 c2_i32_1956
  let c2_i32_1975 : BitVec 32 := 2#32
  let v2352 : BitVec 1 := Scalar.cmpi .slt v2327 c2_i32_1975
  let v2353 : BitVec 1 := Scalar.andi v2326 v2352
  let v2360 : BitVec 32 := Scalar.extui v2353
  let c0_i32_1981 : BitVec 32 := 0#32
  let v2361 : BitVec 1 := Scalar.cmpi .ne v2360 c0_i32_1981
  v2361

def k0_off403 (d0 : Dev nD) : Fin 1 → Nat :=
  let c24_i32_1978 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let c2_i32_1973 : BitVec 32 := 2#32
  let v2350 : BitVec 32 := Scalar.muli v2327 c2_i32_1973
  let c1_i32_1974 : BitVec 32 := 1#32
  let v2351 : BitVec 32 := Scalar.addi v2350 c1_i32_1974
  let v2357 : BitVec 32 := Scalar.addi c24_i32_1978 v2351
  ![v2357.toNat]
def k0_off404 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1976 : BitVec 32 := 4#32
  let v2354 : BitVec 32 := Scalar.muli v2192 c4_i32_1976
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let v2355 : BitVec 32 := Scalar.addi v2354 v2327
  let c32_i32_1979 : BitVec 32 := 32#32
  let v2358 : BitVec 32 := Scalar.muli v2355 c32_i32_1979
  let c16_i32_1980 : BitVec 32 := 16#32
  let v2359 : BitVec 32 := Scalar.addi v2358 c16_i32_1980
  let c0_i32_2312 : BitVec 32 := 0#32
  ![v2359.toNat, 0]
def k0_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1955 : BitVec 32 := 2#32
  let v2326 : BitVec 1 := Scalar.cmpi .sge v19 c2_i32_1955
  let c2_i32_1956 : BitVec 32 := 2#32
  let v2327 : BitVec 32 := Scalar.subi v19 c2_i32_1956
  let c2_i32_1982 : BitVec 32 := 2#32
  let v2362 : BitVec 1 := Scalar.cmpi .sge v2327 c2_i32_1982
  let v2363 : BitVec 1 := Scalar.andi v2326 v2362
  let v2370 : BitVec 32 := Scalar.extui v2363
  let c0_i32_1988 : BitVec 32 := 0#32
  let v2371 : BitVec 1 := Scalar.cmpi .ne v2370 c0_i32_1988
  v2371

def k0_off405 (d0 : Dev nD) : Fin 1 → Nat :=
  let c24_i32_1985 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let c2_i32_1973 : BitVec 32 := 2#32
  let v2350 : BitVec 32 := Scalar.muli v2327 c2_i32_1973
  let c1_i32_1974 : BitVec 32 := 1#32
  let v2351 : BitVec 32 := Scalar.addi v2350 c1_i32_1974
  let v2367 : BitVec 32 := Scalar.addi c24_i32_1985 v2351
  ![v2367.toNat]
def k0_off406 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1983 : BitVec 32 := 4#32
  let v2364 : BitVec 32 := Scalar.muli v2192 c4_i32_1983
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1956 : BitVec 32 := 2#32
  let v2327 : BitVec 32 := Scalar.subi v19 c2_i32_1956
  let v2365 : BitVec 32 := Scalar.addi v2364 v2327
  let c32_i32_1986 : BitVec 32 := 32#32
  let v2368 : BitVec 32 := Scalar.muli v2365 c32_i32_1986
  let c16_i32_1987 : BitVec 32 := 16#32
  let v2369 : BitVec 32 := Scalar.addi v2368 c16_i32_1987
  let c0_i32_2312 : BitVec 32 := 0#32
  ![v2369.toNat, 0]
def k0_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1989 : BitVec 32 := 2#32
  let v2372 : BitVec 32 := Scalar.addi v19 c2_i32_1989
  let c3_i32_1990 : BitVec 32 := 3#32
  let v2373 : BitVec 1 := Scalar.cmpi .sle v2372 c3_i32_1990
  let c2_i32_1991 : BitVec 32 := 2#32
  let v2374 : BitVec 32 := Scalar.addi v19 c2_i32_1991
  let c2_i32_1994 : BitVec 32 := 2#32
  let v2377 : BitVec 1 := Scalar.cmpi .slt v2374 c2_i32_1994
  let v2378 : BitVec 1 := Scalar.andi v2373 v2377
  let v2385 : BitVec 32 := Scalar.extui v2378
  let c0_i32_2000 : BitVec 32 := 0#32
  let v2386 : BitVec 1 := Scalar.cmpi .ne v2385 c0_i32_2000
  v2386

def k0_off407 (d0 : Dev nD) : Fin 1 → Nat :=
  let c24_i32_1997 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let c2_i32_1992 : BitVec 32 := 2#32
  let v2375 : BitVec 32 := Scalar.muli v2374 c2_i32_1992
  let c0_i32_1993 : BitVec 32 := 0#32
  let v2376 : BitVec 32 := Scalar.addi v2375 c0_i32_1993
  let v2382 : BitVec 32 := Scalar.addi c24_i32_1997 v2376
  ![v2382.toNat]
def k0_off408 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_1995 : BitVec 32 := 4#32
  let v2379 : BitVec 32 := Scalar.muli v2192 c4_i32_1995
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let v2380 : BitVec 32 := Scalar.addi v2379 v2374
  let c32_i32_1998 : BitVec 32 := 32#32
  let v2383 : BitVec 32 := Scalar.muli v2380 c32_i32_1998
  let c0_i32_1999 : BitVec 32 := 0#32
  let v2384 : BitVec 32 := Scalar.addi v2383 c0_i32_1999
  let c0_i32_2312 : BitVec 32 := 0#32
  ![v2384.toNat, 0]
def k0_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1989 : BitVec 32 := 2#32
  let v2372 : BitVec 32 := Scalar.addi v19 c2_i32_1989
  let c3_i32_1990 : BitVec 32 := 3#32
  let v2373 : BitVec 1 := Scalar.cmpi .sle v2372 c3_i32_1990
  let c2_i32_1991 : BitVec 32 := 2#32
  let v2374 : BitVec 32 := Scalar.addi v19 c2_i32_1991
  let c2_i32_2001 : BitVec 32 := 2#32
  let v2387 : BitVec 1 := Scalar.cmpi .sge v2374 c2_i32_2001
  let v2388 : BitVec 1 := Scalar.andi v2373 v2387
  let v2395 : BitVec 32 := Scalar.extui v2388
  let c0_i32_2007 : BitVec 32 := 0#32
  let v2396 : BitVec 1 := Scalar.cmpi .ne v2395 c0_i32_2007
  v2396

def k0_off409 (d0 : Dev nD) : Fin 1 → Nat :=
  let c24_i32_2004 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let c2_i32_1992 : BitVec 32 := 2#32
  let v2375 : BitVec 32 := Scalar.muli v2374 c2_i32_1992
  let c0_i32_1993 : BitVec 32 := 0#32
  let v2376 : BitVec 32 := Scalar.addi v2375 c0_i32_1993
  let v2392 : BitVec 32 := Scalar.addi c24_i32_2004 v2376
  ![v2392.toNat]
def k0_off410 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2002 : BitVec 32 := 4#32
  let v2389 : BitVec 32 := Scalar.muli v2192 c4_i32_2002
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let v2390 : BitVec 32 := Scalar.addi v2389 v2374
  let c32_i32_2005 : BitVec 32 := 32#32
  let v2393 : BitVec 32 := Scalar.muli v2390 c32_i32_2005
  let c0_i32_2006 : BitVec 32 := 0#32
  let v2394 : BitVec 32 := Scalar.addi v2393 c0_i32_2006
  let c0_i32_2312 : BitVec 32 := 0#32
  ![v2394.toNat, 0]
def k0_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1989 : BitVec 32 := 2#32
  let v2372 : BitVec 32 := Scalar.addi v19 c2_i32_1989
  let c3_i32_1990 : BitVec 32 := 3#32
  let v2373 : BitVec 1 := Scalar.cmpi .sle v2372 c3_i32_1990
  let c2_i32_1991 : BitVec 32 := 2#32
  let v2374 : BitVec 32 := Scalar.addi v19 c2_i32_1991
  let c2_i32_2010 : BitVec 32 := 2#32
  let v2399 : BitVec 1 := Scalar.cmpi .slt v2374 c2_i32_2010
  let v2400 : BitVec 1 := Scalar.andi v2373 v2399
  let v2407 : BitVec 32 := Scalar.extui v2400
  let c0_i32_2016 : BitVec 32 := 0#32
  let v2408 : BitVec 1 := Scalar.cmpi .ne v2407 c0_i32_2016
  v2408

def k0_off411 (d0 : Dev nD) : Fin 1 → Nat :=
  let c24_i32_2013 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let c2_i32_2008 : BitVec 32 := 2#32
  let v2397 : BitVec 32 := Scalar.muli v2374 c2_i32_2008
  let c1_i32_2009 : BitVec 32 := 1#32
  let v2398 : BitVec 32 := Scalar.addi v2397 c1_i32_2009
  let v2404 : BitVec 32 := Scalar.addi c24_i32_2013 v2398
  ![v2404.toNat]
def k0_off412 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2011 : BitVec 32 := 4#32
  let v2401 : BitVec 32 := Scalar.muli v2192 c4_i32_2011
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let v2402 : BitVec 32 := Scalar.addi v2401 v2374
  let c32_i32_2014 : BitVec 32 := 32#32
  let v2405 : BitVec 32 := Scalar.muli v2402 c32_i32_2014
  let c16_i32_2015 : BitVec 32 := 16#32
  let v2406 : BitVec 32 := Scalar.addi v2405 c16_i32_2015
  let c0_i32_2312 : BitVec 32 := 0#32
  ![v2406.toNat, 0]
def k0_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1989 : BitVec 32 := 2#32
  let v2372 : BitVec 32 := Scalar.addi v19 c2_i32_1989
  let c3_i32_1990 : BitVec 32 := 3#32
  let v2373 : BitVec 1 := Scalar.cmpi .sle v2372 c3_i32_1990
  let c2_i32_1991 : BitVec 32 := 2#32
  let v2374 : BitVec 32 := Scalar.addi v19 c2_i32_1991
  let c2_i32_2017 : BitVec 32 := 2#32
  let v2409 : BitVec 1 := Scalar.cmpi .sge v2374 c2_i32_2017
  let v2410 : BitVec 1 := Scalar.andi v2373 v2409
  let v2417 : BitVec 32 := Scalar.extui v2410
  let c0_i32_2023 : BitVec 32 := 0#32
  let v2418 : BitVec 1 := Scalar.cmpi .ne v2417 c0_i32_2023
  v2418

def k0_off413 (d0 : Dev nD) : Fin 1 → Nat :=
  let c24_i32_2020 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let c2_i32_2008 : BitVec 32 := 2#32
  let v2397 : BitVec 32 := Scalar.muli v2374 c2_i32_2008
  let c1_i32_2009 : BitVec 32 := 1#32
  let v2398 : BitVec 32 := Scalar.addi v2397 c1_i32_2009
  let v2414 : BitVec 32 := Scalar.addi c24_i32_2020 v2398
  ![v2414.toNat]
def k0_off414 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2018 : BitVec 32 := 4#32
  let v2411 : BitVec 32 := Scalar.muli v2192 c4_i32_2018
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1991 : BitVec 32 := 2#32
  let v2374 : BitVec 32 := Scalar.addi v19 c2_i32_1991
  let v2412 : BitVec 32 := Scalar.addi v2411 v2374
  let c32_i32_2021 : BitVec 32 := 32#32
  let v2415 : BitVec 32 := Scalar.muli v2412 c32_i32_2021
  let c16_i32_2022 : BitVec 32 := 16#32
  let v2416 : BitVec 32 := Scalar.addi v2415 c16_i32_2022
  let c0_i32_2312 : BitVec 32 := 0#32
  ![v2416.toNat, 0]
def k0_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2024 : BitVec 32 := 3#32
  let v2419 : BitVec 1 := Scalar.cmpi .sge v19 c3_i32_2024
  let c3_i32_2025 : BitVec 32 := 3#32
  let v2420 : BitVec 32 := Scalar.subi v19 c3_i32_2025
  let c2_i32_2028 : BitVec 32 := 2#32
  let v2423 : BitVec 1 := Scalar.cmpi .slt v2420 c2_i32_2028
  let v2424 : BitVec 1 := Scalar.andi v2419 v2423
  let v2431 : BitVec 32 := Scalar.extui v2424
  let c0_i32_2034 : BitVec 32 := 0#32
  let v2432 : BitVec 1 := Scalar.cmpi .ne v2431 c0_i32_2034
  v2432

def k0_off415 (d0 : Dev nD) : Fin 1 → Nat :=
  let c24_i32_2031 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let c2_i32_2026 : BitVec 32 := 2#32
  let v2421 : BitVec 32 := Scalar.muli v2420 c2_i32_2026
  let c0_i32_2027 : BitVec 32 := 0#32
  let v2422 : BitVec 32 := Scalar.addi v2421 c0_i32_2027
  let v2428 : BitVec 32 := Scalar.addi c24_i32_2031 v2422
  ![v2428.toNat]
def k0_off416 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2029 : BitVec 32 := 4#32
  let v2425 : BitVec 32 := Scalar.muli v2192 c4_i32_2029
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let v2426 : BitVec 32 := Scalar.addi v2425 v2420
  let c32_i32_2032 : BitVec 32 := 32#32
  let v2429 : BitVec 32 := Scalar.muli v2426 c32_i32_2032
  let c0_i32_2033 : BitVec 32 := 0#32
  let v2430 : BitVec 32 := Scalar.addi v2429 c0_i32_2033
  let c0_i32_2312 : BitVec 32 := 0#32
  ![v2430.toNat, 0]
def k0_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2024 : BitVec 32 := 3#32
  let v2419 : BitVec 1 := Scalar.cmpi .sge v19 c3_i32_2024
  let c3_i32_2025 : BitVec 32 := 3#32
  let v2420 : BitVec 32 := Scalar.subi v19 c3_i32_2025
  let c2_i32_2035 : BitVec 32 := 2#32
  let v2433 : BitVec 1 := Scalar.cmpi .sge v2420 c2_i32_2035
  let v2434 : BitVec 1 := Scalar.andi v2419 v2433
  let v2441 : BitVec 32 := Scalar.extui v2434
  let c0_i32_2041 : BitVec 32 := 0#32
  let v2442 : BitVec 1 := Scalar.cmpi .ne v2441 c0_i32_2041
  v2442

def k0_off417 (d0 : Dev nD) : Fin 1 → Nat :=
  let c24_i32_2038 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let c2_i32_2026 : BitVec 32 := 2#32
  let v2421 : BitVec 32 := Scalar.muli v2420 c2_i32_2026
  let c0_i32_2027 : BitVec 32 := 0#32
  let v2422 : BitVec 32 := Scalar.addi v2421 c0_i32_2027
  let v2438 : BitVec 32 := Scalar.addi c24_i32_2038 v2422
  ![v2438.toNat]
def k0_off418 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2036 : BitVec 32 := 4#32
  let v2435 : BitVec 32 := Scalar.muli v2192 c4_i32_2036
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let v2436 : BitVec 32 := Scalar.addi v2435 v2420
  let c32_i32_2039 : BitVec 32 := 32#32
  let v2439 : BitVec 32 := Scalar.muli v2436 c32_i32_2039
  let c0_i32_2040 : BitVec 32 := 0#32
  let v2440 : BitVec 32 := Scalar.addi v2439 c0_i32_2040
  let c0_i32_2312 : BitVec 32 := 0#32
  ![v2440.toNat, 0]
def k0_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2024 : BitVec 32 := 3#32
  let v2419 : BitVec 1 := Scalar.cmpi .sge v19 c3_i32_2024
  let c3_i32_2025 : BitVec 32 := 3#32
  let v2420 : BitVec 32 := Scalar.subi v19 c3_i32_2025
  let c2_i32_2044 : BitVec 32 := 2#32
  let v2445 : BitVec 1 := Scalar.cmpi .slt v2420 c2_i32_2044
  let v2446 : BitVec 1 := Scalar.andi v2419 v2445
  let v2453 : BitVec 32 := Scalar.extui v2446
  let c0_i32_2050 : BitVec 32 := 0#32
  let v2454 : BitVec 1 := Scalar.cmpi .ne v2453 c0_i32_2050
  v2454

def k0_off419 (d0 : Dev nD) : Fin 1 → Nat :=
  let c24_i32_2047 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let c2_i32_2042 : BitVec 32 := 2#32
  let v2443 : BitVec 32 := Scalar.muli v2420 c2_i32_2042
  let c1_i32_2043 : BitVec 32 := 1#32
  let v2444 : BitVec 32 := Scalar.addi v2443 c1_i32_2043
  let v2450 : BitVec 32 := Scalar.addi c24_i32_2047 v2444
  ![v2450.toNat]
def k0_off420 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2045 : BitVec 32 := 4#32
  let v2447 : BitVec 32 := Scalar.muli v2192 c4_i32_2045
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let v2448 : BitVec 32 := Scalar.addi v2447 v2420
  let c32_i32_2048 : BitVec 32 := 32#32
  let v2451 : BitVec 32 := Scalar.muli v2448 c32_i32_2048
  let c16_i32_2049 : BitVec 32 := 16#32
  let v2452 : BitVec 32 := Scalar.addi v2451 c16_i32_2049
  let c0_i32_2312 : BitVec 32 := 0#32
  ![v2452.toNat, 0]
def k0_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2024 : BitVec 32 := 3#32
  let v2419 : BitVec 1 := Scalar.cmpi .sge v19 c3_i32_2024
  let c3_i32_2025 : BitVec 32 := 3#32
  let v2420 : BitVec 32 := Scalar.subi v19 c3_i32_2025
  let c2_i32_2051 : BitVec 32 := 2#32
  let v2455 : BitVec 1 := Scalar.cmpi .sge v2420 c2_i32_2051
  let v2456 : BitVec 1 := Scalar.andi v2419 v2455
  let v2463 : BitVec 32 := Scalar.extui v2456
  let c0_i32_2057 : BitVec 32 := 0#32
  let v2464 : BitVec 1 := Scalar.cmpi .ne v2463 c0_i32_2057
  v2464

def k0_off421 (d0 : Dev nD) : Fin 1 → Nat :=
  let c24_i32_2054 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let c2_i32_2042 : BitVec 32 := 2#32
  let v2443 : BitVec 32 := Scalar.muli v2420 c2_i32_2042
  let c1_i32_2043 : BitVec 32 := 1#32
  let v2444 : BitVec 32 := Scalar.addi v2443 c1_i32_2043
  let v2460 : BitVec 32 := Scalar.addi c24_i32_2054 v2444
  ![v2460.toNat]
def k0_off422 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2052 : BitVec 32 := 4#32
  let v2457 : BitVec 32 := Scalar.muli v2192 c4_i32_2052
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2025 : BitVec 32 := 3#32
  let v2420 : BitVec 32 := Scalar.subi v19 c3_i32_2025
  let v2458 : BitVec 32 := Scalar.addi v2457 v2420
  let c32_i32_2055 : BitVec 32 := 32#32
  let v2461 : BitVec 32 := Scalar.muli v2458 c32_i32_2055
  let c16_i32_2056 : BitVec 32 := 16#32
  let v2462 : BitVec 32 := Scalar.addi v2461 c16_i32_2056
  let c0_i32_2312 : BitVec 32 := 0#32
  ![v2462.toNat, 0]
def k0_cond225 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2058 : BitVec 32 := 3#32
  let v2465 : BitVec 32 := Scalar.addi v19 c3_i32_2058
  let c3_i32_2059 : BitVec 32 := 3#32
  let v2466 : BitVec 1 := Scalar.cmpi .sle v2465 c3_i32_2059
  let c3_i32_2060 : BitVec 32 := 3#32
  let v2467 : BitVec 32 := Scalar.addi v19 c3_i32_2060
  let c2_i32_2063 : BitVec 32 := 2#32
  let v2470 : BitVec 1 := Scalar.cmpi .slt v2467 c2_i32_2063
  let v2471 : BitVec 1 := Scalar.andi v2466 v2470
  let v2478 : BitVec 32 := Scalar.extui v2471
  let c0_i32_2069 : BitVec 32 := 0#32
  let v2479 : BitVec 1 := Scalar.cmpi .ne v2478 c0_i32_2069
  v2479

def k0_off423 (d0 : Dev nD) : Fin 1 → Nat :=
  let c24_i32_2066 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let c2_i32_2061 : BitVec 32 := 2#32
  let v2468 : BitVec 32 := Scalar.muli v2467 c2_i32_2061
  let c0_i32_2062 : BitVec 32 := 0#32
  let v2469 : BitVec 32 := Scalar.addi v2468 c0_i32_2062
  let v2475 : BitVec 32 := Scalar.addi c24_i32_2066 v2469
  ![v2475.toNat]
def k0_off424 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2064 : BitVec 32 := 4#32
  let v2472 : BitVec 32 := Scalar.muli v2192 c4_i32_2064
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let v2473 : BitVec 32 := Scalar.addi v2472 v2467
  let c32_i32_2067 : BitVec 32 := 32#32
  let v2476 : BitVec 32 := Scalar.muli v2473 c32_i32_2067
  let c0_i32_2068 : BitVec 32 := 0#32
  let v2477 : BitVec 32 := Scalar.addi v2476 c0_i32_2068
  let c0_i32_2312 : BitVec 32 := 0#32
  ![v2477.toNat, 0]
def k0_cond226 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2058 : BitVec 32 := 3#32
  let v2465 : BitVec 32 := Scalar.addi v19 c3_i32_2058
  let c3_i32_2059 : BitVec 32 := 3#32
  let v2466 : BitVec 1 := Scalar.cmpi .sle v2465 c3_i32_2059
  let c3_i32_2060 : BitVec 32 := 3#32
  let v2467 : BitVec 32 := Scalar.addi v19 c3_i32_2060
  let c2_i32_2070 : BitVec 32 := 2#32
  let v2480 : BitVec 1 := Scalar.cmpi .sge v2467 c2_i32_2070
  let v2481 : BitVec 1 := Scalar.andi v2466 v2480
  let v2488 : BitVec 32 := Scalar.extui v2481
  let c0_i32_2076 : BitVec 32 := 0#32
  let v2489 : BitVec 1 := Scalar.cmpi .ne v2488 c0_i32_2076
  v2489

def k0_off425 (d0 : Dev nD) : Fin 1 → Nat :=
  let c24_i32_2073 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let c2_i32_2061 : BitVec 32 := 2#32
  let v2468 : BitVec 32 := Scalar.muli v2467 c2_i32_2061
  let c0_i32_2062 : BitVec 32 := 0#32
  let v2469 : BitVec 32 := Scalar.addi v2468 c0_i32_2062
  let v2485 : BitVec 32 := Scalar.addi c24_i32_2073 v2469
  ![v2485.toNat]
def k0_off426 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2071 : BitVec 32 := 4#32
  let v2482 : BitVec 32 := Scalar.muli v2192 c4_i32_2071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let v2483 : BitVec 32 := Scalar.addi v2482 v2467
  let c32_i32_2074 : BitVec 32 := 32#32
  let v2486 : BitVec 32 := Scalar.muli v2483 c32_i32_2074
  let c0_i32_2075 : BitVec 32 := 0#32
  let v2487 : BitVec 32 := Scalar.addi v2486 c0_i32_2075
  let c0_i32_2312 : BitVec 32 := 0#32
  ![v2487.toNat, 0]
def k0_cond227 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2058 : BitVec 32 := 3#32
  let v2465 : BitVec 32 := Scalar.addi v19 c3_i32_2058
  let c3_i32_2059 : BitVec 32 := 3#32
  let v2466 : BitVec 1 := Scalar.cmpi .sle v2465 c3_i32_2059
  let c3_i32_2060 : BitVec 32 := 3#32
  let v2467 : BitVec 32 := Scalar.addi v19 c3_i32_2060
  let c2_i32_2079 : BitVec 32 := 2#32
  let v2492 : BitVec 1 := Scalar.cmpi .slt v2467 c2_i32_2079
  let v2493 : BitVec 1 := Scalar.andi v2466 v2492
  let v2500 : BitVec 32 := Scalar.extui v2493
  let c0_i32_2085 : BitVec 32 := 0#32
  let v2501 : BitVec 1 := Scalar.cmpi .ne v2500 c0_i32_2085
  v2501

def k0_off427 (d0 : Dev nD) : Fin 1 → Nat :=
  let c24_i32_2082 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let c2_i32_2077 : BitVec 32 := 2#32
  let v2490 : BitVec 32 := Scalar.muli v2467 c2_i32_2077
  let c1_i32_2078 : BitVec 32 := 1#32
  let v2491 : BitVec 32 := Scalar.addi v2490 c1_i32_2078
  let v2497 : BitVec 32 := Scalar.addi c24_i32_2082 v2491
  ![v2497.toNat]
def k0_off428 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2080 : BitVec 32 := 4#32
  let v2494 : BitVec 32 := Scalar.muli v2192 c4_i32_2080
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let v2495 : BitVec 32 := Scalar.addi v2494 v2467
  let c32_i32_2083 : BitVec 32 := 32#32
  let v2498 : BitVec 32 := Scalar.muli v2495 c32_i32_2083
  let c16_i32_2084 : BitVec 32 := 16#32
  let v2499 : BitVec 32 := Scalar.addi v2498 c16_i32_2084
  let c0_i32_2312 : BitVec 32 := 0#32
  ![v2499.toNat, 0]
def k0_cond228 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2058 : BitVec 32 := 3#32
  let v2465 : BitVec 32 := Scalar.addi v19 c3_i32_2058
  let c3_i32_2059 : BitVec 32 := 3#32
  let v2466 : BitVec 1 := Scalar.cmpi .sle v2465 c3_i32_2059
  let c3_i32_2060 : BitVec 32 := 3#32
  let v2467 : BitVec 32 := Scalar.addi v19 c3_i32_2060
  let c2_i32_2086 : BitVec 32 := 2#32
  let v2502 : BitVec 1 := Scalar.cmpi .sge v2467 c2_i32_2086
  let v2503 : BitVec 1 := Scalar.andi v2466 v2502
  let v2510 : BitVec 32 := Scalar.extui v2503
  let c0_i32_2092 : BitVec 32 := 0#32
  let v2511 : BitVec 1 := Scalar.cmpi .ne v2510 c0_i32_2092
  v2511

def k0_off429 (d0 : Dev nD) : Fin 1 → Nat :=
  let c24_i32_2089 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let c2_i32_2077 : BitVec 32 := 2#32
  let v2490 : BitVec 32 := Scalar.muli v2467 c2_i32_2077
  let c1_i32_2078 : BitVec 32 := 1#32
  let v2491 : BitVec 32 := Scalar.addi v2490 c1_i32_2078
  let v2507 : BitVec 32 := Scalar.addi c24_i32_2089 v2491
  ![v2507.toNat]
def k0_off430 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c4_i32_1848 : BitVec 32 := 4#32
  let v2185 : BitVec 32 := Scalar.addi v28 c4_i32_1848
  let c8_i32_1849 : BitVec 32 := 8#32
  let v2186 : BitVec 32 := Scalar.remsi v2185 c8_i32_1849
  let c3_i32_1850 : BitVec 32 := 3#32
  let v2187 : BitVec 1 := Scalar.cmpi .slt v2186 c3_i32_1850
  let c6_i32_1851 : BitVec 32 := 6#32
  let v2188 : BitVec 1 := Scalar.cmpi .slt v2186 c6_i32_1851
  let c2_i32_1852 : BitVec 32 := 2#32
  let v2189 : BitVec 32 := Scalar.addi v2186 c2_i32_1852
  let c10_i32_1853 : BitVec 32 := 10#32
  let v2190 : BitVec 32 := Scalar.subi c10_i32_1853 v2186
  let v2191 : BitVec 32 := Scalar.select v2188 v2189 v2190
  let v2192 : BitVec 32 := Scalar.select v2187 v2186 v2191
  let c4_i32_2087 : BitVec 32 := 4#32
  let v2504 : BitVec 32 := Scalar.muli v2192 c4_i32_2087
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2060 : BitVec 32 := 3#32
  let v2467 : BitVec 32 := Scalar.addi v19 c3_i32_2060
  let v2505 : BitVec 32 := Scalar.addi v2504 v2467
  let c32_i32_2090 : BitVec 32 := 32#32
  let v2508 : BitVec 32 := Scalar.muli v2505 c32_i32_2090
  let c16_i32_2091 : BitVec 32 := 16#32
  let v2509 : BitVec 32 := Scalar.addi v2508 c16_i32_2091
  let c0_i32_2312 : BitVec 32 := 0#32
  ![v2509.toNat, 0]
def k0_cond229 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_19 : BitVec 32 := 3#32
  let v49 : BitVec 1 := Scalar.cmpi .slt v19 c3_i32_19
  let v2512 : BitVec 32 := Scalar.extui v49
  let c0_i32_2095 : BitVec 32 := 0#32
  let v2513 : BitVec 1 := Scalar.cmpi .ne v2512 c0_i32_2095
  v2513

def k0_off431 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_34 : BitVec 32 := 32#32
  let v73 : BitVec 32 := Scalar.muli v65 c32_i32_34
  let c0_i32_35 : BitVec 32 := 0#32
  let v74 : BitVec 32 := Scalar.addi v73 c0_i32_35
  let c0_i32_2313 : BitVec 32 := 0#32
  ![v74.toNat, 0]
def k0_cond230 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_20 : BitVec 32 := 0#32
  let v50 : BitVec 1 := Scalar.cmpi .sgt v19 c0_i32_20
  let v2514 : BitVec 32 := Scalar.extui v50
  let c0_i32_2098 : BitVec 32 := 0#32
  let v2515 : BitVec 1 := Scalar.cmpi .ne v2514 c0_i32_2098
  v2515

def k0_off432 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_39 : BitVec 32 := 32#32
  let v77 : BitVec 32 := Scalar.muli v65 c32_i32_39
  let c0_i32_40 : BitVec 32 := 0#32
  let v78 : BitVec 32 := Scalar.addi v77 c0_i32_40
  let c0_i32_2313 : BitVec 32 := 0#32
  ![v78.toNat, 0]
def k0_cond231 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_19 : BitVec 32 := 3#32
  let v49 : BitVec 1 := Scalar.cmpi .slt v19 c3_i32_19
  let v2524 : BitVec 32 := Scalar.extui v49
  let c0_i32_2109 : BitVec 32 := 0#32
  let v2525 : BitVec 1 := Scalar.cmpi .ne v2524 c0_i32_2109
  v2525

def k0_off433 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_66 : BitVec 32 := 32#32
  let v109 : BitVec 32 := Scalar.muli v65 c32_i32_66
  let c16_i32 : BitVec 32 := 16#32
  let v110 : BitVec 32 := Scalar.addi v109 c16_i32
  let c0_i32_2313 : BitVec 32 := 0#32
  ![v110.toNat, 0]
def k0_cond232 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_20 : BitVec 32 := 0#32
  let v50 : BitVec 1 := Scalar.cmpi .sgt v19 c0_i32_20
  let v2526 : BitVec 32 := Scalar.extui v50
  let c0_i32_2112 : BitVec 32 := 0#32
  let v2527 : BitVec 1 := Scalar.cmpi .ne v2526 c0_i32_2112
  v2527

def k0_off434 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_30 : BitVec 32 := 4#32
  let v64 : BitVec 32 := Scalar.muli v20 c4_i32_30
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v65 : BitVec 32 := Scalar.addi v64 v19
  let c32_i32_70 : BitVec 32 := 32#32
  let v113 : BitVec 32 := Scalar.muli v65 c32_i32_70
  let c16_i32_71 : BitVec 32 := 16#32
  let v114 : BitVec 32 := Scalar.addi v113 c16_i32_71
  let c0_i32_2313 : BitVec 32 := 0#32
  ![v114.toNat, 0]
def k0_cond233 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let c3_i32_19 : BitVec 32 := 3#32
  let v49 : BitVec 1 := Scalar.cmpi .slt v19 c3_i32_19
  let v153 : BitVec 1 := Scalar.andi v146 v49
  let v2536 : BitVec 32 := Scalar.extui v153
  let c0_i32_2123 : BitVec 32 := 0#32
  let v2537 : BitVec 1 := Scalar.cmpi .ne v2536 c0_i32_2123
  v2537

def k0_off435 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_105 : BitVec 32 := 32#32
  let v154 : BitVec 32 := Scalar.muli v148 c32_i32_105
  let c0_i32_106 : BitVec 32 := 0#32
  let v155 : BitVec 32 := Scalar.addi v154 c0_i32_106
  let c0_i32_2311 : BitVec 32 := 0#32
  ![v155.toNat, 0]
def k0_cond234 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v2538 : BitVec 32 := Scalar.extui v146
  let c0_i32_2124 : BitVec 32 := 0#32
  let v2539 : BitVec 1 := Scalar.cmpi .ne v2538 c0_i32_2124
  v2539

def k0_off436 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_114 : BitVec 32 := 2#32
  let v162 : BitVec 32 := Scalar.muli v145 c2_i32_114
  let c0_i32_115 : BitVec 32 := 0#32
  let v163 : BitVec 32 := Scalar.addi v162 c0_i32_115
  ![v163.toNat]
def k0_off437 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_112 : BitVec 32 := 32#32
  let v160 : BitVec 32 := Scalar.muli v148 c32_i32_112
  let c0_i32_113 : BitVec 32 := 0#32
  let v161 : BitVec 32 := Scalar.addi v160 c0_i32_113
  let c0_i32_2311 : BitVec 32 := 0#32
  ![v161.toNat, 0]
def k0_cond235 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v2540 : BitVec 32 := Scalar.extui v146
  let c0_i32_2125 : BitVec 32 := 0#32
  let v2541 : BitVec 1 := Scalar.cmpi .ne v2540 c0_i32_2125
  v2541

def k0_off438 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_123 : BitVec 32 := 2#32
  let v172 : BitVec 32 := Scalar.muli v145 c2_i32_123
  let c0_i32_124 : BitVec 32 := 0#32
  let v173 : BitVec 32 := Scalar.addi v172 c0_i32_124
  ![v173.toNat]
def k0_off439 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_121 : BitVec 32 := 32#32
  let v170 : BitVec 32 := Scalar.muli v148 c32_i32_121
  let c0_i32_122 : BitVec 32 := 0#32
  let v171 : BitVec 32 := Scalar.addi v170 c0_i32_122
  let c0_i32_2311 : BitVec 32 := 0#32
  ![v171.toNat, 0]
def k0_cond236 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let c3_i32_19 : BitVec 32 := 3#32
  let v49 : BitVec 1 := Scalar.cmpi .slt v19 c3_i32_19
  let v184 : BitVec 1 := Scalar.andi v146 v49
  let v2542 : BitVec 32 := Scalar.extui v184
  let c0_i32_2128 : BitVec 32 := 0#32
  let v2543 : BitVec 1 := Scalar.cmpi .ne v2542 c0_i32_2128
  v2543

def k0_off440 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_135 : BitVec 32 := 32#32
  let v185 : BitVec 32 := Scalar.muli v148 c32_i32_135
  let c16_i32_136 : BitVec 32 := 16#32
  let v186 : BitVec 32 := Scalar.addi v185 c16_i32_136
  let c0_i32_2311 : BitVec 32 := 0#32
  ![v186.toNat, 0]
def k0_cond237 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v2544 : BitVec 32 := Scalar.extui v146
  let c0_i32_2129 : BitVec 32 := 0#32
  let v2545 : BitVec 1 := Scalar.cmpi .ne v2544 c0_i32_2129
  v2545

def k0_off441 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_144 : BitVec 32 := 2#32
  let v193 : BitVec 32 := Scalar.muli v145 c2_i32_144
  let c1_i32_145 : BitVec 32 := 1#32
  let v194 : BitVec 32 := Scalar.addi v193 c1_i32_145
  ![v194.toNat]
def k0_off442 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_142 : BitVec 32 := 32#32
  let v191 : BitVec 32 := Scalar.muli v148 c32_i32_142
  let c16_i32_143 : BitVec 32 := 16#32
  let v192 : BitVec 32 := Scalar.addi v191 c16_i32_143
  let c0_i32_2311 : BitVec 32 := 0#32
  ![v192.toNat, 0]
def k0_cond238 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_98 : BitVec 32 := 1#32
  let v146 : BitVec 1 := Scalar.cmpi .sge v19 c1_i32_98
  let v2546 : BitVec 32 := Scalar.extui v146
  let c0_i32_2130 : BitVec 32 := 0#32
  let v2547 : BitVec 1 := Scalar.cmpi .ne v2546 c0_i32_2130
  v2547

def k0_off443 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let c2_i32_153 : BitVec 32 := 2#32
  let v203 : BitVec 32 := Scalar.muli v145 c2_i32_153
  let c1_i32_154 : BitVec 32 := 1#32
  let v204 : BitVec 32 := Scalar.addi v203 c1_i32_154
  ![v204.toNat]
def k0_off444 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_99 : BitVec 32 := 4#32
  let v147 : BitVec 32 := Scalar.muli v20 c4_i32_99
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_97 : BitVec 32 := 1#32
  let v145 : BitVec 32 := Scalar.subi v19 c1_i32_97
  let v148 : BitVec 32 := Scalar.addi v147 v145
  let c32_i32_151 : BitVec 32 := 32#32
  let v201 : BitVec 32 := Scalar.muli v148 c32_i32_151
  let c16_i32_152 : BitVec 32 := 16#32
  let v202 : BitVec 32 := Scalar.addi v201 c16_i32_152
  let c0_i32_2311 : BitVec 32 := 0#32
  ![v202.toNat, 0]
def k0_cond239 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let c0_i32_20 : BitVec 32 := 0#32
  let v50 : BitVec 1 := Scalar.cmpi .sgt v19 c0_i32_20
  let v219 : BitVec 1 := Scalar.andi v212 v50
  let v2548 : BitVec 32 := Scalar.extui v219
  let c0_i32_2133 : BitVec 32 := 0#32
  let v2549 : BitVec 1 := Scalar.cmpi .ne v2548 c0_i32_2133
  v2549

def k0_off445 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_168 : BitVec 32 := 32#32
  let v220 : BitVec 32 := Scalar.muli v214 c32_i32_168
  let c0_i32_169 : BitVec 32 := 0#32
  let v221 : BitVec 32 := Scalar.addi v220 c0_i32_169
  let c0_i32_2311 : BitVec 32 := 0#32
  ![v221.toNat, 0]
def k0_cond240 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v2550 : BitVec 32 := Scalar.extui v212
  let c0_i32_2134 : BitVec 32 := 0#32
  let v2551 : BitVec 1 := Scalar.cmpi .ne v2550 c0_i32_2134
  v2551

def k0_off446 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_177 : BitVec 32 := 2#32
  let v228 : BitVec 32 := Scalar.muli v211 c2_i32_177
  let c0_i32_178 : BitVec 32 := 0#32
  let v229 : BitVec 32 := Scalar.addi v228 c0_i32_178
  ![v229.toNat]
def k0_off447 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_175 : BitVec 32 := 32#32
  let v226 : BitVec 32 := Scalar.muli v214 c32_i32_175
  let c0_i32_176 : BitVec 32 := 0#32
  let v227 : BitVec 32 := Scalar.addi v226 c0_i32_176
  let c0_i32_2311 : BitVec 32 := 0#32
  ![v227.toNat, 0]
def k0_cond241 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v2552 : BitVec 32 := Scalar.extui v212
  let c0_i32_2135 : BitVec 32 := 0#32
  let v2553 : BitVec 1 := Scalar.cmpi .ne v2552 c0_i32_2135
  v2553

def k0_off448 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_186 : BitVec 32 := 2#32
  let v238 : BitVec 32 := Scalar.muli v211 c2_i32_186
  let c0_i32_187 : BitVec 32 := 0#32
  let v239 : BitVec 32 := Scalar.addi v238 c0_i32_187
  ![v239.toNat]
def k0_off449 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_184 : BitVec 32 := 32#32
  let v236 : BitVec 32 := Scalar.muli v214 c32_i32_184
  let c0_i32_185 : BitVec 32 := 0#32
  let v237 : BitVec 32 := Scalar.addi v236 c0_i32_185
  let c0_i32_2311 : BitVec 32 := 0#32
  ![v237.toNat, 0]
def k0_cond242 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let c0_i32_20 : BitVec 32 := 0#32
  let v50 : BitVec 1 := Scalar.cmpi .sgt v19 c0_i32_20
  let v250 : BitVec 1 := Scalar.andi v212 v50
  let v2554 : BitVec 32 := Scalar.extui v250
  let c0_i32_2138 : BitVec 32 := 0#32
  let v2555 : BitVec 1 := Scalar.cmpi .ne v2554 c0_i32_2138
  v2555

def k0_off450 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_198 : BitVec 32 := 32#32
  let v251 : BitVec 32 := Scalar.muli v214 c32_i32_198
  let c16_i32_199 : BitVec 32 := 16#32
  let v252 : BitVec 32 := Scalar.addi v251 c16_i32_199
  let c0_i32_2311 : BitVec 32 := 0#32
  ![v252.toNat, 0]
def k0_cond243 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v2556 : BitVec 32 := Scalar.extui v212
  let c0_i32_2139 : BitVec 32 := 0#32
  let v2557 : BitVec 1 := Scalar.cmpi .ne v2556 c0_i32_2139
  v2557

def k0_off451 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_207 : BitVec 32 := 2#32
  let v259 : BitVec 32 := Scalar.muli v211 c2_i32_207
  let c1_i32_208 : BitVec 32 := 1#32
  let v260 : BitVec 32 := Scalar.addi v259 c1_i32_208
  ![v260.toNat]
def k0_off452 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_205 : BitVec 32 := 32#32
  let v257 : BitVec 32 := Scalar.muli v214 c32_i32_205
  let c16_i32_206 : BitVec 32 := 16#32
  let v258 : BitVec 32 := Scalar.addi v257 c16_i32_206
  let c0_i32_2311 : BitVec 32 := 0#32
  ![v258.toNat, 0]
def k0_cond244 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c3_i32_161 : BitVec 32 := 3#32
  let v212 : BitVec 1 := Scalar.cmpi .sle v211 c3_i32_161
  let v2558 : BitVec 32 := Scalar.extui v212
  let c0_i32_2140 : BitVec 32 := 0#32
  let v2559 : BitVec 1 := Scalar.cmpi .ne v2558 c0_i32_2140
  v2559

def k0_off453 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let c2_i32_216 : BitVec 32 := 2#32
  let v269 : BitVec 32 := Scalar.muli v211 c2_i32_216
  let c1_i32_217 : BitVec 32 := 1#32
  let v270 : BitVec 32 := Scalar.addi v269 c1_i32_217
  ![v270.toNat]
def k0_off454 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_162 : BitVec 32 := 4#32
  let v213 : BitVec 32 := Scalar.muli v20 c4_i32_162
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_160 : BitVec 32 := 1#32
  let v211 : BitVec 32 := Scalar.addi v19 c1_i32_160
  let v214 : BitVec 32 := Scalar.addi v213 v211
  let c32_i32_214 : BitVec 32 := 32#32
  let v267 : BitVec 32 := Scalar.muli v214 c32_i32_214
  let c16_i32_215 : BitVec 32 := 16#32
  let v268 : BitVec 32 := Scalar.addi v267 c16_i32_215
  let c0_i32_2311 : BitVec 32 := 0#32
  ![v268.toNat, 0]
def k0_cond245 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let c3_i32_19 : BitVec 32 := 3#32
  let v49 : BitVec 1 := Scalar.cmpi .slt v19 c3_i32_19
  let v285 : BitVec 1 := Scalar.andi v278 v49
  let v2560 : BitVec 32 := Scalar.extui v285
  let c0_i32_2143 : BitVec 32 := 0#32
  let v2561 : BitVec 1 := Scalar.cmpi .ne v2560 c0_i32_2143
  v2561

def k0_off455 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_231 : BitVec 32 := 32#32
  let v286 : BitVec 32 := Scalar.muli v280 c32_i32_231
  let c0_i32_232 : BitVec 32 := 0#32
  let v287 : BitVec 32 := Scalar.addi v286 c0_i32_232
  let c0_i32_2311 : BitVec 32 := 0#32
  ![v287.toNat, 0]
def k0_cond246 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v2562 : BitVec 32 := Scalar.extui v278
  let c0_i32_2144 : BitVec 32 := 0#32
  let v2563 : BitVec 1 := Scalar.cmpi .ne v2562 c0_i32_2144
  v2563

def k0_off456 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_240 : BitVec 32 := 2#32
  let v294 : BitVec 32 := Scalar.muli v277 c2_i32_240
  let c0_i32_241 : BitVec 32 := 0#32
  let v295 : BitVec 32 := Scalar.addi v294 c0_i32_241
  ![v295.toNat]
def k0_off457 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_238 : BitVec 32 := 32#32
  let v292 : BitVec 32 := Scalar.muli v280 c32_i32_238
  let c0_i32_239 : BitVec 32 := 0#32
  let v293 : BitVec 32 := Scalar.addi v292 c0_i32_239
  let c0_i32_2311 : BitVec 32 := 0#32
  ![v293.toNat, 0]
def k0_cond247 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v2564 : BitVec 32 := Scalar.extui v278
  let c0_i32_2145 : BitVec 32 := 0#32
  let v2565 : BitVec 1 := Scalar.cmpi .ne v2564 c0_i32_2145
  v2565

def k0_off458 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_249 : BitVec 32 := 2#32
  let v304 : BitVec 32 := Scalar.muli v277 c2_i32_249
  let c0_i32_250 : BitVec 32 := 0#32
  let v305 : BitVec 32 := Scalar.addi v304 c0_i32_250
  ![v305.toNat]
def k0_off459 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_247 : BitVec 32 := 32#32
  let v302 : BitVec 32 := Scalar.muli v280 c32_i32_247
  let c0_i32_248 : BitVec 32 := 0#32
  let v303 : BitVec 32 := Scalar.addi v302 c0_i32_248
  let c0_i32_2311 : BitVec 32 := 0#32
  ![v303.toNat, 0]
def k0_cond248 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let c3_i32_19 : BitVec 32 := 3#32
  let v49 : BitVec 1 := Scalar.cmpi .slt v19 c3_i32_19
  let v316 : BitVec 1 := Scalar.andi v278 v49
  let v2566 : BitVec 32 := Scalar.extui v316
  let c0_i32_2148 : BitVec 32 := 0#32
  let v2567 : BitVec 1 := Scalar.cmpi .ne v2566 c0_i32_2148
  v2567

def k0_off460 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_261 : BitVec 32 := 32#32
  let v317 : BitVec 32 := Scalar.muli v280 c32_i32_261
  let c16_i32_262 : BitVec 32 := 16#32
  let v318 : BitVec 32 := Scalar.addi v317 c16_i32_262
  let c0_i32_2311 : BitVec 32 := 0#32
  ![v318.toNat, 0]
def k0_cond249 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v2568 : BitVec 32 := Scalar.extui v278
  let c0_i32_2149 : BitVec 32 := 0#32
  let v2569 : BitVec 1 := Scalar.cmpi .ne v2568 c0_i32_2149
  v2569

def k0_off461 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_270 : BitVec 32 := 2#32
  let v325 : BitVec 32 := Scalar.muli v277 c2_i32_270
  let c1_i32_271 : BitVec 32 := 1#32
  let v326 : BitVec 32 := Scalar.addi v325 c1_i32_271
  ![v326.toNat]
def k0_off462 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_268 : BitVec 32 := 32#32
  let v323 : BitVec 32 := Scalar.muli v280 c32_i32_268
  let c16_i32_269 : BitVec 32 := 16#32
  let v324 : BitVec 32 := Scalar.addi v323 c16_i32_269
  let c0_i32_2311 : BitVec 32 := 0#32
  ![v324.toNat, 0]
def k0_cond250 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_224 : BitVec 32 := 2#32
  let v278 : BitVec 1 := Scalar.cmpi .sge v19 c2_i32_224
  let v2570 : BitVec 32 := Scalar.extui v278
  let c0_i32_2150 : BitVec 32 := 0#32
  let v2571 : BitVec 1 := Scalar.cmpi .ne v2570 c0_i32_2150
  v2571

def k0_off463 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let c2_i32_279 : BitVec 32 := 2#32
  let v335 : BitVec 32 := Scalar.muli v277 c2_i32_279
  let c1_i32_280 : BitVec 32 := 1#32
  let v336 : BitVec 32 := Scalar.addi v335 c1_i32_280
  ![v336.toNat]
def k0_off464 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_225 : BitVec 32 := 4#32
  let v279 : BitVec 32 := Scalar.muli v20 c4_i32_225
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_223 : BitVec 32 := 2#32
  let v277 : BitVec 32 := Scalar.subi v19 c2_i32_223
  let v280 : BitVec 32 := Scalar.addi v279 v277
  let c32_i32_277 : BitVec 32 := 32#32
  let v333 : BitVec 32 := Scalar.muli v280 c32_i32_277
  let c16_i32_278 : BitVec 32 := 16#32
  let v334 : BitVec 32 := Scalar.addi v333 c16_i32_278
  let c0_i32_2311 : BitVec 32 := 0#32
  ![v334.toNat, 0]
def k0_cond251 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let c0_i32_20 : BitVec 32 := 0#32
  let v50 : BitVec 1 := Scalar.cmpi .sgt v19 c0_i32_20
  let v351 : BitVec 1 := Scalar.andi v344 v50
  let v2572 : BitVec 32 := Scalar.extui v351
  let c0_i32_2153 : BitVec 32 := 0#32
  let v2573 : BitVec 1 := Scalar.cmpi .ne v2572 c0_i32_2153
  v2573

def k0_off465 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_294 : BitVec 32 := 32#32
  let v352 : BitVec 32 := Scalar.muli v346 c32_i32_294
  let c0_i32_295 : BitVec 32 := 0#32
  let v353 : BitVec 32 := Scalar.addi v352 c0_i32_295
  let c0_i32_2311 : BitVec 32 := 0#32
  ![v353.toNat, 0]
def k0_cond252 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v2574 : BitVec 32 := Scalar.extui v344
  let c0_i32_2154 : BitVec 32 := 0#32
  let v2575 : BitVec 1 := Scalar.cmpi .ne v2574 c0_i32_2154
  v2575

def k0_off466 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_303 : BitVec 32 := 2#32
  let v360 : BitVec 32 := Scalar.muli v343 c2_i32_303
  let c0_i32_304 : BitVec 32 := 0#32
  let v361 : BitVec 32 := Scalar.addi v360 c0_i32_304
  ![v361.toNat]
def k0_off467 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_301 : BitVec 32 := 32#32
  let v358 : BitVec 32 := Scalar.muli v346 c32_i32_301
  let c0_i32_302 : BitVec 32 := 0#32
  let v359 : BitVec 32 := Scalar.addi v358 c0_i32_302
  let c0_i32_2311 : BitVec 32 := 0#32
  ![v359.toNat, 0]
def k0_cond253 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v2576 : BitVec 32 := Scalar.extui v344
  let c0_i32_2155 : BitVec 32 := 0#32
  let v2577 : BitVec 1 := Scalar.cmpi .ne v2576 c0_i32_2155
  v2577

def k0_off468 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_312 : BitVec 32 := 2#32
  let v370 : BitVec 32 := Scalar.muli v343 c2_i32_312
  let c0_i32_313 : BitVec 32 := 0#32
  let v371 : BitVec 32 := Scalar.addi v370 c0_i32_313
  ![v371.toNat]
def k0_off469 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_310 : BitVec 32 := 32#32
  let v368 : BitVec 32 := Scalar.muli v346 c32_i32_310
  let c0_i32_311 : BitVec 32 := 0#32
  let v369 : BitVec 32 := Scalar.addi v368 c0_i32_311
  let c0_i32_2311 : BitVec 32 := 0#32
  ![v369.toNat, 0]
def k0_cond254 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let c0_i32_20 : BitVec 32 := 0#32
  let v50 : BitVec 1 := Scalar.cmpi .sgt v19 c0_i32_20
  let v382 : BitVec 1 := Scalar.andi v344 v50
  let v2578 : BitVec 32 := Scalar.extui v382
  let c0_i32_2158 : BitVec 32 := 0#32
  let v2579 : BitVec 1 := Scalar.cmpi .ne v2578 c0_i32_2158
  v2579

def k0_off470 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_324 : BitVec 32 := 32#32
  let v383 : BitVec 32 := Scalar.muli v346 c32_i32_324
  let c16_i32_325 : BitVec 32 := 16#32
  let v384 : BitVec 32 := Scalar.addi v383 c16_i32_325
  let c0_i32_2311 : BitVec 32 := 0#32
  ![v384.toNat, 0]
def k0_cond255 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v2580 : BitVec 32 := Scalar.extui v344
  let c0_i32_2159 : BitVec 32 := 0#32
  let v2581 : BitVec 1 := Scalar.cmpi .ne v2580 c0_i32_2159
  v2581

def k0_off471 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_333 : BitVec 32 := 2#32
  let v391 : BitVec 32 := Scalar.muli v343 c2_i32_333
  let c1_i32_334 : BitVec 32 := 1#32
  let v392 : BitVec 32 := Scalar.addi v391 c1_i32_334
  ![v392.toNat]
def k0_off472 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_331 : BitVec 32 := 32#32
  let v389 : BitVec 32 := Scalar.muli v346 c32_i32_331
  let c16_i32_332 : BitVec 32 := 16#32
  let v390 : BitVec 32 := Scalar.addi v389 c16_i32_332
  let c0_i32_2311 : BitVec 32 := 0#32
  ![v390.toNat, 0]
def k0_cond256 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c3_i32_287 : BitVec 32 := 3#32
  let v344 : BitVec 1 := Scalar.cmpi .sle v343 c3_i32_287
  let v2582 : BitVec 32 := Scalar.extui v344
  let c0_i32_2160 : BitVec 32 := 0#32
  let v2583 : BitVec 1 := Scalar.cmpi .ne v2582 c0_i32_2160
  v2583

def k0_off473 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let c2_i32_342 : BitVec 32 := 2#32
  let v401 : BitVec 32 := Scalar.muli v343 c2_i32_342
  let c1_i32_343 : BitVec 32 := 1#32
  let v402 : BitVec 32 := Scalar.addi v401 c1_i32_343
  ![v402.toNat]
def k0_off474 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_288 : BitVec 32 := 4#32
  let v345 : BitVec 32 := Scalar.muli v20 c4_i32_288
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_286 : BitVec 32 := 2#32
  let v343 : BitVec 32 := Scalar.addi v19 c2_i32_286
  let v346 : BitVec 32 := Scalar.addi v345 v343
  let c32_i32_340 : BitVec 32 := 32#32
  let v399 : BitVec 32 := Scalar.muli v346 c32_i32_340
  let c16_i32_341 : BitVec 32 := 16#32
  let v400 : BitVec 32 := Scalar.addi v399 c16_i32_341
  let c0_i32_2311 : BitVec 32 := 0#32
  ![v400.toNat, 0]
def k0_cond257 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v2584 : BitVec 32 := Scalar.extui v410
  let c0_i32_2161 : BitVec 32 := 0#32
  let v2585 : BitVec 1 := Scalar.cmpi .ne v2584 c0_i32_2161
  v2585

def k0_off475 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_359 : BitVec 32 := 2#32
  let v419 : BitVec 32 := Scalar.muli v409 c2_i32_359
  let c0_i32_360 : BitVec 32 := 0#32
  let v420 : BitVec 32 := Scalar.addi v419 c0_i32_360
  ![v420.toNat]
def k0_off476 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_357 : BitVec 32 := 32#32
  let v417 : BitVec 32 := Scalar.muli v412 c32_i32_357
  let c0_i32_358 : BitVec 32 := 0#32
  let v418 : BitVec 32 := Scalar.addi v417 c0_i32_358
  let c0_i32_2311 : BitVec 32 := 0#32
  ![v418.toNat, 0]
def k0_cond258 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v2586 : BitVec 32 := Scalar.extui v410
  let c0_i32_2162 : BitVec 32 := 0#32
  let v2587 : BitVec 1 := Scalar.cmpi .ne v2586 c0_i32_2162
  v2587

def k0_off477 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_368 : BitVec 32 := 2#32
  let v429 : BitVec 32 := Scalar.muli v409 c2_i32_368
  let c0_i32_369 : BitVec 32 := 0#32
  let v430 : BitVec 32 := Scalar.addi v429 c0_i32_369
  ![v430.toNat]
def k0_off478 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_366 : BitVec 32 := 32#32
  let v427 : BitVec 32 := Scalar.muli v412 c32_i32_366
  let c0_i32_367 : BitVec 32 := 0#32
  let v428 : BitVec 32 := Scalar.addi v427 c0_i32_367
  let c0_i32_2311 : BitVec 32 := 0#32
  ![v428.toNat, 0]
def k0_cond259 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v2588 : BitVec 32 := Scalar.extui v410
  let c0_i32_2163 : BitVec 32 := 0#32
  let v2589 : BitVec 1 := Scalar.cmpi .ne v2588 c0_i32_2163
  v2589

def k0_off479 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_382 : BitVec 32 := 2#32
  let v443 : BitVec 32 := Scalar.muli v409 c2_i32_382
  let c1_i32_383 : BitVec 32 := 1#32
  let v444 : BitVec 32 := Scalar.addi v443 c1_i32_383
  ![v444.toNat]
def k0_off480 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_380 : BitVec 32 := 32#32
  let v441 : BitVec 32 := Scalar.muli v412 c32_i32_380
  let c16_i32_381 : BitVec 32 := 16#32
  let v442 : BitVec 32 := Scalar.addi v441 c16_i32_381
  let c0_i32_2311 : BitVec 32 := 0#32
  ![v442.toNat, 0]
def k0_cond260 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_350 : BitVec 32 := 3#32
  let v410 : BitVec 1 := Scalar.cmpi .sge v19 c3_i32_350
  let v2590 : BitVec 32 := Scalar.extui v410
  let c0_i32_2164 : BitVec 32 := 0#32
  let v2591 : BitVec 1 := Scalar.cmpi .ne v2590 c0_i32_2164
  v2591

def k0_off481 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let c2_i32_391 : BitVec 32 := 2#32
  let v453 : BitVec 32 := Scalar.muli v409 c2_i32_391
  let c1_i32_392 : BitVec 32 := 1#32
  let v454 : BitVec 32 := Scalar.addi v453 c1_i32_392
  ![v454.toNat]
def k0_off482 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_351 : BitVec 32 := 4#32
  let v411 : BitVec 32 := Scalar.muli v20 c4_i32_351
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_349 : BitVec 32 := 3#32
  let v409 : BitVec 32 := Scalar.subi v19 c3_i32_349
  let v412 : BitVec 32 := Scalar.addi v411 v409
  let c32_i32_389 : BitVec 32 := 32#32
  let v451 : BitVec 32 := Scalar.muli v412 c32_i32_389
  let c16_i32_390 : BitVec 32 := 16#32
  let v452 : BitVec 32 := Scalar.addi v451 c16_i32_390
  let c0_i32_2311 : BitVec 32 := 0#32
  ![v452.toNat, 0]
def k0_cond261 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v2592 : BitVec 32 := Scalar.extui v462
  let c0_i32_2165 : BitVec 32 := 0#32
  let v2593 : BitVec 1 := Scalar.cmpi .ne v2592 c0_i32_2165
  v2593

def k0_off483 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_408 : BitVec 32 := 2#32
  let v471 : BitVec 32 := Scalar.muli v461 c2_i32_408
  let c0_i32_409 : BitVec 32 := 0#32
  let v472 : BitVec 32 := Scalar.addi v471 c0_i32_409
  ![v472.toNat]
def k0_off484 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_406 : BitVec 32 := 32#32
  let v469 : BitVec 32 := Scalar.muli v464 c32_i32_406
  let c0_i32_407 : BitVec 32 := 0#32
  let v470 : BitVec 32 := Scalar.addi v469 c0_i32_407
  let c0_i32_2311 : BitVec 32 := 0#32
  ![v470.toNat, 0]
def k0_cond262 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v2594 : BitVec 32 := Scalar.extui v462
  let c0_i32_2166 : BitVec 32 := 0#32
  let v2595 : BitVec 1 := Scalar.cmpi .ne v2594 c0_i32_2166
  v2595

def k0_off485 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_417 : BitVec 32 := 2#32
  let v481 : BitVec 32 := Scalar.muli v461 c2_i32_417
  let c0_i32_418 : BitVec 32 := 0#32
  let v482 : BitVec 32 := Scalar.addi v481 c0_i32_418
  ![v482.toNat]
def k0_off486 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_415 : BitVec 32 := 32#32
  let v479 : BitVec 32 := Scalar.muli v464 c32_i32_415
  let c0_i32_416 : BitVec 32 := 0#32
  let v480 : BitVec 32 := Scalar.addi v479 c0_i32_416
  let c0_i32_2311 : BitVec 32 := 0#32
  ![v480.toNat, 0]
def k0_cond263 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v2596 : BitVec 32 := Scalar.extui v462
  let c0_i32_2167 : BitVec 32 := 0#32
  let v2597 : BitVec 1 := Scalar.cmpi .ne v2596 c0_i32_2167
  v2597

def k0_off487 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_431 : BitVec 32 := 2#32
  let v495 : BitVec 32 := Scalar.muli v461 c2_i32_431
  let c1_i32_432 : BitVec 32 := 1#32
  let v496 : BitVec 32 := Scalar.addi v495 c1_i32_432
  ![v496.toNat]
def k0_off488 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_429 : BitVec 32 := 32#32
  let v493 : BitVec 32 := Scalar.muli v464 c32_i32_429
  let c16_i32_430 : BitVec 32 := 16#32
  let v494 : BitVec 32 := Scalar.addi v493 c16_i32_430
  let c0_i32_2311 : BitVec 32 := 0#32
  ![v494.toNat, 0]
def k0_cond264 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c3_i32_399 : BitVec 32 := 3#32
  let v462 : BitVec 1 := Scalar.cmpi .sle v461 c3_i32_399
  let v2598 : BitVec 32 := Scalar.extui v462
  let c0_i32_2168 : BitVec 32 := 0#32
  let v2599 : BitVec 1 := Scalar.cmpi .ne v2598 c0_i32_2168
  v2599

def k0_off489 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let c2_i32_440 : BitVec 32 := 2#32
  let v505 : BitVec 32 := Scalar.muli v461 c2_i32_440
  let c1_i32_441 : BitVec 32 := 1#32
  let v506 : BitVec 32 := Scalar.addi v505 c1_i32_441
  ![v506.toNat]
def k0_off490 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c4_i32_400 : BitVec 32 := 4#32
  let v463 : BitVec 32 := Scalar.muli v20 c4_i32_400
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_398 : BitVec 32 := 3#32
  let v461 : BitVec 32 := Scalar.addi v19 c3_i32_398
  let v464 : BitVec 32 := Scalar.addi v463 v461
  let c32_i32_438 : BitVec 32 := 32#32
  let v503 : BitVec 32 := Scalar.muli v464 c32_i32_438
  let c16_i32_439 : BitVec 32 := 16#32
  let v504 : BitVec 32 := Scalar.addi v503 c16_i32_439
  let c0_i32_2311 : BitVec 32 := 0#32
  ![v504.toNat, 0]
def k0_cond265 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v2616 : BitVec 32 := Scalar.extui v638
  let c0_i32_2181 : BitVec 32 := 0#32
  let v2617 : BitVec 1 := Scalar.cmpi .ne v2616 c0_i32_2181
  v2617

def k0_off491 (d0 : Dev nD) : Fin 1 → Nat :=
  let c8_i32_558 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_549 : BitVec 32 := 2#32
  let v642 : BitVec 32 := Scalar.muli v639 c2_i32_549
  let c0_i32_550 : BitVec 32 := 0#32
  let v643 : BitVec 32 := Scalar.addi v642 c0_i32_550
  let v652 : BitVec 32 := Scalar.addi c8_i32_558 v643
  ![v652.toNat]
def k0_off492 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_548 : BitVec 32 := 4#32
  let v640 : BitVec 32 := Scalar.muli v521 c4_i32_548
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v641 : BitVec 32 := Scalar.addi v640 v639
  let c32_i32_556 : BitVec 32 := 32#32
  let v650 : BitVec 32 := Scalar.muli v641 c32_i32_556
  let c0_i32_557 : BitVec 32 := 0#32
  let v651 : BitVec 32 := Scalar.addi v650 c0_i32_557
  let c0_i32_2311 : BitVec 32 := 0#32
  ![v651.toNat, 0]
def k0_cond266 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v2618 : BitVec 32 := Scalar.extui v638
  let c0_i32_2182 : BitVec 32 := 0#32
  let v2619 : BitVec 1 := Scalar.cmpi .ne v2618 c0_i32_2182
  v2619

def k0_off493 (d0 : Dev nD) : Fin 1 → Nat :=
  let c8_i32_572 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_563 : BitVec 32 := 2#32
  let v658 : BitVec 32 := Scalar.muli v639 c2_i32_563
  let c1_i32_564 : BitVec 32 := 1#32
  let v659 : BitVec 32 := Scalar.addi v658 c1_i32_564
  let v668 : BitVec 32 := Scalar.addi c8_i32_572 v659
  ![v668.toNat]
def k0_off494 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_548 : BitVec 32 := 4#32
  let v640 : BitVec 32 := Scalar.muli v521 c4_i32_548
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v641 : BitVec 32 := Scalar.addi v640 v639
  let c32_i32_570 : BitVec 32 := 32#32
  let v666 : BitVec 32 := Scalar.muli v641 c32_i32_570
  let c16_i32_571 : BitVec 32 := 16#32
  let v667 : BitVec 32 := Scalar.addi v666 c16_i32_571
  let c0_i32_2311 : BitVec 32 := 0#32
  ![v667.toNat, 0]
def k0_cond267 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v2620 : BitVec 32 := Scalar.extui v638
  let c0_i32_2183 : BitVec 32 := 0#32
  let v2621 : BitVec 1 := Scalar.cmpi .ne v2620 c0_i32_2183
  v2621

def k0_off495 (d0 : Dev nD) : Fin 1 → Nat :=
  let c8_i32_587 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_578 : BitVec 32 := 2#32
  let v676 : BitVec 32 := Scalar.muli v639 c2_i32_578
  let c0_i32_579 : BitVec 32 := 0#32
  let v677 : BitVec 32 := Scalar.addi v676 c0_i32_579
  let v686 : BitVec 32 := Scalar.addi c8_i32_587 v677
  ![v686.toNat]
def k0_off496 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_577 : BitVec 32 := 4#32
  let v674 : BitVec 32 := Scalar.muli v529 c4_i32_577
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v675 : BitVec 32 := Scalar.addi v674 v639
  let c32_i32_585 : BitVec 32 := 32#32
  let v684 : BitVec 32 := Scalar.muli v675 c32_i32_585
  let c0_i32_586 : BitVec 32 := 0#32
  let v685 : BitVec 32 := Scalar.addi v684 c0_i32_586
  let c0_i32_2311 : BitVec 32 := 0#32
  ![v685.toNat, 0]
def k0_cond268 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_546 : BitVec 32 := 1#32
  let v638 : BitVec 1 := Scalar.cmpi .sge v19 c1_i32_546
  let v2622 : BitVec 32 := Scalar.extui v638
  let c0_i32_2184 : BitVec 32 := 0#32
  let v2623 : BitVec 1 := Scalar.cmpi .ne v2622 c0_i32_2184
  v2623

def k0_off497 (d0 : Dev nD) : Fin 1 → Nat :=
  let c8_i32_601 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let c2_i32_592 : BitVec 32 := 2#32
  let v692 : BitVec 32 := Scalar.muli v639 c2_i32_592
  let c1_i32_593 : BitVec 32 := 1#32
  let v693 : BitVec 32 := Scalar.addi v692 c1_i32_593
  let v702 : BitVec 32 := Scalar.addi c8_i32_601 v693
  ![v702.toNat]
def k0_off498 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_577 : BitVec 32 := 4#32
  let v674 : BitVec 32 := Scalar.muli v529 c4_i32_577
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_547 : BitVec 32 := 1#32
  let v639 : BitVec 32 := Scalar.subi v19 c1_i32_547
  let v675 : BitVec 32 := Scalar.addi v674 v639
  let c32_i32_599 : BitVec 32 := 32#32
  let v700 : BitVec 32 := Scalar.muli v675 c32_i32_599
  let c16_i32_600 : BitVec 32 := 16#32
  let v701 : BitVec 32 := Scalar.addi v700 c16_i32_600
  let c0_i32_2311 : BitVec 32 := 0#32
  ![v701.toNat, 0]
def k0_cond269 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v2624 : BitVec 32 := Scalar.extui v709
  let c0_i32_2185 : BitVec 32 := 0#32
  let v2625 : BitVec 1 := Scalar.cmpi .ne v2624 c0_i32_2185
  v2625

def k0_off499 (d0 : Dev nD) : Fin 1 → Nat :=
  let c8_i32_619 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_610 : BitVec 32 := 2#32
  let v713 : BitVec 32 := Scalar.muli v710 c2_i32_610
  let c0_i32_611 : BitVec 32 := 0#32
  let v714 : BitVec 32 := Scalar.addi v713 c0_i32_611
  let v723 : BitVec 32 := Scalar.addi c8_i32_619 v714
  ![v723.toNat]
def k0_off500 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_609 : BitVec 32 := 4#32
  let v711 : BitVec 32 := Scalar.muli v521 c4_i32_609
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v712 : BitVec 32 := Scalar.addi v711 v710
  let c32_i32_617 : BitVec 32 := 32#32
  let v721 : BitVec 32 := Scalar.muli v712 c32_i32_617
  let c0_i32_618 : BitVec 32 := 0#32
  let v722 : BitVec 32 := Scalar.addi v721 c0_i32_618
  let c0_i32_2311 : BitVec 32 := 0#32
  ![v722.toNat, 0]
def k0_cond270 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v2626 : BitVec 32 := Scalar.extui v709
  let c0_i32_2186 : BitVec 32 := 0#32
  let v2627 : BitVec 1 := Scalar.cmpi .ne v2626 c0_i32_2186
  v2627

def k0_off501 (d0 : Dev nD) : Fin 1 → Nat :=
  let c8_i32_633 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_624 : BitVec 32 := 2#32
  let v729 : BitVec 32 := Scalar.muli v710 c2_i32_624
  let c1_i32_625 : BitVec 32 := 1#32
  let v730 : BitVec 32 := Scalar.addi v729 c1_i32_625
  let v739 : BitVec 32 := Scalar.addi c8_i32_633 v730
  ![v739.toNat]
def k0_off502 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_609 : BitVec 32 := 4#32
  let v711 : BitVec 32 := Scalar.muli v521 c4_i32_609
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v712 : BitVec 32 := Scalar.addi v711 v710
  let c32_i32_631 : BitVec 32 := 32#32
  let v737 : BitVec 32 := Scalar.muli v712 c32_i32_631
  let c16_i32_632 : BitVec 32 := 16#32
  let v738 : BitVec 32 := Scalar.addi v737 c16_i32_632
  let c0_i32_2311 : BitVec 32 := 0#32
  ![v738.toNat, 0]
def k0_cond271 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v2628 : BitVec 32 := Scalar.extui v709
  let c0_i32_2187 : BitVec 32 := 0#32
  let v2629 : BitVec 1 := Scalar.cmpi .ne v2628 c0_i32_2187
  v2629

def k0_off503 (d0 : Dev nD) : Fin 1 → Nat :=
  let c8_i32_648 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_639 : BitVec 32 := 2#32
  let v747 : BitVec 32 := Scalar.muli v710 c2_i32_639
  let c0_i32_640 : BitVec 32 := 0#32
  let v748 : BitVec 32 := Scalar.addi v747 c0_i32_640
  let v757 : BitVec 32 := Scalar.addi c8_i32_648 v748
  ![v757.toNat]
def k0_off504 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_638 : BitVec 32 := 4#32
  let v745 : BitVec 32 := Scalar.muli v529 c4_i32_638
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v746 : BitVec 32 := Scalar.addi v745 v710
  let c32_i32_646 : BitVec 32 := 32#32
  let v755 : BitVec 32 := Scalar.muli v746 c32_i32_646
  let c0_i32_647 : BitVec 32 := 0#32
  let v756 : BitVec 32 := Scalar.addi v755 c0_i32_647
  let c0_i32_2311 : BitVec 32 := 0#32
  ![v756.toNat, 0]
def k0_cond272 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_606 : BitVec 32 := 1#32
  let v708 : BitVec 32 := Scalar.addi v19 c1_i32_606
  let c3_i32_607 : BitVec 32 := 3#32
  let v709 : BitVec 1 := Scalar.cmpi .sle v708 c3_i32_607
  let v2630 : BitVec 32 := Scalar.extui v709
  let c0_i32_2188 : BitVec 32 := 0#32
  let v2631 : BitVec 1 := Scalar.cmpi .ne v2630 c0_i32_2188
  v2631

def k0_off505 (d0 : Dev nD) : Fin 1 → Nat :=
  let c8_i32_662 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let c2_i32_653 : BitVec 32 := 2#32
  let v763 : BitVec 32 := Scalar.muli v710 c2_i32_653
  let c1_i32_654 : BitVec 32 := 1#32
  let v764 : BitVec 32 := Scalar.addi v763 c1_i32_654
  let v773 : BitVec 32 := Scalar.addi c8_i32_662 v764
  ![v773.toNat]
def k0_off506 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_638 : BitVec 32 := 4#32
  let v745 : BitVec 32 := Scalar.muli v529 c4_i32_638
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_608 : BitVec 32 := 1#32
  let v710 : BitVec 32 := Scalar.addi v19 c1_i32_608
  let v746 : BitVec 32 := Scalar.addi v745 v710
  let c32_i32_660 : BitVec 32 := 32#32
  let v771 : BitVec 32 := Scalar.muli v746 c32_i32_660
  let c16_i32_661 : BitVec 32 := 16#32
  let v772 : BitVec 32 := Scalar.addi v771 c16_i32_661
  let c0_i32_2311 : BitVec 32 := 0#32
  ![v772.toNat, 0]
def k0_cond273 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v2632 : BitVec 32 := Scalar.extui v779
  let c0_i32_2189 : BitVec 32 := 0#32
  let v2633 : BitVec 1 := Scalar.cmpi .ne v2632 c0_i32_2189
  v2633

def k0_off507 (d0 : Dev nD) : Fin 1 → Nat :=
  let c8_i32_679 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_670 : BitVec 32 := 2#32
  let v783 : BitVec 32 := Scalar.muli v780 c2_i32_670
  let c0_i32_671 : BitVec 32 := 0#32
  let v784 : BitVec 32 := Scalar.addi v783 c0_i32_671
  let v793 : BitVec 32 := Scalar.addi c8_i32_679 v784
  ![v793.toNat]
def k0_off508 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_669 : BitVec 32 := 4#32
  let v781 : BitVec 32 := Scalar.muli v521 c4_i32_669
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v782 : BitVec 32 := Scalar.addi v781 v780
  let c32_i32_677 : BitVec 32 := 32#32
  let v791 : BitVec 32 := Scalar.muli v782 c32_i32_677
  let c0_i32_678 : BitVec 32 := 0#32
  let v792 : BitVec 32 := Scalar.addi v791 c0_i32_678
  let c0_i32_2311 : BitVec 32 := 0#32
  ![v792.toNat, 0]
def k0_cond274 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v2634 : BitVec 32 := Scalar.extui v779
  let c0_i32_2190 : BitVec 32 := 0#32
  let v2635 : BitVec 1 := Scalar.cmpi .ne v2634 c0_i32_2190
  v2635

def k0_off509 (d0 : Dev nD) : Fin 1 → Nat :=
  let c8_i32_693 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_684 : BitVec 32 := 2#32
  let v799 : BitVec 32 := Scalar.muli v780 c2_i32_684
  let c1_i32_685 : BitVec 32 := 1#32
  let v800 : BitVec 32 := Scalar.addi v799 c1_i32_685
  let v809 : BitVec 32 := Scalar.addi c8_i32_693 v800
  ![v809.toNat]
def k0_off510 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_669 : BitVec 32 := 4#32
  let v781 : BitVec 32 := Scalar.muli v521 c4_i32_669
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v782 : BitVec 32 := Scalar.addi v781 v780
  let c32_i32_691 : BitVec 32 := 32#32
  let v807 : BitVec 32 := Scalar.muli v782 c32_i32_691
  let c16_i32_692 : BitVec 32 := 16#32
  let v808 : BitVec 32 := Scalar.addi v807 c16_i32_692
  let c0_i32_2311 : BitVec 32 := 0#32
  ![v808.toNat, 0]
def k0_cond275 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v2636 : BitVec 32 := Scalar.extui v779
  let c0_i32_2191 : BitVec 32 := 0#32
  let v2637 : BitVec 1 := Scalar.cmpi .ne v2636 c0_i32_2191
  v2637

def k0_off511 (d0 : Dev nD) : Fin 1 → Nat :=
  let c8_i32_708 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_699 : BitVec 32 := 2#32
  let v817 : BitVec 32 := Scalar.muli v780 c2_i32_699
  let c0_i32_700 : BitVec 32 := 0#32
  let v818 : BitVec 32 := Scalar.addi v817 c0_i32_700
  let v827 : BitVec 32 := Scalar.addi c8_i32_708 v818
  ![v827.toNat]
def k0_off512 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_698 : BitVec 32 := 4#32
  let v815 : BitVec 32 := Scalar.muli v529 c4_i32_698
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v816 : BitVec 32 := Scalar.addi v815 v780
  let c32_i32_706 : BitVec 32 := 32#32
  let v825 : BitVec 32 := Scalar.muli v816 c32_i32_706
  let c0_i32_707 : BitVec 32 := 0#32
  let v826 : BitVec 32 := Scalar.addi v825 c0_i32_707
  let c0_i32_2311 : BitVec 32 := 0#32
  ![v826.toNat, 0]
def k0_cond276 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_667 : BitVec 32 := 2#32
  let v779 : BitVec 1 := Scalar.cmpi .sge v19 c2_i32_667
  let v2638 : BitVec 32 := Scalar.extui v779
  let c0_i32_2192 : BitVec 32 := 0#32
  let v2639 : BitVec 1 := Scalar.cmpi .ne v2638 c0_i32_2192
  v2639

def k0_off513 (d0 : Dev nD) : Fin 1 → Nat :=
  let c8_i32_722 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let c2_i32_713 : BitVec 32 := 2#32
  let v833 : BitVec 32 := Scalar.muli v780 c2_i32_713
  let c1_i32_714 : BitVec 32 := 1#32
  let v834 : BitVec 32 := Scalar.addi v833 c1_i32_714
  let v843 : BitVec 32 := Scalar.addi c8_i32_722 v834
  ![v843.toNat]
def k0_off514 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_698 : BitVec 32 := 4#32
  let v815 : BitVec 32 := Scalar.muli v529 c4_i32_698
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_668 : BitVec 32 := 2#32
  let v780 : BitVec 32 := Scalar.subi v19 c2_i32_668
  let v816 : BitVec 32 := Scalar.addi v815 v780
  let c32_i32_720 : BitVec 32 := 32#32
  let v841 : BitVec 32 := Scalar.muli v816 c32_i32_720
  let c16_i32_721 : BitVec 32 := 16#32
  let v842 : BitVec 32 := Scalar.addi v841 c16_i32_721
  let c0_i32_2311 : BitVec 32 := 0#32
  ![v842.toNat, 0]
def k0_cond277 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v2640 : BitVec 32 := Scalar.extui v850
  let c0_i32_2193 : BitVec 32 := 0#32
  let v2641 : BitVec 1 := Scalar.cmpi .ne v2640 c0_i32_2193
  v2641

def k0_off515 (d0 : Dev nD) : Fin 1 → Nat :=
  let c8_i32_740 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_731 : BitVec 32 := 2#32
  let v854 : BitVec 32 := Scalar.muli v851 c2_i32_731
  let c0_i32_732 : BitVec 32 := 0#32
  let v855 : BitVec 32 := Scalar.addi v854 c0_i32_732
  let v864 : BitVec 32 := Scalar.addi c8_i32_740 v855
  ![v864.toNat]
def k0_off516 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_730 : BitVec 32 := 4#32
  let v852 : BitVec 32 := Scalar.muli v521 c4_i32_730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v853 : BitVec 32 := Scalar.addi v852 v851
  let c32_i32_738 : BitVec 32 := 32#32
  let v862 : BitVec 32 := Scalar.muli v853 c32_i32_738
  let c0_i32_739 : BitVec 32 := 0#32
  let v863 : BitVec 32 := Scalar.addi v862 c0_i32_739
  let c0_i32_2311 : BitVec 32 := 0#32
  ![v863.toNat, 0]
def k0_cond278 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v2642 : BitVec 32 := Scalar.extui v850
  let c0_i32_2194 : BitVec 32 := 0#32
  let v2643 : BitVec 1 := Scalar.cmpi .ne v2642 c0_i32_2194
  v2643

def k0_off517 (d0 : Dev nD) : Fin 1 → Nat :=
  let c8_i32_754 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_745 : BitVec 32 := 2#32
  let v870 : BitVec 32 := Scalar.muli v851 c2_i32_745
  let c1_i32_746 : BitVec 32 := 1#32
  let v871 : BitVec 32 := Scalar.addi v870 c1_i32_746
  let v880 : BitVec 32 := Scalar.addi c8_i32_754 v871
  ![v880.toNat]
def k0_off518 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_730 : BitVec 32 := 4#32
  let v852 : BitVec 32 := Scalar.muli v521 c4_i32_730
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v853 : BitVec 32 := Scalar.addi v852 v851
  let c32_i32_752 : BitVec 32 := 32#32
  let v878 : BitVec 32 := Scalar.muli v853 c32_i32_752
  let c16_i32_753 : BitVec 32 := 16#32
  let v879 : BitVec 32 := Scalar.addi v878 c16_i32_753
  let c0_i32_2311 : BitVec 32 := 0#32
  ![v879.toNat, 0]
def k0_cond279 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v2644 : BitVec 32 := Scalar.extui v850
  let c0_i32_2195 : BitVec 32 := 0#32
  let v2645 : BitVec 1 := Scalar.cmpi .ne v2644 c0_i32_2195
  v2645

def k0_off519 (d0 : Dev nD) : Fin 1 → Nat :=
  let c8_i32_769 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_760 : BitVec 32 := 2#32
  let v888 : BitVec 32 := Scalar.muli v851 c2_i32_760
  let c0_i32_761 : BitVec 32 := 0#32
  let v889 : BitVec 32 := Scalar.addi v888 c0_i32_761
  let v898 : BitVec 32 := Scalar.addi c8_i32_769 v889
  ![v898.toNat]
def k0_off520 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_759 : BitVec 32 := 4#32
  let v886 : BitVec 32 := Scalar.muli v529 c4_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v887 : BitVec 32 := Scalar.addi v886 v851
  let c32_i32_767 : BitVec 32 := 32#32
  let v896 : BitVec 32 := Scalar.muli v887 c32_i32_767
  let c0_i32_768 : BitVec 32 := 0#32
  let v897 : BitVec 32 := Scalar.addi v896 c0_i32_768
  let c0_i32_2311 : BitVec 32 := 0#32
  ![v897.toNat, 0]
def k0_cond280 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_727 : BitVec 32 := 2#32
  let v849 : BitVec 32 := Scalar.addi v19 c2_i32_727
  let c3_i32_728 : BitVec 32 := 3#32
  let v850 : BitVec 1 := Scalar.cmpi .sle v849 c3_i32_728
  let v2646 : BitVec 32 := Scalar.extui v850
  let c0_i32_2196 : BitVec 32 := 0#32
  let v2647 : BitVec 1 := Scalar.cmpi .ne v2646 c0_i32_2196
  v2647

def k0_off521 (d0 : Dev nD) : Fin 1 → Nat :=
  let c8_i32_783 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let c2_i32_774 : BitVec 32 := 2#32
  let v904 : BitVec 32 := Scalar.muli v851 c2_i32_774
  let c1_i32_775 : BitVec 32 := 1#32
  let v905 : BitVec 32 := Scalar.addi v904 c1_i32_775
  let v914 : BitVec 32 := Scalar.addi c8_i32_783 v905
  ![v914.toNat]
def k0_off522 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_759 : BitVec 32 := 4#32
  let v886 : BitVec 32 := Scalar.muli v529 c4_i32_759
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_729 : BitVec 32 := 2#32
  let v851 : BitVec 32 := Scalar.addi v19 c2_i32_729
  let v887 : BitVec 32 := Scalar.addi v886 v851
  let c32_i32_781 : BitVec 32 := 32#32
  let v912 : BitVec 32 := Scalar.muli v887 c32_i32_781
  let c16_i32_782 : BitVec 32 := 16#32
  let v913 : BitVec 32 := Scalar.addi v912 c16_i32_782
  let c0_i32_2311 : BitVec 32 := 0#32
  ![v913.toNat, 0]
def k0_cond281 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v2648 : BitVec 32 := Scalar.extui v920
  let c0_i32_2197 : BitVec 32 := 0#32
  let v2649 : BitVec 1 := Scalar.cmpi .ne v2648 c0_i32_2197
  v2649

def k0_off523 (d0 : Dev nD) : Fin 1 → Nat :=
  let c8_i32_800 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_791 : BitVec 32 := 2#32
  let v924 : BitVec 32 := Scalar.muli v921 c2_i32_791
  let c0_i32_792 : BitVec 32 := 0#32
  let v925 : BitVec 32 := Scalar.addi v924 c0_i32_792
  let v934 : BitVec 32 := Scalar.addi c8_i32_800 v925
  ![v934.toNat]
def k0_off524 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_790 : BitVec 32 := 4#32
  let v922 : BitVec 32 := Scalar.muli v521 c4_i32_790
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v923 : BitVec 32 := Scalar.addi v922 v921
  let c32_i32_798 : BitVec 32 := 32#32
  let v932 : BitVec 32 := Scalar.muli v923 c32_i32_798
  let c0_i32_799 : BitVec 32 := 0#32
  let v933 : BitVec 32 := Scalar.addi v932 c0_i32_799
  let c0_i32_2311 : BitVec 32 := 0#32
  ![v933.toNat, 0]
def k0_cond282 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v2650 : BitVec 32 := Scalar.extui v920
  let c0_i32_2198 : BitVec 32 := 0#32
  let v2651 : BitVec 1 := Scalar.cmpi .ne v2650 c0_i32_2198
  v2651

def k0_off525 (d0 : Dev nD) : Fin 1 → Nat :=
  let c8_i32_814 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_805 : BitVec 32 := 2#32
  let v940 : BitVec 32 := Scalar.muli v921 c2_i32_805
  let c1_i32_806 : BitVec 32 := 1#32
  let v941 : BitVec 32 := Scalar.addi v940 c1_i32_806
  let v950 : BitVec 32 := Scalar.addi c8_i32_814 v941
  ![v950.toNat]

variable {F : FTy → Type} [FloatOps F]

def k0_off526 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_790 : BitVec 32 := 4#32
  let v922 : BitVec 32 := Scalar.muli v521 c4_i32_790
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v923 : BitVec 32 := Scalar.addi v922 v921
  let c32_i32_812 : BitVec 32 := 32#32
  let v948 : BitVec 32 := Scalar.muli v923 c32_i32_812
  let c16_i32_813 : BitVec 32 := 16#32
  let v949 : BitVec 32 := Scalar.addi v948 c16_i32_813
  let c0_i32_2311 : BitVec 32 := 0#32
  ![v949.toNat, 0]
def k0_cond283 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v2652 : BitVec 32 := Scalar.extui v920
  let c0_i32_2199 : BitVec 32 := 0#32
  let v2653 : BitVec 1 := Scalar.cmpi .ne v2652 c0_i32_2199
  v2653

def k0_off527 (d0 : Dev nD) : Fin 1 → Nat :=
  let c8_i32_829 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_820 : BitVec 32 := 2#32
  let v958 : BitVec 32 := Scalar.muli v921 c2_i32_820
  let c0_i32_821 : BitVec 32 := 0#32
  let v959 : BitVec 32 := Scalar.addi v958 c0_i32_821
  let v968 : BitVec 32 := Scalar.addi c8_i32_829 v959
  ![v968.toNat]
def k0_off528 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_819 : BitVec 32 := 4#32
  let v956 : BitVec 32 := Scalar.muli v529 c4_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v957 : BitVec 32 := Scalar.addi v956 v921
  let c32_i32_827 : BitVec 32 := 32#32
  let v966 : BitVec 32 := Scalar.muli v957 c32_i32_827
  let c0_i32_828 : BitVec 32 := 0#32
  let v967 : BitVec 32 := Scalar.addi v966 c0_i32_828
  let c0_i32_2311 : BitVec 32 := 0#32
  ![v967.toNat, 0]
def k0_cond284 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_788 : BitVec 32 := 3#32
  let v920 : BitVec 1 := Scalar.cmpi .sge v19 c3_i32_788
  let v2654 : BitVec 32 := Scalar.extui v920
  let c0_i32_2200 : BitVec 32 := 0#32
  let v2655 : BitVec 1 := Scalar.cmpi .ne v2654 c0_i32_2200
  v2655

def k0_off529 (d0 : Dev nD) : Fin 1 → Nat :=
  let c8_i32_843 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let c2_i32_834 : BitVec 32 := 2#32
  let v974 : BitVec 32 := Scalar.muli v921 c2_i32_834
  let c1_i32_835 : BitVec 32 := 1#32
  let v975 : BitVec 32 := Scalar.addi v974 c1_i32_835
  let v984 : BitVec 32 := Scalar.addi c8_i32_843 v975
  ![v984.toNat]
def k0_off530 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_819 : BitVec 32 := 4#32
  let v956 : BitVec 32 := Scalar.muli v529 c4_i32_819
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_789 : BitVec 32 := 3#32
  let v921 : BitVec 32 := Scalar.subi v19 c3_i32_789
  let v957 : BitVec 32 := Scalar.addi v956 v921
  let c32_i32_841 : BitVec 32 := 32#32
  let v982 : BitVec 32 := Scalar.muli v957 c32_i32_841
  let c16_i32_842 : BitVec 32 := 16#32
  let v983 : BitVec 32 := Scalar.addi v982 c16_i32_842
  let c0_i32_2311 : BitVec 32 := 0#32
  ![v983.toNat, 0]
def k0_cond285 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v2656 : BitVec 32 := Scalar.extui v991
  let c0_i32_2201 : BitVec 32 := 0#32
  let v2657 : BitVec 1 := Scalar.cmpi .ne v2656 c0_i32_2201
  v2657

def k0_off531 (d0 : Dev nD) : Fin 1 → Nat :=
  let c8_i32_861 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_852 : BitVec 32 := 2#32
  let v995 : BitVec 32 := Scalar.muli v992 c2_i32_852
  let c0_i32_853 : BitVec 32 := 0#32
  let v996 : BitVec 32 := Scalar.addi v995 c0_i32_853
  let v1005 : BitVec 32 := Scalar.addi c8_i32_861 v996
  ![v1005.toNat]
def k0_off532 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_851 : BitVec 32 := 4#32
  let v993 : BitVec 32 := Scalar.muli v521 c4_i32_851
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v994 : BitVec 32 := Scalar.addi v993 v992
  let c32_i32_859 : BitVec 32 := 32#32
  let v1003 : BitVec 32 := Scalar.muli v994 c32_i32_859
  let c0_i32_860 : BitVec 32 := 0#32
  let v1004 : BitVec 32 := Scalar.addi v1003 c0_i32_860
  let c0_i32_2311 : BitVec 32 := 0#32
  ![v1004.toNat, 0]
def k0_cond286 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v2658 : BitVec 32 := Scalar.extui v991
  let c0_i32_2202 : BitVec 32 := 0#32
  let v2659 : BitVec 1 := Scalar.cmpi .ne v2658 c0_i32_2202
  v2659

def k0_off533 (d0 : Dev nD) : Fin 1 → Nat :=
  let c8_i32_875 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_866 : BitVec 32 := 2#32
  let v1011 : BitVec 32 := Scalar.muli v992 c2_i32_866
  let c1_i32_867 : BitVec 32 := 1#32
  let v1012 : BitVec 32 := Scalar.addi v1011 c1_i32_867
  let v1021 : BitVec 32 := Scalar.addi c8_i32_875 v1012
  ![v1021.toNat]
def k0_off534 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_447 : BitVec 32 := 1#32
  let v513 : BitVec 32 := Scalar.subi v28 c1_i32_447
  let c8_i32_448 : BitVec 32 := 8#32
  let v514 : BitVec 32 := Scalar.addi v513 c8_i32_448
  let c8_i32_449 : BitVec 32 := 8#32
  let v515 : BitVec 32 := Scalar.remsi v514 c8_i32_449
  let c3_i32_450 : BitVec 32 := 3#32
  let v516 : BitVec 1 := Scalar.cmpi .slt v515 c3_i32_450
  let c6_i32_451 : BitVec 32 := 6#32
  let v517 : BitVec 1 := Scalar.cmpi .slt v515 c6_i32_451
  let c2_i32_452 : BitVec 32 := 2#32
  let v518 : BitVec 32 := Scalar.addi v515 c2_i32_452
  let c10_i32_453 : BitVec 32 := 10#32
  let v519 : BitVec 32 := Scalar.subi c10_i32_453 v515
  let v520 : BitVec 32 := Scalar.select v517 v518 v519
  let v521 : BitVec 32 := Scalar.select v516 v515 v520
  let c4_i32_851 : BitVec 32 := 4#32
  let v993 : BitVec 32 := Scalar.muli v521 c4_i32_851
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v994 : BitVec 32 := Scalar.addi v993 v992
  let c32_i32_873 : BitVec 32 := 32#32
  let v1019 : BitVec 32 := Scalar.muli v994 c32_i32_873
  let c16_i32_874 : BitVec 32 := 16#32
  let v1020 : BitVec 32 := Scalar.addi v1019 c16_i32_874
  let c0_i32_2311 : BitVec 32 := 0#32
  ![v1020.toNat, 0]
def k0_cond287 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v2660 : BitVec 32 := Scalar.extui v991
  let c0_i32_2203 : BitVec 32 := 0#32
  let v2661 : BitVec 1 := Scalar.cmpi .ne v2660 c0_i32_2203
  v2661

def k0_off535 (d0 : Dev nD) : Fin 1 → Nat :=
  let c8_i32_890 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_881 : BitVec 32 := 2#32
  let v1029 : BitVec 32 := Scalar.muli v992 c2_i32_881
  let c0_i32_882 : BitVec 32 := 0#32
  let v1030 : BitVec 32 := Scalar.addi v1029 c0_i32_882
  let v1039 : BitVec 32 := Scalar.addi c8_i32_890 v1030
  ![v1039.toNat]
def k0_off536 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_880 : BitVec 32 := 4#32
  let v1027 : BitVec 32 := Scalar.muli v529 c4_i32_880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v1028 : BitVec 32 := Scalar.addi v1027 v992
  let c32_i32_888 : BitVec 32 := 32#32
  let v1037 : BitVec 32 := Scalar.muli v1028 c32_i32_888
  let c0_i32_889 : BitVec 32 := 0#32
  let v1038 : BitVec 32 := Scalar.addi v1037 c0_i32_889
  let c0_i32_2311 : BitVec 32 := 0#32
  ![v1038.toNat, 0]
def k0_cond288 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_848 : BitVec 32 := 3#32
  let v990 : BitVec 32 := Scalar.addi v19 c3_i32_848
  let c3_i32_849 : BitVec 32 := 3#32
  let v991 : BitVec 1 := Scalar.cmpi .sle v990 c3_i32_849
  let v2662 : BitVec 32 := Scalar.extui v991
  let c0_i32_2204 : BitVec 32 := 0#32
  let v2663 : BitVec 1 := Scalar.cmpi .ne v2662 c0_i32_2204
  v2663

def k0_off537 (d0 : Dev nD) : Fin 1 → Nat :=
  let c8_i32_904 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let c2_i32_895 : BitVec 32 := 2#32
  let v1045 : BitVec 32 := Scalar.muli v992 c2_i32_895
  let c1_i32_896 : BitVec 32 := 1#32
  let v1046 : BitVec 32 := Scalar.addi v1045 c1_i32_896
  let v1055 : BitVec 32 := Scalar.addi c8_i32_904 v1046
  ![v1055.toNat]
def k0_off538 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c1_i32_454 : BitVec 32 := 1#32
  let v522 : BitVec 32 := Scalar.addi v28 c1_i32_454
  let c8_i32_455 : BitVec 32 := 8#32
  let v523 : BitVec 32 := Scalar.remsi v522 c8_i32_455
  let c3_i32_456 : BitVec 32 := 3#32
  let v524 : BitVec 1 := Scalar.cmpi .slt v523 c3_i32_456
  let c6_i32_457 : BitVec 32 := 6#32
  let v525 : BitVec 1 := Scalar.cmpi .slt v523 c6_i32_457
  let c2_i32_458 : BitVec 32 := 2#32
  let v526 : BitVec 32 := Scalar.addi v523 c2_i32_458
  let c10_i32_459 : BitVec 32 := 10#32
  let v527 : BitVec 32 := Scalar.subi c10_i32_459 v523
  let v528 : BitVec 32 := Scalar.select v525 v526 v527
  let v529 : BitVec 32 := Scalar.select v524 v523 v528
  let c4_i32_880 : BitVec 32 := 4#32
  let v1027 : BitVec 32 := Scalar.muli v529 c4_i32_880
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_850 : BitVec 32 := 3#32
  let v992 : BitVec 32 := Scalar.addi v19 c3_i32_850
  let v1028 : BitVec 32 := Scalar.addi v1027 v992
  let c32_i32_902 : BitVec 32 := 32#32
  let v1053 : BitVec 32 := Scalar.muli v1028 c32_i32_902
  let c16_i32_903 : BitVec 32 := 16#32
  let v1054 : BitVec 32 := Scalar.addi v1053 c16_i32_903
  let c0_i32_2311 : BitVec 32 := 0#32
  ![v1054.toNat, 0]
def k0_cond289 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v2680 : BitVec 32 := Scalar.extui v1186
  let c0_i32_2217 : BitVec 32 := 0#32
  let v2681 : BitVec 1 := Scalar.cmpi .ne v2680 c0_i32_2217
  v2681

def k0_off539 (d0 : Dev nD) : Fin 1 → Nat :=
  let c16_i32_1020 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1011 : BitVec 32 := 2#32
  let v1190 : BitVec 32 := Scalar.muli v1187 c2_i32_1011
  let c0_i32_1012 : BitVec 32 := 0#32
  let v1191 : BitVec 32 := Scalar.addi v1190 c0_i32_1012
  let v1200 : BitVec 32 := Scalar.addi c16_i32_1020 v1191
  ![v1200.toNat]
def k0_off540 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1010 : BitVec 32 := 4#32
  let v1188 : BitVec 32 := Scalar.muli v1069 c4_i32_1010
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1189 : BitVec 32 := Scalar.addi v1188 v1187
  let c32_i32_1018 : BitVec 32 := 32#32
  let v1198 : BitVec 32 := Scalar.muli v1189 c32_i32_1018
  let c0_i32_1019 : BitVec 32 := 0#32
  let v1199 : BitVec 32 := Scalar.addi v1198 c0_i32_1019
  let c0_i32_2311 : BitVec 32 := 0#32
  ![v1199.toNat, 0]
def k0_cond290 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v2682 : BitVec 32 := Scalar.extui v1186
  let c0_i32_2218 : BitVec 32 := 0#32
  let v2683 : BitVec 1 := Scalar.cmpi .ne v2682 c0_i32_2218
  v2683

def k0_off541 (d0 : Dev nD) : Fin 1 → Nat :=
  let c16_i32_1034 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1025 : BitVec 32 := 2#32
  let v1206 : BitVec 32 := Scalar.muli v1187 c2_i32_1025
  let c1_i32_1026 : BitVec 32 := 1#32
  let v1207 : BitVec 32 := Scalar.addi v1206 c1_i32_1026
  let v1216 : BitVec 32 := Scalar.addi c16_i32_1034 v1207
  ![v1216.toNat]
def k0_off542 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1010 : BitVec 32 := 4#32
  let v1188 : BitVec 32 := Scalar.muli v1069 c4_i32_1010
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1189 : BitVec 32 := Scalar.addi v1188 v1187
  let c32_i32_1032 : BitVec 32 := 32#32
  let v1214 : BitVec 32 := Scalar.muli v1189 c32_i32_1032
  let c16_i32_1033 : BitVec 32 := 16#32
  let v1215 : BitVec 32 := Scalar.addi v1214 c16_i32_1033
  let c0_i32_2311 : BitVec 32 := 0#32
  ![v1215.toNat, 0]
def k0_cond291 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v2684 : BitVec 32 := Scalar.extui v1186
  let c0_i32_2219 : BitVec 32 := 0#32
  let v2685 : BitVec 1 := Scalar.cmpi .ne v2684 c0_i32_2219
  v2685

def k0_off543 (d0 : Dev nD) : Fin 1 → Nat :=
  let c16_i32_1049 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1040 : BitVec 32 := 2#32
  let v1224 : BitVec 32 := Scalar.muli v1187 c2_i32_1040
  let c0_i32_1041 : BitVec 32 := 0#32
  let v1225 : BitVec 32 := Scalar.addi v1224 c0_i32_1041
  let v1234 : BitVec 32 := Scalar.addi c16_i32_1049 v1225
  ![v1234.toNat]
def k0_off544 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1039 : BitVec 32 := 4#32
  let v1222 : BitVec 32 := Scalar.muli v1077 c4_i32_1039
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1223 : BitVec 32 := Scalar.addi v1222 v1187
  let c32_i32_1047 : BitVec 32 := 32#32
  let v1232 : BitVec 32 := Scalar.muli v1223 c32_i32_1047
  let c0_i32_1048 : BitVec 32 := 0#32
  let v1233 : BitVec 32 := Scalar.addi v1232 c0_i32_1048
  let c0_i32_2311 : BitVec 32 := 0#32
  ![v1233.toNat, 0]
def k0_cond292 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1008 : BitVec 32 := 1#32
  let v1186 : BitVec 1 := Scalar.cmpi .sge v19 c1_i32_1008
  let v2686 : BitVec 32 := Scalar.extui v1186
  let c0_i32_2220 : BitVec 32 := 0#32
  let v2687 : BitVec 1 := Scalar.cmpi .ne v2686 c0_i32_2220
  v2687

def k0_off545 (d0 : Dev nD) : Fin 1 → Nat :=
  let c16_i32_1063 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let c2_i32_1054 : BitVec 32 := 2#32
  let v1240 : BitVec 32 := Scalar.muli v1187 c2_i32_1054
  let c1_i32_1055 : BitVec 32 := 1#32
  let v1241 : BitVec 32 := Scalar.addi v1240 c1_i32_1055
  let v1250 : BitVec 32 := Scalar.addi c16_i32_1063 v1241
  ![v1250.toNat]
def k0_off546 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1039 : BitVec 32 := 4#32
  let v1222 : BitVec 32 := Scalar.muli v1077 c4_i32_1039
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1009 : BitVec 32 := 1#32
  let v1187 : BitVec 32 := Scalar.subi v19 c1_i32_1009
  let v1223 : BitVec 32 := Scalar.addi v1222 v1187
  let c32_i32_1061 : BitVec 32 := 32#32
  let v1248 : BitVec 32 := Scalar.muli v1223 c32_i32_1061
  let c16_i32_1062 : BitVec 32 := 16#32
  let v1249 : BitVec 32 := Scalar.addi v1248 c16_i32_1062
  let c0_i32_2311 : BitVec 32 := 0#32
  ![v1249.toNat, 0]
def k0_cond293 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v2688 : BitVec 32 := Scalar.extui v1257
  let c0_i32_2221 : BitVec 32 := 0#32
  let v2689 : BitVec 1 := Scalar.cmpi .ne v2688 c0_i32_2221
  v2689

def k0_off547 (d0 : Dev nD) : Fin 1 → Nat :=
  let c16_i32_1081 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1072 : BitVec 32 := 2#32
  let v1261 : BitVec 32 := Scalar.muli v1258 c2_i32_1072
  let c0_i32_1073 : BitVec 32 := 0#32
  let v1262 : BitVec 32 := Scalar.addi v1261 c0_i32_1073
  let v1271 : BitVec 32 := Scalar.addi c16_i32_1081 v1262
  ![v1271.toNat]
def k0_off548 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1071 : BitVec 32 := 4#32
  let v1259 : BitVec 32 := Scalar.muli v1069 c4_i32_1071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1260 : BitVec 32 := Scalar.addi v1259 v1258
  let c32_i32_1079 : BitVec 32 := 32#32
  let v1269 : BitVec 32 := Scalar.muli v1260 c32_i32_1079
  let c0_i32_1080 : BitVec 32 := 0#32
  let v1270 : BitVec 32 := Scalar.addi v1269 c0_i32_1080
  let c0_i32_2311 : BitVec 32 := 0#32
  ![v1270.toNat, 0]
def k0_cond294 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v2690 : BitVec 32 := Scalar.extui v1257
  let c0_i32_2222 : BitVec 32 := 0#32
  let v2691 : BitVec 1 := Scalar.cmpi .ne v2690 c0_i32_2222
  v2691

def k0_off549 (d0 : Dev nD) : Fin 1 → Nat :=
  let c16_i32_1095 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1086 : BitVec 32 := 2#32
  let v1277 : BitVec 32 := Scalar.muli v1258 c2_i32_1086
  let c1_i32_1087 : BitVec 32 := 1#32
  let v1278 : BitVec 32 := Scalar.addi v1277 c1_i32_1087
  let v1287 : BitVec 32 := Scalar.addi c16_i32_1095 v1278
  ![v1287.toNat]
def k0_off550 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1071 : BitVec 32 := 4#32
  let v1259 : BitVec 32 := Scalar.muli v1069 c4_i32_1071
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1260 : BitVec 32 := Scalar.addi v1259 v1258
  let c32_i32_1093 : BitVec 32 := 32#32
  let v1285 : BitVec 32 := Scalar.muli v1260 c32_i32_1093
  let c16_i32_1094 : BitVec 32 := 16#32
  let v1286 : BitVec 32 := Scalar.addi v1285 c16_i32_1094
  let c0_i32_2311 : BitVec 32 := 0#32
  ![v1286.toNat, 0]
def k0_cond295 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v2692 : BitVec 32 := Scalar.extui v1257
  let c0_i32_2223 : BitVec 32 := 0#32
  let v2693 : BitVec 1 := Scalar.cmpi .ne v2692 c0_i32_2223
  v2693

def k0_off551 (d0 : Dev nD) : Fin 1 → Nat :=
  let c16_i32_1110 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1101 : BitVec 32 := 2#32
  let v1295 : BitVec 32 := Scalar.muli v1258 c2_i32_1101
  let c0_i32_1102 : BitVec 32 := 0#32
  let v1296 : BitVec 32 := Scalar.addi v1295 c0_i32_1102
  let v1305 : BitVec 32 := Scalar.addi c16_i32_1110 v1296
  ![v1305.toNat]
def k0_off552 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1100 : BitVec 32 := 4#32
  let v1293 : BitVec 32 := Scalar.muli v1077 c4_i32_1100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1294 : BitVec 32 := Scalar.addi v1293 v1258
  let c32_i32_1108 : BitVec 32 := 32#32
  let v1303 : BitVec 32 := Scalar.muli v1294 c32_i32_1108
  let c0_i32_1109 : BitVec 32 := 0#32
  let v1304 : BitVec 32 := Scalar.addi v1303 c0_i32_1109
  let c0_i32_2311 : BitVec 32 := 0#32
  ![v1304.toNat, 0]
def k0_cond296 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1068 : BitVec 32 := 1#32
  let v1256 : BitVec 32 := Scalar.addi v19 c1_i32_1068
  let c3_i32_1069 : BitVec 32 := 3#32
  let v1257 : BitVec 1 := Scalar.cmpi .sle v1256 c3_i32_1069
  let v2694 : BitVec 32 := Scalar.extui v1257
  let c0_i32_2224 : BitVec 32 := 0#32
  let v2695 : BitVec 1 := Scalar.cmpi .ne v2694 c0_i32_2224
  v2695

def k0_off553 (d0 : Dev nD) : Fin 1 → Nat :=
  let c16_i32_1124 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let c2_i32_1115 : BitVec 32 := 2#32
  let v1311 : BitVec 32 := Scalar.muli v1258 c2_i32_1115
  let c1_i32_1116 : BitVec 32 := 1#32
  let v1312 : BitVec 32 := Scalar.addi v1311 c1_i32_1116
  let v1321 : BitVec 32 := Scalar.addi c16_i32_1124 v1312
  ![v1321.toNat]
def k0_off554 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1100 : BitVec 32 := 4#32
  let v1293 : BitVec 32 := Scalar.muli v1077 c4_i32_1100
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1070 : BitVec 32 := 1#32
  let v1258 : BitVec 32 := Scalar.addi v19 c1_i32_1070
  let v1294 : BitVec 32 := Scalar.addi v1293 v1258
  let c32_i32_1122 : BitVec 32 := 32#32
  let v1319 : BitVec 32 := Scalar.muli v1294 c32_i32_1122
  let c16_i32_1123 : BitVec 32 := 16#32
  let v1320 : BitVec 32 := Scalar.addi v1319 c16_i32_1123
  let c0_i32_2311 : BitVec 32 := 0#32
  ![v1320.toNat, 0]
def k0_cond297 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v2696 : BitVec 32 := Scalar.extui v1327
  let c0_i32_2225 : BitVec 32 := 0#32
  let v2697 : BitVec 1 := Scalar.cmpi .ne v2696 c0_i32_2225
  v2697

def k0_off555 (d0 : Dev nD) : Fin 1 → Nat :=
  let c16_i32_1141 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1132 : BitVec 32 := 2#32
  let v1331 : BitVec 32 := Scalar.muli v1328 c2_i32_1132
  let c0_i32_1133 : BitVec 32 := 0#32
  let v1332 : BitVec 32 := Scalar.addi v1331 c0_i32_1133
  let v1341 : BitVec 32 := Scalar.addi c16_i32_1141 v1332
  ![v1341.toNat]
def k0_off556 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1131 : BitVec 32 := 4#32
  let v1329 : BitVec 32 := Scalar.muli v1069 c4_i32_1131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1330 : BitVec 32 := Scalar.addi v1329 v1328
  let c32_i32_1139 : BitVec 32 := 32#32
  let v1339 : BitVec 32 := Scalar.muli v1330 c32_i32_1139
  let c0_i32_1140 : BitVec 32 := 0#32
  let v1340 : BitVec 32 := Scalar.addi v1339 c0_i32_1140
  let c0_i32_2311 : BitVec 32 := 0#32
  ![v1340.toNat, 0]
def k0_cond298 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v2698 : BitVec 32 := Scalar.extui v1327
  let c0_i32_2226 : BitVec 32 := 0#32
  let v2699 : BitVec 1 := Scalar.cmpi .ne v2698 c0_i32_2226
  v2699

def k0_off557 (d0 : Dev nD) : Fin 1 → Nat :=
  let c16_i32_1155 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1146 : BitVec 32 := 2#32
  let v1347 : BitVec 32 := Scalar.muli v1328 c2_i32_1146
  let c1_i32_1147 : BitVec 32 := 1#32
  let v1348 : BitVec 32 := Scalar.addi v1347 c1_i32_1147
  let v1357 : BitVec 32 := Scalar.addi c16_i32_1155 v1348
  ![v1357.toNat]
def k0_off558 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1131 : BitVec 32 := 4#32
  let v1329 : BitVec 32 := Scalar.muli v1069 c4_i32_1131
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1330 : BitVec 32 := Scalar.addi v1329 v1328
  let c32_i32_1153 : BitVec 32 := 32#32
  let v1355 : BitVec 32 := Scalar.muli v1330 c32_i32_1153
  let c16_i32_1154 : BitVec 32 := 16#32
  let v1356 : BitVec 32 := Scalar.addi v1355 c16_i32_1154
  let c0_i32_2311 : BitVec 32 := 0#32
  ![v1356.toNat, 0]
def k0_cond299 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v2700 : BitVec 32 := Scalar.extui v1327
  let c0_i32_2227 : BitVec 32 := 0#32
  let v2701 : BitVec 1 := Scalar.cmpi .ne v2700 c0_i32_2227
  v2701

def k0_off559 (d0 : Dev nD) : Fin 1 → Nat :=
  let c16_i32_1170 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1161 : BitVec 32 := 2#32
  let v1365 : BitVec 32 := Scalar.muli v1328 c2_i32_1161
  let c0_i32_1162 : BitVec 32 := 0#32
  let v1366 : BitVec 32 := Scalar.addi v1365 c0_i32_1162
  let v1375 : BitVec 32 := Scalar.addi c16_i32_1170 v1366
  ![v1375.toNat]
def k0_off560 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1160 : BitVec 32 := 4#32
  let v1363 : BitVec 32 := Scalar.muli v1077 c4_i32_1160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1364 : BitVec 32 := Scalar.addi v1363 v1328
  let c32_i32_1168 : BitVec 32 := 32#32
  let v1373 : BitVec 32 := Scalar.muli v1364 c32_i32_1168
  let c0_i32_1169 : BitVec 32 := 0#32
  let v1374 : BitVec 32 := Scalar.addi v1373 c0_i32_1169
  let c0_i32_2311 : BitVec 32 := 0#32
  ![v1374.toNat, 0]
def k0_cond300 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1129 : BitVec 32 := 2#32
  let v1327 : BitVec 1 := Scalar.cmpi .sge v19 c2_i32_1129
  let v2702 : BitVec 32 := Scalar.extui v1327
  let c0_i32_2228 : BitVec 32 := 0#32
  let v2703 : BitVec 1 := Scalar.cmpi .ne v2702 c0_i32_2228
  v2703

def k0_off561 (d0 : Dev nD) : Fin 1 → Nat :=
  let c16_i32_1184 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let c2_i32_1175 : BitVec 32 := 2#32
  let v1381 : BitVec 32 := Scalar.muli v1328 c2_i32_1175
  let c1_i32_1176 : BitVec 32 := 1#32
  let v1382 : BitVec 32 := Scalar.addi v1381 c1_i32_1176
  let v1391 : BitVec 32 := Scalar.addi c16_i32_1184 v1382
  ![v1391.toNat]
def k0_off562 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1160 : BitVec 32 := 4#32
  let v1363 : BitVec 32 := Scalar.muli v1077 c4_i32_1160
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1130 : BitVec 32 := 2#32
  let v1328 : BitVec 32 := Scalar.subi v19 c2_i32_1130
  let v1364 : BitVec 32 := Scalar.addi v1363 v1328
  let c32_i32_1182 : BitVec 32 := 32#32
  let v1389 : BitVec 32 := Scalar.muli v1364 c32_i32_1182
  let c16_i32_1183 : BitVec 32 := 16#32
  let v1390 : BitVec 32 := Scalar.addi v1389 c16_i32_1183
  let c0_i32_2311 : BitVec 32 := 0#32
  ![v1390.toNat, 0]
def k0_cond301 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v2704 : BitVec 32 := Scalar.extui v1398
  let c0_i32_2229 : BitVec 32 := 0#32
  let v2705 : BitVec 1 := Scalar.cmpi .ne v2704 c0_i32_2229
  v2705

def k0_off563 (d0 : Dev nD) : Fin 1 → Nat :=
  let c16_i32_1202 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1193 : BitVec 32 := 2#32
  let v1402 : BitVec 32 := Scalar.muli v1399 c2_i32_1193
  let c0_i32_1194 : BitVec 32 := 0#32
  let v1403 : BitVec 32 := Scalar.addi v1402 c0_i32_1194
  let v1412 : BitVec 32 := Scalar.addi c16_i32_1202 v1403
  ![v1412.toNat]
def k0_off564 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1192 : BitVec 32 := 4#32
  let v1400 : BitVec 32 := Scalar.muli v1069 c4_i32_1192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1401 : BitVec 32 := Scalar.addi v1400 v1399
  let c32_i32_1200 : BitVec 32 := 32#32
  let v1410 : BitVec 32 := Scalar.muli v1401 c32_i32_1200
  let c0_i32_1201 : BitVec 32 := 0#32
  let v1411 : BitVec 32 := Scalar.addi v1410 c0_i32_1201
  let c0_i32_2311 : BitVec 32 := 0#32
  ![v1411.toNat, 0]
def k0_cond302 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v2706 : BitVec 32 := Scalar.extui v1398
  let c0_i32_2230 : BitVec 32 := 0#32
  let v2707 : BitVec 1 := Scalar.cmpi .ne v2706 c0_i32_2230
  v2707

def k0_off565 (d0 : Dev nD) : Fin 1 → Nat :=
  let c16_i32_1216 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1207 : BitVec 32 := 2#32
  let v1418 : BitVec 32 := Scalar.muli v1399 c2_i32_1207
  let c1_i32_1208 : BitVec 32 := 1#32
  let v1419 : BitVec 32 := Scalar.addi v1418 c1_i32_1208
  let v1428 : BitVec 32 := Scalar.addi c16_i32_1216 v1419
  ![v1428.toNat]
def k0_off566 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1192 : BitVec 32 := 4#32
  let v1400 : BitVec 32 := Scalar.muli v1069 c4_i32_1192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1401 : BitVec 32 := Scalar.addi v1400 v1399
  let c32_i32_1214 : BitVec 32 := 32#32
  let v1426 : BitVec 32 := Scalar.muli v1401 c32_i32_1214
  let c16_i32_1215 : BitVec 32 := 16#32
  let v1427 : BitVec 32 := Scalar.addi v1426 c16_i32_1215
  let c0_i32_2311 : BitVec 32 := 0#32
  ![v1427.toNat, 0]
def k0_cond303 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v2708 : BitVec 32 := Scalar.extui v1398
  let c0_i32_2231 : BitVec 32 := 0#32
  let v2709 : BitVec 1 := Scalar.cmpi .ne v2708 c0_i32_2231
  v2709

def k0_off567 (d0 : Dev nD) : Fin 1 → Nat :=
  let c16_i32_1231 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1222 : BitVec 32 := 2#32
  let v1436 : BitVec 32 := Scalar.muli v1399 c2_i32_1222
  let c0_i32_1223 : BitVec 32 := 0#32
  let v1437 : BitVec 32 := Scalar.addi v1436 c0_i32_1223
  let v1446 : BitVec 32 := Scalar.addi c16_i32_1231 v1437
  ![v1446.toNat]
def k0_off568 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1221 : BitVec 32 := 4#32
  let v1434 : BitVec 32 := Scalar.muli v1077 c4_i32_1221
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1435 : BitVec 32 := Scalar.addi v1434 v1399
  let c32_i32_1229 : BitVec 32 := 32#32
  let v1444 : BitVec 32 := Scalar.muli v1435 c32_i32_1229
  let c0_i32_1230 : BitVec 32 := 0#32
  let v1445 : BitVec 32 := Scalar.addi v1444 c0_i32_1230
  let c0_i32_2311 : BitVec 32 := 0#32
  ![v1445.toNat, 0]
def k0_cond304 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1189 : BitVec 32 := 2#32
  let v1397 : BitVec 32 := Scalar.addi v19 c2_i32_1189
  let c3_i32_1190 : BitVec 32 := 3#32
  let v1398 : BitVec 1 := Scalar.cmpi .sle v1397 c3_i32_1190
  let v2710 : BitVec 32 := Scalar.extui v1398
  let c0_i32_2232 : BitVec 32 := 0#32
  let v2711 : BitVec 1 := Scalar.cmpi .ne v2710 c0_i32_2232
  v2711

def k0_off569 (d0 : Dev nD) : Fin 1 → Nat :=
  let c16_i32_1245 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let c2_i32_1236 : BitVec 32 := 2#32
  let v1452 : BitVec 32 := Scalar.muli v1399 c2_i32_1236
  let c1_i32_1237 : BitVec 32 := 1#32
  let v1453 : BitVec 32 := Scalar.addi v1452 c1_i32_1237
  let v1462 : BitVec 32 := Scalar.addi c16_i32_1245 v1453
  ![v1462.toNat]
def k0_off570 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1221 : BitVec 32 := 4#32
  let v1434 : BitVec 32 := Scalar.muli v1077 c4_i32_1221
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1191 : BitVec 32 := 2#32
  let v1399 : BitVec 32 := Scalar.addi v19 c2_i32_1191
  let v1435 : BitVec 32 := Scalar.addi v1434 v1399
  let c32_i32_1243 : BitVec 32 := 32#32
  let v1460 : BitVec 32 := Scalar.muli v1435 c32_i32_1243
  let c16_i32_1244 : BitVec 32 := 16#32
  let v1461 : BitVec 32 := Scalar.addi v1460 c16_i32_1244
  let c0_i32_2311 : BitVec 32 := 0#32
  ![v1461.toNat, 0]
def k0_cond305 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v2712 : BitVec 32 := Scalar.extui v1468
  let c0_i32_2233 : BitVec 32 := 0#32
  let v2713 : BitVec 1 := Scalar.cmpi .ne v2712 c0_i32_2233
  v2713

def k0_off571 (d0 : Dev nD) : Fin 1 → Nat :=
  let c16_i32_1262 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1253 : BitVec 32 := 2#32
  let v1472 : BitVec 32 := Scalar.muli v1469 c2_i32_1253
  let c0_i32_1254 : BitVec 32 := 0#32
  let v1473 : BitVec 32 := Scalar.addi v1472 c0_i32_1254
  let v1482 : BitVec 32 := Scalar.addi c16_i32_1262 v1473
  ![v1482.toNat]
def k0_off572 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1252 : BitVec 32 := 4#32
  let v1470 : BitVec 32 := Scalar.muli v1069 c4_i32_1252
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1471 : BitVec 32 := Scalar.addi v1470 v1469
  let c32_i32_1260 : BitVec 32 := 32#32
  let v1480 : BitVec 32 := Scalar.muli v1471 c32_i32_1260
  let c0_i32_1261 : BitVec 32 := 0#32
  let v1481 : BitVec 32 := Scalar.addi v1480 c0_i32_1261
  let c0_i32_2311 : BitVec 32 := 0#32
  ![v1481.toNat, 0]
def k0_cond306 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v2714 : BitVec 32 := Scalar.extui v1468
  let c0_i32_2234 : BitVec 32 := 0#32
  let v2715 : BitVec 1 := Scalar.cmpi .ne v2714 c0_i32_2234
  v2715

def k0_off573 (d0 : Dev nD) : Fin 1 → Nat :=
  let c16_i32_1276 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1267 : BitVec 32 := 2#32
  let v1488 : BitVec 32 := Scalar.muli v1469 c2_i32_1267
  let c1_i32_1268 : BitVec 32 := 1#32
  let v1489 : BitVec 32 := Scalar.addi v1488 c1_i32_1268
  let v1498 : BitVec 32 := Scalar.addi c16_i32_1276 v1489
  ![v1498.toNat]
def k0_off574 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1252 : BitVec 32 := 4#32
  let v1470 : BitVec 32 := Scalar.muli v1069 c4_i32_1252
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1471 : BitVec 32 := Scalar.addi v1470 v1469
  let c32_i32_1274 : BitVec 32 := 32#32
  let v1496 : BitVec 32 := Scalar.muli v1471 c32_i32_1274
  let c16_i32_1275 : BitVec 32 := 16#32
  let v1497 : BitVec 32 := Scalar.addi v1496 c16_i32_1275
  let c0_i32_2311 : BitVec 32 := 0#32
  ![v1497.toNat, 0]
def k0_cond307 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v2716 : BitVec 32 := Scalar.extui v1468
  let c0_i32_2235 : BitVec 32 := 0#32
  let v2717 : BitVec 1 := Scalar.cmpi .ne v2716 c0_i32_2235
  v2717

def k0_off575 (d0 : Dev nD) : Fin 1 → Nat :=
  let c16_i32_1291 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1282 : BitVec 32 := 2#32
  let v1506 : BitVec 32 := Scalar.muli v1469 c2_i32_1282
  let c0_i32_1283 : BitVec 32 := 0#32
  let v1507 : BitVec 32 := Scalar.addi v1506 c0_i32_1283
  let v1516 : BitVec 32 := Scalar.addi c16_i32_1291 v1507
  ![v1516.toNat]
def k0_off576 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1281 : BitVec 32 := 4#32
  let v1504 : BitVec 32 := Scalar.muli v1077 c4_i32_1281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1505 : BitVec 32 := Scalar.addi v1504 v1469
  let c32_i32_1289 : BitVec 32 := 32#32
  let v1514 : BitVec 32 := Scalar.muli v1505 c32_i32_1289
  let c0_i32_1290 : BitVec 32 := 0#32
  let v1515 : BitVec 32 := Scalar.addi v1514 c0_i32_1290
  let c0_i32_2311 : BitVec 32 := 0#32
  ![v1515.toNat, 0]
def k0_cond308 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1250 : BitVec 32 := 3#32
  let v1468 : BitVec 1 := Scalar.cmpi .sge v19 c3_i32_1250
  let v2718 : BitVec 32 := Scalar.extui v1468
  let c0_i32_2236 : BitVec 32 := 0#32
  let v2719 : BitVec 1 := Scalar.cmpi .ne v2718 c0_i32_2236
  v2719

def k0_off577 (d0 : Dev nD) : Fin 1 → Nat :=
  let c16_i32_1305 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let c2_i32_1296 : BitVec 32 := 2#32
  let v1522 : BitVec 32 := Scalar.muli v1469 c2_i32_1296
  let c1_i32_1297 : BitVec 32 := 1#32
  let v1523 : BitVec 32 := Scalar.addi v1522 c1_i32_1297
  let v1532 : BitVec 32 := Scalar.addi c16_i32_1305 v1523
  ![v1532.toNat]
def k0_off578 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1281 : BitVec 32 := 4#32
  let v1504 : BitVec 32 := Scalar.muli v1077 c4_i32_1281
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1251 : BitVec 32 := 3#32
  let v1469 : BitVec 32 := Scalar.subi v19 c3_i32_1251
  let v1505 : BitVec 32 := Scalar.addi v1504 v1469
  let c32_i32_1303 : BitVec 32 := 32#32
  let v1530 : BitVec 32 := Scalar.muli v1505 c32_i32_1303
  let c16_i32_1304 : BitVec 32 := 16#32
  let v1531 : BitVec 32 := Scalar.addi v1530 c16_i32_1304
  let c0_i32_2311 : BitVec 32 := 0#32
  ![v1531.toNat, 0]
def k0_cond309 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v2720 : BitVec 32 := Scalar.extui v1539
  let c0_i32_2237 : BitVec 32 := 0#32
  let v2721 : BitVec 1 := Scalar.cmpi .ne v2720 c0_i32_2237
  v2721

def k0_off579 (d0 : Dev nD) : Fin 1 → Nat :=
  let c16_i32_1323 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1314 : BitVec 32 := 2#32
  let v1543 : BitVec 32 := Scalar.muli v1540 c2_i32_1314
  let c0_i32_1315 : BitVec 32 := 0#32
  let v1544 : BitVec 32 := Scalar.addi v1543 c0_i32_1315
  let v1553 : BitVec 32 := Scalar.addi c16_i32_1323 v1544
  ![v1553.toNat]
def k0_off580 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1313 : BitVec 32 := 4#32
  let v1541 : BitVec 32 := Scalar.muli v1069 c4_i32_1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1542 : BitVec 32 := Scalar.addi v1541 v1540
  let c32_i32_1321 : BitVec 32 := 32#32
  let v1551 : BitVec 32 := Scalar.muli v1542 c32_i32_1321
  let c0_i32_1322 : BitVec 32 := 0#32
  let v1552 : BitVec 32 := Scalar.addi v1551 c0_i32_1322
  let c0_i32_2311 : BitVec 32 := 0#32
  ![v1552.toNat, 0]
def k0_cond310 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v2722 : BitVec 32 := Scalar.extui v1539
  let c0_i32_2238 : BitVec 32 := 0#32
  let v2723 : BitVec 1 := Scalar.cmpi .ne v2722 c0_i32_2238
  v2723

def k0_off581 (d0 : Dev nD) : Fin 1 → Nat :=
  let c16_i32_1337 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1328 : BitVec 32 := 2#32
  let v1559 : BitVec 32 := Scalar.muli v1540 c2_i32_1328
  let c1_i32_1329 : BitVec 32 := 1#32
  let v1560 : BitVec 32 := Scalar.addi v1559 c1_i32_1329
  let v1569 : BitVec 32 := Scalar.addi c16_i32_1337 v1560
  ![v1569.toNat]
def k0_off582 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_909 : BitVec 32 := 2#32
  let v1061 : BitVec 32 := Scalar.subi v28 c2_i32_909
  let c8_i32_910 : BitVec 32 := 8#32
  let v1062 : BitVec 32 := Scalar.addi v1061 c8_i32_910
  let c8_i32_911 : BitVec 32 := 8#32
  let v1063 : BitVec 32 := Scalar.remsi v1062 c8_i32_911
  let c3_i32_912 : BitVec 32 := 3#32
  let v1064 : BitVec 1 := Scalar.cmpi .slt v1063 c3_i32_912
  let c6_i32_913 : BitVec 32 := 6#32
  let v1065 : BitVec 1 := Scalar.cmpi .slt v1063 c6_i32_913
  let c2_i32_914 : BitVec 32 := 2#32
  let v1066 : BitVec 32 := Scalar.addi v1063 c2_i32_914
  let c10_i32_915 : BitVec 32 := 10#32
  let v1067 : BitVec 32 := Scalar.subi c10_i32_915 v1063
  let v1068 : BitVec 32 := Scalar.select v1065 v1066 v1067
  let v1069 : BitVec 32 := Scalar.select v1064 v1063 v1068
  let c4_i32_1313 : BitVec 32 := 4#32
  let v1541 : BitVec 32 := Scalar.muli v1069 c4_i32_1313
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1542 : BitVec 32 := Scalar.addi v1541 v1540
  let c32_i32_1335 : BitVec 32 := 32#32
  let v1567 : BitVec 32 := Scalar.muli v1542 c32_i32_1335
  let c16_i32_1336 : BitVec 32 := 16#32
  let v1568 : BitVec 32 := Scalar.addi v1567 c16_i32_1336
  let c0_i32_2311 : BitVec 32 := 0#32
  ![v1568.toNat, 0]
def k0_cond311 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v2724 : BitVec 32 := Scalar.extui v1539
  let c0_i32_2239 : BitVec 32 := 0#32
  let v2725 : BitVec 1 := Scalar.cmpi .ne v2724 c0_i32_2239
  v2725

def k0_off583 (d0 : Dev nD) : Fin 1 → Nat :=
  let c16_i32_1352 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1343 : BitVec 32 := 2#32
  let v1577 : BitVec 32 := Scalar.muli v1540 c2_i32_1343
  let c0_i32_1344 : BitVec 32 := 0#32
  let v1578 : BitVec 32 := Scalar.addi v1577 c0_i32_1344
  let v1587 : BitVec 32 := Scalar.addi c16_i32_1352 v1578
  ![v1587.toNat]
def k0_off584 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1342 : BitVec 32 := 4#32
  let v1575 : BitVec 32 := Scalar.muli v1077 c4_i32_1342
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1576 : BitVec 32 := Scalar.addi v1575 v1540
  let c32_i32_1350 : BitVec 32 := 32#32
  let v1585 : BitVec 32 := Scalar.muli v1576 c32_i32_1350
  let c0_i32_1351 : BitVec 32 := 0#32
  let v1586 : BitVec 32 := Scalar.addi v1585 c0_i32_1351
  let c0_i32_2311 : BitVec 32 := 0#32
  ![v1586.toNat, 0]
def k0_cond312 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1310 : BitVec 32 := 3#32
  let v1538 : BitVec 32 := Scalar.addi v19 c3_i32_1310
  let c3_i32_1311 : BitVec 32 := 3#32
  let v1539 : BitVec 1 := Scalar.cmpi .sle v1538 c3_i32_1311
  let v2726 : BitVec 32 := Scalar.extui v1539
  let c0_i32_2240 : BitVec 32 := 0#32
  let v2727 : BitVec 1 := Scalar.cmpi .ne v2726 c0_i32_2240
  v2727

def k0_off585 (d0 : Dev nD) : Fin 1 → Nat :=
  let c16_i32_1366 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let c2_i32_1357 : BitVec 32 := 2#32
  let v1593 : BitVec 32 := Scalar.muli v1540 c2_i32_1357
  let c1_i32_1358 : BitVec 32 := 1#32
  let v1594 : BitVec 32 := Scalar.addi v1593 c1_i32_1358
  let v1603 : BitVec 32 := Scalar.addi c16_i32_1366 v1594
  ![v1603.toNat]
def k0_off586 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c2_i32_916 : BitVec 32 := 2#32
  let v1070 : BitVec 32 := Scalar.addi v28 c2_i32_916
  let c8_i32_917 : BitVec 32 := 8#32
  let v1071 : BitVec 32 := Scalar.remsi v1070 c8_i32_917
  let c3_i32_918 : BitVec 32 := 3#32
  let v1072 : BitVec 1 := Scalar.cmpi .slt v1071 c3_i32_918
  let c6_i32_919 : BitVec 32 := 6#32
  let v1073 : BitVec 1 := Scalar.cmpi .slt v1071 c6_i32_919
  let c2_i32_920 : BitVec 32 := 2#32
  let v1074 : BitVec 32 := Scalar.addi v1071 c2_i32_920
  let c10_i32_921 : BitVec 32 := 10#32
  let v1075 : BitVec 32 := Scalar.subi c10_i32_921 v1071
  let v1076 : BitVec 32 := Scalar.select v1073 v1074 v1075
  let v1077 : BitVec 32 := Scalar.select v1072 v1071 v1076
  let c4_i32_1342 : BitVec 32 := 4#32
  let v1575 : BitVec 32 := Scalar.muli v1077 c4_i32_1342
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1312 : BitVec 32 := 3#32
  let v1540 : BitVec 32 := Scalar.addi v19 c3_i32_1312
  let v1576 : BitVec 32 := Scalar.addi v1575 v1540
  let c32_i32_1364 : BitVec 32 := 32#32
  let v1601 : BitVec 32 := Scalar.muli v1576 c32_i32_1364
  let c16_i32_1365 : BitVec 32 := 16#32
  let v1602 : BitVec 32 := Scalar.addi v1601 c16_i32_1365
  let c0_i32_2311 : BitVec 32 := 0#32
  ![v1602.toNat, 0]
def k0_cond313 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1396 : BitVec 32 := 2#32
  let v1640 : BitVec 1 := Scalar.cmpi .slt v19 c2_i32_1396
  let v2728 : BitVec 32 := Scalar.extui v1640
  let c0_i32_2241 : BitVec 32 := 0#32
  let v2729 : BitVec 1 := Scalar.cmpi .ne v2728 c0_i32_2241
  v2729

def k0_off587 (d0 : Dev nD) : Fin 1 → Nat :=
  let c24_i32 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1385 : BitVec 32 := 2#32
  let v1628 : BitVec 32 := Scalar.muli v19 c2_i32_1385
  let c0_i32_1386 : BitVec 32 := 0#32
  let v1629 : BitVec 32 := Scalar.addi v1628 c0_i32_1386
  let v1643 : BitVec 32 := Scalar.addi c24_i32 v1629
  ![v1643.toNat]
def k0_off588 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1384 : BitVec 32 := 4#32
  let v1626 : BitVec 32 := Scalar.muli v1617 c4_i32_1384
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1627 : BitVec 32 := Scalar.addi v1626 v19
  let c32_i32_1397 : BitVec 32 := 32#32
  let v1641 : BitVec 32 := Scalar.muli v1627 c32_i32_1397
  let c0_i32_1398 : BitVec 32 := 0#32
  let v1642 : BitVec 32 := Scalar.addi v1641 c0_i32_1398
  let c0_i32_2311 : BitVec 32 := 0#32
  ![v1642.toNat, 0]
def k0_cond314 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1414 : BitVec 32 := 2#32
  let v1661 : BitVec 1 := Scalar.cmpi .slt v19 c2_i32_1414
  let v2730 : BitVec 32 := Scalar.extui v1661
  let c0_i32_2242 : BitVec 32 := 0#32
  let v2731 : BitVec 1 := Scalar.cmpi .ne v2730 c0_i32_2242
  v2731

def k0_off589 (d0 : Dev nD) : Fin 1 → Nat :=
  let c24_i32_1417 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1403 : BitVec 32 := 2#32
  let v1649 : BitVec 32 := Scalar.muli v19 c2_i32_1403
  let c1_i32_1404 : BitVec 32 := 1#32
  let v1650 : BitVec 32 := Scalar.addi v1649 c1_i32_1404
  let v1664 : BitVec 32 := Scalar.addi c24_i32_1417 v1650
  ![v1664.toNat]
def k0_off590 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1384 : BitVec 32 := 4#32
  let v1626 : BitVec 32 := Scalar.muli v1617 c4_i32_1384
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1627 : BitVec 32 := Scalar.addi v1626 v19
  let c32_i32_1415 : BitVec 32 := 32#32
  let v1662 : BitVec 32 := Scalar.muli v1627 c32_i32_1415
  let c16_i32_1416 : BitVec 32 := 16#32
  let v1663 : BitVec 32 := Scalar.addi v1662 c16_i32_1416
  let c0_i32_2311 : BitVec 32 := 0#32
  ![v1663.toNat, 0]
def k0_cond315 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1434 : BitVec 32 := 2#32
  let v1684 : BitVec 1 := Scalar.cmpi .sge v19 c2_i32_1434
  let v2732 : BitVec 32 := Scalar.extui v1684
  let c0_i32_2243 : BitVec 32 := 0#32
  let v2733 : BitVec 1 := Scalar.cmpi .ne v2732 c0_i32_2243
  v2733

def k0_off591 (d0 : Dev nD) : Fin 1 → Nat :=
  let c24_i32_1437 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1423 : BitVec 32 := 2#32
  let v1672 : BitVec 32 := Scalar.muli v19 c2_i32_1423
  let c0_i32_1424 : BitVec 32 := 0#32
  let v1673 : BitVec 32 := Scalar.addi v1672 c0_i32_1424
  let v1687 : BitVec 32 := Scalar.addi c24_i32_1437 v1673
  ![v1687.toNat]
def k0_off592 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1422 : BitVec 32 := 4#32
  let v1670 : BitVec 32 := Scalar.muli v1625 c4_i32_1422
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1671 : BitVec 32 := Scalar.addi v1670 v19
  let c32_i32_1435 : BitVec 32 := 32#32
  let v1685 : BitVec 32 := Scalar.muli v1671 c32_i32_1435
  let c0_i32_1436 : BitVec 32 := 0#32
  let v1686 : BitVec 32 := Scalar.addi v1685 c0_i32_1436
  let c0_i32_2311 : BitVec 32 := 0#32
  ![v1686.toNat, 0]
def k0_cond316 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1453 : BitVec 32 := 2#32
  let v1705 : BitVec 1 := Scalar.cmpi .sge v19 c2_i32_1453
  let v2734 : BitVec 32 := Scalar.extui v1705
  let c0_i32_2244 : BitVec 32 := 0#32
  let v2735 : BitVec 1 := Scalar.cmpi .ne v2734 c0_i32_2244
  v2735

def k0_off593 (d0 : Dev nD) : Fin 1 → Nat :=
  let c24_i32_1456 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1442 : BitVec 32 := 2#32
  let v1693 : BitVec 32 := Scalar.muli v19 c2_i32_1442
  let c1_i32_1443 : BitVec 32 := 1#32
  let v1694 : BitVec 32 := Scalar.addi v1693 c1_i32_1443
  let v1708 : BitVec 32 := Scalar.addi c24_i32_1456 v1694
  ![v1708.toNat]
def k0_off594 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1422 : BitVec 32 := 4#32
  let v1670 : BitVec 32 := Scalar.muli v1625 c4_i32_1422
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1671 : BitVec 32 := Scalar.addi v1670 v19
  let c32_i32_1454 : BitVec 32 := 32#32
  let v1706 : BitVec 32 := Scalar.muli v1671 c32_i32_1454
  let c16_i32_1455 : BitVec 32 := 16#32
  let v1707 : BitVec 32 := Scalar.addi v1706 c16_i32_1455
  let c0_i32_2311 : BitVec 32 := 0#32
  ![v1707.toNat, 0]
def k0_cond317 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1471 : BitVec 32 := 2#32
  let v1726 : BitVec 1 := Scalar.cmpi .slt v1715 c2_i32_1471
  let v1727 : BitVec 1 := Scalar.andi v1714 v1726
  let v2736 : BitVec 32 := Scalar.extui v1727
  let c0_i32_2245 : BitVec 32 := 0#32
  let v2737 : BitVec 1 := Scalar.cmpi .ne v2736 c0_i32_2245
  v2737

def k0_off595 (d0 : Dev nD) : Fin 1 → Nat :=
  let c24_i32_1474 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1464 : BitVec 32 := 2#32
  let v1718 : BitVec 32 := Scalar.muli v1715 c2_i32_1464
  let c0_i32_1465 : BitVec 32 := 0#32
  let v1719 : BitVec 32 := Scalar.addi v1718 c0_i32_1465
  let v1730 : BitVec 32 := Scalar.addi c24_i32_1474 v1719
  ![v1730.toNat]
def k0_off596 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1463 : BitVec 32 := 4#32
  let v1716 : BitVec 32 := Scalar.muli v1617 c4_i32_1463
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1717 : BitVec 32 := Scalar.addi v1716 v1715
  let c32_i32_1472 : BitVec 32 := 32#32
  let v1728 : BitVec 32 := Scalar.muli v1717 c32_i32_1472
  let c0_i32_1473 : BitVec 32 := 0#32
  let v1729 : BitVec 32 := Scalar.addi v1728 c0_i32_1473
  let c0_i32_2311 : BitVec 32 := 0#32
  ![v1729.toNat, 0]
def k0_cond318 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1486 : BitVec 32 := 2#32
  let v1744 : BitVec 1 := Scalar.cmpi .slt v1715 c2_i32_1486
  let v1745 : BitVec 1 := Scalar.andi v1714 v1744
  let v2738 : BitVec 32 := Scalar.extui v1745
  let c0_i32_2246 : BitVec 32 := 0#32
  let v2739 : BitVec 1 := Scalar.cmpi .ne v2738 c0_i32_2246
  v2739

def k0_off597 (d0 : Dev nD) : Fin 1 → Nat :=
  let c24_i32_1489 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1479 : BitVec 32 := 2#32
  let v1736 : BitVec 32 := Scalar.muli v1715 c2_i32_1479
  let c1_i32_1480 : BitVec 32 := 1#32
  let v1737 : BitVec 32 := Scalar.addi v1736 c1_i32_1480
  let v1748 : BitVec 32 := Scalar.addi c24_i32_1489 v1737
  ![v1748.toNat]
def k0_off598 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1463 : BitVec 32 := 4#32
  let v1716 : BitVec 32 := Scalar.muli v1617 c4_i32_1463
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1717 : BitVec 32 := Scalar.addi v1716 v1715
  let c32_i32_1487 : BitVec 32 := 32#32
  let v1746 : BitVec 32 := Scalar.muli v1717 c32_i32_1487
  let c16_i32_1488 : BitVec 32 := 16#32
  let v1747 : BitVec 32 := Scalar.addi v1746 c16_i32_1488
  let c0_i32_2311 : BitVec 32 := 0#32
  ![v1747.toNat, 0]
def k0_cond319 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1502 : BitVec 32 := 2#32
  let v1764 : BitVec 1 := Scalar.cmpi .sge v1715 c2_i32_1502
  let v1765 : BitVec 1 := Scalar.andi v1714 v1764
  let v2740 : BitVec 32 := Scalar.extui v1765
  let c0_i32_2247 : BitVec 32 := 0#32
  let v2741 : BitVec 1 := Scalar.cmpi .ne v2740 c0_i32_2247
  v2741

def k0_off599 (d0 : Dev nD) : Fin 1 → Nat :=
  let c24_i32_1505 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1495 : BitVec 32 := 2#32
  let v1756 : BitVec 32 := Scalar.muli v1715 c2_i32_1495
  let c0_i32_1496 : BitVec 32 := 0#32
  let v1757 : BitVec 32 := Scalar.addi v1756 c0_i32_1496
  let v1768 : BitVec 32 := Scalar.addi c24_i32_1505 v1757
  ![v1768.toNat]
def k0_off600 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1494 : BitVec 32 := 4#32
  let v1754 : BitVec 32 := Scalar.muli v1625 c4_i32_1494
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1755 : BitVec 32 := Scalar.addi v1754 v1715
  let c32_i32_1503 : BitVec 32 := 32#32
  let v1766 : BitVec 32 := Scalar.muli v1755 c32_i32_1503
  let c0_i32_1504 : BitVec 32 := 0#32
  let v1767 : BitVec 32 := Scalar.addi v1766 c0_i32_1504
  let c0_i32_2311 : BitVec 32 := 0#32
  ![v1767.toNat, 0]
def k0_cond320 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1461 : BitVec 32 := 1#32
  let v1714 : BitVec 1 := Scalar.cmpi .sge v19 c1_i32_1461
  let c1_i32_1462 : BitVec 32 := 1#32
  let v1715 : BitVec 32 := Scalar.subi v19 c1_i32_1462
  let c2_i32_1517 : BitVec 32 := 2#32
  let v1782 : BitVec 1 := Scalar.cmpi .sge v1715 c2_i32_1517
  let v1783 : BitVec 1 := Scalar.andi v1714 v1782
  let v2742 : BitVec 32 := Scalar.extui v1783
  let c0_i32_2248 : BitVec 32 := 0#32
  let v2743 : BitVec 1 := Scalar.cmpi .ne v2742 c0_i32_2248
  v2743

def k0_off601 (d0 : Dev nD) : Fin 1 → Nat :=
  let c24_i32_1520 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let c2_i32_1510 : BitVec 32 := 2#32
  let v1774 : BitVec 32 := Scalar.muli v1715 c2_i32_1510
  let c1_i32_1511 : BitVec 32 := 1#32
  let v1775 : BitVec 32 := Scalar.addi v1774 c1_i32_1511
  let v1786 : BitVec 32 := Scalar.addi c24_i32_1520 v1775
  ![v1786.toNat]
def k0_off602 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1494 : BitVec 32 := 4#32
  let v1754 : BitVec 32 := Scalar.muli v1625 c4_i32_1494
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1462 : BitVec 32 := 1#32
  let v1715 : BitVec 32 := Scalar.subi v19 c1_i32_1462
  let v1755 : BitVec 32 := Scalar.addi v1754 v1715
  let c32_i32_1518 : BitVec 32 := 32#32
  let v1784 : BitVec 32 := Scalar.muli v1755 c32_i32_1518
  let c16_i32_1519 : BitVec 32 := 16#32
  let v1785 : BitVec 32 := Scalar.addi v1784 c16_i32_1519
  let c0_i32_2311 : BitVec 32 := 0#32
  ![v1785.toNat, 0]
def k0_cond321 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1536 : BitVec 32 := 2#32
  let v1805 : BitVec 1 := Scalar.cmpi .slt v1794 c2_i32_1536
  let v1806 : BitVec 1 := Scalar.andi v1793 v1805
  let v2744 : BitVec 32 := Scalar.extui v1806
  let c0_i32_2249 : BitVec 32 := 0#32
  let v2745 : BitVec 1 := Scalar.cmpi .ne v2744 c0_i32_2249
  v2745

def k0_off603 (d0 : Dev nD) : Fin 1 → Nat :=
  let c24_i32_1539 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1529 : BitVec 32 := 2#32
  let v1797 : BitVec 32 := Scalar.muli v1794 c2_i32_1529
  let c0_i32_1530 : BitVec 32 := 0#32
  let v1798 : BitVec 32 := Scalar.addi v1797 c0_i32_1530
  let v1809 : BitVec 32 := Scalar.addi c24_i32_1539 v1798
  ![v1809.toNat]
def k0_off604 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1528 : BitVec 32 := 4#32
  let v1795 : BitVec 32 := Scalar.muli v1617 c4_i32_1528
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1796 : BitVec 32 := Scalar.addi v1795 v1794
  let c32_i32_1537 : BitVec 32 := 32#32
  let v1807 : BitVec 32 := Scalar.muli v1796 c32_i32_1537
  let c0_i32_1538 : BitVec 32 := 0#32
  let v1808 : BitVec 32 := Scalar.addi v1807 c0_i32_1538
  let c0_i32_2311 : BitVec 32 := 0#32
  ![v1808.toNat, 0]
def k0_cond322 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1551 : BitVec 32 := 2#32
  let v1823 : BitVec 1 := Scalar.cmpi .slt v1794 c2_i32_1551
  let v1824 : BitVec 1 := Scalar.andi v1793 v1823
  let v2746 : BitVec 32 := Scalar.extui v1824
  let c0_i32_2250 : BitVec 32 := 0#32
  let v2747 : BitVec 1 := Scalar.cmpi .ne v2746 c0_i32_2250
  v2747

def k0_off605 (d0 : Dev nD) : Fin 1 → Nat :=
  let c24_i32_1554 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1544 : BitVec 32 := 2#32
  let v1815 : BitVec 32 := Scalar.muli v1794 c2_i32_1544
  let c1_i32_1545 : BitVec 32 := 1#32
  let v1816 : BitVec 32 := Scalar.addi v1815 c1_i32_1545
  let v1827 : BitVec 32 := Scalar.addi c24_i32_1554 v1816
  ![v1827.toNat]
def k0_off606 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1528 : BitVec 32 := 4#32
  let v1795 : BitVec 32 := Scalar.muli v1617 c4_i32_1528
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1796 : BitVec 32 := Scalar.addi v1795 v1794
  let c32_i32_1552 : BitVec 32 := 32#32
  let v1825 : BitVec 32 := Scalar.muli v1796 c32_i32_1552
  let c16_i32_1553 : BitVec 32 := 16#32
  let v1826 : BitVec 32 := Scalar.addi v1825 c16_i32_1553
  let c0_i32_2311 : BitVec 32 := 0#32
  ![v1826.toNat, 0]
def k0_cond323 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1567 : BitVec 32 := 2#32
  let v1843 : BitVec 1 := Scalar.cmpi .sge v1794 c2_i32_1567
  let v1844 : BitVec 1 := Scalar.andi v1793 v1843
  let v2748 : BitVec 32 := Scalar.extui v1844
  let c0_i32_2251 : BitVec 32 := 0#32
  let v2749 : BitVec 1 := Scalar.cmpi .ne v2748 c0_i32_2251
  v2749

def k0_off607 (d0 : Dev nD) : Fin 1 → Nat :=
  let c24_i32_1570 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1560 : BitVec 32 := 2#32
  let v1835 : BitVec 32 := Scalar.muli v1794 c2_i32_1560
  let c0_i32_1561 : BitVec 32 := 0#32
  let v1836 : BitVec 32 := Scalar.addi v1835 c0_i32_1561
  let v1847 : BitVec 32 := Scalar.addi c24_i32_1570 v1836
  ![v1847.toNat]
def k0_off608 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1559 : BitVec 32 := 4#32
  let v1833 : BitVec 32 := Scalar.muli v1625 c4_i32_1559
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1834 : BitVec 32 := Scalar.addi v1833 v1794
  let c32_i32_1568 : BitVec 32 := 32#32
  let v1845 : BitVec 32 := Scalar.muli v1834 c32_i32_1568
  let c0_i32_1569 : BitVec 32 := 0#32
  let v1846 : BitVec 32 := Scalar.addi v1845 c0_i32_1569
  let c0_i32_2311 : BitVec 32 := 0#32
  ![v1846.toNat, 0]
def k0_cond324 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1525 : BitVec 32 := 1#32
  let v1792 : BitVec 32 := Scalar.addi v19 c1_i32_1525
  let c3_i32_1526 : BitVec 32 := 3#32
  let v1793 : BitVec 1 := Scalar.cmpi .sle v1792 c3_i32_1526
  let c1_i32_1527 : BitVec 32 := 1#32
  let v1794 : BitVec 32 := Scalar.addi v19 c1_i32_1527
  let c2_i32_1582 : BitVec 32 := 2#32
  let v1861 : BitVec 1 := Scalar.cmpi .sge v1794 c2_i32_1582
  let v1862 : BitVec 1 := Scalar.andi v1793 v1861
  let v2750 : BitVec 32 := Scalar.extui v1862
  let c0_i32_2252 : BitVec 32 := 0#32
  let v2751 : BitVec 1 := Scalar.cmpi .ne v2750 c0_i32_2252
  v2751

def k0_off609 (d0 : Dev nD) : Fin 1 → Nat :=
  let c24_i32_1585 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let c2_i32_1575 : BitVec 32 := 2#32
  let v1853 : BitVec 32 := Scalar.muli v1794 c2_i32_1575
  let c1_i32_1576 : BitVec 32 := 1#32
  let v1854 : BitVec 32 := Scalar.addi v1853 c1_i32_1576
  let v1865 : BitVec 32 := Scalar.addi c24_i32_1585 v1854
  ![v1865.toNat]
def k0_off610 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1559 : BitVec 32 := 4#32
  let v1833 : BitVec 32 := Scalar.muli v1625 c4_i32_1559
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1527 : BitVec 32 := 1#32
  let v1794 : BitVec 32 := Scalar.addi v19 c1_i32_1527
  let v1834 : BitVec 32 := Scalar.addi v1833 v1794
  let c32_i32_1583 : BitVec 32 := 32#32
  let v1863 : BitVec 32 := Scalar.muli v1834 c32_i32_1583
  let c16_i32_1584 : BitVec 32 := 16#32
  let v1864 : BitVec 32 := Scalar.addi v1863 c16_i32_1584
  let c0_i32_2311 : BitVec 32 := 0#32
  ![v1864.toNat, 0]
def k0_cond325 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1600 : BitVec 32 := 2#32
  let v1883 : BitVec 1 := Scalar.cmpi .slt v1872 c2_i32_1600
  let v1884 : BitVec 1 := Scalar.andi v1871 v1883
  let v2752 : BitVec 32 := Scalar.extui v1884
  let c0_i32_2253 : BitVec 32 := 0#32
  let v2753 : BitVec 1 := Scalar.cmpi .ne v2752 c0_i32_2253
  v2753

def k0_off611 (d0 : Dev nD) : Fin 1 → Nat :=
  let c24_i32_1603 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1593 : BitVec 32 := 2#32
  let v1875 : BitVec 32 := Scalar.muli v1872 c2_i32_1593
  let c0_i32_1594 : BitVec 32 := 0#32
  let v1876 : BitVec 32 := Scalar.addi v1875 c0_i32_1594
  let v1887 : BitVec 32 := Scalar.addi c24_i32_1603 v1876
  ![v1887.toNat]
def k0_off612 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1592 : BitVec 32 := 4#32
  let v1873 : BitVec 32 := Scalar.muli v1617 c4_i32_1592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1874 : BitVec 32 := Scalar.addi v1873 v1872
  let c32_i32_1601 : BitVec 32 := 32#32
  let v1885 : BitVec 32 := Scalar.muli v1874 c32_i32_1601
  let c0_i32_1602 : BitVec 32 := 0#32
  let v1886 : BitVec 32 := Scalar.addi v1885 c0_i32_1602
  let c0_i32_2311 : BitVec 32 := 0#32
  ![v1886.toNat, 0]
def k0_cond326 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1615 : BitVec 32 := 2#32
  let v1901 : BitVec 1 := Scalar.cmpi .slt v1872 c2_i32_1615
  let v1902 : BitVec 1 := Scalar.andi v1871 v1901
  let v2754 : BitVec 32 := Scalar.extui v1902
  let c0_i32_2254 : BitVec 32 := 0#32
  let v2755 : BitVec 1 := Scalar.cmpi .ne v2754 c0_i32_2254
  v2755

def k0_off613 (d0 : Dev nD) : Fin 1 → Nat :=
  let c24_i32_1618 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1608 : BitVec 32 := 2#32
  let v1893 : BitVec 32 := Scalar.muli v1872 c2_i32_1608
  let c1_i32_1609 : BitVec 32 := 1#32
  let v1894 : BitVec 32 := Scalar.addi v1893 c1_i32_1609
  let v1905 : BitVec 32 := Scalar.addi c24_i32_1618 v1894
  ![v1905.toNat]
def k0_off614 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1592 : BitVec 32 := 4#32
  let v1873 : BitVec 32 := Scalar.muli v1617 c4_i32_1592
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1874 : BitVec 32 := Scalar.addi v1873 v1872
  let c32_i32_1616 : BitVec 32 := 32#32
  let v1903 : BitVec 32 := Scalar.muli v1874 c32_i32_1616
  let c16_i32_1617 : BitVec 32 := 16#32
  let v1904 : BitVec 32 := Scalar.addi v1903 c16_i32_1617
  let c0_i32_2311 : BitVec 32 := 0#32
  ![v1904.toNat, 0]
def k0_cond327 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1631 : BitVec 32 := 2#32
  let v1921 : BitVec 1 := Scalar.cmpi .sge v1872 c2_i32_1631
  let v1922 : BitVec 1 := Scalar.andi v1871 v1921
  let v2756 : BitVec 32 := Scalar.extui v1922
  let c0_i32_2255 : BitVec 32 := 0#32
  let v2757 : BitVec 1 := Scalar.cmpi .ne v2756 c0_i32_2255
  v2757

def k0_off615 (d0 : Dev nD) : Fin 1 → Nat :=
  let c24_i32_1634 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1624 : BitVec 32 := 2#32
  let v1913 : BitVec 32 := Scalar.muli v1872 c2_i32_1624
  let c0_i32_1625 : BitVec 32 := 0#32
  let v1914 : BitVec 32 := Scalar.addi v1913 c0_i32_1625
  let v1925 : BitVec 32 := Scalar.addi c24_i32_1634 v1914
  ![v1925.toNat]
def k0_off616 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1623 : BitVec 32 := 4#32
  let v1911 : BitVec 32 := Scalar.muli v1625 c4_i32_1623
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1912 : BitVec 32 := Scalar.addi v1911 v1872
  let c32_i32_1632 : BitVec 32 := 32#32
  let v1923 : BitVec 32 := Scalar.muli v1912 c32_i32_1632
  let c0_i32_1633 : BitVec 32 := 0#32
  let v1924 : BitVec 32 := Scalar.addi v1923 c0_i32_1633
  let c0_i32_2311 : BitVec 32 := 0#32
  ![v1924.toNat, 0]
def k0_cond328 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1590 : BitVec 32 := 2#32
  let v1871 : BitVec 1 := Scalar.cmpi .sge v19 c2_i32_1590
  let c2_i32_1591 : BitVec 32 := 2#32
  let v1872 : BitVec 32 := Scalar.subi v19 c2_i32_1591
  let c2_i32_1646 : BitVec 32 := 2#32
  let v1939 : BitVec 1 := Scalar.cmpi .sge v1872 c2_i32_1646
  let v1940 : BitVec 1 := Scalar.andi v1871 v1939
  let v2758 : BitVec 32 := Scalar.extui v1940
  let c0_i32_2256 : BitVec 32 := 0#32
  let v2759 : BitVec 1 := Scalar.cmpi .ne v2758 c0_i32_2256
  v2759

def k0_off617 (d0 : Dev nD) : Fin 1 → Nat :=
  let c24_i32_1649 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let c2_i32_1639 : BitVec 32 := 2#32
  let v1931 : BitVec 32 := Scalar.muli v1872 c2_i32_1639
  let c1_i32_1640 : BitVec 32 := 1#32
  let v1932 : BitVec 32 := Scalar.addi v1931 c1_i32_1640
  let v1943 : BitVec 32 := Scalar.addi c24_i32_1649 v1932
  ![v1943.toNat]
def k0_off618 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1623 : BitVec 32 := 4#32
  let v1911 : BitVec 32 := Scalar.muli v1625 c4_i32_1623
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1591 : BitVec 32 := 2#32
  let v1872 : BitVec 32 := Scalar.subi v19 c2_i32_1591
  let v1912 : BitVec 32 := Scalar.addi v1911 v1872
  let c32_i32_1647 : BitVec 32 := 32#32
  let v1941 : BitVec 32 := Scalar.muli v1912 c32_i32_1647
  let c16_i32_1648 : BitVec 32 := 16#32
  let v1942 : BitVec 32 := Scalar.addi v1941 c16_i32_1648
  let c0_i32_2311 : BitVec 32 := 0#32
  ![v1942.toNat, 0]
def k0_cond329 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1665 : BitVec 32 := 2#32
  let v1962 : BitVec 1 := Scalar.cmpi .slt v1951 c2_i32_1665
  let v1963 : BitVec 1 := Scalar.andi v1950 v1962
  let v2760 : BitVec 32 := Scalar.extui v1963
  let c0_i32_2257 : BitVec 32 := 0#32
  let v2761 : BitVec 1 := Scalar.cmpi .ne v2760 c0_i32_2257
  v2761

def k0_off619 (d0 : Dev nD) : Fin 1 → Nat :=
  let c24_i32_1668 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1658 : BitVec 32 := 2#32
  let v1954 : BitVec 32 := Scalar.muli v1951 c2_i32_1658
  let c0_i32_1659 : BitVec 32 := 0#32
  let v1955 : BitVec 32 := Scalar.addi v1954 c0_i32_1659
  let v1966 : BitVec 32 := Scalar.addi c24_i32_1668 v1955
  ![v1966.toNat]
def k0_off620 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1657 : BitVec 32 := 4#32
  let v1952 : BitVec 32 := Scalar.muli v1617 c4_i32_1657
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1953 : BitVec 32 := Scalar.addi v1952 v1951
  let c32_i32_1666 : BitVec 32 := 32#32
  let v1964 : BitVec 32 := Scalar.muli v1953 c32_i32_1666
  let c0_i32_1667 : BitVec 32 := 0#32
  let v1965 : BitVec 32 := Scalar.addi v1964 c0_i32_1667
  let c0_i32_2311 : BitVec 32 := 0#32
  ![v1965.toNat, 0]
def k0_cond330 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1680 : BitVec 32 := 2#32
  let v1980 : BitVec 1 := Scalar.cmpi .slt v1951 c2_i32_1680
  let v1981 : BitVec 1 := Scalar.andi v1950 v1980
  let v2762 : BitVec 32 := Scalar.extui v1981
  let c0_i32_2258 : BitVec 32 := 0#32
  let v2763 : BitVec 1 := Scalar.cmpi .ne v2762 c0_i32_2258
  v2763

def k0_off621 (d0 : Dev nD) : Fin 1 → Nat :=
  let c24_i32_1683 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1673 : BitVec 32 := 2#32
  let v1972 : BitVec 32 := Scalar.muli v1951 c2_i32_1673
  let c1_i32_1674 : BitVec 32 := 1#32
  let v1973 : BitVec 32 := Scalar.addi v1972 c1_i32_1674
  let v1984 : BitVec 32 := Scalar.addi c24_i32_1683 v1973
  ![v1984.toNat]
def k0_off622 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1657 : BitVec 32 := 4#32
  let v1952 : BitVec 32 := Scalar.muli v1617 c4_i32_1657
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1953 : BitVec 32 := Scalar.addi v1952 v1951
  let c32_i32_1681 : BitVec 32 := 32#32
  let v1982 : BitVec 32 := Scalar.muli v1953 c32_i32_1681
  let c16_i32_1682 : BitVec 32 := 16#32
  let v1983 : BitVec 32 := Scalar.addi v1982 c16_i32_1682
  let c0_i32_2311 : BitVec 32 := 0#32
  ![v1983.toNat, 0]
def k0_cond331 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1696 : BitVec 32 := 2#32
  let v2000 : BitVec 1 := Scalar.cmpi .sge v1951 c2_i32_1696
  let v2001 : BitVec 1 := Scalar.andi v1950 v2000
  let v2764 : BitVec 32 := Scalar.extui v2001
  let c0_i32_2259 : BitVec 32 := 0#32
  let v2765 : BitVec 1 := Scalar.cmpi .ne v2764 c0_i32_2259
  v2765

def k0_off623 (d0 : Dev nD) : Fin 1 → Nat :=
  let c24_i32_1699 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1689 : BitVec 32 := 2#32
  let v1992 : BitVec 32 := Scalar.muli v1951 c2_i32_1689
  let c0_i32_1690 : BitVec 32 := 0#32
  let v1993 : BitVec 32 := Scalar.addi v1992 c0_i32_1690
  let v2004 : BitVec 32 := Scalar.addi c24_i32_1699 v1993
  ![v2004.toNat]
def k0_off624 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1688 : BitVec 32 := 4#32
  let v1990 : BitVec 32 := Scalar.muli v1625 c4_i32_1688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1991 : BitVec 32 := Scalar.addi v1990 v1951
  let c32_i32_1697 : BitVec 32 := 32#32
  let v2002 : BitVec 32 := Scalar.muli v1991 c32_i32_1697
  let c0_i32_1698 : BitVec 32 := 0#32
  let v2003 : BitVec 32 := Scalar.addi v2002 c0_i32_1698
  let c0_i32_2311 : BitVec 32 := 0#32
  ![v2003.toNat, 0]
def k0_cond332 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1654 : BitVec 32 := 2#32
  let v1949 : BitVec 32 := Scalar.addi v19 c2_i32_1654
  let c3_i32_1655 : BitVec 32 := 3#32
  let v1950 : BitVec 1 := Scalar.cmpi .sle v1949 c3_i32_1655
  let c2_i32_1656 : BitVec 32 := 2#32
  let v1951 : BitVec 32 := Scalar.addi v19 c2_i32_1656
  let c2_i32_1711 : BitVec 32 := 2#32
  let v2018 : BitVec 1 := Scalar.cmpi .sge v1951 c2_i32_1711
  let v2019 : BitVec 1 := Scalar.andi v1950 v2018
  let v2766 : BitVec 32 := Scalar.extui v2019
  let c0_i32_2260 : BitVec 32 := 0#32
  let v2767 : BitVec 1 := Scalar.cmpi .ne v2766 c0_i32_2260
  v2767

def k0_off625 (d0 : Dev nD) : Fin 1 → Nat :=
  let c24_i32_1714 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let c2_i32_1704 : BitVec 32 := 2#32
  let v2010 : BitVec 32 := Scalar.muli v1951 c2_i32_1704
  let c1_i32_1705 : BitVec 32 := 1#32
  let v2011 : BitVec 32 := Scalar.addi v2010 c1_i32_1705
  let v2022 : BitVec 32 := Scalar.addi c24_i32_1714 v2011
  ![v2022.toNat]
def k0_off626 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1688 : BitVec 32 := 4#32
  let v1990 : BitVec 32 := Scalar.muli v1625 c4_i32_1688
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1656 : BitVec 32 := 2#32
  let v1951 : BitVec 32 := Scalar.addi v19 c2_i32_1656
  let v1991 : BitVec 32 := Scalar.addi v1990 v1951
  let c32_i32_1712 : BitVec 32 := 32#32
  let v2020 : BitVec 32 := Scalar.muli v1991 c32_i32_1712
  let c16_i32_1713 : BitVec 32 := 16#32
  let v2021 : BitVec 32 := Scalar.addi v2020 c16_i32_1713
  let c0_i32_2311 : BitVec 32 := 0#32
  ![v2021.toNat, 0]
def k0_cond333 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1729 : BitVec 32 := 2#32
  let v2040 : BitVec 1 := Scalar.cmpi .slt v2029 c2_i32_1729
  let v2041 : BitVec 1 := Scalar.andi v2028 v2040
  let v2768 : BitVec 32 := Scalar.extui v2041
  let c0_i32_2261 : BitVec 32 := 0#32
  let v2769 : BitVec 1 := Scalar.cmpi .ne v2768 c0_i32_2261
  v2769

def k0_off627 (d0 : Dev nD) : Fin 1 → Nat :=
  let c24_i32_1732 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1722 : BitVec 32 := 2#32
  let v2032 : BitVec 32 := Scalar.muli v2029 c2_i32_1722
  let c0_i32_1723 : BitVec 32 := 0#32
  let v2033 : BitVec 32 := Scalar.addi v2032 c0_i32_1723
  let v2044 : BitVec 32 := Scalar.addi c24_i32_1732 v2033
  ![v2044.toNat]
def k0_off628 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1721 : BitVec 32 := 4#32
  let v2030 : BitVec 32 := Scalar.muli v1617 c4_i32_1721
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2031 : BitVec 32 := Scalar.addi v2030 v2029
  let c32_i32_1730 : BitVec 32 := 32#32
  let v2042 : BitVec 32 := Scalar.muli v2031 c32_i32_1730
  let c0_i32_1731 : BitVec 32 := 0#32
  let v2043 : BitVec 32 := Scalar.addi v2042 c0_i32_1731
  let c0_i32_2311 : BitVec 32 := 0#32
  ![v2043.toNat, 0]
def k0_cond334 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1744 : BitVec 32 := 2#32
  let v2058 : BitVec 1 := Scalar.cmpi .slt v2029 c2_i32_1744
  let v2059 : BitVec 1 := Scalar.andi v2028 v2058
  let v2770 : BitVec 32 := Scalar.extui v2059
  let c0_i32_2262 : BitVec 32 := 0#32
  let v2771 : BitVec 1 := Scalar.cmpi .ne v2770 c0_i32_2262
  v2771

def k0_off629 (d0 : Dev nD) : Fin 1 → Nat :=
  let c24_i32_1747 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1737 : BitVec 32 := 2#32
  let v2050 : BitVec 32 := Scalar.muli v2029 c2_i32_1737
  let c1_i32_1738 : BitVec 32 := 1#32
  let v2051 : BitVec 32 := Scalar.addi v2050 c1_i32_1738
  let v2062 : BitVec 32 := Scalar.addi c24_i32_1747 v2051
  ![v2062.toNat]
def k0_off630 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1721 : BitVec 32 := 4#32
  let v2030 : BitVec 32 := Scalar.muli v1617 c4_i32_1721
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2031 : BitVec 32 := Scalar.addi v2030 v2029
  let c32_i32_1745 : BitVec 32 := 32#32
  let v2060 : BitVec 32 := Scalar.muli v2031 c32_i32_1745
  let c16_i32_1746 : BitVec 32 := 16#32
  let v2061 : BitVec 32 := Scalar.addi v2060 c16_i32_1746
  let c0_i32_2311 : BitVec 32 := 0#32
  ![v2061.toNat, 0]
def k0_cond335 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1760 : BitVec 32 := 2#32
  let v2078 : BitVec 1 := Scalar.cmpi .sge v2029 c2_i32_1760
  let v2079 : BitVec 1 := Scalar.andi v2028 v2078
  let v2772 : BitVec 32 := Scalar.extui v2079
  let c0_i32_2263 : BitVec 32 := 0#32
  let v2773 : BitVec 1 := Scalar.cmpi .ne v2772 c0_i32_2263
  v2773

def k0_off631 (d0 : Dev nD) : Fin 1 → Nat :=
  let c24_i32_1763 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1753 : BitVec 32 := 2#32
  let v2070 : BitVec 32 := Scalar.muli v2029 c2_i32_1753
  let c0_i32_1754 : BitVec 32 := 0#32
  let v2071 : BitVec 32 := Scalar.addi v2070 c0_i32_1754
  let v2082 : BitVec 32 := Scalar.addi c24_i32_1763 v2071
  ![v2082.toNat]
def k0_off632 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1752 : BitVec 32 := 4#32
  let v2068 : BitVec 32 := Scalar.muli v1625 c4_i32_1752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2069 : BitVec 32 := Scalar.addi v2068 v2029
  let c32_i32_1761 : BitVec 32 := 32#32
  let v2080 : BitVec 32 := Scalar.muli v2069 c32_i32_1761
  let c0_i32_1762 : BitVec 32 := 0#32
  let v2081 : BitVec 32 := Scalar.addi v2080 c0_i32_1762
  let c0_i32_2311 : BitVec 32 := 0#32
  ![v2081.toNat, 0]
def k0_cond336 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1719 : BitVec 32 := 3#32
  let v2028 : BitVec 1 := Scalar.cmpi .sge v19 c3_i32_1719
  let c3_i32_1720 : BitVec 32 := 3#32
  let v2029 : BitVec 32 := Scalar.subi v19 c3_i32_1720
  let c2_i32_1775 : BitVec 32 := 2#32
  let v2096 : BitVec 1 := Scalar.cmpi .sge v2029 c2_i32_1775
  let v2097 : BitVec 1 := Scalar.andi v2028 v2096
  let v2774 : BitVec 32 := Scalar.extui v2097
  let c0_i32_2264 : BitVec 32 := 0#32
  let v2775 : BitVec 1 := Scalar.cmpi .ne v2774 c0_i32_2264
  v2775

def k0_off633 (d0 : Dev nD) : Fin 1 → Nat :=
  let c24_i32_1778 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let c2_i32_1768 : BitVec 32 := 2#32
  let v2088 : BitVec 32 := Scalar.muli v2029 c2_i32_1768
  let c1_i32_1769 : BitVec 32 := 1#32
  let v2089 : BitVec 32 := Scalar.addi v2088 c1_i32_1769
  let v2100 : BitVec 32 := Scalar.addi c24_i32_1778 v2089
  ![v2100.toNat]
def k0_off634 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1752 : BitVec 32 := 4#32
  let v2068 : BitVec 32 := Scalar.muli v1625 c4_i32_1752
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1720 : BitVec 32 := 3#32
  let v2029 : BitVec 32 := Scalar.subi v19 c3_i32_1720
  let v2069 : BitVec 32 := Scalar.addi v2068 v2029
  let c32_i32_1776 : BitVec 32 := 32#32
  let v2098 : BitVec 32 := Scalar.muli v2069 c32_i32_1776
  let c16_i32_1777 : BitVec 32 := 16#32
  let v2099 : BitVec 32 := Scalar.addi v2098 c16_i32_1777
  let c0_i32_2311 : BitVec 32 := 0#32
  ![v2099.toNat, 0]
def k0_cond337 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1794 : BitVec 32 := 2#32
  let v2119 : BitVec 1 := Scalar.cmpi .slt v2108 c2_i32_1794
  let v2120 : BitVec 1 := Scalar.andi v2107 v2119
  let v2776 : BitVec 32 := Scalar.extui v2120
  let c0_i32_2265 : BitVec 32 := 0#32
  let v2777 : BitVec 1 := Scalar.cmpi .ne v2776 c0_i32_2265
  v2777

def k0_off635 (d0 : Dev nD) : Fin 1 → Nat :=
  let c24_i32_1797 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1787 : BitVec 32 := 2#32
  let v2111 : BitVec 32 := Scalar.muli v2108 c2_i32_1787
  let c0_i32_1788 : BitVec 32 := 0#32
  let v2112 : BitVec 32 := Scalar.addi v2111 c0_i32_1788
  let v2123 : BitVec 32 := Scalar.addi c24_i32_1797 v2112
  ![v2123.toNat]
def k0_off636 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1786 : BitVec 32 := 4#32
  let v2109 : BitVec 32 := Scalar.muli v1617 c4_i32_1786
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2110 : BitVec 32 := Scalar.addi v2109 v2108
  let c32_i32_1795 : BitVec 32 := 32#32
  let v2121 : BitVec 32 := Scalar.muli v2110 c32_i32_1795
  let c0_i32_1796 : BitVec 32 := 0#32
  let v2122 : BitVec 32 := Scalar.addi v2121 c0_i32_1796
  let c0_i32_2311 : BitVec 32 := 0#32
  ![v2122.toNat, 0]
def k0_cond338 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1809 : BitVec 32 := 2#32
  let v2137 : BitVec 1 := Scalar.cmpi .slt v2108 c2_i32_1809
  let v2138 : BitVec 1 := Scalar.andi v2107 v2137
  let v2778 : BitVec 32 := Scalar.extui v2138
  let c0_i32_2266 : BitVec 32 := 0#32
  let v2779 : BitVec 1 := Scalar.cmpi .ne v2778 c0_i32_2266
  v2779

def k0_off637 (d0 : Dev nD) : Fin 1 → Nat :=
  let c24_i32_1812 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1802 : BitVec 32 := 2#32
  let v2129 : BitVec 32 := Scalar.muli v2108 c2_i32_1802
  let c1_i32_1803 : BitVec 32 := 1#32
  let v2130 : BitVec 32 := Scalar.addi v2129 c1_i32_1803
  let v2141 : BitVec 32 := Scalar.addi c24_i32_1812 v2130
  ![v2141.toNat]
def k0_off638 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1371 : BitVec 32 := 3#32
  let v1609 : BitVec 32 := Scalar.subi v28 c3_i32_1371
  let c8_i32_1372 : BitVec 32 := 8#32
  let v1610 : BitVec 32 := Scalar.addi v1609 c8_i32_1372
  let c8_i32_1373 : BitVec 32 := 8#32
  let v1611 : BitVec 32 := Scalar.remsi v1610 c8_i32_1373
  let c3_i32_1374 : BitVec 32 := 3#32
  let v1612 : BitVec 1 := Scalar.cmpi .slt v1611 c3_i32_1374
  let c6_i32_1375 : BitVec 32 := 6#32
  let v1613 : BitVec 1 := Scalar.cmpi .slt v1611 c6_i32_1375
  let c2_i32_1376 : BitVec 32 := 2#32
  let v1614 : BitVec 32 := Scalar.addi v1611 c2_i32_1376
  let c10_i32_1377 : BitVec 32 := 10#32
  let v1615 : BitVec 32 := Scalar.subi c10_i32_1377 v1611
  let v1616 : BitVec 32 := Scalar.select v1613 v1614 v1615
  let v1617 : BitVec 32 := Scalar.select v1612 v1611 v1616
  let c4_i32_1786 : BitVec 32 := 4#32
  let v2109 : BitVec 32 := Scalar.muli v1617 c4_i32_1786
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2110 : BitVec 32 := Scalar.addi v2109 v2108
  let c32_i32_1810 : BitVec 32 := 32#32
  let v2139 : BitVec 32 := Scalar.muli v2110 c32_i32_1810
  let c16_i32_1811 : BitVec 32 := 16#32
  let v2140 : BitVec 32 := Scalar.addi v2139 c16_i32_1811
  let c0_i32_2311 : BitVec 32 := 0#32
  ![v2140.toNat, 0]
def k0_cond339 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1825 : BitVec 32 := 2#32
  let v2157 : BitVec 1 := Scalar.cmpi .sge v2108 c2_i32_1825
  let v2158 : BitVec 1 := Scalar.andi v2107 v2157
  let v2780 : BitVec 32 := Scalar.extui v2158
  let c0_i32_2267 : BitVec 32 := 0#32
  let v2781 : BitVec 1 := Scalar.cmpi .ne v2780 c0_i32_2267
  v2781

def k0_off639 (d0 : Dev nD) : Fin 1 → Nat :=
  let c24_i32_1828 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1818 : BitVec 32 := 2#32
  let v2149 : BitVec 32 := Scalar.muli v2108 c2_i32_1818
  let c0_i32_1819 : BitVec 32 := 0#32
  let v2150 : BitVec 32 := Scalar.addi v2149 c0_i32_1819
  let v2161 : BitVec 32 := Scalar.addi c24_i32_1828 v2150
  ![v2161.toNat]
def k0_off640 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1817 : BitVec 32 := 4#32
  let v2147 : BitVec 32 := Scalar.muli v1625 c4_i32_1817
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2148 : BitVec 32 := Scalar.addi v2147 v2108
  let c32_i32_1826 : BitVec 32 := 32#32
  let v2159 : BitVec 32 := Scalar.muli v2148 c32_i32_1826
  let c0_i32_1827 : BitVec 32 := 0#32
  let v2160 : BitVec 32 := Scalar.addi v2159 c0_i32_1827
  let c0_i32_2311 : BitVec 32 := 0#32
  ![v2160.toNat, 0]
def k0_cond340 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1783 : BitVec 32 := 3#32
  let v2106 : BitVec 32 := Scalar.addi v19 c3_i32_1783
  let c3_i32_1784 : BitVec 32 := 3#32
  let v2107 : BitVec 1 := Scalar.cmpi .sle v2106 c3_i32_1784
  let c3_i32_1785 : BitVec 32 := 3#32
  let v2108 : BitVec 32 := Scalar.addi v19 c3_i32_1785
  let c2_i32_1840 : BitVec 32 := 2#32
  let v2175 : BitVec 1 := Scalar.cmpi .sge v2108 c2_i32_1840
  let v2176 : BitVec 1 := Scalar.andi v2107 v2175
  let v2782 : BitVec 32 := Scalar.extui v2176
  let c0_i32_2268 : BitVec 32 := 0#32
  let v2783 : BitVec 1 := Scalar.cmpi .ne v2782 c0_i32_2268
  v2783

def k0_off641 (d0 : Dev nD) : Fin 1 → Nat :=
  let c24_i32_1843 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let c2_i32_1833 : BitVec 32 := 2#32
  let v2167 : BitVec 32 := Scalar.muli v2108 c2_i32_1833
  let c1_i32_1834 : BitVec 32 := 1#32
  let v2168 : BitVec 32 := Scalar.addi v2167 c1_i32_1834
  let v2179 : BitVec 32 := Scalar.addi c24_i32_1843 v2168
  ![v2179.toNat]
def k0_off642 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c3_i32 : BitVec 32 := 3#32
  let v22 : BitVec 1 := Scalar.cmpi .slt v20 c3_i32
  let c5_i32 : BitVec 32 := 5#32
  let v23 : BitVec 1 := Scalar.cmpi .sge v20 c5_i32
  let c2_i32 : BitVec 32 := 2#32
  let v24 : BitVec 32 := Scalar.subi v20 c2_i32
  let c4_i32 : BitVec 32 := 4#32
  let v25 : BitVec 1 := Scalar.cmpi .eq v20 c4_i32
  let c6_i32 : BitVec 32 := 6#32
  let c7_i32 : BitVec 32 := 7#32
  let v26 : BitVec 32 := Scalar.select v25 c6_i32 c7_i32
  let v27 : BitVec 32 := Scalar.select v23 v24 v26
  let v28 : BitVec 32 := Scalar.select v22 v20 v27
  let c3_i32_1378 : BitVec 32 := 3#32
  let v1618 : BitVec 32 := Scalar.addi v28 c3_i32_1378
  let c8_i32_1379 : BitVec 32 := 8#32
  let v1619 : BitVec 32 := Scalar.remsi v1618 c8_i32_1379
  let c3_i32_1380 : BitVec 32 := 3#32
  let v1620 : BitVec 1 := Scalar.cmpi .slt v1619 c3_i32_1380
  let c6_i32_1381 : BitVec 32 := 6#32
  let v1621 : BitVec 1 := Scalar.cmpi .slt v1619 c6_i32_1381
  let c2_i32_1382 : BitVec 32 := 2#32
  let v1622 : BitVec 32 := Scalar.addi v1619 c2_i32_1382
  let c10_i32_1383 : BitVec 32 := 10#32
  let v1623 : BitVec 32 := Scalar.subi c10_i32_1383 v1619
  let v1624 : BitVec 32 := Scalar.select v1621 v1622 v1623
  let v1625 : BitVec 32 := Scalar.select v1620 v1619 v1624
  let c4_i32_1817 : BitVec 32 := 4#32
  let v2147 : BitVec 32 := Scalar.muli v1625 c4_i32_1817
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1785 : BitVec 32 := 3#32
  let v2108 : BitVec 32 := Scalar.addi v19 c3_i32_1785
  let v2148 : BitVec 32 := Scalar.addi v2147 v2108
  let c32_i32_1841 : BitVec 32 := 32#32
  let v2177 : BitVec 32 := Scalar.muli v2148 c32_i32_1841
  let c16_i32_1842 : BitVec 32 := 16#32
  let v2178 : BitVec 32 := Scalar.addi v2177 c16_i32_1842
  let c0_i32_2311 : BitVec 32 := 0#32
  ![v2178.toNat, 0]
abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Topo.lean ====
/-
# The transfers of the gather, and the order one device performs its steps in

Thirty-two devices: device `8 * p + q` stands at row `p` (of four) and column `q` (of eight). A block of `x` travels
up and down its column and both ways around the eight columns of a row, which form a ring in the order
`ringQ 0 … ringQ 7`. Every block travels in two halves of sixteen rows. A device has at most 76 transfers to start:
six upwards, six downwards, thirty-two to the right and thirty-two to the left along the ring.

This module is arithmetic only: which transfers exist, which half of the gathered array each carries, who receives
it, the order of a device's steps, and the check that in this order every step finds what it needs.
-/
module

public import Idealize.ShloMosaic.Lib.Tactic

@[expose] public section

namespace Cert.Gather

/-- The column at place `r` of the ring. -/
def ringQ (r : ℕ) : ℕ := if r < 3 then r else if r < 6 then r + 2 else 10 - r
/-- The place of column `q` in the ring. -/
def ringR (q : ℕ) : ℕ := if q < 3 then q else if q = 3 then 7 else if q = 4 then 6 else q - 2

/-- The direction of transfer `i`: `0` up, `1` down, `2` right, `3` left. -/
def dirN (i : ℕ) : ℕ := if i < 6 then 0 else if i < 12 then 1 else if i < 44 then 2 else 3
/-- The opposite direction. -/
def oppN (d : ℕ) : ℕ := if d = 0 then 1 else if d = 1 then 0 else if d = 2 then 3 else 2

/-- The neighbour of device `c` in direction `d` (rows wrap around; `hasN` says which neighbours the kernel uses). -/
def tgtN (c d : ℕ) : ℕ :=
  if d = 0 then (c + 8) % 32 else if d = 1 then (c + 24) % 32
  else if d = 2 then c / 8 * 8 + ringQ ((ringR (c % 8) + 1) % 8) else c / 8 * 8 + ringQ ((ringR (c % 8) + 7) % 8)

/-- Whether device `c` has a neighbour in direction `d`. -/
def hasN (c d : ℕ) : Bool := if d = 0 then c / 8 < 3 else if d = 1 then 0 < c / 8 else true

/-- Whether device `c` starts transfer `i`. -/
def usedN (c i : ℕ) : Bool :=
  if i < 6 then c / 8 < 3 && i / 2 ≤ c / 8
  else if i < 12 then 0 < c / 8 && c / 8 + (i - 6) / 2 ≤ 3
  else if i < 44 then (i - 12) / 8 < 3 || (i - 12) % 8 / 2 < 2
  else (i - 44) / 8 < 3 || 2 ≤ (i - 44) % 8 / 2

/-- The slot (32 rows) of the gathered array that transfer `i` of device `c` carries. -/
def slotN (c i : ℕ) : ℕ :=
  if i < 6 then c % 8 * 4 + (c / 8 - i / 2)
  else if i < 12 then c % 8 * 4 + (c / 8 + (i - 6) / 2)
  else if i < 44 then ringQ ((ringR (c % 8) + 8 - (i - 12) / 8) % 8) * 4 + (i - 12) % 8 / 2
  else ringQ ((ringR (c % 8) + (i - 44) / 8) % 8) * 4 + (i - 44) % 8 / 2

/-- The half slot (16 rows) transfer `i` of device `c` carries. -/
def halfN (c i : ℕ) : ℕ := (2 * slotN c i + i % 2) % 64

/-- The device whose transfer `i` arrives at device `c`. -/
def srcN (c i : ℕ) : ℕ := tgtN c (oppN (dirN i))

/-- The slot device `c`'s own block of `x` goes to. -/
def ownN (c : ℕ) : ℕ := c % 8 * 4 + c / 8

/-- The transfer that brings half slot `k` to device `c` (for `k` not in its own slot). -/
def inIdxN (c k : ℕ) : ℕ :=
  let s := k / 2
  let hf := k % 2
  let j := s % 4
  if s / 4 = c % 8 then (if j < c / 8 then (c / 8 - 1 - j) * 2 + hf else 6 + (j - c / 8 - 1) * 2 + hf)
  else
    let a := (ringR (c % 8) + 8 - ringR (s / 4)) % 8
    if a < 4 ∨ (a = 4 ∧ j < 2) then 12 + (a - 1) * 8 + j * 2 + hf else 44 + (7 - a) * 8 + j * 2 + hf

/-! ## The steps in order -/

/-- A step, coded: `0` nothing, `100 + i` start transfer `i`, `200 + i` wait for the arrival of transfer `i`,
    `300 + i` wait for the departure of transfer `i`. -/
def cond (b : Bool) (n : ℕ) : ℕ := if b then n else 0

/-- The row a chunk stands for: the device's own, then one below, one above, two below, … -/
def chunkOk (p e : ℕ) : Bool := if e = 0 then true else if e % 2 = 1 then (e + 1) / 2 ≤ p else p + e / 2 ≤ 3
def chunkJ (p e : ℕ) : ℕ := if e = 0 then p else if e % 2 = 1 then p - (e + 1) / 2 else p + e / 2

/-- The first eight steps: the device's own block in all four directions. -/
def opA (c n : ℕ) : ℕ :=
  let hf := n / 4
  let o := n % 4
  if o = 0 then cond (c / 8 < 3) (100 + hf)
  else if o = 1 then cond (0 < c / 8) (106 + hf)
  else if o = 2 then 112 + c / 8 * 2 + hf
  else 144 + c / 8 * 2 + hf

/-- The column steps at distance `d`, from below (`side = 0`) or above: receive, pass on, send both ways round. -/
def opB (c d side hf o : ℕ) : ℕ :=
  let p := c / 8
  let ok : Bool := if side = 0 then d ≤ p else p + d ≤ 3
  let j := if side = 0 then p - d else p + d
  if o = 0 then cond ok (200 + side * 6 + (d - 1) * 2 + hf)
  else if o = 1 then cond (ok && hasN c side) (100 + side * 6 + d * 2 + hf)
  else if o = 2 then cond ok (112 + j * 2 + hf)
  else cond ok (144 + j * 2 + hf)

/-- The ring steps at hop `h`, for chunk `e`: receive from one side, pass on to the other. -/
def opC (c h e l hf o : ℕ) : ℕ :=
  let p := c / 8
  let j := chunkJ p e
  let ix := (if l = 0 then 12 else 44) + j * 2 + hf
  if o = 0 then cond (chunkOk p e) (200 + (h - 1) * 8 + ix)
  else cond (chunkOk p e && (h < 3 || (if l = 0 then j < 2 else 2 ≤ j))) (100 + h * 8 + ix)

/-- The last arrivals. -/
def opD (c e hf o : ℕ) : ℕ :=
  let p := c / 8
  let j := chunkJ p e
  if o = 0 then cond (chunkOk p e && j < 2) (200 + 36 + j * 2 + hf)
  else cond (chunkOk p e && 2 ≤ j) (200 + 68 + j * 2 + hf)

/-- Steps `0 … 247`: everything but the waits for the departures. -/
def opS (c n : ℕ) : ℕ :=
  if n < 8 then opA c n
  else if n < 40 then let m := n - 8; opB c (1 + m / 16) (m % 16 / 8) (m % 8 / 4) (m % 4)
  else if n < 52 then let m := n - 40; opB c 3 (m / 6) (m % 6 / 3) (if m % 3 = 0 then 0 else m % 3 + 1)
  else if n < 220 then let m := n - 52; opC c (1 + m / 56) (m % 56 / 8) (m % 8 / 4) (m % 4 / 2) (m % 2)
  else let m := n - 220; opD c (m / 4) (m % 4 / 2) (m % 2)

/-- The step at which the `m`-th start happens. -/
def sendPos (m : ℕ) : ℕ :=
  if m < 8 then m
  else if m < 32 then let a := m - 8; 8 + a / 3 * 4 + a % 3 + 1
  else if m < 40 then let a := m - 32; 40 + a / 2 * 3 + a % 2 + 1
  else 52 + 2 * (m - 40) + 1

/-- The step at place `n`. -/
def opN (c n : ℕ) : ℕ :=
  if n < 248 then opS c n
  else let k := opS c (sendPos (n - 248)); if k = 0 then 0 else k + 200

/-! ## What a device holds between two steps -/

/-- Bit sets: `s` the transfers not started, `f` those started and not waited for, `r` the arrivals not waited for,
    `h` the quarters of the half slots held (bit `4 * k + d`: the share of half slot `k` set aside for direction `d`). -/
structure Bits where
  s : ℕ
  f : ℕ
  r : ℕ
  h : ℕ

/-- The transfers at level at most that of transfer `i`'s arrival. -/
def lowMask (i : ℕ) : ℕ :=
  if i < 6 then (2 ^ (i / 2 * 2 + 2) - 1) * 65
  else if i < 12 then (2 ^ ((i - 6) / 2 * 2 + 2) - 1) * 65
  else if i < 44 then 4095 + (2 ^ ((i - 12) / 8 * 8 + 8) - 1) * (2 ^ 12 + 2 ^ 44)
  else 4095 + (2 ^ ((i - 44) / 8 * 8 + 8) - 1) * (2 ^ 12 + 2 ^ 44)

/-- The level of transfer `i`'s arrival. -/
def lvlN (i : ℕ) : ℕ :=
  if i < 6 then 2 + i / 2 else if i < 12 then 2 + (i - 6) / 2 else if i < 44 then 10 + (i - 12) / 8 else 10 + (i - 44) / 8

/-- Whether step `o` finds what it needs. -/
def okOp (c o : ℕ) (b : Bits) : Bool :=
  if o < 100 then o == 0
  else if o < 200 then
    let i := o - 100
    i < 76 && b.s.testBit i && !b.f.testBit i && b.h.testBit (4 * halfN c i + dirN i)
  else if o < 300 then
    let i := o - 200
    i < 76 && b.r.testBit i && (Nat.land b.s (lowMask i) == 0) && ((b.h >>> (4 * halfN (srcN c i) i)) % 16 == 0)
  else
    let i := o - 300
    i < 76 && b.f.testBit i && (b.s == 0) && !b.h.testBit (4 * halfN c i + dirN i)

/-- What step `o` changes. -/
def stepOp (c o : ℕ) (b : Bits) : Bits :=
  if o < 100 then b
  else if o < 200 then
    let i := o - 100
    ⟨b.s ^^^ (1 <<< i), b.f ^^^ (1 <<< i), b.r, b.h ^^^ (1 <<< (4 * halfN c i + dirN i))⟩
  else if o < 300 then
    let i := o - 200
    ⟨b.s, b.f, b.r ^^^ (1 <<< i), b.h ^^^ (15 <<< (4 * halfN (srcN c i) i))⟩
  else
    let i := o - 300
    ⟨b.s, b.f ^^^ (1 <<< i), b.r, b.h ^^^ (1 <<< (4 * halfN c i + dirN i))⟩

/-- The set of the `i < n` at which `g` holds. -/
def maskOf (g : ℕ → Bool) : ℕ → ℕ
  | 0 => 0
  | n + 1 => maskOf g n + (if g n then 2 ^ n else 0)

/-- Before the first step. -/
def bits0 (c : ℕ) : Bits := ⟨maskOf (usedN c) 76, 0, maskOf (fun i => usedN (srcN c i) i) 76, 255 <<< (8 * ownN c)⟩

/-- Before step `n`. -/
def bitsAt (c : ℕ) : ℕ → Bits
  | 0 => bits0 c
  | n + 1 => stepOp c (opN c n) (bitsAt c n)

/-- `k n`, with `n` computed first. -/
def force {α : Type} (n : ℕ) (k : ℕ → α) : α := match n with
  | 0 => k 0
  | m + 1 => k (m + 1)

/-- Forcing a number to be computed first changes nothing. -/
theorem force_eq {α : Type} (n : ℕ) (k : ℕ → α) : force n k = k n := by cases n <;> rfl

def forceBits {α : Type} (b : Bits) (k : Bits → α) : α :=
  force b.s fun s => force b.f fun f => force b.r fun r => force b.h fun h => k ⟨s, f, r, h⟩

/-- Nor does forcing the bit sets. -/
theorem forceBits_eq {α : Type} (b : Bits) (k : Bits → α) : forceBits b k = k b := by
  simp only [forceBits, force_eq]

/-- The check of `fuel` steps from step `n` on, then the last state against the one expected. -/
def okFrom (c : ℕ) : ℕ → ℕ → Bits → Bool
  | 0, _, b => b.s == 0 && b.f == 0 && b.r == 0 && b.h == 2 ^ 256 - 1
  | fuel + 1, n, b => force (opN c n) fun o => okOp c o b && forceBits (stepOp c o b) fun b' => okFrom c fuel (n + 1) b'

/-- The one check over a device's steps gives that each step is allowed, and that at the end nothing is owed and everything is held. -/
theorem okFrom_spec (c : ℕ) : ∀ fuel n, okFrom c fuel n (bitsAt c n) = true →
    (∀ j, n ≤ j → j < n + fuel → okOp c (opN c j) (bitsAt c j) = true)
      ∧ (bitsAt c (n + fuel)).s = 0 ∧ (bitsAt c (n + fuel)).f = 0 ∧ (bitsAt c (n + fuel)).r = 0 ∧ (bitsAt c (n + fuel)).h = 2 ^ 256 - 1
  | 0, n, h => by
    simp only [okFrom, Bool.and_eq_true, beq_iff_eq] at h
    exact ⟨fun j h1 h2 => absurd h2 (by omega), h.1.1.1, h.1.1.2, h.1.2, h.2⟩
  | fuel + 1, n, h => by
    simp only [okFrom, force_eq, forceBits_eq, Bool.and_eq_true] at h
    have ih := okFrom_spec c fuel (n + 1) h.2
    rw [show n + 1 + fuel = n + (fuel + 1) by omega] at ih
    refine ⟨fun j h1 h2 => ?_, ih.2⟩
    rcases Nat.eq_or_lt_of_le h1 with rfl | h1
    · exact h.1
    · exact ih.1 j h1 (by omega)

set_option maxRecDepth 100000 in
/-- On every device every step finds what it needs, and at the end everything has been sent, received and regained. -/
theorem okAll : ∀ c : Fin 32, okFrom c 372 0 (bits0 c) = true := by decide +kernel

end Cert.Gather
-- ==== Proof.Facts.lean ====
/-
# Transfers, typed, and how the bit sets change

The functions of `Topo` over the thirty-two devices, four directions, seventy-six transfers and sixty-four half slots,
the facts about them the resources need, and what one step does to the bit sets.
-/
module

public import proofs.«01_k».proof.Proof.Topo

@[expose] public section

set_option backward.proofsInPublic true

namespace Cert.Gather

/-- The device in direction `d` of `c`. -/
def tgt (c : Fin 32) (d : Fin 4) : Fin 32 := ⟨tgtN c.val d.val % 32, Nat.mod_lt _ (by decide)⟩
/-- The opposite direction. -/
def opp (d : Fin 4) : Fin 4 := ⟨oppN d.val % 4, Nat.mod_lt _ (by decide)⟩
/-- The direction of transfer `i`. -/
def dir (i : Fin 76) : Fin 4 := ⟨dirN i.val % 4, Nat.mod_lt _ (by decide)⟩
/-- Whether `c` has a neighbour in direction `d`. -/
def has (c : Fin 32) (d : Fin 4) : Bool := hasN c.val d.val
/-- Whether `c` starts transfer `i`. -/
def used (c : Fin 32) (i : Fin 76) : Bool := usedN c.val i.val
/-- The half slot transfer `i` of `c` carries. -/
def half (c : Fin 32) (i : Fin 76) : Fin 64 := ⟨halfN c.val i.val, Nat.mod_lt _ (by decide)⟩
/-- The device whose transfer `i` arrives at `c`. -/
def src (c : Fin 32) (i : Fin 76) : Fin 32 := tgt c (opp (dir i))
/-- Whether a transfer `i` arrives at `c`. -/
def usedIn (c : Fin 32) (i : Fin 76) : Bool := used (src c i) i
/-- The half slot it brings. -/
def halfIn (c : Fin 32) (i : Fin 76) : Fin 64 := half (src c i) i
/-- The slot of `c`'s own block. -/
def own (c : Fin 32) : Fin 32 := ⟨ownN c.val % 32, Nat.mod_lt _ (by decide)⟩
/-- Whether half slot `k` is `c`'s own. -/
def isOwn (c : Fin 32) (k : Fin 64) : Bool := k.val / 2 == (own c).val
/-- The device whose block slot `s` holds. -/
def devOf (s : Fin 32) : Fin 32 := ⟨(s.val % 4 * 8 + s.val / 4) % 32, Nat.mod_lt _ (by decide)⟩
/-- The transfer that brings half slot `k` to `c`. -/
def inIdx (c : Fin 32) (k : Fin 64) : Fin 76 := ⟨inIdxN c.val k.val % 76, Nat.mod_lt _ (by decide)⟩
/-- The two halves of a slot. -/
def half2 (s : Fin 32) (b : Fin 2) : Fin 64 := ⟨2 * s.val + b.val, by omega⟩

/-- A step and the step back end where they began. -/
theorem tgt_opp : ∀ c d, tgt (tgt c d) (opp d) = c := by decide +kernel
/-- The opposite direction's opposite is the direction. -/
theorem opp_opp : ∀ d, opp (opp d) = d := by decide
/-- The source of an incoming transfer sends it here. -/
theorem tgt_src (c : Fin 32) (i : Fin 76) : tgt (src c i) (dir i) = c := by
  have := tgt_opp c (opp (dir i)); rwa [opp_opp] at this
/-- The target of an outgoing transfer receives it from here. -/
theorem src_tgt (c : Fin 32) (i : Fin 76) : src (tgt c (dir i)) i = c := tgt_opp c (dir i)
/-- A neighbour has this device as its neighbour. -/
theorem has_tgt : ∀ c d, has (tgt c d) (opp d) = has c d := by decide +kernel
/-- A transfer is used only where there is a neighbour in its direction. -/
theorem used_has : ∀ c i, used c i = true → has c (dir i) = true := by decide +kernel
/-- The number of a transfer's target. -/
theorem tgt_val : ∀ (c : Fin 32) (i : Fin 76), tgtN c.val (dirN i.val) = (tgt c (dir i)).val := by decide +kernel
/-- The number of a transfer's source. -/
theorem src_val : ∀ (c : Fin 32) (i : Fin 76), srcN c.val i.val = (src c i).val := by decide +kernel
/-- The number of a transfer's direction. -/
theorem dir_val : ∀ (i : Fin 76), dirN i.val = (dir i).val := by decide
/-- No transfer brings a device's own half slots. -/
theorem halfIn_not_own : ∀ c i, usedIn c i = true → isOwn c (halfIn c i) = false := by decide +kernel
/-- Every other half slot is brought by one transfer that is used, -/
theorem inIdx_spec : ∀ c k, isOwn c k = false → usedIn c (inIdx c k) = true ∧ halfIn c (inIdx c k) = k := by decide +kernel
/-- and by that one only. -/
theorem inIdx_halfIn : ∀ c i, usedIn c i = true → inIdx c (halfIn c i) = i := by decide +kernel
/-- The device of a slot has that slot for its own. -/
theorem own_devOf : ∀ s, own (devOf s) = s := by decide
/-- A device's own slot is the slot of that device. -/
theorem devOf_own : ∀ c, devOf (own c) = c := by decide
/-- The number of a device's own slot. -/
theorem ownN_val : ∀ c : Fin 32, ownN c.val = (own c).val := by decide

/-- The equivalence of devices "one step in direction `d`". -/
def step (d : Fin 4) : Fin 32 ≃ Fin 32 :=
  ⟨fun c => tgt c d, fun c => tgt c (opp d), fun c => tgt_opp c d, fun c => by have := tgt_opp c (opp d); rwa [opp_opp] at this⟩

/-! ## Bits -/

/-- Flipping one bit, read at any bit. -/
theorem testBit_flip (x i j : ℕ) : (x ^^^ (1 <<< i)).testBit j = ((x.testBit j) ^^ decide (i = j)) := by
  rw [Nat.testBit_xor, Nat.one_shiftLeft, Nat.testBit_two_pow]

/-- Flipping a group of four bits, read at any bit. -/
theorem testBit_flip4 (x k l d : ℕ) (hd : d < 4) :
    (x ^^^ (15 <<< (4 * k))).testBit (4 * l + d) = ((x.testBit (4 * l + d)) ^^ decide (k = l)) := by
  rw [Nat.testBit_xor, Nat.testBit_shiftLeft]
  congr 1
  by_cases h : k = l
  · subst h
    have e : 4 * k + d - 4 * k = d := by omega
    rw [e]
    have : (15 : ℕ).testBit d = true := by
      have h4 : d = 0 ∨ d = 1 ∨ d = 2 ∨ d = 3 := by omega
      rcases h4 with rfl | rfl | rfl | rfl <;> decide
    simp [this]
  · rw [decide_eq_false h]
    rcases Nat.lt_or_gt_of_ne h with h | h
    · have : (15 : ℕ).testBit (4 * l + d - 4 * k) = false := Nat.testBit_lt_two_pow (Nat.lt_of_lt_of_le (by decide : 15 < 2 ^ 4)
        (Nat.pow_le_pow_right (by decide) (by omega)))
      simp [this]
    · have : ¬ (4 * k ≤ 4 * l + d) := by omega
      simp [this]

/-- The set of the numbers with a property, read at a bit. -/
theorem maskOf_testBit (g : ℕ → Bool) : ∀ n j, (maskOf g n).testBit j = (decide (j < n) && g j)
  | 0, j => by simp [maskOf]
  | n + 1, j => by
    have hlt : ∀ m, maskOf g m < 2 ^ m := by
      intro m; induction m with
      | zero => simp [maskOf]
      | succ m ih => rw [maskOf, Nat.pow_succ]; split <;> omega
    rw [maskOf]
    by_cases hg : g n = true
    · rw [if_pos hg, Nat.add_comm, ← Nat.mul_one (2 ^ n), Nat.testBit_two_pow_mul_add _ (by simpa using hlt n)]
      by_cases hj : j < n
      · rw [if_pos hj, maskOf_testBit g n j]; simp [hj, Nat.lt_succ_of_lt hj]
      · rw [if_neg hj]
        by_cases hjn : j = n
        · subst hjn; simp [hg]
        · have : ¬ j < n + 1 := by omega
          have h1 : Nat.testBit 1 (j - n) = false := by
            obtain ⟨m, hm⟩ : ∃ m, j - n = m + 1 := ⟨j - n - 1, by omega⟩
            rw [hm, Nat.testBit_succ]; simp
          simp [this, h1]
    · rw [if_neg hg, Nat.add_zero, maskOf_testBit g n j]
      by_cases hj : j = n
      · subst hj; simp [hg]
      · have : (j < n + 1) ↔ (j < n) := by omega
        simp [this]

/-- The transfers at or below a level are in that level's set. -/
theorem lowMask_spec : ∀ i i' : Fin 76, lvlN i'.val ≤ lvlN i.val → (lowMask i.val).testBit i'.val = true := by decide +kernel

/-- The quarter of half slot `k` set aside for direction `d` is held. -/
def heldB (b : Bits) (k : Fin 64) (d : Fin 4) : Bool := b.h.testBit (4 * k.val + d.val)

/-- At the start a device owes exactly the transfers that it uses; -/
theorem bits0_s (c : Fin 32) (i : Fin 76) : (bits0 c.val).s.testBit i.val = used c i := by
  show (maskOf _ 76).testBit _ = _
  rw [maskOf_testBit]; simp [used]
/-- no transfer of its own is under way; -/
theorem bits0_f (c : Fin 32) (i : ℕ) : (bits0 c.val).f.testBit i = false := Nat.zero_testBit i
/-- it awaits exactly the transfers that come to it; -/
theorem bits0_r (c : Fin 32) (i : Fin 76) : (bits0 c.val).r.testBit i.val = usedIn c i := by
  show (maskOf _ 76).testBit _ = _
  rw [maskOf_testBit]; simp only [i.isLt, decide_true, Bool.true_and]
  unfold usedIn used; rw [src_val]
/-- and it holds exactly its own half slots. -/
theorem bits0_h : ∀ (c : Fin 32) (k : Fin 64) (d : Fin 4), heldB (bits0 c.val) k d = isOwn c k := by
  have : ∀ (c : Fin 32) (k : Fin 64) (d : Fin 4), (255 <<< (8 * ownN c.val) : ℕ).testBit (4 * k.val + d.val) = isOwn c k := by
    decide +kernel
  exact this

/-- What a start does, given that it finds what it needs. -/
theorem send_bits (c : Fin 32) (i : Fin 76) (b : Bits) (h : okOp c.val (100 + i.val) b = true) :
    b.s.testBit i.val = true ∧ b.f.testBit i.val = false ∧ heldB b (half c i) (dir i) = true
      ∧ (∀ j : ℕ, (stepOp c.val (100 + i.val) b).s.testBit j = if j = i.val then false else b.s.testBit j)
      ∧ (∀ j : ℕ, (stepOp c.val (100 + i.val) b).f.testBit j = if j = i.val then true else b.f.testBit j)
      ∧ (stepOp c.val (100 + i.val) b).r = b.r
      ∧ (∀ k d, heldB (stepOp c.val (100 + i.val) b) k d = if k = half c i ∧ d = dir i then false else heldB b k d) := by
  have hi := i.isLt
  have h1 : ¬ (100 + i.val < 100) := by omega
  have h2 : 100 + i.val < 200 := by omega
  have e : 100 + i.val - 100 = i.val := by omega
  unfold okOp at h
  rw [if_neg h1, if_pos h2] at h
  simp only [e, Bool.and_eq_true, decide_eq_true_eq, Bool.not_eq_true'] at h
  obtain ⟨⟨⟨-, hs⟩, hf⟩, hh⟩ := h
  have hst : stepOp c.val (100 + i.val) b
      = ⟨b.s ^^^ (1 <<< i.val), b.f ^^^ (1 <<< i.val), b.r, b.h ^^^ (1 <<< (4 * halfN c.val i.val + dirN i.val))⟩ := by
    unfold stepOp; rw [if_neg h1, if_pos h2]; simp only [e]
  rw [hst]
  have hk : halfN c.val i.val = (half c i).val := rfl
  refine ⟨hs, hf, by unfold heldB; rw [← hk, ← dir_val]; exact hh, fun j => ?_, fun j => ?_, rfl, fun k d => ?_⟩
  · show (b.s ^^^ (1 <<< i.val)).testBit j = _
    rw [testBit_flip]
    by_cases hj : j = i.val
    · subst hj; simp [hs]
    · rw [if_neg hj]; simp [Ne.symm hj]
  · show (b.f ^^^ (1 <<< i.val)).testBit j = _
    rw [testBit_flip]
    by_cases hj : j = i.val
    · subst hj; simp [hf]
    · rw [if_neg hj]; simp [Ne.symm hj]
  · show (b.h ^^^ (1 <<< (4 * halfN c.val i.val + dirN i.val))).testBit (4 * k.val + d.val) = _
    rw [testBit_flip]
    rw [dir_val, hk] at hh ⊢
    by_cases hj : k = half c i ∧ d = dir i
    · obtain ⟨rfl, rfl⟩ := hj; rw [if_pos ⟨rfl, rfl⟩, hh]; simp
    · rw [if_neg hj]
      have : ¬ (4 * (half c i).val + (dir i).val = 4 * k.val + d.val) := by
        intro hh'; apply hj
        have := (dir i).isLt; have := d.isLt
        exact ⟨Fin.ext (by omega), Fin.ext (by omega)⟩
      simp [this, heldB]

/-- What the wait for an arrival does. -/
theorem recv_bits (c : Fin 32) (i : Fin 76) (b : Bits) (h : okOp c.val (200 + i.val) b = true) :
    b.r.testBit i.val = true
      ∧ (∀ j : Fin 76, b.s.testBit j.val = true → lvlN i.val < lvlN j.val)
      ∧ (∀ d, heldB b (halfIn c i) d = false)
      ∧ (stepOp c.val (200 + i.val) b).s = b.s ∧ (stepOp c.val (200 + i.val) b).f = b.f
      ∧ (∀ j : ℕ, (stepOp c.val (200 + i.val) b).r.testBit j = if j = i.val then false else b.r.testBit j)
      ∧ (∀ k d, heldB (stepOp c.val (200 + i.val) b) k d = if k = halfIn c i then true else heldB b k d) := by
  have hi := i.isLt
  have h1 : ¬ (200 + i.val < 100) := by omega
  have h2 : ¬ 200 + i.val < 200 := by omega
  have h3 : 200 + i.val < 300 := by omega
  have e : 200 + i.val - 200 = i.val := by omega
  unfold okOp at h
  rw [if_neg h1, if_neg h2, if_pos h3] at h
  have hst : stepOp c.val (200 + i.val) b
      = ⟨b.s, b.f, b.r ^^^ (1 <<< i.val), b.h ^^^ (15 <<< (4 * halfN (srcN c.val i.val) i.val))⟩ := by
    unfold stepOp; rw [if_neg h1, if_neg h2, if_pos h3]; simp only [e]
  have hk : halfN (srcN c.val i.val) i.val = (halfIn c i).val := by rw [src_val]; rfl
  rw [hst, hk]
  simp only [e, hk, Bool.and_eq_true, decide_eq_true_eq, beq_iff_eq] at h
  obtain ⟨⟨⟨-, hr⟩, hl⟩, hh⟩ := h
  have hz : ∀ d, heldB b (halfIn c i) d = false := fun d => by
    unfold heldB
    have hd := d.isLt
    have : ((b.h >>> (4 * (halfIn c i).val)) % 2 ^ 4).testBit d.val = false := by
      rw [show (2 : ℕ) ^ 4 = 16 from rfl, hh]; exact Nat.zero_testBit _
    rw [Nat.testBit_mod_two_pow, Nat.testBit_shiftRight] at this
    simpa [hd] using this
  refine ⟨hr, fun j hj => ?_, hz, rfl, rfl, fun j => ?_, fun k d => ?_⟩
  · by_contra hlt
    have := lowMask_spec i j (by omega)
    have h' : (Nat.land b.s (lowMask i.val)).testBit j.val = true := by
      show (b.s &&& lowMask i.val).testBit j.val = true
      rw [Nat.testBit_and, hj, this]; rfl
    rw [hl, Nat.zero_testBit] at h'; exact Bool.false_ne_true h'
  · show (b.r ^^^ (1 <<< i.val)).testBit j = _
    rw [testBit_flip]
    by_cases hj : j = i.val
    · subst hj; simp [hr]
    · rw [if_neg hj]; simp [Ne.symm hj]
  · show (b.h ^^^ (15 <<< (4 * (halfIn c i).val))).testBit (4 * k.val + d.val) = _
    rw [testBit_flip4 _ _ _ _ d.isLt]
    by_cases hj : k = halfIn c i
    · subst hj; rw [if_pos rfl]
      have := hz d; unfold heldB at this; simp [this]
    · rw [if_neg hj]
      have : ¬ ((halfIn c i).val = k.val) := fun h => hj (Fin.ext h.symm)
      simp [this, heldB]

/-- What the wait for a departure does. -/
theorem wait_bits (c : Fin 32) (i : Fin 76) (b : Bits) (h : okOp c.val (300 + i.val) b = true) :
    b.f.testBit i.val = true ∧ b.s = 0 ∧ heldB b (half c i) (dir i) = false
      ∧ (stepOp c.val (300 + i.val) b).s = b.s
      ∧ (∀ j : ℕ, (stepOp c.val (300 + i.val) b).f.testBit j = if j = i.val then false else b.f.testBit j)
      ∧ (stepOp c.val (300 + i.val) b).r = b.r
      ∧ (∀ k d, heldB (stepOp c.val (300 + i.val) b) k d = if k = half c i ∧ d = dir i then true else heldB b k d) := by
  have hi := i.isLt
  have h1 : ¬ (300 + i.val < 100) := by omega
  have h2 : ¬ 300 + i.val < 200 := by omega
  have h3 : ¬ 300 + i.val < 300 := by omega
  have e : 300 + i.val - 300 = i.val := by omega
  unfold okOp at h
  rw [if_neg h1, if_neg h2, if_neg h3] at h
  simp only [e, Bool.and_eq_true, decide_eq_true_eq, beq_iff_eq, Bool.not_eq_true'] at h
  obtain ⟨⟨⟨-, hf⟩, hs⟩, hh⟩ := h
  have hst : stepOp c.val (300 + i.val) b
      = ⟨b.s, b.f ^^^ (1 <<< i.val), b.r, b.h ^^^ (1 <<< (4 * halfN c.val i.val + dirN i.val))⟩ := by
    unfold stepOp; rw [if_neg h1, if_neg h2, if_neg h3]; simp only [e]
  rw [hst]
  have hk : halfN c.val i.val = (half c i).val := rfl
  refine ⟨hf, hs, by unfold heldB; rw [← hk, ← dir_val]; exact hh, rfl, fun j => ?_, rfl, fun k d => ?_⟩
  · show (b.f ^^^ (1 <<< i.val)).testBit j = _
    rw [testBit_flip]
    by_cases hj : j = i.val
    · subst hj; simp [hf]
    · rw [if_neg hj]; simp [Ne.symm hj]
  · show (b.h ^^^ (1 <<< (4 * halfN c.val i.val + dirN i.val))).testBit (4 * k.val + d.val) = _
    rw [testBit_flip]
    rw [dir_val, hk] at hh ⊢
    by_cases hj : k = half c i ∧ d = dir i
    · obtain ⟨rfl, rfl⟩ := hj; rw [if_pos ⟨rfl, rfl⟩, hh]; simp
    · rw [if_neg hj]
      have : ¬ (4 * (half c i).val + (dir i).val = 4 * k.val + d.val) := by
        intro hh'; apply hj
        have := (dir i).isLt; have := d.isLt
        exact ⟨Fin.ext (by omega), Fin.ext (by omega)⟩
      simp [this, heldB]

/-- Every step of every device finds what it needs. -/
theorem ok_at (c : Fin 32) (n : ℕ) (hn : n < 372) : okOp c.val (opN c.val n) (bitsAt c.val n) = true :=
  (okFrom_spec c.val 372 0 (okAll c)).1 n (Nat.zero_le n) (by omega)

/-- At the end nothing is left to send, to wait for or to receive, and every quarter is held. -/
theorem bits_end (c : Fin 32) : (bitsAt c.val 372).s = 0 ∧ (bitsAt c.val 372).f = 0 ∧ (bitsAt c.val 372).r = 0
    ∧ ∀ k d, heldB (bitsAt c.val 372) k d = true := by
  have h := (okFrom_spec c.val 372 0 (okAll c)).2
  rw [Nat.zero_add] at h
  refine ⟨h.1, h.2.1, h.2.2.1, fun k d => ?_⟩
  have := k.isLt; have := d.isLt
  unfold heldB; rw [h.2.2.2, Nat.testBit_two_pow_sub_one]
  exact decide_eq_true (by omega)

/-! ## The semaphores' numbers -/

/-- The send semaphore of transfer `i`; -/
def sendNo (i : ℕ) : ℕ := if i < 6 then i + 3 else if i < 12 then i + 9 else if i < 44 then i + 15 else i + 47
/-- its receive semaphore; -/
def recvNo (i : ℕ) : ℕ := if i < 6 then i + 9 else if i < 12 then i + 15 else if i < 44 then i + 47 else i + 79
/-- either. -/
def semNo (b : Bool) (i : ℕ) : ℕ := if b then recvNo i else sendNo i

/-- The semaphores' numbers are within the program's. -/
theorem semNo_lt : ∀ (b : Bool) (i : Fin 76), semNo b i.val < 155 := by decide
/-- They come after the staging's own three. -/
theorem semNo_ge : ∀ (b : Bool) (i : Fin 76), 3 ≤ semNo b i.val := by decide
/-- Which transfer, and which end of it, semaphore `n` serves. -/
def ofNo (n : ℕ) : Option (Bool × Fin 76) :=
  if h : 3 ≤ n ∧ n < 155 then
    some (if n < 9 then (false, ⟨(n - 3) % 76, Nat.mod_lt _ (by decide)⟩)
    else if n < 15 then (true, ⟨(n - 9) % 76, Nat.mod_lt _ (by decide)⟩)
    else if n < 21 then (false, ⟨(n - 9) % 76, Nat.mod_lt _ (by decide)⟩)
    else if n < 27 then (true, ⟨(n - 15) % 76, Nat.mod_lt _ (by decide)⟩)
    else if n < 59 then (false, ⟨(n - 15) % 76, Nat.mod_lt _ (by decide)⟩)
    else if n < 91 then (true, ⟨(n - 47) % 76, Nat.mod_lt _ (by decide)⟩)
    else if n < 123 then (false, ⟨(n - 47) % 76, Nat.mod_lt _ (by decide)⟩)
    else (true, ⟨(n - 79) % 76, Nat.mod_lt _ (by decide)⟩))
  else none
/-- From a semaphore's number back to its transfer. -/
theorem ofNo_semNo : ∀ (b : Bool) (i : Fin 76), ofNo (semNo b i.val) = some (b, i) := by decide +kernel
/-- The first three numbers are no transfer's. -/
theorem ofNo_low : ∀ n : Fin 3, ofNo n.val = none := by decide
/-- Every other number is some transfer's. -/
theorem semNo_ofNo : ∀ n : Fin 152, ∃ b i, ofNo (n.val + 3) = some (b, i) ∧ semNo b i.val = n.val + 3 := by
  have : ∀ n : Fin 152, (ofNo (n.val + 3)).any (fun p => semNo p.1 p.2.val == n.val + 3) = true := by decide +kernel
  intro n
  have h := this n
  cases ho : ofNo (n.val + 3) with
  | none => rw [ho] at h; simp at h
  | some p => rw [ho] at h; exact ⟨p.1, p.2, rfl, by simpa using h⟩

end Cert.Gather
-- ==== Proof.Ideal.Sched.lean ====
/-
# The cells, what they pay, and the gathered array

Every device has a send and a receive semaphore per transfer and the runtime's barrier semaphore. The schedule
(`Lib/Rounds.lean`) gives a receive cell one duty, paid by the transfer's landing, whose payload is the half slot
landed, holding its rows of the gathered array; a send cell one duty, paid by the transfer's departure, whose payload
is the quarter share of the source the transfer borrowed; and a barrier cell one duty per neighbour, paid by that
neighbour's signal, whose payload is the neighbour's half slots this device is going to write.

The gathered array is the same on every device: slot `s` holds the block of `x` of device `devOf s`.
-/
module

public import proofs.«01_k».proof.Proof.Facts
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.Ring

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and their halves -/

abbrev xM : Memref sig .tc .vmem S32x1024 .f32 := Memref.whole cc0_stg0_0
abbrev wM : Memref sig .tc .vmem S1024x32 .f32 := Memref.whole cc0_stg1_0
abbrev oM : Memref sig .tc .vmem S1024x32 .f32 := Memref.whole cc0_stg2_0
abbrev gM : Memref sig .tc .vmem S1024x1024 .f32 := Memref.whole cc0_scratch0

/-- Sixteen rows of the gathered array, from an offset; -/
abbrev gAt (off : Fin 2 → ℕ) (h : ∀ a, off a + S16x1024.size a ≤ S1024x1024.size a) : Memref sig .tc .vmem S16x1024 .f32 :=
  gM.slice (Rect.unit (s := S1024x1024) off S16x1024.size h) (fun _ => rfl)
/-- sixteen rows of the device's own block. -/
abbrev xAt (off : Fin 2 → ℕ) (h : ∀ a, off a + S16x1024.size a ≤ S32x1024.size a) : Memref sig .tc .vmem S16x1024 .f32 :=
  xM.slice (Rect.unit (s := S32x1024) off S16x1024.size h) (fun _ => rfl)

/-- A half slot is within the gathered array. -/
theorem inb_g (k : Fin 64) : ∀ a, (![16 * k.val, 0] : Fin 2 → ℕ) a + S16x1024.size a ≤ S1024x1024.size a := by
  intro a; have := k.isLt
  match a with
  | 0 => show 16 * k.val + 16 ≤ 1024; omega
  | 1 => show 0 + 1024 ≤ 1024; omega
/-- A half of the block is within the block. -/
theorem inb_x (b : Fin 2) : ∀ a, (![16 * b.val, 0] : Fin 2 → ℕ) a + S16x1024.size a ≤ S32x1024.size a := by
  intro a; have := b.isLt
  match a with
  | 0 => show 16 * b.val + 16 ≤ 32; omega
  | 1 => show 0 + 1024 ≤ 1024; omega

/-- Half slot `k`; -/
abbrev gHalf (k : Fin 64) : Memref sig .tc .vmem S16x1024 .f32 := gAt ![16 * k.val, 0] (inb_g k)
/-- half `b` of the device's own block. -/
abbrev xHalf (b : Fin 2) : Memref sig .tc .vmem S16x1024 .f32 := xAt ![16 * b.val, 0] (inb_x b)

/-- Which half of its slot half slot `k` is. -/
def par (k : Fin 64) : Fin 2 := ⟨k.val % 2, Nat.mod_lt _ (by decide)⟩

/-! ## The cells -/

abbrev barS : Sem sig := (SemArray.scalar (sig.barrier 0 rfl) : Sems sig S_).sem

/-- A device's cells: its barrier (`none`), and per transfer its send (`false`) and receive (`true`) cell. -/
abbrev CI : Type := Unit ⊕ (Bool × Fin 76)
abbrev dsem (b : Bool) (i : Fin 76) : DmaSem sig := ⟨semNo b i.val, semNo_lt b i⟩
def csem : CI → SemLoc sig
  | .inl _ => .reg barS
  | .inr p => .dma (dsem p.1 p.2)
abbrev barCell (c : Dev nD) : GSem nD τ sig := ((c : Thread nD τ), .reg barS)
abbrev dcell (b : Bool) (c : Dev nD) (i : Fin 76) : GSem nD τ sig := ((c : Thread nD τ), .dma (dsem b i))
abbrev sendCell (c : Dev nD) (i : Fin 76) : GSem nD τ sig := dcell false c i
abbrev recvCell (c : Dev nD) (i : Fin 76) : GSem nD τ sig := dcell true c i
abbrev kcell (ck : Dev nD × CI) : GSem nD τ sig := ((ck.1 : Thread nD τ), csem ck.2)

/-- The credit of one half slot. -/
@[irreducible] def N : ℕ := (gHalf 0).view.dmaCredit
theorem N_pos : 0 < N := by unfold N; exact View.dmaCredit_pos _ (by decide)
/-- A landing in any half slot is worth the same credit. -/
theorem credit_g (off : Fin 2 → ℕ) (h : ∀ a, off a + S16x1024.size a ≤ S1024x1024.size a) : (gAt off h).view.dmaCredit = N := by
  unfold N; rfl
/-- And a send cell is paid that much for it. -/
theorem amount_g (k : Fin 64) (s : DmaSem sig) : (gHalf k).view.amount (.dma s) = N := by
  unfold N; rfl

/-! ## Contents -/

/-- Device `c`'s block of `x`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Row `r`, column `j` of a block. -/
def xIdx (r : ℕ) (hr : r < 32) (j : ℕ) (hj : j < 1024) : S32x1024.Idx := fun a => match a with
  | 0 => ⟨r, hr⟩
  | 1 => ⟨j, hj⟩

/-- The gathered array. -/
def gath : (cc0_scratch0 : Ref sig .tc).ty.Contents (Elt F) := fun i =>
  xstg m ρ (devOf ⟨(i 0).val / 32 % 32, Nat.mod_lt _ (by decide)⟩)
    (xIdx ((i 0).val % 32) (Nat.mod_lt _ (by decide)) (i 1).val (i 1).isLt)

/-- An index in a view's set is the image of one of the view's. -/
theorem exists_emb {sp : Space} {s : Shape} {e : EltTy} (v : View sig .tc sp s e) {i : v.ty.Idx} (h : i ∈ v.set) : ∃ x, v.emb x = i := by
  unfold View.set at h
  obtain ⟨x, -, hx⟩ := Finset.mem_map.mp h
  exact ⟨x, hx⟩

omit [FloatOps F] in
/-- A half slot of the gathered array, landed from another device's, holds the gathered array. -/
theorem landed_g (k : Fin 64) (fd : (cc0_scratch0 : Ref sig .tc).ty.Contents (Elt F)) :
    ∀ i ∈ (gHalf k).view.set,
      (gHalf k).view.write (Elt F) fd ((gHalf k).view.read (Elt F) (gath m ρ)) Finset.univ i = gath m ρ i := by
  intro i hi
  obtain ⟨x, rfl⟩ := exists_emb _ hi
  rw [View.write_emb_of_mem _ _ (Finset.mem_univ x), View.read_apply]; rfl

omit [FloatOps F] in
/-- A half of the device's own block, landed in its slot on another device, holds the gathered array. -/
theorem landed_x (c : Dev nD) (k : Fin 64) (hk : isOwn c k = true) (fd : (cc0_scratch0 : Ref sig .tc).ty.Contents (Elt F)) :
    ∀ i ∈ (gHalf k).view.set,
      (gHalf k).view.write (Elt F) fd ((xHalf (par k)).view.read (Elt F) (xstg m ρ c)) Finset.univ i = gath m ρ i := by
  intro i hi
  obtain ⟨x, rfl⟩ := exists_emb _ hi
  rw [View.write_emb_of_mem _ _ (Finset.mem_univ x), View.read_apply]
  have hk' : k.val / 2 = (own c).val := by unfold isOwn at hk; simpa using hk
  have hx0 : (x 0).val < 16 := (x 0).isLt
  have e0 : (((gHalf k).view.emb x) 0).val = 16 * k.val + 1 * (x 0).val := rfl
  have e1 : (((gHalf k).view.emb x) 1).val = 0 + 1 * (x 1).val := rfl
  have f0 : (((xHalf (par k)).view.emb x) 0).val = 16 * (k.val % 2) + 1 * (x 0).val := rfl
  have f1 : (((xHalf (par k)).view.emb x) 1).val = 0 + 1 * (x 1).val := rfl
  show xstg m ρ c ((xHalf (par k)).view.emb x) = gath m ρ ((gHalf k).view.emb x)
  unfold gath
  have hs : (⟨(((gHalf k).view.emb x) 0).val / 32 % 32, Nat.mod_lt _ (by decide)⟩ : Fin 32) = own c :=
    Fin.ext (by simp only [e0]; have := (own c).isLt; omega)
  rw [hs, devOf_own]
  congr 1
  funext a
  match a with
  | 0 => exact Fin.ext (by rw [f0]; show _ = (((gHalf k).view.emb x) 0).val % 32; rw [e0]; omega)
  | 1 => exact Fin.ext (by rw [f1]; show _ = (((gHalf k).view.emb x) 1).val; rw [e1])

/-! ## Points-tos -/

/-- Half slot `k` of device `c`'s gathered array at share `q`, holding `f`; -/
def gPts (c : Dev nD) (k : Fin 64) (q : PosShare TreeShare) (f : (cc0_scratch0 : Ref sig .tc).ty.Contents (Elt F)) : sProp 𝕄 :=
  ((c : Thread nD τ).loc cc0_scratch0) ↦[(gHalf k).view.set]{q} (f : Buf (Elt F) ((c : Thread nD τ).loc cc0_scratch0))
/-- half `b` of its own block. -/
def xPts (c : Dev nD) (b : Fin 2) (q : PosShare TreeShare) : sProp 𝕄 :=
  ((c : Thread nD τ).loc cc0_stg0_0) ↦[(xHalf b).view.set]{q} (xstg m ρ c : Buf (Elt F) ((c : Thread nD τ).loc cc0_stg0_0))

/-- The share set aside for direction `d`: a quarter. -/
def qtr (d : Fin 4) : PosShare TreeShare := ShareLeaves.leaf 2 fullShare d

/-- What a transfer from half slot `k` in direction `d` borrows: of the device's own block if the slot is its own, of
    the gathered array otherwise. -/
def quarter (c : Dev nD) (k : Fin 64) (d : Fin 4) : sProp 𝕄 :=
  if isOwn c k then xPts m ρ c (par k) (qtr d) else gPts c k (qtr d) (gath m ρ)

omit [FloatOps F] in
instance gPts_storable (c : Dev nD) (k q f) : BI.Storable (upEmb : UEmb _ 𝕄) (gPts (F := F) c k q f) := by unfold gPts; infer_instance
omit [FloatOps F] in
instance xPts_storable (c : Dev nD) (b q) : BI.Storable (upEmb : UEmb _ 𝕄) (xPts (F := F) m ρ c b q) := by unfold xPts; infer_instance
omit [FloatOps F] in
instance quarter_storable (c : Dev nD) (k d) : BI.Storable (upEmb : UEmb _ 𝕄) (quarter (F := F) m ρ c k d) := by
  unfold quarter; split <;> infer_instance

/-! ## The schedule -/

/-- The transfers `c` starts in direction `d`. -/
def outs (c : Dev nD) (d : Fin 4) : Finset (Fin 76) := Finset.univ.filter fun i => dir i = d ∧ used c i = true

/-- What the neighbour in direction `d` hands `c` at the barrier: the half slots of its own that `c` will write. -/
def barPay (c : Dev nD) (d : Fin 4) : sProp 𝕄 :=
  bigSep (outs c d) fun i => iprop(∃ f, gPts (tgt c d) (half c i) fullShare f)
def recvPay (c : Dev nD) (i : Fin 76) : sProp 𝕄 := gPts c (halfIn c i) fullShare (gath m ρ)
def sendPay (c : Dev nD) (i : Fin 76) : sProp 𝕄 := quarter m ρ c (half c i) (dir i)
def dmaPay (c : Dev nD) (p : Bool × Fin 76) : sProp 𝕄 := if p.1 then recvPay m ρ c p.2 else sendPay m ρ c p.2

/-- The duties of a transfer's cell: one, if the transfer happens. -/
def dmaDuties (c : Dev nD) (p : Bool × Fin 76) : Finset (Fin 4) := if (if p.1 then usedIn c p.2 else used c p.2) then {0} else ∅

def dutiesAt (c : Dev nD) : SemLoc sig → Finset (Fin 4)
  | .reg s => if s = barS then Finset.univ.filter (fun d => has c d = true) else ∅
  | .dma n => match ofNo n.val with
    | some p => dmaDuties c p
    | none => ∅
def payAt (c : Dev nD) : SemLoc sig → Fin 4 → sProp 𝕄
  | .reg _, d => barPay c d
  | .dma n, _ => match ofNo n.val with
    | some p => dmaPay m ρ c p
    | none => iprop(emp)
def amountAt : SemLoc sig → ℕ
  | .reg _ => 32768
  | .dma _ => N

def rd : Rounds.Schedule (GSem nD τ sig) (Fin 4) 𝕄 where
  duties g r := if r = 0 ∧ g.1.2 = .tc then dutiesAt g.1.1 g.2 else ∅
  unitless _ := False
  amount g _ _ := amountAt g.2
  payload g _ d := payAt m ρ g.1.1 g.2 d
  amount_pos g _ _ _ := by
    show 0 < amountAt g.2
    cases g.2 with
    | reg s => exact (by decide : 0 < 32768)
    | dma n => exact N_pos

instance rd_payload_storable (g : GSem nD τ sig) (r : ℕ) (d : Fin 4) :
    BI.Storable (upEmb : UEmb _ 𝕄) ((rd (F := F) m ρ).payload g r d) := by
  show BI.Storable upEmb (payAt m ρ g.1.1 g.2 d)
  cases g.2 with
  | reg s => show BI.Storable upEmb (barPay g.1.1 d); unfold barPay; infer_instance
  | dma n =>
    show BI.Storable upEmb (match ofNo n.val with | some p => dmaPay m ρ g.1.1 p | none => iprop(emp))
    cases ofNo n.val with
    | none => infer_instance
    | some p => show BI.Storable upEmb (dmaPay m ρ g.1.1 p); unfold dmaPay recvPay sendPay; split <;> infer_instance

section Tables
variable (c : Dev nD)

omit [FloatOps F] in
/-- No cell has a duty after its first round. -/
theorem duties_later (g : GSem nD τ sig) : ∀ r, 1 ≤ r → (rd (F := F) m ρ).duties g r = ∅ :=
  fun r hr => by dsimp only [rd]; rw [if_neg fun h => by omega]
omit [FloatOps F] in
/-- The barrier's duties are the directions in which there is a neighbour. -/
theorem duties_bar : (rd (F := F) m ρ).duties (barCell c) 0 = Finset.univ.filter (fun d => has c d = true) := by
  dsimp only [rd, dutiesAt]; rw [if_pos ⟨rfl, rfl⟩, if_pos rfl]
omit [FloatOps F] in
/-- A transfer's cell has one duty where the transfer is used, and none elsewhere. -/
theorem duties_dma (b : Bool) (i : Fin 76) : (rd (F := F) m ρ).duties (dcell b c i) 0 = dmaDuties c (b, i) := by
  dsimp only [rd]; rw [if_pos ⟨rfl, rfl⟩]
  show (match ofNo (semNo b i.val) with | some p => dmaDuties c p | none => ∅) = _
  rw [ofNo_semNo]
omit [FloatOps F] in
/-- The duty of a used send cell. -/
theorem duties_send (i : Fin 76) (h : used c i = true) : (rd (F := F) m ρ).duties (sendCell c i) 0 = {0} := by
  rw [duties_dma]; unfold dmaDuties; simp [h]
omit [FloatOps F] in
/-- The duty of a used receive cell. -/
theorem duties_recv (i : Fin 76) (h : usedIn c i = true) : (rd (F := F) m ρ).duties (recvCell c i) 0 = {0} := by
  rw [duties_dma]; unfold dmaDuties; simp [h]
omit [FloatOps F] in
/-- What a barrier signal hands over. -/
theorem payload_bar (d : Fin 4) : (rd (F := F) m ρ).payload (barCell c) 0 d = barPay c d := rfl
omit [FloatOps F] in
/-- What a transfer's cell hands over, by its kind. -/
theorem payload_dma (b : Bool) (i : Fin 76) (d : Fin 4) : (rd (F := F) m ρ).payload (dcell b c i) 0 d = dmaPay m ρ c (b, i) := by
  show (match ofNo (semNo b i.val) with | some p => dmaPay m ρ c p | none => iprop(emp)) = _
  rw [ofNo_semNo]
omit [FloatOps F] in
/-- What a send cell hands back. -/
theorem payload_send (i : Fin 76) (d : Fin 4) : (rd (F := F) m ρ).payload (sendCell c i) 0 d = sendPay m ρ c i := by
  rw [payload_dma]; rfl
omit [FloatOps F] in
/-- What a receive cell hands over. -/
theorem payload_recv (i : Fin 76) (d : Fin 4) : (rd (F := F) m ρ).payload (recvCell c i) 0 d = recvPay m ρ c i := by
  rw [payload_dma]; rfl
omit [FloatOps F] in
/-- How much a barrier signal is. -/
theorem amount_bar (d : Fin 4) : (rd (F := F) m ρ).amount (barCell c) 0 d = 32768 := rfl
omit [FloatOps F] in
/-- How much a transfer pays. -/
theorem amount_dma (b : Bool) (i : Fin 76) (d : Fin 4) : (rd (F := F) m ρ).amount (dcell b c i) 0 d = N := rfl
omit [FloatOps F] in
/-- How much the barrier expects in its round. -/
theorem expect_bar : (rd (F := F) m ρ).expect (barCell c) 0 = (Finset.univ.filter (fun d => has c d = true)).card * 32768 := by
  unfold Schedule.expect Schedule.amountOf
  rw [duties_bar, Finset.sum_congr rfl fun d _ => amount_bar m ρ c d, Finset.sum_const, smul_eq_mul]
omit [FloatOps F] in
/-- How much a used send cell expects. -/
theorem expect_send (i : Fin 76) (h : used c i = true) : (rd (F := F) m ρ).expect (sendCell c i) 0 = N := by
  unfold Schedule.expect Schedule.amountOf; rw [duties_send m ρ c i h, Finset.sum_singleton, amount_dma]
omit [FloatOps F] in
/-- How much a used receive cell expects. -/
theorem expect_recv (i : Fin 76) (h : usedIn c i = true) : (rd (F := F) m ρ).expect (recvCell c i) 0 = N := by
  unfold Schedule.expect Schedule.amountOf; rw [duties_recv m ρ c i h, Finset.sum_singleton, amount_dma]
omit [FloatOps F] in
/-- What a send cell still holds back is its one payload. -/
theorem rest_send (i : Fin 76) (h : used c i = true) :
    bigSep ((rd (F := F) m ρ).duties (sendCell c i) 0 \ ∅) (fun d => (rd (F := F) m ρ).payload (sendCell c i) 0 d) = sendPay m ρ c i := by
  rw [Finset.sdiff_empty, duties_send m ρ c i h, bigSep_singleton, payload_send]
omit [FloatOps F] in
/-- What a receive cell still holds back is its one payload. -/
theorem rest_recv (i : Fin 76) (h : usedIn c i = true) :
    bigSep ((rd (F := F) m ρ).duties (recvCell c i) 0 \ ∅) (fun d => (rd (F := F) m ρ).payload (recvCell c i) 0 d) = recvPay m ρ c i := by
  rw [Finset.sdiff_empty, duties_recv m ρ c i h, bigSep_singleton, payload_recv]

end Tables

/-! ## What each core owes, and the levels -/

/-- The receive credit device `c` still owes for the transfers in the bit set `s`. -/
def owedX (c : Dev nD) (s : ℕ) : CellTallies nD τ sig Unit :=
  ∑ i : Fin 76, if s.testBit i.val then tallyAt (recvCell (tgt c (dir i)) i) () N else 0
/-- The barrier credit it owes its neighbours in the directions `D`. -/
def owedB (c : Dev nD) (D : Finset (Fin 4)) : CellTallies nD τ sig Unit :=
  ∑ d ∈ D, tallyAt (barCell (tgt c d)) () 32768
def nbrs (c : Dev nD) : Finset (Fin 4) := Finset.univ.filter (fun d => has c d = true)
/-- At launch: both, for all its transfers and all its neighbours. -/
def O₀ (c : Dev nD) : CellTallies nD τ sig Unit := owedX c (bits0 c.val).s + owedB c (nbrs c)

def L (g : GSem nD τ sig) : Finset Unit := if g.1.2 = .tc then {()} else ∅
/-- Staging and send cells at 0, barrier cells at 1, receive cells at their transfer's level. -/
def lv (g : GSem nD τ sig) (_ : Unit) : ℕ := match g.2 with
  | .reg _ => 1
  | .dma n => match ofNo n.val with
    | some (true, i) => lvlN i.val
    | _ => 0

/-- That the levels are these. -/
@[irreducible] def Lev : sProp 𝕄 := levAts L lv
omit [FloatOps F] in
theorem lev_eq : (Lev (F := F) : sProp 𝕄) = levAts L lv := by unfold Lev; rfl
omit [FloatOps F] in
instance lev_persistent : Persistent (Lev (F := F)) := by unfold Lev; infer_instance

/-- Only the cells of the devices' main cores have levels. -/
theorem L_of_ne (g : GSem nD τ sig) (h : g.1.2 ≠ .tc) : L g = ∅ := if_neg h
/-- Each of those has one. -/
theorem L_tc (c : Dev nD) (sm : SemLoc sig) : L ((c : Thread nD τ), sm) = {()} := if_pos rfl
/-- The barrier's level. -/
theorem lv_bar (c : Dev nD) : lv (barCell c) () = 1 := rfl
/-- A receive cell's level is its transfer's. -/
theorem lv_recv (c : Dev nD) (i : Fin 76) : lv (recvCell c i) () = lvlN i.val := by
  show (match ofNo (semNo true i.val) with | some (true, i) => lvlN i.val | _ => 0) = _
  rw [ofNo_semNo]
/-- A send cell's level is the lowest. -/
theorem lv_send (c : Dev nD) (i : Fin 76) : lv (sendCell c i) () = 0 := by
  show (match ofNo (semNo false i.val) with | some (true, i) => lvlN i.val | _ => 0) = _
  rw [ofNo_semNo]

/-- Where a sum of tallies is positive one of them is. -/
theorem tally_sum_pos {I : Type} (S : Finset I) (f : I → CellTallies nD τ sig Unit) {g : GSem nD τ sig} {u : Unit}
    (h : 0 < (∑ i ∈ S, f i) g u) : ∃ i ∈ S, 0 < f i g u := by
  by_contra hn
  rw [Finset.sum_apply, Finsupp.finset_sum_apply] at h
  have : ∑ i ∈ S, (f i g) u = 0 := Finset.sum_eq_zero fun i hi => by
    by_contra h0; exact hn ⟨i, hi, Nat.pos_of_ne_zero h0⟩
  omega

/-- A cell the device owes transfer credit to is the receive cell of a transfer not started. -/
theorem owedX_pos {c : Dev nD} {s : ℕ} {g : GSem nD τ sig} {u : Unit} (h : 0 < owedX c s g u) :
    ∃ i : Fin 76, s.testBit i.val = true ∧ g = recvCell (tgt c (dir i)) i := by
  obtain ⟨i, -, hi⟩ := tally_sum_pos _ _ h
  by_cases hb : s.testBit i.val = true
  · refine ⟨i, hb, ?_⟩
    rw [if_pos hb, tallyAt_apply] at hi
    by_contra hg
    rw [if_neg (fun h' => hg h'.1)] at hi; exact Nat.lt_irrefl 0 hi
  · rw [if_neg hb] at hi; exact absurd hi (Nat.lt_irrefl 0)

/-- Barrier signals are owed only to barriers. -/
theorem owedB_pos {c : Dev nD} {D : Finset (Fin 4)} {g : GSem nD τ sig} {u : Unit} (h : 0 < owedB c D g u) :
    ∃ d, g = barCell (tgt c d) := by
  obtain ⟨d, -, hi⟩ := tally_sum_pos _ _ h
  refine ⟨d, ?_⟩
  rw [tallyAt_apply] at hi
  by_contra hg
  rw [if_neg (fun h' => hg h'.1)] at hi; exact Nat.lt_irrefl 0 hi

/-- Starting transfer `i` settles what it owed for it. -/
theorem owedX_flip (c : Dev nD) (i : Fin 76) (s s' : ℕ) (hs : s.testBit i.val = true)
    (hs' : ∀ j : ℕ, s'.testBit j = if j = i.val then false else s.testBit j) :
    owedX c s = owedX c s' + tallyAt (recvCell (tgt c (dir i)) i) () N := by
  unfold owedX
  rw [← Finset.add_sum_erase _ _ (Finset.mem_univ i), ← Finset.add_sum_erase (a := i) Finset.univ
    (fun i => if s'.testBit i.val then tallyAt (recvCell (tgt c (dir i)) i) () N else 0) (Finset.mem_univ i),
    if_pos hs, hs' i.val, if_pos rfl, if_neg Bool.false_ne_true, zero_add, add_comm]
  congr 1
  refine Finset.sum_congr rfl fun j hj => ?_
  rw [hs' j.val, if_neg (fun h => Finset.ne_of_mem_erase hj (Fin.ext h))]

/-- Of no transfers nothing is owed. -/
theorem owedX_zero (c : Dev nD) : owedX c 0 = 0 := Finset.sum_eq_zero fun i _ => by
  rw [Nat.zero_testBit]; rfl

/-- A transfer's level is above the barrier's. -/
theorem lvl_pos (i : Fin 76) : 1 < lvlN i.val := by revert i; decide

omit [FloatOps F] in
/-- A device may wait for the arrival of a transfer whose level is below those of all transfers it has not started. -/
theorem mayWait_recv (c : Dev nD) (i : Fin 76) (s : ℕ) (h : ∀ j : Fin 76, s.testBit j.val = true → lvlN i.val < lvlN j.val) :
    (Lev (F := F) : sProp 𝕄) ⊢ MayWait (c : Thread nD τ) (.dma (dsem true i)) () (owedX c s) := by
  rw [lev_eq]; exact MayOwe.of_cut (L := L) (lev := lv) (lvlN i.val) (fun p hp => by rw [Finset.mem_singleton.mp hp, L_tc]; exact Finset.mem_singleton_self _)
    (fun g u hg => by obtain ⟨j, -, rfl⟩ := owedX_pos hg; rw [L_tc]; exact Finset.mem_singleton_self _)
    (fun p hp => by rw [Finset.mem_singleton.mp hp]; exact (lv_recv c i).le)
    (fun g u hg => by obtain ⟨j, hj, rfl⟩ := owedX_pos hg; rw [lv_recv]; exact h j hj)

omit [FloatOps F] in
/-- At its barrier waits a device owes transfer credit only. -/
theorem mayWait_bar (c : Dev nD) (s : ℕ) :
    (Lev (F := F) : sProp 𝕄) ⊢ MayWait (c : Thread nD τ) (.reg barS) () (owedX c s) := by
  rw [lev_eq]; exact MayOwe.of_cut (L := L) (lev := lv) 1 (fun p hp => by rw [Finset.mem_singleton.mp hp, L_tc]; exact Finset.mem_singleton_self _)
    (fun g u hg => by obtain ⟨j, -, rfl⟩ := owedX_pos hg; rw [L_tc]; exact Finset.mem_singleton_self _)
    (fun p hp => by rw [Finset.mem_singleton.mp hp]; exact (lv_bar c).le)
    (fun g u hg => by obtain ⟨j, hj, rfl⟩ := owedX_pos hg; rw [lv_recv]; exact lvl_pos j)

omit [FloatOps F] in
/-- The staging cells are below everything a device ever owes. -/
theorem mayWait_stage (c : Dev nD) (q : DmaSem sig) (hq : ofNo q.val = none) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ d, g = barCell (tgt c d)) ∨ (∃ i : Fin 76, g = recvCell (tgt c (dir i)) i) := fun g u hg => by
      unfold O₀ at hg
      rw [Pi.add_apply, Finsupp.add_apply] at hg
      rcases Nat.eq_zero_or_pos (owedX c (bits0 c.val).s g u) with h0 | h0
      · rw [h0, Nat.zero_add] at hg; exact Or.inl (owedB_pos hg)
      · obtain ⟨i, -, hi⟩ := owedX_pos h0; exact Or.inr ⟨i, hi⟩
    refine MayOwe.of_cut (L := L) (lev := lv) 0 (fun p hp => by rw [Finset.mem_singleton.mp hp, L_tc]; exact Finset.mem_singleton_self _)
      (fun g u hg => by rcases key g u hg with ⟨d, rfl⟩ | ⟨i, rfl⟩ <;> exact Finset.mem_singleton_self _)
      (fun p hp => by
        rw [Finset.mem_singleton.mp hp]
        show (match ofNo q.val with | some (true, i) => lvlN i.val | _ => 0) ≤ 0
        rw [hq])
      (fun g u hg => by
        rcases key g u hg with ⟨d, rfl⟩ | ⟨i, rfl⟩
        · exact Nat.one_pos
        · rw [lv_recv]; have := lvl_pos i; omega)
  · rw [MayWait_zero]; iintro -; iempintro

end Cert.KernelIdeal.Gather

end
-- ==== Proof.Ideal.Core.lean ====
/-
# One device's state between two steps, and the rule of each kind of step

`Inv c n` is what device `c` holds before step `n` of its order (`Topo.opN`), as the bit sets `bitsAt c n` say; `Tr c n l p`
says that program `p` takes it from step `n` to step `l`. A start, a wait for an arrival and a wait for a departure each
have one rule, whose only side condition is that the printed offsets, semaphores and device are those of step `n`: a
Boolean over the device.
-/
module

public import proofs.«01_k».proof.Proof.Ideal.Sched

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

abbrev 𝒱₀ : Variants := Variants.none

/-! ## The shared facts -/

/-- Every cell's invariant and that its round 0 has begun. -/
def recs : sProp 𝕄 := bigSep Finset.univ fun ck : Dev nD × CI => iprop(cellInv ER (rd m ρ) (K ck) (kcell ck) ∗ reached ER (kcell ck) 0)

def Ctx : sProp 𝕄 := iprop(recs m ρ K ∗ Lev)

omit [FloatOps F] in
instance recs_persistent : Persistent (recs (F := F) m ρ K) := by unfold recs; infer_instance
omit [FloatOps F] in
instance ctx_persistent : Persistent (Ctx (F := F) m ρ K) := by unfold Ctx; infer_instance

omit [FloatOps F] in
/-- The shared facts hold a transfer's cell. -/
theorem ctx_cell (c : Dev nD) (b : Bool) (i : Fin 76) :
    Ctx (F := F) m ρ K ⊢ iprop(cellInv ER (rd m ρ) (K (c, .inr (b, i))) (dcell b c i) ∗ reached ER (dcell b c i) 0) := by
  unfold Ctx recs
  exact sep_elim_left.trans (bigSep_elim (Finset.mem_univ ((c, .inr (b, i)) : Dev nD × CI))
    (Φ := fun ck : Dev nD × CI => iprop(cellInv ER (rd m ρ) (K ck) (kcell ck) ∗ reached ER (kcell ck) 0)))
omit [FloatOps F] in
/-- The shared facts hold a device's barrier. -/
theorem ctx_bar (c : Dev nD) :
    Ctx (F := F) m ρ K ⊢ iprop(cellInv ER (rd m ρ) (K (c, .inl ())) (barCell c) ∗ reached ER (barCell c) 0) := by
  unfold Ctx recs
  exact sep_elim_left.trans (bigSep_elim (Finset.mem_univ ((c, .inl ()) : Dev nD × CI))
    (Φ := fun ck : Dev nD × CI => iprop(cellInv ER (rd m ρ) (K ck) (kcell ck) ∗ reached ER (kcell ck) 0)))
omit [FloatOps F] in
/-- The shared facts hold the levels. -/
theorem ctx_lev : Ctx (F := F) m ρ K ⊢ (Lev : sProp 𝕄) := by
  unfold Ctx; iintro ⟨-, H⟩; iexact H

/-! ## The state -/

/-- A transfer not started: its cells' tokens and the half slot it will write. -/
def sTodo (c : Dev nD) (i : Fin 76) : sProp 𝕄 :=
  iprop(atPos ER (sendCell c i) 0 ∅ 0 ∗ dutyTok ER (sendCell c i) 0 0 ∗ dutyTok ER (recvCell (tgt c (dir i)) i) 0 0
    ∗ ∃ f, gPts (tgt c (dir i)) (half c i) fullShare f)
/-- A transfer started, its departure not waited for. -/
def sFly (c : Dev nD) (i : Fin 76) : sProp 𝕄 :=
  iprop(atPos ER (sendCell c i) 0 ∅ 0 ∗ cred (tallyAt (sendCell c i) () N))
def sDone (c : Dev nD) (i : Fin 76) : sProp 𝕄 := semVal (sendCell c i) 0
/-- An arrival not waited for. -/
def rTodo (c : Dev nD) (i : Fin 76) : sProp 𝕄 :=
  iprop(atPos ER (recvCell c i) 0 ∅ 0 ∗ cred (tallyAt (recvCell c i) () N))
def rDone (c : Dev nD) (i : Fin 76) : sProp 𝕄 := semVal (recvCell c i) 0

def sndP (c : Dev nD) (b : Bits) (i : Fin 76) : sProp 𝕄 :=
  if b.s.testBit i.val then sTodo c i else if b.f.testBit i.val then sFly c i else sDone c i
def rcvP (c : Dev nD) (b : Bits) (i : Fin 76) : sProp 𝕄 := if b.r.testBit i.val then rTodo c i else rDone c i
def heldP (c : Dev nD) (b : Bits) (k : Fin 64) (d : Fin 4) : sProp 𝕄 := if heldB b k d then quarter m ρ c k d else iprop(emp)
def heldK (c : Dev nD) (b : Bits) (k : Fin 64) : sProp 𝕄 := bigSep Finset.univ fun d : Fin 4 => heldP m ρ c b k d

def St (c : Dev nD) (b : Bits) : sProp 𝕄 :=
  iprop((bigSep Finset.univ fun i : Fin 76 => sndP c b i) ∗ (bigSep Finset.univ fun i : Fin 76 => rcvP c b i)
    ∗ (bigSep Finset.univ fun k : Fin 64 => heldK m ρ c b k) ∗ ∃ W, owes (c : Thread nD τ) (owedX c b.s) W)

def Inv (c : Dev nD) (n : ℕ) : sProp 𝕄 := iprop(Ctx m ρ K ∗ St m ρ c (bitsAt c.val n))

/-- `p` takes device `c` from before step `n` to before step `l`. -/
def Tr {α : Type} (c : Dev nD) (n l : ℕ) (p : Prog (TpuEff nD τ sig (Elt F) Λ₀ .tc) α) : Prop :=
  Inv m ρ K c n ⊢ wp frame (wpE (defs₀ (F := F)) 𝒱₀ (c : Thread nD τ) none) Set.univ p (fun _ => Inv m ρ K c l)

variable {m ρ K}
section Rules
variable {α β : Type} {c : Dev nD} {n l l' : ℕ}

/-- A value takes no step. -/
theorem Tr_pure (v : α) : Tr (F := F) m ρ K c n n (pure v) := by
  unfold Tr
  rw [show (pure v : Prog (TpuEff nD τ sig (Elt F) Λ₀ .tc) α) = Prog.ret v from rfl, wp_ret]
  iintro H; imodintro; iexact H

/-- A step that does nothing may be taken at any place. -/
theorem Tr_skip (v : α) (h : opN c.val n = 0) : Tr (F := F) m ρ K c n (n + 1) (pure v) := by
  have e : bitsAt c.val (n + 1) = bitsAt c.val n := by
    show stepOp c.val (opN c.val n) (bitsAt c.val n) = _
    rw [h]; rfl
  have := Tr_pure (F := F) (m := m) (ρ := ρ) (K := K) (c := c) (n := n) v
  unfold Tr Inv at *
  rwa [e]

/-- One stretch after another. -/
theorem Tr_bind {p : Prog (TpuEff nD τ sig (Elt F) Λ₀ .tc) α} {k : α → Prog (TpuEff nD τ sig (Elt F) Λ₀ .tc) β}
    (h1 : Tr m ρ K c n l p) (h2 : ∀ v, Tr m ρ K c l l' (k v)) : Tr m ρ K c n l' (p >>= k) := by
  unfold Tr at *
  rw [wp_bind]
  exact h1.trans (wp_mono _ _ _ h2)

/-- An operation and nothing after. -/
theorem Tr_last {p : Prog (TpuEff nD τ sig (Elt F) Λ₀ .tc) α} {v : β}
    (h1 : Tr m ρ K c n l p) : Tr m ρ K c n l (p >>= fun _ => pure v) := Tr_bind h1 fun _ => Tr_pure v

/-- A choice of two stretches with the same steps. -/
theorem Tr_dite {P : Prop} [Decidable P] {t : P → Prog (TpuEff nD τ sig (Elt F) Λ₀ .tc) α} {e : ¬P → Prog (TpuEff nD τ sig (Elt F) Λ₀ .tc) α}
    (ht : ∀ h, Tr m ρ K c n l (t h)) (he : ∀ h, Tr m ρ K c n l (e h)) : Tr m ρ K c n l (dite P t e) := by
  by_cases h : P
  · rw [dif_pos h]; exact ht h
  · rw [dif_neg h]; exact he h

end Rules

/-! ## Changing one summand -/

section Sums
variable {M : Type} [URA M]

/-- One summand may be taken out and put back changed. -/
theorem sum_upd {I : Type} [Fintype I] [DecidableEq I] (i : I) (Φ Ψ : I → sProp M) (h : ∀ j, j ≠ i → Ψ j = Φ j) :
    bigSep Finset.univ Φ ⊢ iprop(Φ i ∗ (Ψ i -∗ bigSep Finset.univ Ψ)) := by
  rw [bigSep_univ_at Φ i, bigSep_univ_at Ψ i,
    show bigSep (Finset.univ.erase i) Ψ = bigSep (Finset.univ.erase i) Φ from bigSep_congr fun j hj => h j (Finset.ne_of_mem_erase hj)]
  iintro ⟨H1, H2⟩
  isplitl [H1]; · iexact H1
  iintro H; isplitl [H]; · iexact H
  iexact H2

end Sums

omit [FloatOps F] in
/-- Taking or returning one quarter. -/
theorem held_upd (m : (ℓ : Loc nD τ sig) → Buf (Elt F) ℓ) (ρ : Dev nD → PrngReg) (c : Dev nD) (b b' : Bits) (k : Fin 64) (d : Fin 4) (x : Bool)
    (h : ∀ k' d', heldB b' k' d' = if k' = k ∧ d' = d then x else heldB b k' d') :
    (bigSep Finset.univ fun k : Fin 64 => heldK m ρ c b k)
      ⊢ iprop(heldP m ρ c b k d ∗ (heldP m ρ c b' k d -∗ bigSep Finset.univ fun k : Fin 64 => heldK m ρ c b' k)) := by
  have h1 := sum_upd k (fun k : Fin 64 => heldK m ρ c b k) (fun k => heldK m ρ c b' k) (fun j hj => by
    unfold heldK heldP; refine bigSep_congr fun d' _ => ?_
    rw [h, if_neg (c := j = k ∧ d' = d) (fun h => hj h.1)])
  have h2 := sum_upd d (fun d => heldP m ρ c b k d) (fun d => heldP m ρ c b' k d) (fun j hj => by
    unfold heldP; rw [h, if_neg (c := k = k ∧ j = d) (fun h => hj h.2)])
  iintro H
  ihave H := h1 $$ H
  icases H with ⟨H, Hw⟩
  ihave H := h2 $$ [H]
  · unfold heldK; iexact H
  icases H with ⟨H, Hv⟩
  isplitl [H]; · iexact H
  iintro H
  iapply Hw
  unfold heldK
  iapply Hv $$ H

omit [FloatOps F] in
/-- A half slot arrived whole is its four quarters. -/
theorem gPts_quarters (m : (ℓ : Loc nD τ sig) → Buf (Elt F) ℓ) (ρ : Dev nD → PrngReg) (c : Dev nD) (k : Fin 64) (hk : isOwn c k = false) :
    (gPts c k fullShare (gath m ρ) : sProp 𝕄) = bigSep Finset.univ fun d : Fin 4 => quarter m ρ c k d := by
  unfold gPts
  rw [ShareLeaves.pointsTo_leaves _ _ 2 fullShare]
  refine bigSep_congr fun d _ => ?_
  unfold quarter; rw [hk]; rfl

omit [FloatOps F] in
/-- A half slot that lands is then held in all its quarters. -/
theorem held_arrive (m : (ℓ : Loc nD τ sig) → Buf (Elt F) ℓ) (ρ : Dev nD → PrngReg) (c : Dev nD) (b b' : Bits) (k : Fin 64) (hk : isOwn c k = false)
    (h0 : ∀ d, heldB b k d = false)
    (h : ∀ k' d', heldB b' k' d' = if k' = k then true else heldB b k' d') :
    iprop((bigSep Finset.univ fun k : Fin 64 => heldK m ρ c b k) ∗ gPts c k fullShare (gath m ρ))
      ⊢ bigSep Finset.univ fun k : Fin 64 => heldK m ρ c b' k := by
  have h1 := sum_upd k (fun k : Fin 64 => heldK m ρ c b k) (fun k => heldK m ρ c b' k) (fun j hj => by
    unfold heldK heldP; refine bigSep_congr fun d' _ => ?_; rw [h, if_neg (c := j = k) hj])
  have e : heldK m ρ c b' k = gPts c k fullShare (gath m ρ) := by
    rw [gPts_quarters m ρ c k hk]; unfold heldK
    refine bigSep_congr fun d _ => ?_
    unfold heldP; rw [h, if_pos (c := k = k) rfl, if_pos rfl]
  iintro ⟨H, Hg⟩
  ihave H := h1 $$ H
  icases H with ⟨-, Hw⟩
  iapply Hw
  rw [e]; iexact Hg

/-! ## The steps -/

section Steps
variable {c : Dev nD} {n : ℕ}

/-- Any two devices are joined. -/
theorem tgt_ne_routes (c c' : Dev nD) : τ.routes (c : Thread nD τ) (c' : Thread nD τ) = true := by routes

/-- The start of transfer `i`, given the source as its payload says. -/
theorem send_core (i : Fin 76) (b : Bits) (hok : okOp c.val (100 + i.val) b = true) (hu : used c i = true)
    {src dst : Memref sig .tc .vmem S16x1024 .f32}
    {fs : Buf (Elt F) (src.view.loc (c : Thread nD τ))} {q : PosShare TreeShare}
    (hq : quarter m ρ c (half c i) (dir i) = (src.view.loc (c : Thread nD τ) ↦[src.view.set]{q} fs))
    (hdst : dst = gHalf (half c i))
    (hland : ∀ fd : (cc0_scratch0 : Ref sig .tc).ty.Contents (Elt F), ∀ j ∈ (gHalf (half c i)).view.set,
      (gHalf (half c i)).view.write (Elt F) fd (src.view.read (Elt F) fs) Finset.univ j = gath m ρ j)
    {sS sR : DmaSem sig} (hS : sS = dsem false i) (hR : sR = dsem true i) {dev : Dev nD} (hdev : dev = tgt c (dir i))
    {hsc : dst.view.ref.isScScratch = false} {hsrc : src.view.WordExact} {hdw : dst.view.WordExact}
    {hsem : DmaTarget.Typed .vmem (.dma sR) (.remote (Dev.tc dev : Thread nD τ) dst (.dma sS) hsc)} :
    iprop(Ctx m ρ K ∗ St m ρ c b) ⊢ wp frame (wpE (defs₀ (F := F)) 𝒱₀ (c : Thread nD τ) none) Set.univ
      (Prog.lift (.enqueueDma src (.remote (Dev.tc dev : Thread nD τ) dst (.dma sS) hsc) (.dma sR) hsrc hdw hsem))
      (fun _ => iprop(Ctx m ρ K ∗ St m ρ c (stepOp c.val (100 + i.val) b))) := by
  subst hS hR hdev hdst
  obtain ⟨hs, hf, hh, es, ef, er, eh⟩ := send_bits c i b hok
  generalize stepOp c.val (100 + i.val) b = b' at *
  have huI : usedIn (tgt c (dir i)) i = true := by unfold usedIn; rw [src_tgt]; exact hu
  have hIn : halfIn (tgt c (dir i)) i = half c i := by unfold halfIn; rw [src_tgt]
  have u1 := sum_upd i (fun i => sndP (F := F) c b i) (fun i => sndP (F := F) c b' i) (fun j hj => by
    have : j.val ≠ i.val := fun h => hj (Fin.ext h)
    unfold sndP; rw [es, ef, if_neg this, if_neg this])
  have u2 := held_upd m ρ c b b' (half c i) (dir i) false eh
  have e1 : sndP (F := F) c b i = sTodo c i := by unfold sndP; rw [if_pos hs]
  have e2 : sndP (F := F) c b' i = sFly c i := by unfold sndP; rw [es, ef, if_pos rfl, if_pos rfl]; rfl
  have e3 : heldP m ρ c b (half c i) (dir i) = (src.view.loc (c : Thread nD τ) ↦[src.view.set]{q} fs) := by
    unfold heldP; rw [if_pos hh, hq]
  have e4 : heldP m ρ c b' (half c i) (dir i) = iprop(emp) := by
    unfold heldP; rw [eh, if_pos (c := half c i = half c i ∧ dir i = dir i) ⟨rfl, rfl⟩]; rfl
  have e5 : (fun i => rcvP (F := F) c b' i) = fun i => rcvP (F := F) c b i := by
    funext j; unfold rcvP; rw [er]
  rw [e1, e2] at u1
  rw [e3, e4] at u2
  simp only [Prog.lift]
  unfold St
  iintro ⟨#HC, Hs, Hr, Hh, ⟨%W, HO⟩⟩
  ihave Hs := u1 $$ Hs
  ihave Hh := u2 $$ Hh
  icases Hs with ⟨Hs, Hsw⟩
  icases Hh with ⟨Hh, Hhw⟩
  unfold sTodo gPts
  icases Hs with ⟨HatS, HtS, HtR, ⟨%fd, Hd⟩⟩
  ihave HI1 := (ctx_cell m ρ K c false i) $$ HC
  ihave HI2 := (ctx_cell m ρ K (tgt c (dir i)) true i) $$ HC
  icases HI1 with ⟨HI1, HR1⟩
  icases HI2 with ⟨HI2, HR2⟩
  iapply (Rounds.wp_send_pointsTo 𝒱₀ ER (rd m ρ) (c : Thread nD τ) none (κ₁ := K (c, .inr (false, i))) (κ₂ := K (tgt c (dir i), .inr (true, i)))
    (r₁ := 0) (r₂ := 0) (d₁ := 0) (d₂ := 0) (fd := fd)
    (by rw [duties_send m ρ c i hu]; exact Finset.mem_singleton_self _)
    (by rw [duties_recv m ρ _ i huI]; exact Finset.mem_singleton_self _)
    () () N (amount_g _ _) (amount_dma m ρ c false i 0) (amount_dma m ρ (tgt c (dir i)) true i 0) (owedX c b'.s) (owedX_flip c i b.s b'.s hs es) (W := W)
    (by rw [payload_send]; unfold sendPay; rw [hq])
    (by rw [payload_recv]; unfold recvPay gPts; rw [hIn]; exact Entails.of_eq (pointsTo_congr (hland fd)))
    (tgt_ne_routes c (tgt c (dir i)))) $$ [HI1 HI2 HR1 HR2 Hh Hd HO HtS HtR]
  · isplitl [HI1]; · iexact HI1
    isplitl [HI2]; · iexact HI2
    isplitl [Hh]; · iexact Hh
    isplitl [Hd]; · iexact Hd
    isplitl [HO]; · iexact HO
    isplitl [HtS]; · iexact HtS
    isplitl [HR1]; · iexact HR1
    isplitl [HtR]; · iexact HtR
    iexact HR2
  iintro ⟨HcS, HO⟩
  rw [wp_ret]; imodintro
  isplitr; · iexact HC
  isplitl [Hsw HatS HcS]
  · iapply Hsw; unfold sFly; isplitl [HatS] <;> iassumption
  isplitl [Hr]; · rw [e5]; iexact Hr
  isplitl [Hhw]; · iapply Hhw; iempintro
  iexists W; iexact HO

/-- The wait for the arrival of transfer `i`. -/
theorem recv_core (i : Fin 76) (b : Bits) (hok : okOp c.val (200 + i.val) b = true) (hu : usedIn c i = true)
    {src dst : Memref sig .tc .vmem S16x1024 .f32} (hN : dst.view.dmaCredit = N)
    {sR : DmaSem sig} (hR : sR = dsem true i) {hsrc : src.view.WordExact} {hdw : dst.view.WordExact} :
    iprop(Ctx m ρ K ∗ St m ρ c b) ⊢ wp frame (wpE (defs₀ (F := F)) 𝒱₀ (c : Thread nD τ) none) Set.univ
      (Prog.lift (.waitDma2 sR src dst hsrc hdw))
      (fun _ => iprop(Ctx m ρ K ∗ St m ρ c (stepOp c.val (200 + i.val) b))) := by
  subst hR
  obtain ⟨hr, hl, h0, es, ef, er, eh⟩ := recv_bits c i b hok
  generalize stepOp c.val (200 + i.val) b = b' at *
  have u1 := sum_upd i (fun i => rcvP (F := F) c b i) (fun i => rcvP (F := F) c b' i) (fun j hj => by
    have : j.val ≠ i.val := fun h => hj (Fin.ext h)
    unfold rcvP; rw [er, if_neg this])
  have u2 := held_arrive m ρ c b b' (halfIn c i) (halfIn_not_own c i hu) h0 eh
  have e1 : rcvP (F := F) c b i = rTodo c i := by unfold rcvP; rw [if_pos hr]
  have e2 : rcvP (F := F) c b' i = rDone c i := by unfold rcvP; rw [er, if_pos rfl]; rfl
  have e5 : (fun i => sndP (F := F) c b' i) = fun i => sndP (F := F) c b i := by
    funext j; unfold sndP; rw [es, ef]
  rw [e1, e2] at u1
  simp only [Prog.lift]
  unfold St
  iintro ⟨#HC, Hs, Hr, Hh, ⟨%W, HO⟩⟩
  ihave Hr := u1 $$ Hr
  icases Hr with ⟨Hr, Hrw⟩
  unfold rTodo
  icases Hr with ⟨Hat, Hc⟩
  ihave #HL := (ctx_lev m ρ K) $$ HC
  ihave #HI := (ctx_cell m ρ K c true i) $$ HC
  icases HI with ⟨#HI, -⟩
  iapply (Rounds.wp_wait_rest_token 𝒱₀ ER (rd m ρ) (c : Thread nD τ) none (κ := K (c, .inr (true, i)))
      (wpE_waitDma2_eq 𝒱₀ (c : Thread nD τ) none Set.univ) (Set.mem_univ _) () (O := owedX c b.s) (W := W) (R := 0) (m := 0) (T := ∅)
      (by rw [Nat.zero_add, expect_recv m ρ c i hu, hN])) $$ [Hc HO Hat]
  · isplitr; · iexact HI
    isplitl [Hc]; · rw [hN]; iexact Hc
    isplitl [HO]; · iexact HO
    isplitr; · iapply (mayWait_recv c i b.s hl); iexact HL
    iexact Hat
  iintro ⟨HO, Hat, -, Hpay⟩
  ihave Hp := (Entails.of_eq (rest_recv m ρ c i hu)) $$ Hpay
  imod (Rounds.cell_close ER (rd m ρ) (Set.mem_univ (K (c, .inr (true, i)))) (fun h => h) (R := 0 + 1) (duties_later m ρ (recvCell c i))) $$ [Hat] with Hz
  · isplitr; · iexact HI
    iexact Hat
  rw [wp_ret]; imodintro
  isplitr; · iexact HC
  isplitl [Hs]; · rw [e5]; iexact Hs
  isplitl [Hrw Hz]; · iapply Hrw; unfold rDone; iexact Hz
  isplitl [Hh Hp]
  · iapply u2
    isplitl [Hh]; · iexact Hh
    unfold recvPay; iexact Hp
  iexists _; rw [es]; iexact HO

/-- The wait for the departure of transfer `i`. -/
theorem wait_core (i : Fin 76) (b : Bits) (hok : okOp c.val (300 + i.val) b = true) (hu : used c i = true)
    {src dst : Memref sig .tc .vmem S16x1024 .f32} (hN : dst.view.dmaCredit = N)
    {sS : DmaSem sig} (hS : sS = dsem false i) {hsrc : src.view.WordExact} {hdw : dst.view.WordExact} :
    iprop(Ctx m ρ K ∗ St m ρ c b) ⊢ wp frame (wpE (defs₀ (F := F)) 𝒱₀ (c : Thread nD τ) none) Set.univ
      (Prog.lift (.waitDma2 sS src dst hsrc hdw))
      (fun _ => iprop(Ctx m ρ K ∗ St m ρ c (stepOp c.val (300 + i.val) b))) := by
  subst hS
  obtain ⟨hf, hs0, hh, es, ef, er, eh⟩ := wait_bits c i b hok
  generalize stepOp c.val (300 + i.val) b = b' at *
  have hs : ∀ j, b.s.testBit j = false := fun j => by rw [hs0]; exact Nat.zero_testBit j
  have u1 := sum_upd i (fun i => sndP (F := F) c b i) (fun i => sndP (F := F) c b' i) (fun j hj => by
    have : j.val ≠ i.val := fun h => hj (Fin.ext h)
    unfold sndP; rw [es, ef, if_neg this])
  have u2 := held_upd m ρ c b b' (half c i) (dir i) true eh
  have e1 : sndP (F := F) c b i = sFly c i := by unfold sndP; rw [hs, hf, if_pos rfl]; rfl
  have e2 : sndP (F := F) c b' i = sDone c i := by unfold sndP; rw [es, hs, ef, if_pos rfl]; rfl
  have e3 : heldP m ρ c b' (half c i) (dir i) = sendPay m ρ c i := by
    unfold heldP; rw [eh, if_pos (c := half c i = half c i ∧ dir i = dir i) ⟨rfl, rfl⟩]; rfl
  have e5 : (fun i => rcvP (F := F) c b' i) = fun i => rcvP (F := F) c b i := by
    funext j; unfold rcvP; rw [er]
  rw [e1, e2] at u1
  rw [e3] at u2
  simp only [Prog.lift]
  unfold St
  iintro ⟨#HC, Hs, Hr, Hh, ⟨%W, HO⟩⟩
  ihave Hs := u1 $$ Hs
  icases Hs with ⟨Hs, Hsw⟩
  unfold sFly
  icases Hs with ⟨Hat, Hc⟩
  ihave #HI := (ctx_cell m ρ K c false i) $$ HC
  icases HI with ⟨#HI, -⟩
  iapply (Rounds.wp_wait_rest_token 𝒱₀ ER (rd m ρ) (c : Thread nD τ) none (κ := K (c, .inr (false, i)))
      (wpE_waitDma2_eq 𝒱₀ (c : Thread nD τ) none Set.univ) (Set.mem_univ _) () (O := owedX c b.s) (W := W) (R := 0) (m := 0) (T := ∅)
      (by rw [Nat.zero_add, expect_send m ρ c i hu, hN])) $$ [Hc HO Hat]
  · isplitr; · iexact HI
    isplitl [Hc]; · rw [hN]; iexact Hc
    isplitl [HO]; · iexact HO
    isplitr; · rw [hs0, owedX_zero, MayWait_zero]; iempintro
    iexact Hat
  iintro ⟨HO, Hat, -, Hpay⟩
  ihave Hp := (Entails.of_eq (rest_send m ρ c i hu)) $$ Hpay
  imod (Rounds.cell_close ER (rd m ρ) (Set.mem_univ (K (c, .inr (false, i)))) (fun h => h) (R := 0 + 1) (duties_later m ρ (sendCell c i))) $$ [Hat] with Hz
  · isplitr; · iexact HI
    iexact Hat
  ihave Hh := u2 $$ Hh
  icases Hh with ⟨-, Hhw⟩
  rw [wp_ret]; imodintro
  isplitr; · iexact HC
  isplitl [Hsw Hz]; · iapply Hsw; unfold sDone; iexact Hz
  isplitl [Hr]; · rw [e5]; iexact Hr
  isplitl [Hhw Hp]; · iapply Hhw $$ Hp
  iexists _; rw [es]; iexact HO

end Steps

end Cert.KernelIdeal.Gather

end
-- ==== Proof.Ideal.Rules.lean ====
/-
# The rules of the printed steps

The steps as the kernel prints them: a semaphore is an element of one of the eight arrays, the half slots are
rectangles at printed offsets. What must be checked of the printed numbers is one Boolean of the device and the step.
-/
module

public import proofs.«01_k».proof.Proof.Ideal.Core

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

/-- The one semaphore of a slice of an array of consecutive ones. -/
abbrev semAt (base k : ℕ) (h : base + (⟨1, ![k]⟩ : Shape).numel ≤ 155) (off : Fin 1 → ℕ)
    (inb : ∀ a, off a + S1.size a ≤ (⟨1, ![k]⟩ : Shape).size a) : DmaSem sig :=
  (((SemArray.consecutive base ⟨1, ![k]⟩ h : DmaSems sig ⟨1, ![k]⟩).slice (Rect.unit (s := ⟨1, ![k]⟩) off S1.size inb)).squeeze S_ squeezes_S1_S_).sem

/-- The number of a semaphore of an array. -/
theorem semAt_val (base k : ℕ) (h : base + (⟨1, ![k]⟩ : Shape).numel ≤ 155) (off : Fin 1 → ℕ)
    (inb : ∀ a, off a + S1.size a ≤ (⟨1, ![k]⟩ : Shape).size a) : (semAt base k h off inb).val = base + off 0 := by
  show base + ((⟨1, ![k]⟩ : Shape).rowMajor ((Rect.unit (s := ⟨1, ![k]⟩) off S1.size inb).emb
    (Shape.reshapeEquiv squeezes_S1_S_.numel_eq fun i => i.elim0))).val = base + off 0
  rw [Shape.rowMajor_val_one, Rect.emb_apply]
  have : ((Shape.reshapeEquiv squeezes_S1_S_.numel_eq (fun i : Fin 0 => i.elim0) : S1.Idx) 0).val < 1 :=
    ((Shape.reshapeEquiv squeezes_S1_S_.numel_eq (fun i : Fin 0 => i.elim0) : S1.Idx) 0).isLt
  show base + (off 0 + 1 * ((Shape.reshapeEquiv squeezes_S1_S_.numel_eq (fun i : Fin 0 => i.elim0) : S1.Idx) 0).val) = _
  omega

/-- A semaphore is known by its number. -/
theorem dsem_of (b : Bool) (i : Fin 76) (s : DmaSem sig) (h : s.val = semNo b i.val) : s = dsem b i := Fin.ext h

/-- Step `n` of device `c` is the start of a transfer with these semaphores, destination offsets and device. -/
def chkS (c n s r o0 o1 dev : ℕ) : Bool :=
  let i := opN c n - 100
  decide (100 ≤ opN c n) && decide (i < 76) && usedN c i && s == sendNo i && r == recvNo i && o0 == 16 * halfN c i && o1 == 0
    && dev == tgtN c (dirN i) % 32
/-- Its source is the device's own block, at these offsets; -/
def chkX (c n s r o0 o1 p0 p1 dev : ℕ) : Bool :=
  let i := opN c n - 100
  chkS c n s r o0 o1 dev && halfN c i / 2 == ownN c % 32 && p0 == 16 * (halfN c i % 2) && p1 == 0
/-- or the gathered array, at these. -/
def chkG (c n s r o0 o1 p0 p1 dev : ℕ) : Bool :=
  let i := opN c n - 100
  chkS c n s r o0 o1 dev && !(halfN c i / 2 == ownN c % 32) && p0 == 16 * halfN c i && p1 == 0
/-- Step `n` is the wait for an arrival on this semaphore; -/
def chkR (c n r : ℕ) : Bool :=
  let i := opN c n - 200
  decide (200 ≤ opN c n) && decide (i < 76) && usedN (tgtN c (oppN (dirN i) % 4) % 32) i && r == recvNo i
/-- or the wait for a departure. -/
def chkW (c n s : ℕ) : Bool :=
  let i := opN c n - 300
  decide (300 ≤ opN c n) && decide (i < 76) && usedN c i && s == sendNo i
/-- Either. -/
def chkRW (c n s : ℕ) : Bool := chkR c n s || chkW c n s

/-- An offset is known by its two coordinates. -/
theorem off_eq {off : Fin 2 → ℕ} {x : ℕ} (h0 : off 0 = x) (h1 : off 1 = 0) : off = ![x, 0] := by
  funext a; match a with
  | 0 => exact h0
  | 1 => exact h1

/-- A half of the block is worth the same credit as a half slot. -/
theorem credit_x (off : Fin 2 → ℕ) (h : ∀ a, off a + S16x1024.size a ≤ S32x1024.size a) : (xAt off h).view.dmaCredit = N := by
  unfold N; rfl

section Steps
variable {α β : Type} {c : Dev nD} {n l : ℕ}

/-- One step, then the rest. -/
theorem Tr_step {p : Prog (TpuEff nD τ sig (Elt F) Λ₀ .tc) α} {k : α → Prog (TpuEff nD τ sig (Elt F) Λ₀ .tc) β}
    (h1 : Tr m ρ K c n (n + 1) p) (h2 : ∀ v, Tr m ρ K c (n + 1) l (k v)) : Tr m ρ K c n l (p >>= k) := Tr_bind h1 h2

/-- A step under its printed condition, and what follows it. -/
theorem Tr_if {P : Prop} [Decidable P] {A : P → Prog (TpuEff nD τ sig (Elt F) Λ₀ .tc) α} {k : Prog (TpuEff nD τ sig (Elt F) Λ₀ .tc) β}
    (hA : ∀ h, Tr m ρ K c n (n + 1) (A h)) (h0 : ¬P → opN c.val n = 0) (hk : Tr m ρ K c (n + 1) l k) :
    Tr m ρ K c n l (dite P (fun h => A h >>= fun _ => k) (fun _ => k)) :=
  Tr_dite (fun h => Tr_bind (hA h) fun _ => hk) fun h => by
    have e : bitsAt c.val (n + 1) = bitsAt c.val n := by
      show stepOp c.val (opN c.val n) (bitsAt c.val n) = _
      rw [h0 h]; rfl
    unfold Tr Inv at *
    rwa [e] at hk

/-- The bit sets after one more step. -/
theorem bits_succ (c n : ℕ) : bitsAt c (n + 1) = stepOp c (opN c n) (bitsAt c n) := rfl

/-- A transfer that starts from the device's own block is one step. -/
theorem Tr_send_x {b1 k1 b2 k2 : ℕ} {h1 : b1 + (⟨1, ![k1]⟩ : Shape).numel ≤ 155} {h2 : b2 + (⟨1, ![k2]⟩ : Shape).numel ≤ 155}
    {o1 o2 : Fin 1 → ℕ} {i1 : ∀ a, o1 a + S1.size a ≤ (⟨1, ![k1]⟩ : Shape).size a} {i2 : ∀ a, o2 a + S1.size a ≤ (⟨1, ![k2]⟩ : Shape).size a}
    {od os : Fin 2 → ℕ} {hd : ∀ a, od a + S16x1024.size a ≤ S1024x1024.size a} {hs : ∀ a, os a + S16x1024.size a ≤ S32x1024.size a}
    {dev : ℕ} {hdev : dev < nD} {hsc : (gAt od hd).view.ref.isScScratch = false} {hsrc : (xAt os hs).view.WordExact} {hdw : (gAt od hd).view.WordExact}
    {hsem : DmaTarget.Typed .vmem (.dma (semAt b2 k2 h2 o2 i2)) (.remote (Dev.tc (⟨dev, hdev⟩ : Dev nD) : Thread nD τ) (gAt od hd) (.dma (semAt b1 k1 h1 o1 i1)) hsc)}
    (hn : n < 372)
    (hk : chkX c.val n (b1 + o1 0) (b2 + o2 0) (od 0) (od 1) (os 0) (os 1) dev = true) :
    Tr (F := F) m ρ K c n (n + 1) (Prog.lift (.enqueueDma (xAt os hs) (.remote (Dev.tc (⟨dev, hdev⟩ : Dev nD) : Thread nD τ) (gAt od hd) (.dma (semAt b1 k1 h1 o1 i1)) hsc)
      (.dma (semAt b2 k2 h2 o2 i2)) hsrc hdw hsem)) := by
  have hok := ok_at c n hn
  unfold Tr Inv
  rw [bits_succ]
  unfold chkX chkS at hk
  generalize opN c.val n = o at *
  simp only [Bool.and_eq_true, decide_eq_true_eq, beq_iff_eq] at hk
  obtain ⟨⟨⟨⟨⟨⟨⟨⟨⟨⟨ho, hi⟩, hu⟩, hs1⟩, hr1⟩, hd0⟩, hd1⟩, hdv⟩, hown⟩, hp0⟩, hp1⟩ := hk
  obtain ⟨i, rfl⟩ : ∃ i : Fin 76, o = 100 + i.val := ⟨⟨o - 100, hi⟩, by show o = 100 + (o - 100); omega⟩
  simp only [Nat.add_sub_cancel_left] at *
  obtain rfl := off_eq hd0 hd1
  obtain rfl := off_eq hp0 hp1
  subst hdv
  have hO : isOwn c (half c i) = true := by unfold isOwn; exact beq_iff_eq.mpr hown
  refine send_core (m := m) (ρ := ρ) (K := K) i _ hok hu (fs := xstg m ρ c) (q := qtr (dir i)) ?_ rfl (fun fd => landed_x m ρ c (half c i) hO fd)
    (dsem_of false i _ ((semAt_val ..).trans hs1)) (dsem_of true i _ ((semAt_val ..).trans hr1)) ?_
  · unfold quarter; rw [if_pos hO]; rfl
  · exact Fin.ext (by show tgtN c.val (dirN i.val) % 32 = tgtN c.val (dir i).val % 32; rw [dir_val])

/-- A transfer that passes on a half slot of the gathered array is one step. -/
theorem Tr_send_g {b1 k1 b2 k2 : ℕ} {h1 : b1 + (⟨1, ![k1]⟩ : Shape).numel ≤ 155} {h2 : b2 + (⟨1, ![k2]⟩ : Shape).numel ≤ 155}
    {o1 o2 : Fin 1 → ℕ} {i1 : ∀ a, o1 a + S1.size a ≤ (⟨1, ![k1]⟩ : Shape).size a} {i2 : ∀ a, o2 a + S1.size a ≤ (⟨1, ![k2]⟩ : Shape).size a}
    {od os : Fin 2 → ℕ} {hd : ∀ a, od a + S16x1024.size a ≤ S1024x1024.size a} {hs : ∀ a, os a + S16x1024.size a ≤ S1024x1024.size a}
    {dev : ℕ} {hdev : dev < nD} {hsc : (gAt od hd).view.ref.isScScratch = false} {hsrc : (gAt os hs).view.WordExact} {hdw : (gAt od hd).view.WordExact}
    {hsem : DmaTarget.Typed .vmem (.dma (semAt b2 k2 h2 o2 i2)) (.remote (Dev.tc (⟨dev, hdev⟩ : Dev nD) : Thread nD τ) (gAt od hd) (.dma (semAt b1 k1 h1 o1 i1)) hsc)}
    (hn : n < 372)
    (hk : chkG c.val n (b1 + o1 0) (b2 + o2 0) (od 0) (od 1) (os 0) (os 1) dev = true) :
    Tr (F := F) m ρ K c n (n + 1) (Prog.lift (.enqueueDma (gAt os hs) (.remote (Dev.tc (⟨dev, hdev⟩ : Dev nD) : Thread nD τ) (gAt od hd) (.dma (semAt b1 k1 h1 o1 i1)) hsc)
      (.dma (semAt b2 k2 h2 o2 i2)) hsrc hdw hsem)) := by
  have hok := ok_at c n hn
  unfold Tr Inv
  rw [bits_succ]
  unfold chkG chkS at hk
  generalize opN c.val n = o at *
  simp only [Bool.and_eq_true, decide_eq_true_eq, beq_iff_eq, Bool.not_eq_true'] at hk
  obtain ⟨⟨⟨⟨⟨⟨⟨⟨⟨⟨ho, hi⟩, hu⟩, hs1⟩, hr1⟩, hd0⟩, hd1⟩, hdv⟩, hown⟩, hp0⟩, hp1⟩ := hk
  obtain ⟨i, rfl⟩ : ∃ i : Fin 76, o = 100 + i.val := ⟨⟨o - 100, hi⟩, by show o = 100 + (o - 100); omega⟩
  simp only [Nat.add_sub_cancel_left] at *
  obtain rfl := off_eq hd0 hd1
  obtain rfl := off_eq hp0 hp1
  subst hdv
  have hO : isOwn c (half c i) = false := by unfold isOwn; exact hown
  refine send_core (m := m) (ρ := ρ) (K := K) i _ hok hu (fs := gath m ρ) (q := qtr (dir i)) ?_ rfl (fun fd => landed_g m ρ (half c i) fd)
    (dsem_of false i _ ((semAt_val ..).trans hs1)) (dsem_of true i _ ((semAt_val ..).trans hr1)) ?_
  · unfold quarter; rw [hO]; rfl
  · exact Fin.ext (by show tgtN c.val (dirN i.val) % 32 = tgtN c.val (dir i).val % 32; rw [dir_val])

/-- A wait, by its semaphore and size alone. -/
theorem Tr_wait_of {b1 k1 : ℕ} {h1 : b1 + (⟨1, ![k1]⟩ : Shape).numel ≤ 155}
    {o1 : Fin 1 → ℕ} {i1 : ∀ a, o1 a + S1.size a ≤ (⟨1, ![k1]⟩ : Shape).size a}
    {src dst : Memref sig .tc .vmem S16x1024 .f32} {hsrc : src.view.WordExact} {hdw : dst.view.WordExact} (hN : dst.view.dmaCredit = N)
    (hn : n < 372) (hk : chkRW c.val n (b1 + o1 0) = true) :
    Tr (F := F) m ρ K c n (n + 1) (Prog.lift (.waitDma2 (semAt b1 k1 h1 o1 i1) src dst hsrc hdw)) := by
  have hok := ok_at c n hn
  unfold Tr Inv
  rw [bits_succ]
  unfold chkRW chkR chkW at hk
  generalize opN c.val n = o at *
  simp only [Bool.and_eq_true, Bool.or_eq_true, decide_eq_true_eq, beq_iff_eq] at hk
  rcases hk with ⟨⟨⟨ho, hi⟩, hu⟩, hs1⟩ | ⟨⟨⟨ho, hi⟩, hu⟩, hs1⟩
  · obtain ⟨i, rfl⟩ : ∃ i : Fin 76, o = 200 + i.val := ⟨⟨o - 200, hi⟩, by show o = 200 + (o - 200); omega⟩
    simp only [Nat.add_sub_cancel_left] at *
    refine recv_core (m := m) (ρ := ρ) (K := K) i _ hok ?_ hN (dsem_of true i _ ((semAt_val ..).trans hs1))
    rw [dir_val] at hu; exact hu
  · obtain ⟨i, rfl⟩ : ∃ i : Fin 76, o = 300 + i.val := ⟨⟨o - 300, hi⟩, by show o = 300 + (o - 300); omega⟩
    simp only [Nat.add_sub_cancel_left] at *
    exact wait_core (m := m) (ρ := ρ) (K := K) i _ hok hu hN (dsem_of false i _ ((semAt_val ..).trans hs1))

/-- A wait for a transfer into the gathered array is one step. -/
theorem Tr_wait {b1 k1 : ℕ} {h1 : b1 + (⟨1, ![k1]⟩ : Shape).numel ≤ 155}
    {o1 : Fin 1 → ℕ} {i1 : ∀ a, o1 a + S1.size a ≤ (⟨1, ![k1]⟩ : Shape).size a}
    {od : Fin 2 → ℕ} {hd : ∀ a, od a + S16x1024.size a ≤ S1024x1024.size a}
    {src : Memref sig .tc .vmem S16x1024 .f32} {hsrc : src.view.WordExact} {hdw : (gAt od hd).view.WordExact}
    (hn : n < 372) (hk : chkRW c.val n (b1 + o1 0) = true) :
    Tr (F := F) m ρ K c n (n + 1) (Prog.lift (.waitDma2 (semAt b1 k1 h1 o1 i1) src (gAt od hd) hsrc hdw)) :=
  Tr_wait_of (credit_g od hd) hn hk

/-- A wait written with the device's own block is one step too. -/
theorem Tr_wait_x {b1 k1 : ℕ} {h1 : b1 + (⟨1, ![k1]⟩ : Shape).numel ≤ 155}
    {o1 : Fin 1 → ℕ} {i1 : ∀ a, o1 a + S1.size a ≤ (⟨1, ![k1]⟩ : Shape).size a}
    {od : Fin 2 → ℕ} {hd : ∀ a, od a + S16x1024.size a ≤ S32x1024.size a}
    {src : Memref sig .tc .vmem S16x1024 .f32} {hsrc : src.view.WordExact} {hdw : (xAt od hd).view.WordExact}
    (hn : n < 372) (hk : chkRW c.val n (b1 + o1 0) = true) :
    Tr (F := F) m ρ K c n (n + 1) (Prog.lift (.waitDma2 (semAt b1 k1 h1 o1 i1) src (xAt od hd) hsrc hdw)) :=
  Tr_wait_of (credit_x od hd) hn hk

end Steps

/-- A part of the body, at the kernel's own buffers and semaphores. -/
abbrev onM {B : Type _} (f : (arg0 : Memref sig .tc .vmem S32x1024 .f32) → (harg0 : arg0.IsWhole) → (arg1 : Memref sig .tc .vmem S1024x32 .f32) → (harg1 : arg1.IsWhole)
    → (arg2 : Memref sig .tc .vmem S1024x32 .f32) → (harg2 : arg2.IsWhole) → (arg3 : Memref sig .tc .vmem S1024x1024 .f32) → (harg3 : arg3.IsWhole)
    → (arg4 : DmaSems sig S6) → (arg5 : DmaSems sig S6) → (arg6 : DmaSems sig S6) → (arg7 : DmaSems sig S6)
    → (arg8 : DmaSems sig S32) → (arg9 : DmaSems sig S32) → (arg10 : DmaSems sig S32) → (arg11 : DmaSems sig S32) → B) : B :=
  f xM (Memref.isWhole_whole _) wM (Memref.isWhole_whole _) oM (Memref.isWhole_whole _) gM (Memref.isWhole_whole _)
    cc0_scratch1 cc0_scratch2 cc0_scratch3 cc0_scratch4 cc0_scratch5 cc0_scratch6 cc0_scratch7 cc0_scratch8

end Cert.KernelIdeal.Gather

end
-- ==== Proof.Ideal.Mem.lean ====
/-
# The buffers split and rejoined

A device's gathered array is its own slot and the half slots that arrive, one per arriving transfer; its block of `x` is
two halves at four quarter shares. Grouped by direction, the half slots that arrive are what the neighbours are
handed at the barrier.
-/
module

public import proofs.«01_k».proof.Proof.Ideal.Rules

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Sums
variable {M : Type} [URA M] {I : Type} [DecidableEq I]

/-- A sum of summands that are there only under a condition is a sum over the places where it holds. -/
theorem bigSep_if (s : Finset I) (p : I → Bool) (Φ : I → sProp M) :
    (bigSep s fun i => if p i then Φ i else iprop(emp)) = bigSep (s.filter fun i => p i = true) Φ := by
  rw [bigSep_filter_split s (fun i => p i = true)]
  rw [show (bigSep (s.filter fun i => p i = true) fun i => if p i then Φ i else iprop(emp)) = bigSep (s.filter fun i => p i = true) Φ from
    bigSep_congr fun i hi => if_pos (Finset.mem_filter.mp hi).2]
  rw [show (bigSep (s.filter fun i => ¬p i = true) fun i => if p i then Φ i else (iprop(emp) : sProp M)) = iprop(emp) from
    (bigSep_congr fun i hi => if_neg (Finset.mem_filter.mp hi).2).trans (bigSep_emp_const _)]
  exact equiv_iff.mp sep_emp

/-- The same for the places where it fails. -/
theorem bigSep_if_not (s : Finset I) (p : I → Bool) (Φ : I → sProp M) :
    (bigSep s fun i => if p i then iprop(emp) else Φ i) = bigSep (s.filter fun i => p i = false) Φ := by
  have := bigSep_if s (fun i => !p i) Φ
  simp only [Bool.not_eq_true'] at this
  rw [← this]
  refine bigSep_congr fun i _ => ?_
  cases p i <;> rfl

/-- A sum of summands of two kinds is two sums. -/
theorem bigSep_cases (s : Finset I) (p : I → Bool) (Φ Ψ : I → sProp M) :
    (bigSep s fun i => if p i then Φ i else Ψ i) = iprop(bigSep (s.filter fun i => p i = true) Φ ∗ bigSep (s.filter fun i => p i = false) Ψ) := by
  rw [← bigSep_if, ← bigSep_if_not, ← bigSep_sep']
  refine bigSep_congr fun i _ => ?_
  cases p i
  · exact (equiv_iff.mp emp_sep).symm
  · exact (equiv_iff.mp sep_emp).symm

end Sums

/-! ## Rows -/

/-- Which places a half slot has. -/
theorem mem_gHalf (k : Fin 64) (i : S1024x1024.Idx) : i ∈ (gHalf k).view.set ↔ (i 0).val / 16 = k.val := by
  show i ∈ ((View.whole (cc0_scratch0 : Ref sig .tc)).slice (Rect.unit (s := S1024x1024) ![16 * k.val, 0] S16x1024.size (inb_g k))).set ↔ _
  rw [View.set_slice_whole, Rect.mem_set_unit]
  have h1 : (i 1).val < 1024 := (i 1).isLt
  constructor
  · intro h
    have h0 := h 0
    change 16 * k.val ≤ (i 0).val ∧ (i 0).val < 16 * k.val + 16 at h0
    omega
  · intro h a
    match a with
    | 0 => show 16 * k.val ≤ (i 0).val ∧ (i 0).val < 16 * k.val + 16; omega
    | 1 => show 0 ≤ (i 1).val ∧ (i 1).val < 0 + 1024; omega

/-- Which places a half of the block has. -/
theorem mem_xHalf (b : Fin 2) (i : S32x1024.Idx) : i ∈ (xHalf b).view.set ↔ (i 0).val / 16 = b.val := by
  show i ∈ ((View.whole (cc0_stg0_0 : Ref sig .tc)).slice (Rect.unit (s := S32x1024) ![16 * b.val, 0] S16x1024.size (inb_x b))).set ↔ _
  rw [View.set_slice_whole, Rect.mem_set_unit]
  have h1 : (i 1).val < 1024 := (i 1).isLt
  constructor
  · intro h
    have h0 := h 0
    change 16 * b.val ≤ (i 0).val ∧ (i 0).val < 16 * b.val + 16 at h0
    omega
  · intro h a
    match a with
    | 0 => show 16 * b.val ≤ (i 0).val ∧ (i 0).val < 16 * b.val + 16; omega
    | 1 => show 0 ≤ (i 1).val ∧ (i 1).val < 0 + 1024; omega

/-- The rows of device `c`'s own slot. -/
def ownSet (c : Dev nD) : Finset S1024x1024.Idx := Finset.univ.filter fun i => (i 0).val / 32 = (own c).val

/-- Which places the device's own slot has. -/
theorem mem_ownSet (c : Dev nD) (i : S1024x1024.Idx) : i ∈ ownSet c ↔ (i 0).val / 32 = (own c).val := by
  unfold ownSet; simp

/-- Device `c`'s own slot of its gathered array. -/
def ownG (c : Dev nD) (f : (cc0_scratch0 : Ref sig .tc).ty.Contents (Elt F)) : sProp 𝕄 :=
  ((c : Thread nD τ).loc cc0_scratch0) ↦[ownSet c]{fullShare} (f : Buf (Elt F) ((c : Thread nD τ).loc cc0_scratch0))

/-- Half slots do not meet. -/
theorem disj_g (k k' : Fin 64) (h : k ≠ k') : Disjoint (gHalf k).view.set (gHalf k').view.set :=
  Finset.disjoint_left.mpr fun i hi hi' => h (Fin.ext (((mem_gHalf k i).mp hi).symm.trans ((mem_gHalf k' i).mp hi')))

/-- They cover the gathered array. -/
theorem cover_g : (Finset.univ : Finset (Fin 64)).biUnion (fun k => (gHalf k).view.set) = (Finset.univ : Finset S1024x1024.Idx) := by
  ext i
  have hlt : (i 0).val < 1024 := (i 0).isLt
  exact ⟨fun _ => Finset.mem_univ _, fun _ => Finset.mem_biUnion.mpr ⟨⟨(i 0).val / 16, by omega⟩, Finset.mem_univ _, (mem_gHalf _ i).mpr rfl⟩⟩

omit [FloatOps F] in
/-- The device's own slot is its own half slots. -/
theorem ownG_eq (c : Dev nD) (f) : (ownG (F := F) c f) = bigSep (Finset.univ.filter fun k => isOwn c k = true) fun k => gPts c k fullShare f := by
  unfold ownG gPts
  rw [← pointsTo_biUnion _ _ (fun k _ k' _ h => disj_g k k' h)]
  congr 1
  ext i
  rw [mem_ownSet]
  constructor
  · intro h
    have hlt : (i 0).val < 1024 := (i 0).isLt
    exact Finset.mem_biUnion.mpr ⟨⟨(i 0).val / 16, by omega⟩, Finset.mem_filter.mpr ⟨Finset.mem_univ _, by
      unfold isOwn; exact beq_iff_eq.mpr (by show (i 0).val / 16 / 2 = _; omega)⟩, (mem_gHalf _ i).mpr rfl⟩
  · intro h
    obtain ⟨k, hk, hi⟩ := Finset.mem_biUnion.mp h
    have hk := (Finset.mem_filter.mp hk).2
    unfold isOwn at hk
    have hk := beq_iff_eq.mp hk
    have hi := (mem_gHalf k i).mp hi
    omega

omit [FloatOps F] in
/-- The gathered array is the own slot and the other half slots. -/
theorem g_whole (c : Dev nD) (f : (cc0_scratch0 : Ref sig .tc).ty.Contents (Elt F)) :
    (((c : Thread nD τ).loc cc0_scratch0) ↦{fullShare} (f : Buf (Elt F) ((c : Thread nD τ).loc cc0_scratch0)) : sProp 𝕄)
      = iprop(ownG c f ∗ bigSep (Finset.univ.filter fun k => isOwn c k = false) fun k => gPts c k fullShare f) := by
  have h : (((c : Thread nD τ).loc cc0_scratch0) ↦{fullShare} (f : Buf (Elt F) ((c : Thread nD τ).loc cc0_scratch0)) : sProp 𝕄)
      = bigSep Finset.univ fun k : Fin 64 => gPts c k fullShare f := by
    unfold gPts
    rw [← pointsTo_biUnion Finset.univ _ (fun k _ k' _ h => disj_g k k' h)]
    exact congrArg (fun S => (((c : Thread nD τ).loc cc0_scratch0) ↦[S]{fullShare} (f : Buf (Elt F) ((c : Thread nD τ).loc cc0_scratch0)) : sProp 𝕄)) cover_g.symm
  rw [h, ownG_eq, bigSep_filter_split Finset.univ (fun k => isOwn c k = true)]
  simp only [Bool.not_eq_true]
  rfl

/-- The half slots that arrive, one per arriving transfer. -/
theorem in_sum {M : Type} [URA M] (c : Dev nD) (Ψ : Fin 64 → sProp M) :
    bigSep (Finset.univ.filter fun k => isOwn c k = false) Ψ = bigSep (Finset.univ.filter fun i => usedIn c i = true) fun i => Ψ (halfIn c i) := by
  rw [← bigSep_image_of_injOn (f := halfIn c) (s := Finset.univ.filter fun i => usedIn c i = true)]
  · congr 1
    ext k
    simp only [Finset.mem_filter, Finset.mem_univ, true_and, Finset.mem_image]
    exact ⟨fun h => ⟨inIdx c k, inIdx_spec c k h⟩, fun ⟨i, hi, e⟩ => e ▸ halfIn_not_own c i hi⟩
  · intro i hi j hj e
    have hi : usedIn c i = true := by simpa using hi
    have hj : usedIn c j = true := by simpa using hj
    rw [← inIdx_halfIn c i hi, ← inIdx_halfIn c j hj, e]

/-- The transfers started, by direction; -/
theorem out_dirs {M : Type} [URA M] (c : Dev nD) (Φ : Fin 76 → sProp M) :
    bigSep (Finset.univ.filter fun i => used c i = true) Φ = bigSep (nbrs c) fun d => bigSep (outs c d) Φ := by
  rw [← bigSep_biUnion_eq _ _ _ (fun d _ d' _ h => Finset.disjoint_left.mpr fun i hi hi' => by
    unfold outs at hi hi'
    exact h ((Finset.mem_filter.mp hi).2.1.symm.trans (Finset.mem_filter.mp hi').2.1))]
  congr 1
  ext i
  unfold outs nbrs
  simp only [Finset.mem_filter, Finset.mem_univ, true_and, Finset.mem_biUnion]
  exact ⟨fun h => ⟨dir i, used_has c i h, rfl, h⟩, fun ⟨d, _, _, h⟩ => h⟩

/-- the arriving ones, by the neighbour they come from. -/
theorem in_dirs {M : Type} [URA M] (c : Dev nD) (Φ : Fin 76 → sProp M) :
    bigSep (Finset.univ.filter fun i => usedIn c i = true) Φ = bigSep (nbrs c) fun d => bigSep (outs (tgt c d) (opp d)) Φ := by
  rw [← bigSep_biUnion_eq _ _ _ (fun d _ d' _ h => Finset.disjoint_left.mpr fun i hi hi' => by
    unfold outs at hi hi'
    have := (Finset.mem_filter.mp hi).2.1.symm.trans (Finset.mem_filter.mp hi').2.1
    have := congrArg opp this
    rw [opp_opp, opp_opp] at this
    exact h this)]
  congr 1
  ext i
  unfold outs nbrs
  simp only [Finset.mem_filter, Finset.mem_univ, true_and, Finset.mem_biUnion]
  constructor
  · intro h
    refine ⟨opp (dir i), ?_, (opp_opp _).symm, h⟩
    rw [← has_tgt, opp_opp]
    exact used_has _ i h
  · rintro ⟨d, _, e, h⟩
    unfold usedIn src
    rw [e, opp_opp]; exact h

omit [FloatOps F] in
/-- Known contents are some contents. -/
theorem gPts_some (c : Dev nD) (k : Fin 64) (q) (f : (cc0_scratch0 : Ref sig .tc).ty.Contents (Elt F)) :
    (gPts c k q f : sProp 𝕄) ⊢ iprop(∃ f, gPts c k q f) := by
  iintro H; iexists f; iexact H

omit [FloatOps F] in
/-- What a device hands its neighbours: the half slots that arrive. -/
theorem bar_pay_intro (c : Dev nD) (f : (cc0_scratch0 : Ref sig .tc).ty.Contents (Elt F)) :
    (bigSep (Finset.univ.filter fun k => isOwn c k = false) fun k => gPts c k fullShare f)
      ⊢ (bigSep (nbrs c) fun d => barPay (F := F) (tgt c d) (opp d)) := by
  rw [in_sum, in_dirs]
  refine bigSep_mono fun d _ => ?_
  unfold barPay
  refine bigSep_mono fun i hi => ?_
  unfold outs at hi
  have e := (Finset.mem_filter.mp hi).2.1
  have eh : halfIn c i = half (tgt c d) i := by unfold halfIn src; rw [e, opp_opp]
  rw [tgt_opp, eh]
  exact gPts_some _ _ _ f

/-- The tokens of a transfer's start; of one that does not happen, its send cell closed. -/
def TkS (c : Dev nD) (i : Fin 76) : sProp 𝕄 :=
  if used c i then iprop(atPos ER (sendCell c i) 0 ∅ 0 ∗ dutyTok ER (sendCell c i) 0 0 ∗ dutyTok ER (recvCell (tgt c (dir i)) i) 0 0)
  else sDone c i

omit [FloatOps F] in
/-- A transfer's target half and its tokens are what the transfer needs. -/
theorem snd_one (c : Dev nD) (i : Fin 76) :
    (iprop((if used c i then iprop(∃ f, gPts (tgt c (dir i)) (half c i) fullShare f) else iprop(emp)) ∗ TkS c i) : sProp 𝕄)
      ⊢ sndP (F := F) c (bits0 c.val) i := by
  unfold sndP TkS
  rw [bits0_s, bits0_f]
  by_cases h : used c i = true
  · rw [if_pos h, if_pos h, if_pos h]
    unfold sTodo
    iintro ⟨H1, H2, H3, H4⟩
    isplitl [H2]; · iexact H2
    isplitl [H3]; · iexact H3
    isplitl [H4]; · iexact H4
    iexact H1
  · rw [if_neg h, if_neg h, if_neg h, if_neg Bool.false_ne_true]
    iintro ⟨-, H⟩; iexact H

omit [FloatOps F] in
/-- With what the neighbours hand it a device has all it needs to send. -/
theorem snd_intro (c : Dev nD) :
    iprop((bigSep (nbrs c) fun d => barPay (F := F) c d) ∗ bigSep Finset.univ fun i : Fin 76 => TkS c i)
      ⊢ bigSep Finset.univ fun i : Fin 76 => sndP (F := F) c (bits0 c.val) i := by
  have e : (bigSep (nbrs c) fun d => barPay (F := F) c d)
      = bigSep Finset.univ fun i : Fin 76 => if used c i then iprop(∃ f, gPts (tgt c (dir i)) (half c i) fullShare f) else iprop(emp) := by
    rw [bigSep_if, out_dirs]
    refine bigSep_congr fun d _ => ?_
    unfold barPay
    refine bigSep_congr fun i hi => ?_
    unfold outs at hi
    rw [(Finset.mem_filter.mp hi).2.1]
  rw [e, ← bigSep_sep']
  exact bigSep_mono fun i _ => snd_one c i

/-! ## The device's own block -/

omit [FloatOps F] in
/-- A half of the block is its four quarters of ownership. -/
theorem xPts_quarters (m : (ℓ : Loc nD τ sig) → Buf (Elt F) ℓ) (ρ : Dev nD → PrngReg) (c : Dev nD) (b : Fin 2) :
    (xPts m ρ c b fullShare : sProp 𝕄) = bigSep Finset.univ fun d : Fin 4 => xPts m ρ c b (qtr d) := by
  unfold xPts
  rw [ShareLeaves.pointsTo_leaves _ _ 2 fullShare]
  rfl

/-- The halves of the block do not meet. -/
theorem disj_x (c : Dev nD) (k k' : Fin 64) (hk : isOwn c k = true) (hk' : isOwn c k' = true) (h : k ≠ k') :
    Disjoint (xHalf (par k)).view.set (xHalf (par k')).view.set := by
  unfold isOwn at hk hk'
  have hk := beq_iff_eq.mp hk
  have hk' := beq_iff_eq.mp hk'
  refine Finset.disjoint_left.mpr fun i hi hi' => h (Fin.ext ?_)
  have h1 : (i 0).val / 16 = k.val % 2 := (mem_xHalf _ i).mp hi
  have h2 : (i 0).val / 16 = k'.val % 2 := (mem_xHalf _ i).mp hi'
  omega

/-- They cover the block. -/
theorem cover_x (c : Dev nD) :
    (Finset.univ.filter fun k => isOwn c k = true).biUnion (fun k => (xHalf (par k)).view.set) = (Finset.univ : Finset S32x1024.Idx) := by
  ext i
  have hlt : (i 0).val < 32 := (i 0).isLt
  have ho := (own c).isLt
  refine ⟨fun _ => Finset.mem_univ _, fun _ => Finset.mem_biUnion.mpr ⟨⟨2 * (own c).val + (i 0).val / 16, by omega⟩, Finset.mem_filter.mpr ⟨Finset.mem_univ _, ?_⟩, (mem_xHalf _ i).mpr ?_⟩⟩
  · unfold isOwn; exact beq_iff_eq.mpr (by show (2 * (own c).val + (i 0).val / 16) / 2 = _; omega)
  · show _ = (2 * (own c).val + (i 0).val / 16) % 2; omega

omit [FloatOps F] in
/-- So the block is its halves. -/
theorem x_whole (m : (ℓ : Loc nD τ sig) → Buf (Elt F) ℓ) (ρ : Dev nD → PrngReg) (c : Dev nD) :
    (((c : Thread nD τ).loc cc0_stg0_0) ↦{fullShare} (xstg m ρ c : Buf (Elt F) ((c : Thread nD τ).loc cc0_stg0_0)) : sProp 𝕄)
      = bigSep (Finset.univ.filter fun k => isOwn c k = true) fun k => xPts m ρ c (par k) fullShare := by
  unfold xPts
  rw [← pointsTo_biUnion _ _ (fun k hk k' hk' h => disj_x c k k' (Finset.mem_filter.mp hk).2 (Finset.mem_filter.mp hk').2 h)]
  exact congrArg (fun S => (((c : Thread nD τ).loc cc0_stg0_0) ↦[S]{fullShare} (xstg m ρ c : Buf (Elt F) ((c : Thread nD τ).loc cc0_stg0_0)) : sProp 𝕄)) (cover_x c).symm

omit [FloatOps F] in
/-- Before the first step the quarters held are those of the device's own block. -/
theorem held_start (m : (ℓ : Loc nD τ sig) → Buf (Elt F) ℓ) (ρ : Dev nD → PrngReg) (c : Dev nD) :
    (((c : Thread nD τ).loc cc0_stg0_0) ↦{fullShare} (xstg m ρ c : Buf (Elt F) ((c : Thread nD τ).loc cc0_stg0_0)) : sProp 𝕄)
      = bigSep Finset.univ fun k : Fin 64 => heldK m ρ c (bits0 c.val) k := by
  rw [x_whole, ← bigSep_if]
  refine bigSep_congr fun k _ => ?_
  unfold heldK heldP quarter
  simp only [bits0_h]
  cases isOwn c k
  · exact (bigSep_emp_const _).symm
  · exact xPts_quarters m ρ c (par k)

omit [FloatOps F] in
/-- When all quarters are held: the device's own block, and every half slot but its own. -/
theorem held_end (m : (ℓ : Loc nD τ sig) → Buf (Elt F) ℓ) (ρ : Dev nD → PrngReg) (c : Dev nD) (b : Bits) (hb : ∀ k d, heldB b k d = true) :
    (bigSep Finset.univ fun k : Fin 64 => heldK m ρ c b k)
      = (iprop((((c : Thread nD τ).loc cc0_stg0_0) ↦{fullShare} (xstg m ρ c : Buf (Elt F) ((c : Thread nD τ).loc cc0_stg0_0)))
        ∗ bigSep (Finset.univ.filter fun k => isOwn c k = false) fun k => gPts c k fullShare (gath m ρ)) : sProp 𝕄) := by
  rw [x_whole, ← bigSep_cases]
  refine bigSep_congr fun k _ => ?_
  unfold heldK heldP
  simp only [hb, if_pos]
  cases h : isOwn c k
  · exact (gPts_quarters m ρ c k h).symm
  · rw [xPts_quarters]
    refine bigSep_congr fun d _ => ?_
    unfold quarter; rw [h]; rfl

end Cert.KernelIdeal.Gather

end
-- ==== Proof.Ideal.Bar.lean ====
/-
# The barrier

Before any transfer a device signals its neighbours, handing each the half slots of its own that the neighbour will write,
and waits for theirs, in two or three waits. `T P p R` says that program `p` takes `P` to `R` whatever it returns.
-/
module

public import proofs.«01_k».proof.Proof.Ideal.Rules

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

/-- On device `c`, `p` takes `P` to `R`. -/
def T {α : Type} (c : Dev nD) (P : sProp 𝕄) (p : Prog (TpuEff nD τ sig (Elt F) Λ₀ .tc) α) (R : sProp 𝕄) : Prop :=
  P ⊢ wp frame (wpE (defs₀ (F := F)) 𝒱₀ (c : Thread nD τ) none) Set.univ p (fun _ => R)

section Seq
variable {α β : Type} {c : Dev nD}

/-- One stretch after another. -/
theorem T_bind {P Q R : sProp 𝕄} {p : Prog (TpuEff nD τ sig (Elt F) Λ₀ .tc) α} {k : α → Prog (TpuEff nD τ sig (Elt F) Λ₀ .tc) β}
    (h1 : T c P p R) (h2 : ∀ v, T c R (k v) Q) : T c P (p >>= k) Q := by
  unfold T at *
  rw [wp_bind]
  exact h1.trans (wp_mono _ _ _ h2)

/-- A value changes nothing. -/
theorem T_pure {P : sProp 𝕄} (v : α) : T (F := F) c P (pure v) P := by
  unfold T
  rw [show (pure v : Prog (TpuEff nD τ sig (Elt F) Λ₀ .tc) α) = Prog.ret v from rfl, wp_ret]
  iintro H; imodintro; iexact H

/-- An operation under a condition, and what follows it. -/
theorem T_if {P Q R : sProp 𝕄} {C : Prop} [Decidable C] {A : C → Prog (TpuEff nD τ sig (Elt F) Λ₀ .tc) α} {k : Prog (TpuEff nD τ sig (Elt F) Λ₀ .tc) β}
    (hA : ∀ h, T c P (A h) R) (h0 : ¬C → P ⊢ R) (hk : T c R k Q) :
    T c P (dite C (fun h => A h >>= fun _ => k) (fun _ => k)) Q := by
  by_cases h : C
  · rw [dif_pos h]; exact T_bind (hA h) fun _ => hk
  · rw [dif_neg h]; exact (h0 h).trans hk

end Seq

/-! ## The signals -/

/-- Neighbours in the directions `D` still to be signalled. -/
def SigSt (m : (ℓ : Loc nD τ sig) → Buf (Elt F) ℓ) (ρ : Dev nD → PrngReg) (K : Dev nD × CI → ℕ) (c : Dev nD) (D : Finset (Fin 4)) : sProp 𝕄 :=
  iprop(Ctx m ρ K ∗ (∃ W, owes (c : Thread nD τ) (owedX c (bits0 c.val).s + owedB c D) W)
    ∗ (bigSep D fun d => dutyTok ER (barCell (tgt c d)) 0 (opp d)) ∗ bigSep D fun d => barPay (tgt c d) (opp d))

/-- A signal to a neighbour pays that neighbour's barrier, with the half slots that it will write. -/
theorem T_signal (c : Dev nD) (D : Finset (Fin 4)) (d : Fin 4) (hd : d ∈ D) (hh : has c d = true) (dev : Dev nD) (hdev : dev = tgt c d) (w : BitVec 32) (hw : w.toInt = ((32768 : ℕ) : ℤ)) :
    T (F := F) c (SigSt m ρ K c D) (semSignalWord dev barS w) (SigSt m ρ K c (D.erase d)) := by
  subst hdev
  unfold T SigSt
  have hO : owedX c (bits0 c.val).s + owedB c D = (owedX c (bits0 c.val).s + owedB c (D.erase d)) + tallyAt (barCell (tgt c d)) () 32768 := by
    unfold owedB
    rw [← Finset.sum_erase_add _ _ hd, add_assoc]
  have e1 : (bigSep D fun d => dutyTok ER (barCell (tgt c d)) 0 (opp d)) = (iprop(dutyTok ER (barCell (tgt c d)) 0 (opp d)
      ∗ bigSep (D.erase d) fun d => dutyTok ER (barCell (tgt c d)) 0 (opp d)) : sProp 𝕄) := bigSep_erase hd
  have e2 : (bigSep D fun d => barPay (tgt c d) (opp d)) = (iprop(barPay (tgt c d) (opp d)
      ∗ bigSep (D.erase d) fun d => barPay (tgt c d) (opp d)) : sProp 𝕄) := bigSep_erase hd
  rw [hO, e1, e2]
  simp only [semSignalWord]
  rw [hw]
  iintro ⟨#HC, ⟨%W, HO⟩, ⟨Ht, Hts⟩, Hp, Hps⟩
  ihave HI := (ctx_bar m ρ K (tgt c d)) $$ HC
  icases HI with ⟨HI, HR⟩
  iapply (Rounds.wp_signal 𝒱₀ ER (rd m ρ) (c : Thread nD τ) none (dst := (tgt c d : Thread nD τ)) (sem := barS) (r := 0) (κ := K (tgt c d, .inl ())) (d := opp d)
      (by rw [duties_bar]; exact Finset.mem_filter.mpr ⟨Finset.mem_univ _, (has_tgt c d).trans hh⟩)
      (amount_bar m ρ (tgt c d) (opp d)) ()
      (owedX c (bits0 c.val).s + owedB c (D.erase d)) rfl (tgt_ne_routes c (tgt c d))) $$ [HO Ht Hp HI HR]
  · isplitl [HI]; · iexact HI
    isplitl [HO]; · iexact HO
    isplitl [Ht]; · iexact Ht
    isplitl [Hp]; · rw [payload_bar]; iexact Hp
    iexact HR
  iintro HO
  rw [wp_ret]; imodintro
  isplitr; · iexact HC
  isplitl [HO]; · iexists W; iexact HO
  isplitl [Hts]; · iexact Hts
  iexact Hps

/-! ## The waits -/

omit [FloatOps F] in
/-- The barrier's duties are the neighbours. -/
theorem duties_nbrs (m : (ℓ : Loc nD τ sig) → Buf (Elt F) ℓ) (ρ : Dev nD → PrngReg) (c : Dev nD) : (rd (F := F) m ρ).duties (barCell c) 0 = nbrs c := duties_bar m ρ c
omit [FloatOps F] in
/-- The barrier expects one signal of each neighbour. -/
theorem expect_nbrs (m : (ℓ : Loc nD τ sig) → Buf (Elt F) ℓ) (ρ : Dev nD → PrngReg) (c : Dev nD) : (rd (F := F) m ρ).expect (barCell c) 0 = (nbrs c).card * 32768 := expect_bar m ρ c

/-- `n` of the signals' units taken: the payloads taken with them are those of `S`. -/
def WaitSt (m : (ℓ : Loc nD τ sig) → Buf (Elt F) ℓ) (ρ : Dev nD → PrngReg) (K : Dev nD × CI → ℕ) (c : Dev nD) (n : ℕ) : sProp 𝕄 :=
  iprop(Ctx m ρ K ∗ (∃ W, owes (c : Thread nD τ) (owedX c (bits0 c.val).s) W)
    ∗ ∃ S : Finset (Fin 4), ⌜S ⊆ nbrs c ∧ n + (nbrs c \ S).card ≤ (nbrs c).card * 32768⌝
      ∗ atPos ER (barCell c) 0 S n ∗ cred (tallyAt (barCell c) () ((nbrs c).card * 32768 - n)) ∗ bigSep S fun d => barPay c d)

/-- One wait at the barrier takes its part of the credit. -/
theorem T_barwait (c : Dev nD) (n : ℕ) (w : BitVec 32) (k : ℕ) (hw : w.toInt = (k : ℤ)) (hn : n + k ≤ (nbrs c).card * 32768) :
    T (F := F) c (WaitSt m ρ K c n) (semWaitWord barS w) (WaitSt m ρ K c (n + k)) := by
  unfold T WaitSt
  simp only [semWaitWord]
  rw [hw]
  have hE := expect_nbrs (F := F) m ρ c
  generalize (nbrs c).card * 32768 = tot at *
  rw [show (tallyAt (barCell c) () (tot - n) : CellTallies nD τ sig Unit)
    = tallyAt (barCell c) () (tot - (n + k)) + tallyAt (barCell c) () k from by rw [tallyAt_add]; congr 1; omega]
  iintro ⟨#HC, ⟨%W, HO⟩, ⟨%S, %hS, Hat, Hc, Hp⟩⟩
  icases Hc with ⟨Hc', Hc⟩
  ihave #HL := (ctx_lev m ρ K) $$ HC
  ihave #HI := (ctx_bar m ρ K c) $$ HC
  icases HI with ⟨#HI, -⟩
  iapply (Rounds.wp_wait 𝒱₀ ER (rd m ρ) (c : Thread nD τ) none (κ := K (c, .inl ()))
      (wpE_semWait_eq 𝒱₀ (c : Thread nD τ) none Set.univ) (Set.mem_univ _) (O := owedX c (bits0 c.val).s) (W := W) (R := 0) (m := n) (T := S)
      {(.reg barS, ())} (cr := Finsupp.single () k) (Util.total_single () k) (image_single_subset (.reg barS) () k)) $$ [Hc HO Hat]
  · isplitr; · iexact HI
    isplitl [Hc]; · iexact Hc
    isplitl [HO]; · iexact HO
    isplitr; · iapply (mayWait_bar c (bits0 c.val).s); iexact HL
    iexact Hat
  iintro %S' ⟨%hS', HO, Hat, Hp'⟩
  rw [duties_nbrs, hE] at hS'
  rw [wp_ret]; imodintro
  isplitr; · iexact HC
  isplitl [HO]; · iexists _; iexact HO
  iexists S'
  isplitr; · ipureintro; exact ⟨hS'.2.1, hS'.2.2⟩
  isplitl [Hat]; · iexact Hat
  isplitl [Hc']; · iexact Hc'
  rw [show (bigSep S' fun d => barPay (F := F) c d) = iprop(bigSep S (fun d => barPay c d) ∗ bigSep (S' \ S) fun d => barPay c d) from
    bigSep_sdiff_split hS'.1]
  isplitl [Hp]; · iexact Hp
  iexact Hp'

/-- After the last wait. -/
def BarPost (m : (ℓ : Loc nD τ sig) → Buf (Elt F) ℓ) (ρ : Dev nD → PrngReg) (K : Dev nD × CI → ℕ) (c : Dev nD) : sProp 𝕄 :=
  iprop(Ctx m ρ K ∗ (∃ W, owes (c : Thread nD τ) (owedX c (bits0 c.val).s) W) ∗ semVal (barCell c) 0 ∗ bigSep (nbrs c) fun d => barPay c d)

/-- When all the credit is taken everything that the neighbours hand over is held. -/
theorem bar_end (c : Dev nD) : WaitSt (F := F) m ρ K c ((nbrs c).card * 32768) ⊢ iprop(|={Set.univ}=> BarPost m ρ K c) := by
  unfold WaitSt BarPost
  iintro ⟨#HC, HO, ⟨%S, %hS, Hat, -, Hp⟩⟩
  have hS2 : nbrs c ⊆ S := by
    have : (nbrs c \ S).card = 0 := by omega
    rwa [Finset.card_eq_zero, Finset.sdiff_eq_empty_iff_subset] at this
  obtain rfl : S = nbrs c := Finset.Subset.antisymm hS.1 hS2
  ihave #HI := (ctx_bar m ρ K c) $$ HC
  icases HI with ⟨#HI, -⟩
  imod (Rounds.fupd_skip ER (rd m ρ) (κ := K (c, .inl ())) (g := barCell c) (R := 0) (T := nbrs c) (by rw [duties_nbrs]) (m := (nbrs c).card * 32768) (expect_nbrs m ρ c).symm (Set.mem_univ _)) $$ [Hat] with ⟨Hat, -⟩
  · isplitr; · iexact HI
    iexact Hat
  imod (Rounds.cell_close ER (rd m ρ) (Set.mem_univ (K (c, .inl ()))) (fun h => h) (R := 0 + 1) (duties_later m ρ (barCell c))) $$ [Hat] with Hz
  · isplitr; · iexact HI
    iexact Hat
  imodintro
  isplitr; · iexact HC
  isplitl [HO]; · iexact HO
  isplitl [Hz]; · iexact Hz
  iexact Hp

end Cert.KernelIdeal.Gather

end
-- ==== Proof.Ideal.Head.lean ====
/-
# The first two parts of the body

The first computes a device's place; the second is the barrier.
-/
module

public import proofs.«01_k».proof.Proof.Ideal.Bar

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

/-- The device's row, as the first part computes it from the device number. -/
def rowW (c : Dev nD) : BitVec 32 :=
  let v2 : BitVec 32 := Scalar.remsi (Scalar.divsi (Dev.word c) 1#32) 32#32
  let v3 : BitVec 32 := Scalar.divsi v2 8#32
  Scalar.select (Scalar.andi (Scalar.cmpi .ne (Scalar.subi (Scalar.extui (Scalar.cmpi .sgt v2 0#32)) (Scalar.extui (Scalar.cmpi .slt v2 0#32)))
      (Scalar.subi (Scalar.extui (Scalar.cmpi .sgt (8#32 : BitVec 32) 0#32)) (Scalar.extui (Scalar.cmpi .slt (8#32 : BitVec 32) 0#32))))
    (Scalar.cmpi .ne (Scalar.remsi v2 8#32) 0#32)) (Scalar.subi v3 1#32) v3

/-- The comparison by which a device tells whether there is a device in the next row. -/
theorem row_down : ∀ c : Dev nD, (Scalar.cmpi .ne (Scalar.extui (Scalar.cmpi .slt (rowW c) 3#32) : BitVec 32) 0#32 = 1#1) ↔ has c 0 = true := by
  decide +kernel
/-- The comparison by which a device tells whether there is one in the row before. -/
theorem row_up : ∀ c : Dev nD, (Scalar.cmpi .ne (Scalar.extui (Scalar.cmpi .sgt (rowW c) 0#32) : BitVec 32) 0#32 = 1#1) ↔ has c 1 = true := by
  decide +kernel

/-- The first part returns its device and its row, among others. -/
theorem part1_spec (c : Dev nD) {P : sProp 𝕄}
    {Q : (Σ' (d0 : Dev nD) (v2 : BitVec 32) (v19 : BitVec 32) (v20 : BitVec 32) (v21 : BitVec 32) (v28 : BitVec 32), BitVec 32) → sProp 𝕄}
    (h : ∀ v2 v20 v21 v28 v36 : BitVec 32, P ⊢ Q ⟨c, v2, rowW c, v20, v21, v28, v36⟩) :
    P ⊢ wp frame (wpE (defs₀ (F := F)) 𝒱₀ (c : Thread nD τ) none) Set.univ (onM (k0_part1 (F := F))) Q := by
  rw [onM, k0_part1_eq_skeleton]; unfold k0_part1_skel
  simp only [Prog.lift, Prog.bind_op, Prog.bind_ret, Prog.pure_eq_ret, wp_deviceId]
  rw [wp_ret]
  exact (h _ _ _ _ _).trans fupd_intro

/-- The first device signalled is the one before on the ring of the row; -/
theorem dev1_eq : ∀ c : Dev nD, k0_dev1 c = (tgt c 3).val := by decide +kernel
/-- the second is the next one on that ring; -/
theorem dev2_eq : ∀ c : Dev nD, k0_dev2 c = (tgt c 2).val := by decide +kernel
/-- the third, where there is one, is the device in the next row; -/
theorem dev3_eq : ∀ c : Dev nD, k0_cond1 c = 1#1 → k0_dev3 c = (tgt c 0).val := by decide +kernel
/-- the fourth, where there is one, is the device in the row before. -/
theorem dev4_eq : ∀ c : Dev nD, k0_cond2 c = 1#1 → k0_dev4 c = (tgt c 1).val := by decide +kernel
/-- The third signal is sent where there is a next row. -/
theorem cond1_iff : ∀ c : Dev nD, k0_cond1 c = 1#1 ↔ has c 0 = true := by decide +kernel
/-- The fourth signal is sent where there is a row before. -/
theorem cond2_iff : ∀ c : Dev nD, k0_cond2 c = 1#1 ↔ has c 1 = true := by decide +kernel
/-- A direction is among the neighbours where there is a device in it. -/
theorem mem_nbrs (c : Dev nD) (d : Fin 4) : d ∈ nbrs c ↔ has c d = true := by unfold nbrs; simp
/-- Every device has its two neighbours around the ring. -/
theorem has_side : ∀ c : Dev nD, has c 2 = true ∧ has c 3 = true := by decide

/-- Units waited for after the conditional waits. -/
def up1 (c : Dev nD) : ℕ := if has c 0 = true then 65536 + 32768 else 65536
def up2 (c : Dev nD) : ℕ := if has c 1 = true then up1 c + 32768 else up1 c
/-- How many neighbours a device has. -/
theorem card_cases : ∀ c : Dev nD, (nbrs c).card = 2 + (if has c 0 = true then 1 else 0) + (if has c 1 = true then 1 else 0) := by decide
/-- The credit awaited in the barrier's last wait makes up the whole. -/
theorem up2_eq (c : Dev nD) : up2 c = (nbrs c).card * 32768 := by
  rw [card_cases]; unfold up2 up1; split <;> split <;> omega

/-- Before the barrier. -/
def BarPre (m : (ℓ : Loc nD τ sig) → Buf (Elt F) ℓ) (ρ : Dev nD → PrngReg) (K : Dev nD × CI → ℕ) (c : Dev nD) : sProp 𝕄 :=
  iprop(Ctx m ρ K ∗ (∃ W, owes (c : Thread nD τ) (O₀ c) W)
    ∗ (bigSep (nbrs c) fun d => dutyTok ER (barCell (tgt c d)) 0 (opp d)) ∗ (bigSep (nbrs c) fun d => barPay (tgt c d) (opp d))
    ∗ atPos ER (barCell c) 0 ∅ 0 ∗ cred (tallyAt (barCell c) () ((nbrs c).card * 32768)))

/-- The signals' state and what the waits begin with. -/
def SW (m : (ℓ : Loc nD τ sig) → Buf (Elt F) ℓ) (ρ : Dev nD → PrngReg) (K : Dev nD × CI → ℕ) (c : Dev nD) (D : Finset (Fin 4)) : sProp 𝕄 :=
  iprop(SigSt m ρ K c D ∗ atPos ER (barCell c) 0 ∅ 0 ∗ cred (tallyAt (barCell c) () ((nbrs c).card * 32768)))

/-- What a stretch does not touch stays. -/
theorem T_frame {α : Type} {c : Dev nD} {P R S : sProp 𝕄} {p : Prog (TpuEff nD τ sig (Elt F) Λ₀ .tc) α} (h : T c P p R) :
    T c iprop(P ∗ S) p iprop(R ∗ S) := by
  unfold T at *
  iintro ⟨H, HS⟩
  iapply (wp_frame_r frame (wpE (defs₀ (F := F)) 𝒱₀ (c : Thread nD τ) none) Set.univ)
  isplitl [H]; · iapply h $$ H
  iexact HS

/-- The same with the amount that the program signals. -/
theorem T_signal' (c : Dev nD) (D : Finset (Fin 4)) (d : Fin 4) (hd : d ∈ D) (hh : has c d = true) (dev : Dev nD) (hdev : dev = tgt c d) :
    T (F := F) c (SW m ρ K c D) (semSignalWord dev barS 32768#32) (SW m ρ K c (D.erase d)) := by
  unfold SW
  exact T_frame (T_signal c D d hd hh dev hdev _ (by decide))

/-- A stretch may start from more. -/
theorem T_post {α : Type} {c : Dev nD} {P P' R : sProp 𝕄} {p : Prog (TpuEff nD τ sig (Elt F) Λ₀ .tc) α} (hP : P' ⊢ P) (h : T c P p R) : T c P' p R := by
  unfold T at *
  exact hP.trans h

/-- With no signal left the waits may begin. -/
theorem sw_wait (c : Dev nD) : SW (F := F) m ρ K c ((((nbrs c).erase 3).erase 2).erase 0 |>.erase 1) ⊢ WaitSt m ρ K c 0 := by
  have h0 : ((((nbrs c).erase 3).erase 2).erase 0).erase 1 = (∅ : Finset (Fin 4)) := by revert c; decide
  have hz : owedB c ∅ = 0 := Finset.sum_empty
  rw [h0]
  unfold SW SigSt WaitSt
  rw [hz, add_zero, Nat.sub_zero]
  iintro ⟨⟨#HC, HO, -, -⟩, Hat, Hc⟩
  isplitr; · iexact HC
  isplitl [HO]; · iexact HO
  iexists (∅ : Finset (Fin 4))
  isplitr
  · ipureintro
    refine ⟨Finset.empty_subset _, ?_⟩
    rw [Finset.sdiff_empty, Nat.zero_add]
    exact Nat.le_mul_of_pos_right _ (by decide)
  isplitl [Hat]; · iexact Hat
  isplitl [Hc]; · iexact Hc
  rw [show (bigSep (∅ : Finset (Fin 4)) fun d => barPay (F := F) c d) = iprop(emp) from bigSep_empty]
  iempintro

/-- When all the credit has been awaited nothing more need run: the barrier is passed. -/
theorem T_end {α : Type} {c : Dev nD} (v : α) : T (F := F) c (WaitSt m ρ K c (up2 c)) (pure v) (BarPost m ρ K c) := by
  unfold T
  rw [show (pure v : Prog (TpuEff nD τ sig (Elt F) Λ₀ .tc) α) = Prog.ret v from rfl, wp_ret, up2_eq]
  exact bar_end c

/-- The body's second stretch: the signals to the neighbours and the waits at the barrier. -/
theorem part2_T (c : Dev nD) (v2 v20 v21 v28 v36 : BitVec 32) :
    T (F := F) c (SW m ρ K c (nbrs c)) (onM k0_part2 c v2 (rowW c) v20 v21 v28 v36) (BarPost m ρ K c) := by
  rw [onM, k0_part2_eq_skeleton]; unfold k0_part2_skel
  have h23 := has_side c
  refine T_bind (T_signal' c (nbrs c) 3 ((mem_nbrs c 3).mpr h23.2) h23.2 _ (Fin.ext (dev1_eq c))) fun _ => ?_
  refine T_bind (T_signal' c _ 2 (Finset.mem_erase.mpr ⟨by decide, (mem_nbrs c 2).mpr h23.1⟩) h23.1 _ (Fin.ext (dev2_eq c))) fun _ => ?_
  refine T_if (R := SW m ρ K c (((nbrs c).erase 3).erase 2 |>.erase 0)) (fun h => T_signal' c _ 0 ?_ ((cond1_iff c).mp h) _ (Fin.ext (dev3_eq c h))) (fun h => ?_) ?_
  · exact Finset.mem_erase.mpr ⟨by decide, Finset.mem_erase.mpr ⟨by decide, (mem_nbrs c 0).mpr ((cond1_iff c).mp h)⟩⟩
  · rw [Finset.erase_eq_of_notMem (a := (0 : Fin 4)) fun hm => h ((cond1_iff c).mpr ((mem_nbrs c 0).mp (Finset.mem_of_mem_erase (Finset.mem_of_mem_erase hm))))]
  refine T_if (R := SW m ρ K c (((nbrs c).erase 3).erase 2 |>.erase 0 |>.erase 1)) (fun h => T_signal' c _ 1 ?_ ((cond2_iff c).mp h) _ (Fin.ext (dev4_eq c h))) (fun h => ?_) ?_
  · exact Finset.mem_erase.mpr ⟨by decide, Finset.mem_erase.mpr ⟨by decide, Finset.mem_erase.mpr ⟨by decide, (mem_nbrs c 1).mpr ((cond2_iff c).mp h)⟩⟩⟩
  · rw [Finset.erase_eq_of_notMem (a := (1 : Fin 4)) fun hm => h ((cond2_iff c).mpr ((mem_nbrs c 1).mp
      (Finset.mem_of_mem_erase (Finset.mem_of_mem_erase (Finset.mem_of_mem_erase hm)))))]
  have hc := card_cases c
  refine T_post (sw_wait c) ?_
  refine T_bind (T_barwait c 0 _ 65536 (by decide) (by omega)) fun _ => ?_
  rw [Nat.zero_add]
  refine T_if (R := WaitSt m ρ K c (up1 c)) (fun h => ?_) (fun h => ?_) ?_
  · have h' := (row_down c).mp h
    rw [show up1 c = 65536 + 32768 from if_pos h']
    exact T_barwait c 65536 _ 32768 (by decide) (by rw [if_pos h'] at hc; omega)
  · rw [show up1 c = 65536 from if_neg fun h' => h ((row_down c).mpr h')]
  refine T_if (R := WaitSt m ρ K c (up2 c)) (fun h => ?_) (fun h => ?_) ?_
  · have h' := (row_up c).mp h
    have e := up2_eq c
    rw [show up2 c = up1 c + 32768 from if_pos h'] at *
    exact T_barwait c (up1 c) _ 32768 (by decide) e.le
  · rw [show up2 c = up1 c from if_neg fun h' => h ((row_up c).mpr h')]
  exact T_end _

end Cert.KernelIdeal.Gather

end
-- ==== Proof.Ideal.Start.lean ====
/-
# The third part of the body

A device copies its own block into its slot of the gathered array, and the first transfers start. With the barrier
passed everything the steps need is there.
-/
module

public import proofs.«01_k».proof.Proof.Ideal.Mem
public import proofs.«01_k».proof.Proof.Ideal.Head
public import Idealize.ShloMosaic.Lib.Pointwise.Reshape

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

/-- On device `c`, `p` takes `P` to `Q` of its result. -/
abbrev W {α : Type} (c : Dev nD) (P : sProp 𝕄) (p : Prog (TpuEff nD τ sig (Elt F) Λ₀ .tc) α) (Q : α → sProp 𝕄) : Prop :=
  P ⊢ wp frame (wpE (defs₀ (F := F)) 𝒱₀ (c : Thread nD τ) none) Set.univ p Q

/-- A stretch of steps, as a stretch from one invariant to the next. -/
theorem Tr_T {α : Type} {c : Dev nD} {n l : ℕ} {p : Prog (TpuEff nD τ sig (Elt F) Λ₀ .tc) α} (h : Tr m ρ K c n l p) :
    T c (Inv m ρ K c n) p (Inv m ρ K c l) := h

section Mem
variable {α : Type} {s : Shape} {e : EltTy}

/-- A load reads a buffer that is held. -/
theorem W_load (c : Dev nD) {mm : Memref sig .tc .vmem s e} {r : LoadRect s} {hl : mm.view.LoadsAt r}
    {k : (r.shape.Idx → Elt F e) → Prog (TpuEff nD τ sig (Elt F) Λ₀ .tc) α} {P R : sProp 𝕄} {Q : α → sProp 𝕄}
    {S : Finset (Idx (mm.view.loc (c : Thread nD τ)))} {q : PosShare TreeShare} {f : Buf (Elt F) (mm.view.loc (c : Thread nD τ))}
    (hP : P ⊢ iprop(R ∗ (mm.view.loc (c : Thread nD τ) ↦[S]{q} f))) (hS : mm.view.setOn r.set ⊆ S)
    (h : W c iprop(R ∗ (mm.view.loc (c : Thread nD τ) ↦[S]{q} f)) (k (mm.view.readAt (Elt F) r f)) Q) :
    W c P (Prog.lift (.load mm r hl) >>= k) Q := by
  refine hP.trans ?_
  simp only [Prog.lift, Prog.bind_op, Prog.bind_ret]
  iintro ⟨HR, H⟩
  iapply (wp_load 𝒱₀ (c : Thread nD τ) none Set.univ hS) $$ [H]
  · iexact H
  iintro H
  iapply h
  isplitl [HR]; · iexact HR
  iexact H

/-- A store writes a buffer that is held. -/
theorem W_store (c : Dev nD) {mm : Memref sig .tc .vmem s e} {r : Rect s} {w : r.shape.Idx → Elt F e} {Mk : Finset r.shape.Idx}
    {hx : (mm.access r).Stores Mk} {hm : Mk = Finset.univ ∨ ∀ a, r.stride a = 1}
    {k : PUnit → Prog (TpuEff nD τ sig (Elt F) Λ₀ .tc) α} {P R : sProp 𝕄} {Q : α → sProp 𝕄}
    {S : Finset (Idx ((mm.access r).loc (c : Thread nD τ)))} {f : Buf (Elt F) ((mm.access r).loc (c : Thread nD τ))}
    (hP : P ⊢ iprop(R ∗ ((mm.access r).loc (c : Thread nD τ) ↦[S]{fullShare} f))) (hS : (mm.access r).setOn Mk ⊆ S)
    (h : W c iprop(R ∗ ((mm.access r).loc (c : Thread nD τ) ↦[S]{fullShare} ((mm.access r).write (Elt F) f w Mk))) (k ⟨⟩) Q) :
    W c P (Prog.lift (.store mm r w Mk hx hm) >>= k) Q := by
  refine hP.trans ?_
  simp only [Prog.lift, Prog.bind_op, Prog.bind_ret]
  iintro ⟨HR, H⟩
  iapply (wp_store 𝒱₀ (c : Thread nD τ) none Set.univ hS) $$ [H]
  · iexact H
  iintro H
  iapply h
  isplitl [HR]; · iexact HR
  iexact H

end Mem

/-- The origin. -/
theorem hz : (![0, 0] : Fin 2 → Nat) = fun _ => 0 := funext fun a => by fin_cases a <;> rfl

/-- Where the own slot begins. -/
theorem off1_eq : ∀ (c : Dev nD) (a : Fin 2), k0_off1 c a = if a = 0 then 32 * (own c).val else 0 := by decide +kernel

abbrev ownR (c : Dev nD) : Rect S1024x1024 := Rect.unit (s := S1024x1024) (k0_off1 c) S32x1024.size (k0_off1_inb c)

/-- The rectangle of the device's own slot has the slot's places. -/
theorem ownR_set (c : Dev nD) : (ownR c).set = ownSet c := by
  ext i
  rw [Rect.mem_set_unit, mem_ownSet]
  have h1 : (i 1).val < 1024 := (i 1).isLt
  constructor
  · intro h
    have h0 := h 0
    rw [off1_eq, if_pos rfl] at h0
    change 32 * (own c).val ≤ (i 0).val ∧ (i 0).val < 32 * (own c).val + 32 at h0
    omega
  · intro h a
    rw [off1_eq]
    match a with
    | 0 => rw [if_pos rfl]; show 32 * (own c).val ≤ (i 0).val ∧ (i 0).val < 32 * (own c).val + 32; omega
    | 1 => rw [if_neg (by decide)]; show 0 ≤ (i 1).val ∧ (i 1).val < 0 + 1024; omega

/-- So has the view of it. -/
theorem ownR_access (c : Dev nD) : (gM.access (ownR c)).set = ownSet c := by
  rw [← ownR_set]
  exact View.set_slice_whole (cc0_scratch0 : Ref sig .tc) (ownR c)

/-- The own slot, written with the device's own block, holds the gathered array. -/
theorem own_written (c : Dev nD) (f : (cc0_scratch0 : Ref sig .tc).ty.Contents (Elt F)) :
    ∀ i ∈ ownSet c, (gM.access (ownR c)).write (Elt F) f (k0_pay7 (xstg m ρ c)) Finset.univ i = gath m ρ i := by
  intro i hi
  rw [← ownR_access] at hi
  obtain ⟨x, rfl⟩ := exists_emb _ hi
  rw [View.write_emb_of_mem _ _ (Finset.mem_univ x)]
  unfold k0_pay7
  simp only [shapeCast_id]
  have hx0 : (x 0).val < 32 := (x 0).isLt
  have e0 : (((gM.access (ownR c)).emb x) 0).val = k0_off1 c 0 + 1 * (x 0).val := rfl
  have e1 : (((gM.access (ownR c)).emb x) 1).val = k0_off1 c 1 + 1 * (x 1).val := rfl
  rw [off1_eq, if_pos rfl] at e0
  rw [off1_eq, if_neg (by decide)] at e1
  unfold gath
  have hs : (⟨(((gM.access (ownR c)).emb x) 0).val / 32 % 32, Nat.mod_lt _ (by decide)⟩ : Fin 32) = own c :=
    Fin.ext (by simp only [e0]; have := (own c).isLt; omega)
  rw [hs, devOf_own]
  show xstg m ρ c x = _
  congr 1
  funext a
  match a with
  | 0 => exact Fin.ext (by show (x 0).val = (((gM.access (ownR c)).emb x) 0).val % 32; rw [e0]; omega)
  | 1 => exact Fin.ext (by show (x 1).val = (((gM.access (ownR c)).emb x) 1).val; rw [e1]; omega)

/-- The block of `x` in its staging buffer. -/
def xW (m : (ℓ : Loc nD τ sig) → Buf (Elt F) ℓ) (ρ : Dev nD → PrngReg) (c : Dev nD) : sProp 𝕄 :=
  ((c : Thread nD τ).loc cc0_stg0_0) ↦{fullShare} (xstg m ρ c : Buf (Elt F) ((c : Thread nD τ).loc cc0_stg0_0))

/-- What the third part begins with, but for the two buffers. -/
def Pre3 (m : (ℓ : Loc nD τ sig) → Buf (Elt F) ℓ) (ρ : Dev nD → PrngReg) (K : Dev nD × CI → ℕ) (c : Dev nD) : sProp 𝕄 :=
  iprop(Ctx m ρ K ∗ (∃ W, owes (c : Thread nD τ) (owedX c (bits0 c.val).s) W) ∗ (bigSep (nbrs c) fun d => barPay c d)
    ∗ (bigSep Finset.univ fun i : Fin 76 => TkS c i) ∗ (bigSep Finset.univ fun i : Fin 76 => rcvP c (bits0 c.val) i))

omit [FloatOps F] in
/-- What the barrier leaves, with the block and the own slot, is the invariant before the first step. -/
theorem inv_start (c : Dev nD) : iprop(Pre3 (F := F) m ρ K c ∗ xW m ρ c) ⊢ Inv m ρ K c 0 := by
  unfold Pre3 xW Inv St
  rw [held_start]
  iintro ⟨⟨#HC, HO, Hb, Ht, Hr⟩, Hx⟩
  isplitr; · iexact HC
  isplitl [Hb Ht]
  · iapply (snd_intro c)
    isplitl [Hb]; · iexact Hb
    iexact Ht
  isplitl [Hr]; · iexact Hr
  isplitl [Hx]; · iexact Hx
  iexact HO

set_option maxRecDepth 100000 in
set_option maxHeartbeats 0 in
/-- The body's third stretch: the device's own block copied to its slot, and the first transfers. -/
theorem part3_T (c : Dev nD) (f : (cc0_scratch0 : Ref sig .tc).ty.Contents (Elt F)) (v19 v37 v47 v48 : BitVec 32) (v49 v50 : BitVec 1) (v65 : BitVec 32) :
    T (F := F) c iprop((Pre3 m ρ K c ∗ xW m ρ c) ∗ ownG c f) (onM k0_part3 c v19 v37 v47 v48 v49 v50 v65) iprop(Inv m ρ K c 3 ∗ ownG c (gath m ρ)) := by
  rw [onM, k0_part3_eq_skeleton]; unfold k0_part3_skel
  refine W_load c (R := iprop(Pre3 m ρ K c ∗ ownG c f)) (S := Finset.univ) (q := fullShare) (f := xstg m ρ c) ?_ (Finset.subset_univ _) ?_
  · unfold xW
    iintro ⟨⟨H1, H2⟩, H3⟩
    isplitr [H2]
    · isplitl [H1] <;> iassumption
    iexact H2
  rw [show (xM : Memref sig .tc .vmem S32x1024 .f32).view.readAt (Elt F) _ (xstg m ρ c) = xstg m ρ c from Memref.readAt_unit_zero (Elt F) cc0_stg0_0 hz _ _]
  refine W_load c (R := iprop(Pre3 m ρ K c ∗ xW m ρ c)) (S := ownSet c) (q := fullShare) (f := f) ?_ ?_ ?_
  · unfold xW ownG
    iintro ⟨⟨H1, H2⟩, H3⟩
    isplitr [H2]
    · isplitl [H1] <;> iassumption
    iexact H2
  · rw [← ownR_access]; exact (View.set_slice _ _).superset
  refine W_store c (R := iprop(Pre3 m ρ K c ∗ xW m ρ c)) (S := ownSet c) (f := f) .rfl (ownR_access c).subset ?_
  refine T_post (P := iprop(Inv m ρ K c 0 ∗ ownG c (gath m ρ))) ?_ (T_frame (Tr_T (n := 0) (l := 3) ?_))
  · iintro ⟨H, Hg⟩
    isplitl [H]; · iapply (inv_start c) $$ H
    unfold ownG
    iapply (Entails.of_eq (pointsTo_congr (own_written (m := m) (ρ := ρ) c f))) $$ Hg
  repeat' first
    | with_reducible exact Tr_pure _
    | with_reducible refine Tr_step ?_ (fun _ => ?_)
    | with_reducible refine Tr_if (fun h => ?_) ?_ ?_
    | with_reducible refine Tr_last ?_
    | with_reducible refine Tr_send_x (by decide) ?_
  all_goals (revert c; decide +kernel)

end Cert.KernelIdeal.Gather

end
-- ==== Proof.Ideal.Fin.lean ====
/-
# After the last wait

With every departure waited for, the gathered array and the device's own block are whole again; the device loads the
array and the block of `w`, and multiplies.
-/
module

public import proofs.«01_k».proof.Proof.Ideal.Start

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

section Seq
variable {α β : Type} {c : Dev nD}

/-- One stretch after another. -/
theorem W_bind {P : sProp 𝕄} {R : α → sProp 𝕄} {Q : β → sProp 𝕄} {p : Prog (TpuEff nD τ sig (Elt F) Λ₀ .tc) α} {k : α → Prog (TpuEff nD τ sig (Elt F) Λ₀ .tc) β}
    (h1 : W c P p R) (h2 : ∀ v, W c (R v) (k v) Q) : W c P (p >>= k) Q := by
  unfold W at *
  rw [wp_bind]
  exact h1.trans (wp_mono _ _ _ h2)

/-- A value that is right at once. -/
theorem W_pure {P : sProp 𝕄} {Q : α → sProp 𝕄} {v : α} (h : P ⊢ Q v) : W (F := F) c P (pure v) Q := by
  unfold W
  rw [show (pure v : Prog (TpuEff nD τ sig (Elt F) Λ₀ .tc) α) = Prog.ret v from rfl, wp_ret]
  exact h.trans fupd_intro

/-- What a stretch does not touch stays. -/
theorem W_frame {P S : sProp 𝕄} {R : α → sProp 𝕄} {p : Prog (TpuEff nD τ sig (Elt F) Λ₀ .tc) α} (h : W c P p R) :
    W c iprop(P ∗ S) p (fun v => iprop(R v ∗ S)) := by
  unfold W at *
  iintro ⟨H, HS⟩
  iapply (wp_frame_r frame (wpE (defs₀ (F := F)) 𝒱₀ (c : Thread nD τ) none) Set.univ)
  isplitl [H]; · iapply h $$ H
  iexact HS

/-- A stretch may start from more. -/
theorem W_pre {P P' : sProp 𝕄} {Q : α → sProp 𝕄} {p : Prog (TpuEff nD τ sig (Elt F) Λ₀ .tc) α} (hP : P' ⊢ P) (h : W c P p Q) : W c P' p Q :=
  hP.trans h

/-- And its end may be weakened. -/
theorem W_post {P : sProp 𝕄} {Q Q' : α → sProp 𝕄} {p : Prog (TpuEff nD τ sig (Elt F) Λ₀ .tc) α} (h : W c P p Q) (hQ : ∀ v, Q v ⊢ Q' v) : W c P p Q' :=
  h.trans (wp_mono _ _ _ hQ)

/-- Steps `n … l` of the order, then the rest. -/
theorem W_tr {n l : ℕ} {S : sProp 𝕄} {Q : β → sProp 𝕄} {p : Prog (TpuEff nD τ sig (Elt F) Λ₀ .tc) α} {k : α → Prog (TpuEff nD τ sig (Elt F) Λ₀ .tc) β}
    (h1 : Tr m ρ K c n l p) (h2 : ∀ v, W c iprop(Inv m ρ K c l ∗ S) (k v) Q) : W c iprop(Inv m ρ K c n ∗ S) (p >>= k) Q :=
  W_bind (W_frame h1) h2

/-- A step under its printed condition, then the rest. -/
theorem W_if {n : ℕ} {S : sProp 𝕄} {Q : β → sProp 𝕄} {C : Prop} {dC : Decidable C} {A : C → Prog (TpuEff nD τ sig (Elt F) Λ₀ .tc) α} {k : Prog (TpuEff nD τ sig (Elt F) Λ₀ .tc) β}
    (hA : ∀ h, Tr m ρ K c n (n + 1) (A h)) (h0 : ¬C → opN c.val n = 0) (hk : W c iprop(Inv m ρ K c (n + 1) ∗ S) k Q) :
    W c iprop(Inv m ρ K c n ∗ S) (dite C (fun h => A h >>= fun _ => k) (fun _ => k)) Q := by
  by_cases h : C
  · rw [dif_pos h]; exact W_tr (hA h) fun _ => hk
  · rw [dif_neg h]
    have e : bitsAt c.val (n + 1) = bitsAt c.val n := by
      show stepOp c.val (opN c.val n) (bitsAt c.val n) = _
      rw [h0 h]; rfl
    unfold Inv at *
    rwa [e] at hk

end Seq

/-- Device `c`'s block of `w`, as its staging buffer holds it. -/
def wstg (m : (ℓ : Loc nD τ sig) → Buf (Elt F) ℓ) (ρ : Dev nD → PrngReg) (c : Dev nD) : (cc0_stg1_0 : Ref sig .tc).ty.Contents (Elt F) :=
  (win0_1.blk (0 : Fin 1)).view.read (Elt F) ((s₀ m ρ).mem ((c : Thread nD τ).loc main_arg1))

/-- The block of `w` in its staging buffer. -/
def wW (m : (ℓ : Loc nD τ sig) → Buf (Elt F) ℓ) (ρ : Dev nD → PrngReg) (c : Dev nD) : sProp 𝕄 :=
  ((c : Thread nD τ).loc cc0_stg1_0) ↦{fullShare} (wstg m ρ c : Buf (Elt F) ((c : Thread nD τ).loc cc0_stg1_0))

/-- The scratch array, whole. -/
def gW (c : Dev nD) (f : (cc0_scratch0 : Ref sig .tc).ty.Contents (Elt F)) : sProp 𝕄 :=
  ((c : Thread nD τ).loc cc0_scratch0) ↦{fullShare} (f : Buf (Elt F) ((c : Thread nD τ).loc cc0_scratch0))

/-- Every transfer's two semaphores at zero again, nothing owed. -/
def Done (c : Dev nD) : sProp 𝕄 :=
  iprop((bigSep Finset.univ fun i : Fin 76 => sDone c i) ∗ (bigSep Finset.univ fun i : Fin 76 => rDone c i)
    ∗ ∃ W, owes (c : Thread nD τ) (0 : CellTallies nD τ sig Unit) W)

omit [FloatOps F] in
/-- After the last step the whole gathered array and the block are held, and every semaphore is done. -/
theorem inv_end (c : Dev nD) : iprop(Inv (F := F) m ρ K c 372 ∗ ownG c (gath m ρ)) ⊢ iprop(Done c ∗ xW m ρ c ∗ gW c (gath m ρ)) := by
  obtain ⟨hs, hf, hr, hh⟩ := bits_end c
  have es : (fun i : Fin 76 => sndP (F := F) c (bitsAt c.val 372) i) = fun i => sDone c i := by
    funext i; unfold sndP; rw [hs, hf, Nat.zero_testBit]; rfl
  have er : (fun i : Fin 76 => rcvP (F := F) c (bitsAt c.val 372) i) = fun i => rDone c i := by
    funext i; unfold rcvP; rw [hr, Nat.zero_testBit]; rfl
  unfold Inv St
  rw [es, er, held_end m ρ c _ hh, hs, owedX_zero]
  unfold gW
  rw [g_whole c (gath m ρ)]
  unfold Done xW
  iintro ⟨⟨-, Hs, Hr, ⟨Hx, Hg⟩, HO⟩, Ho⟩
  isplitl [Hs Hr HO]
  · isplitl [Hs]; · iexact Hs
    isplitl [Hr]; · iexact Hr
    iexact HO
  isplitl [Hx]; · iexact Hx
  isplitl [Ho]; · iexact Ho
  iexact Hg

/-- The product. -/
def prodV (m : (ℓ : Loc nD τ sig) → Buf (Elt F) ℓ) (ρ : Dev nD → PrngReg) (c : Dev nD) : FVec F S1024x32 .f32 := k0_pay8 (gath m ρ) (wstg m ρ c)

set_option maxRecDepth 100000 in
set_option maxHeartbeats 0 in
/-- The body's last waits, and the product. -/
theorem part91_W (c : Dev nD) (v1963 v1981 v2001 v2019 v2041 v2059 v2079 v2097 v2120 v2138 v2158 v2176 : BitVec 1) (v2758 : BitVec 32) :
    W (F := F) c iprop(Inv m ρ K c 359 ∗ (ownG c (gath m ρ) ∗ wW m ρ c))
      (onM k0_part91 c v1963 v1981 v2001 v2019 v2041 v2059 v2079 v2097 v2120 v2138 v2158 v2176 v2758)
      (fun v => iprop(⌜v = prodV m ρ c⌝ ∗ (Done c ∗ xW m ρ c ∗ gW c (gath m ρ) ∗ wW m ρ c))) := by
  rw [onM, k0_part91_eq_skeleton]; unfold k0_part91_skel
  iterate 13
    with_reducible refine W_if (fun h => ?_) ?_ ?_
    rotate_left 2
  · refine W_load c (R := iprop(Done c ∗ xW m ρ c ∗ wW m ρ c)) (S := Finset.univ) (q := fullShare) (f := gath m ρ) ?_ (Finset.subset_univ _) ?_
    · iintro ⟨HI, Ho, Hw⟩
      ihave HI := (inv_end c) $$ [HI Ho]
      · isplitl [HI]; · iexact HI
        iexact Ho
      icases HI with ⟨HD, Hx, Hg⟩
      isplitl [HD Hx Hw]
      · isplitl [HD]; · iexact HD
        isplitl [Hx]; · iexact Hx
        iexact Hw
      unfold gW
      iexact Hg
    rw [show (gM : Memref sig .tc .vmem S1024x1024 .f32).view.readAt (Elt F) _ (gath m ρ) = gath m ρ from Memref.readAt_unit_zero (Elt F) cc0_scratch0 hz _ _]
    refine W_load c (R := iprop(Done c ∗ xW m ρ c ∗ gW c (gath m ρ))) (S := Finset.univ) (q := fullShare) (f := wstg m ρ c) ?_ (Finset.subset_univ _) ?_
    · unfold wW gW
      iintro ⟨⟨HD, Hx, Hw⟩, Hg⟩
      isplitl [HD Hx Hg]
      · isplitl [HD]; · iexact HD
        isplitl [Hx]; · iexact Hx
        iexact Hg
      iexact Hw
    rw [show (wM : Memref sig .tc .vmem S1024x32 .f32).view.readAt (Elt F) _ (wstg m ρ c) = wstg m ρ c from Memref.readAt_unit_zero (Elt F) cc0_stg1_0 hz _ _]
    refine W_pure ?_
    unfold wW
    iintro ⟨⟨HD, Hx, Hg⟩, Hw⟩
    isplitr; · ipureintro; rfl
    isplitl [HD]; · iexact HD
    isplitl [Hx]; · iexact Hx
    isplitl [Hg]; · iexact Hg
    iexact Hw
  all_goals try (with_reducible refine Tr_last ?_)
  all_goals try (with_reducible refine Tr_wait (by decide) ?_)
  all_goals try (with_reducible refine Tr_wait_x (by decide) ?_)
  all_goals (revert c; decide +kernel)

end Cert.KernelIdeal.Gather

end
-- ==== Proof.Ideal.Out.lean ====
/-
# The stores of the result

The result's rows are stored one device's block at a time, in the order of the devices: block `r` comes from slot `own r`
of the activated product. `OutP Y n` says that the first `n` blocks stand.
-/
module

public import proofs.«01_k».proof.Proof.Ideal.Fin
public import Idealize.ShloMosaic.Lib.Pipeline.Value

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

/-- Row `r`, column `j` of a block of `w` or of the result. -/
def oIdx (r : ℕ) (hr : r < 1024) (j : ℕ) (hj : j < 32) : S1024x32.Idx := fun a => match a with
  | 0 => ⟨r, hr⟩
  | 1 => ⟨j, hj⟩

/-- Where the result's row comes from: the same place within the slot of the device whose block it is. -/
def rowOf (r : ℕ) (hr : r < 1024) : ℕ := 32 * (own ⟨r / 32, by omega⟩).val + r % 32
/-- That row is within the product. -/
theorem rowOf_lt (r : ℕ) (hr : r < 1024) : rowOf r hr < 1024 := by
  unfold rowOf; have := (own ⟨r / 32, by omega⟩).isLt; omega

/-- The rows of `Y`, slots in the order of the devices. -/
def outV (Y : FVec F S1024x32 .f32) : (cc0_stg2_0 : Ref sig .tc).ty.Contents (Elt F) := fun i =>
  Y (oIdx (rowOf (i 0).val (i 0).isLt) (rowOf_lt _ _) (i 1).val (i 1).isLt)

/-- The result's buffer. -/
def oW (c : Dev nD) (f : (cc0_stg2_0 : Ref sig .tc).ty.Contents (Elt F)) : sProp 𝕄 :=
  ((c : Thread nD τ).loc cc0_stg2_0) ↦{fullShare} (f : Buf (Elt F) ((c : Thread nD τ).loc cc0_stg2_0))

/-- The first `n` blocks of the result stand. -/
def OutP (c : Dev nD) (Y : FVec F S1024x32 .f32) (n : ℕ) : sProp 𝕄 :=
  iprop(∃ f : (cc0_stg2_0 : Ref sig .tc).ty.Contents (Elt F), ⌜∀ i : S1024x32.Idx, (i 0).val < 32 * n → f i = outV Y i⌝ ∗ oW c f)

abbrev rowR (off : Fin 2 → ℕ) (inb : ∀ a, off a + S32x32.size a ≤ S1024x32.size a) : Rect S1024x32 := Rect.unit (s := S1024x32) off S32x32.size inb

/-- Which places the block of stored rows has. -/
theorem rowR_set (off : Fin 2 → ℕ) (inb : ∀ a, off a + S32x32.size a ≤ S1024x32.size a) (n : ℕ) (h0 : off 0 = 32 * n) (h1 : off 1 = 0) (i : S1024x32.Idx) :
    i ∈ (oM.access (rowR off inb)).set ↔ (i 0).val / 32 = n := by
  rw [show (oM.access (rowR off inb)).set = (rowR off inb).set from View.set_slice_whole (cc0_stg2_0 : Ref sig .tc) _, Rect.mem_set_unit]
  have hi : (i 1).val < 32 := (i 1).isLt
  constructor
  · intro h
    have h := h 0
    rw [h0] at h
    change 32 * n ≤ (i 0).val ∧ (i 0).val < 32 * n + 32 at h
    omega
  · intro h a
    match a with
    | 0 => rw [h0]; show 32 * n ≤ (i 0).val ∧ (i 0).val < 32 * n + 32; omega
    | 1 => rw [h1]; show 0 ≤ (i 1).val ∧ (i 1).val < 0 + 32; omega

/-- A slot's rows are within the product. -/
theorem own_slices (n : Fin 32) : S1024x32.Slices ![32 * (own n).val, 0] S32x32 :=
  ⟨rfl, fun a => by
    have := (own n).isLt
    match a with
    | 0 => show 32 * (own n).val + 32 ≤ 1024; omega
    | 1 => show 0 + 32 ≤ 32; omega⟩

/-- One more block. -/
theorem out_step (Y : FVec F S1024x32 .f32) (n : Fin 32) (off : Fin 2 → ℕ) (inb : ∀ a, off a + S32x32.size a ≤ S1024x32.size a) (h0 : off 0 = 32 * n.val) (h1 : off 1 = 0)
    (w : FVec F S32x32 .f32) (hw : w = extractStridedSlice S32x32 ![32 * (own n).val, 0] Y (own_slices n))
    (f : (cc0_stg2_0 : Ref sig .tc).ty.Contents (Elt F)) (hf : ∀ i : S1024x32.Idx, (i 0).val < 32 * n.val → f i = outV Y i) :
    ∀ i : S1024x32.Idx, (i 0).val < 32 * (n.val + 1) → (oM.access (rowR off inb)).write (Elt F) f w Finset.univ i = outV Y i := by
  intro i hi
  by_cases hm : i ∈ (oM.access (rowR off inb)).set
  · have hq := (rowR_set off inb n.val h0 h1 i).mp hm
    obtain ⟨x, rfl⟩ := exists_emb _ hm
    rw [View.write_emb_of_mem _ _ (Finset.mem_univ x), hw]
    have hx0 : (x 0).val < 32 := (x 0).isLt
    have e0 : (((oM.access (rowR off inb)).emb x) 0).val = off 0 + 1 * (x 0).val := rfl
    have e1 : (((oM.access (rowR off inb)).emb x) 1).val = off 1 + 1 * (x 1).val := rfl
    rw [h0] at e0
    rw [h1] at e1
    unfold outV
    refine extractStridedSlice_apply _ Y (own_slices n) x _ fun a => ?_
    match a with
    | 0 =>
      show rowOf (((oM.access (rowR off inb)).emb x) 0).val (((oM.access (rowR off inb)).emb x) 0).isLt = 32 * (own n).val + (x 0).val
      unfold rowOf
      have hn : (⟨(((oM.access (rowR off inb)).emb x) 0).val / 32, by rw [hq]; exact n.isLt⟩ : Fin 32) = n := Fin.ext hq
      rw [hn, e0]; omega
    | 1 =>
      show (((oM.access (rowR off inb)).emb x) 1).val = 0 + (x 1).val
      rw [e1]; omega
  · rw [View.write_of_not_mem (v := oM.access (rowR off inb)) (Val := Elt F) f w Finset.univ (i := i) (h := hm)]
    refine hf i ?_
    have := mt (rowR_set off inb n.val h0 h1 i).mpr hm
    omega

/-- The load and the store of one block. -/
theorem W_out {α : Type} (c : Dev nD) (n : Fin 32) (Y : FVec F S1024x32 .f32) {off : Fin 2 → ℕ} {inb : ∀ a, off a + S32x32.size a ≤ S1024x32.size a}
    {w : FVec F S32x32 .f32} {lr : LoadRect S1024x32} {hl : (oM : Memref sig .tc .vmem S1024x32 .f32).view.LoadsAt lr}
    {hx : (oM.access (rowR off inb)).Stores Finset.univ} {hm : (Finset.univ : Finset (rowR off inb).shape.Idx) = Finset.univ ∨ ∀ a, (rowR off inb).stride a = 1}
    {k : Prog (TpuEff nD τ sig (Elt F) Λ₀ .tc) α} {R : sProp 𝕄} {Q : α → sProp 𝕄}
    (hw : w = extractStridedSlice S32x32 ![32 * (own n).val, 0] Y (own_slices n)) (hn : off 0 = 32 * n.val ∧ off 1 = 0)
    (hk : W c iprop(R ∗ OutP c Y (n.val + 1)) k Q) :
    W c iprop(R ∗ OutP c Y n.val) (Prog.lift (.load oM lr hl) >>= fun _ => Prog.lift (.store oM (rowR off inb) w Finset.univ hx hm) >>= fun _ => k) Q := by
  have key : ∀ f : (cc0_stg2_0 : Ref sig .tc).ty.Contents (Elt F), (∀ i : S1024x32.Idx, (i 0).val < 32 * n.val → f i = outV Y i) →
      W c iprop(R ∗ oW c f) (Prog.lift (.load oM lr hl) >>= fun _ => Prog.lift (.store oM (rowR off inb) w Finset.univ hx hm) >>= fun _ => k) Q := by
    intro f hf
    refine W_load c (R := R) (S := Finset.univ) (q := fullShare) (f := f) .rfl (Finset.subset_univ _) ?_
    refine W_store c (R := R) (S := Finset.univ) (f := f) .rfl (Finset.subset_univ _) ?_
    refine W_pre ?_ hk
    unfold OutP oW
    iintro ⟨HR, H⟩
    isplitl [HR]; · iexact HR
    iexists ((oM.access (rowR off inb)).write (Elt F) f w Finset.univ)
    isplitr
    · ipureintro; exact out_step Y n off inb hn.1 hn.2 w hw f hf
    iexact H
  unfold W at *
  unfold OutP
  iintro ⟨HR, ⟨%f, %hf, H⟩⟩
  iapply (key f hf)
  isplitl [HR]; · iexact HR
  iexact H

omit [FloatOps F] in
/-- At first no block need stand. -/
theorem out_begin (c : Dev nD) (Y : FVec F S1024x32 .f32) (f : (cc0_stg2_0 : Ref sig .tc).ty.Contents (Elt F)) : oW c f ⊢ OutP c Y 0 := by
  unfold OutP
  iintro H
  iexists f
  isplitr; · ipureintro; intro i hi; omega
  iexact H

omit [FloatOps F] in
/-- When all stand the result is there. -/
theorem out_end (c : Dev nD) (Y : FVec F S1024x32 .f32) : OutP c Y 32 ⊢ oW c (outV Y) := by
  unfold OutP
  iintro ⟨%f, %hf, H⟩
  have e : f = outV Y := funext fun i => hf i (i 0).isLt
  rw [e]; iexact H

set_option maxRecDepth 100000 in
/-- The first eight stores. -/
theorem part92_W (c : Dev nD) (v : FVec F S1024x32 .f32) :
    W (F := F) c (OutP c (k0_pay9 v) 0) (onM k0_part92 v)
      (fun x => iprop(⌜x = ⟨k0_pay9 v, k0_pay18 v⟩⌝ ∗ OutP c (k0_pay9 v) 8)) := by
  rw [onM, k0_part92_eq_skeleton]; unfold k0_part92_skel
  refine W_pre (P := iprop(emp ∗ OutP c (k0_pay9 v) 0)) (Entails.of_eq (equiv_iff.mp emp_sep).symm) ?_
  refine W_out c 0 (k0_pay9 v) (rfl : k0_pay10 v = _) (by decide) ?_
  refine W_out c 1 (k0_pay9 v) (rfl : k0_pay11 v = _) (by decide) ?_
  refine W_out c 2 (k0_pay9 v) (rfl : k0_pay12 v = _) (by decide) ?_
  refine W_out c 3 (k0_pay9 v) (rfl : k0_pay13 v = _) (by decide) ?_
  refine W_out c 4 (k0_pay9 v) (rfl : k0_pay14 v = _) (by decide) ?_
  refine W_out c 5 (k0_pay9 v) (rfl : k0_pay15 v = _) (by decide) ?_
  refine W_out c 6 (k0_pay9 v) (rfl : k0_pay16 v = _) (by decide) ?_
  refine W_out c 7 (k0_pay9 v) (rfl : k0_pay17 v = _) (by decide) ?_
  refine W_pure ?_
  iintro ⟨-, H⟩
  isplitr; · ipureintro; rfl
  iexact H

set_option maxRecDepth 100000 in
/-- The next twelve stores. -/
theorem part93_W (c : Dev nD) (v : FVec F S1024x32 .f32) :
    W (F := F) c (OutP c (k0_pay9 v) 8) (onM k0_part93 (k0_pay9 v) (k0_pay18 v))
      (fun x => iprop(⌜x = k0_pay30 (k0_pay9 v)⌝ ∗ OutP c (k0_pay9 v) 20)) := by
  rw [onM, k0_part93_eq_skeleton]; unfold k0_part93_skel
  refine W_pre (P := iprop(emp ∗ OutP c (k0_pay9 v) 8)) (Entails.of_eq (equiv_iff.mp emp_sep).symm) ?_
  refine W_out c 8 (k0_pay9 v) (rfl : k0_pay18 v = _) (by decide) ?_
  refine W_out c 9 (k0_pay9 v) (rfl : k0_pay19 (k0_pay9 v) = _) (by decide) ?_
  refine W_out c 10 (k0_pay9 v) (rfl : k0_pay20 (k0_pay9 v) = _) (by decide) ?_
  refine W_out c 11 (k0_pay9 v) (rfl : k0_pay21 (k0_pay9 v) = _) (by decide) ?_
  refine W_out c 12 (k0_pay9 v) (rfl : k0_pay22 (k0_pay9 v) = _) (by decide) ?_
  refine W_out c 13 (k0_pay9 v) (rfl : k0_pay23 (k0_pay9 v) = _) (by decide) ?_
  refine W_out c 14 (k0_pay9 v) (rfl : k0_pay24 (k0_pay9 v) = _) (by decide) ?_
  refine W_out c 15 (k0_pay9 v) (rfl : k0_pay25 (k0_pay9 v) = _) (by decide) ?_
  refine W_out c 16 (k0_pay9 v) (rfl : k0_pay26 (k0_pay9 v) = _) (by decide) ?_
  refine W_out c 17 (k0_pay9 v) (rfl : k0_pay27 (k0_pay9 v) = _) (by decide) ?_
  refine W_out c 18 (k0_pay9 v) (rfl : k0_pay28 (k0_pay9 v) = _) (by decide) ?_
  refine W_out c 19 (k0_pay9 v) (rfl : k0_pay29 (k0_pay9 v) = _) (by decide) ?_
  refine W_pure ?_
  iintro ⟨-, H⟩
  isplitr; · ipureintro; rfl
  iexact H

end Cert.KernelIdeal.Gather

end
-- ==== Proof.Ideal.Parts1.lean ====
/-
# The steps of parts 4 to 28 of the body

Each part takes a device from one step of its order to a later one, whatever scalars are passed to it.
-/
module

public import proofs.«01_k».proof.Proof.Ideal.Rules

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

set_option maxRecDepth 100000 in
set_option maxHeartbeats 0 in
/-- Parts 4 to 28: which steps each one takes. -/
theorem parts_1 (c : Dev nD) :
    (∀ v0 v1 v2 v3 v4 v5 v6 v7 v8 v9, Tr (F := F) m ρ K c 3 6 (onM k0_part4 c v0 v1 v2 v3 v4 v5 v6 v7 v8 v9))
    ∧ (∀ v0 v1 v2 v3 v4 v5, Tr (F := F) m ρ K c 6 9 (onM k0_part5 c v0 v1 v2 v3 v4 v5))
    ∧ (∀ v0 v1 v2 v3 v4 v5 v6 v7 v8 v9, Tr (F := F) m ρ K c 9 13 (onM k0_part6 c v0 v1 v2 v3 v4 v5 v6 v7 v8 v9))
    ∧ (∀ v0 v1 v2 v3 v4 v5 v6 v7 v8 v9, Tr (F := F) m ρ K c 13 16 (onM k0_part7 c v0 v1 v2 v3 v4 v5 v6 v7 v8 v9))
    ∧ (∀ v0 v1 v2 v3 v4 v5 v6 v7, Tr (F := F) m ρ K c 16 19 (onM k0_part8 c v0 v1 v2 v3 v4 v5 v6 v7))
    ∧ (∀ v0 v1 v2 v3 v4 v5 v6 v7, Tr (F := F) m ρ K c 19 23 (onM k0_part9 c v0 v1 v2 v3 v4 v5 v6 v7))
    ∧ (∀ v0 v1 v2 v3 v4 v5 v6 v7 v8, Tr (F := F) m ρ K c 23 26 (onM k0_part10 c v0 v1 v2 v3 v4 v5 v6 v7 v8))
    ∧ (∀ v0 v1 v2 v3 v4 v5 v6, Tr (F := F) m ρ K c 26 30 (onM k0_part11 c v0 v1 v2 v3 v4 v5 v6))
    ∧ (∀ v0 v1 v2 v3 v4 v5 v6 v7 v8 v9 v10, Tr (F := F) m ρ K c 30 34 (onM k0_part12 c v0 v1 v2 v3 v4 v5 v6 v7 v8 v9 v10))
    ∧ (∀ v0 v1 v2 v3 v4 v5 v6 v7, Tr (F := F) m ρ K c 34 37 (onM k0_part13 c v0 v1 v2 v3 v4 v5 v6 v7))
    ∧ (∀ v0 v1 v2 v3 v4 v5 v6 v7 v8 v9, Tr (F := F) m ρ K c 37 41 (onM k0_part14 c v0 v1 v2 v3 v4 v5 v6 v7 v8 v9))
    ∧ (∀ v0 v1 v2 v3 v4 v5, Tr (F := F) m ρ K c 41 44 (onM k0_part15 c v0 v1 v2 v3 v4 v5))
    ∧ (∀ v0 v1 v2 v3 v4 v5 v6 v7 v8, Tr (F := F) m ρ K c 44 47 (onM k0_part16 c v0 v1 v2 v3 v4 v5 v6 v7 v8))
    ∧ (∀ v0 v1 v2 v3 v4 v5 v6, Tr (F := F) m ρ K c 47 51 (onM k0_part17 c v0 v1 v2 v3 v4 v5 v6))
    ∧ (∀ v0 v1 v2 v3 v4 v5 v6 v7, Tr (F := F) m ρ K c 51 52 (onM k0_part18 c v0 v1 v2 v3 v4 v5 v6 v7))
    ∧ (∀ v0 v1 v2 v3 v4, Tr (F := F) m ρ K c 52 54 (onM k0_part19 c v0 v1 v2 v3 v4))
    ∧ (∀ v0 v1 v2 v3 v4 v5, Tr (F := F) m ρ K c 54 57 (onM k0_part20 c v0 v1 v2 v3 v4 v5))
    ∧ (∀ v0 v1 v2 v3 v4, Tr (F := F) m ρ K c 57 59 (onM k0_part21 c v0 v1 v2 v3 v4))
    ∧ (∀ v0 v1 v2, Tr (F := F) m ρ K c 59 62 (onM k0_part22 c v0 v1 v2))
    ∧ (∀ v0 v1 v2 v3 v4 v5 v6, Tr (F := F) m ρ K c 62 66 (onM k0_part23 c v0 v1 v2 v3 v4 v5 v6))
    ∧ (∀ v0 v1 v2 v3 v4 v5 v6 v7, Tr (F := F) m ρ K c 66 69 (onM k0_part24 c v0 v1 v2 v3 v4 v5 v6 v7))
    ∧ (∀ v0 v1 v2 v3 v4 v5, Tr (F := F) m ρ K c 69 73 (onM k0_part25 c v0 v1 v2 v3 v4 v5))
    ∧ (∀ v0 v1 v2 v3 v4 v5 v6 v7, Tr (F := F) m ρ K c 73 76 (onM k0_part26 c v0 v1 v2 v3 v4 v5 v6 v7))
    ∧ (∀ v0 v1 v2 v3 v4 v5, Tr (F := F) m ρ K c 76 80 (onM k0_part27 c v0 v1 v2 v3 v4 v5))
    ∧ (∀ v0 v1 v2 v3, Tr (F := F) m ρ K c 80 83 (onM k0_part28 c v0 v1 v2 v3)) := by
  refine ⟨?_, ?_, ?_, ?_, ?_, ?_, ?_, ?_, ?_, ?_, ?_, ?_, ?_, ?_, ?_, ?_, ?_, ?_, ?_, ?_, ?_, ?_, ?_, ?_, ?_⟩ <;> intros <;> rw [onM] <;> (
    first
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
    repeat' first
      | with_reducible exact Tr_pure _
      | with_reducible refine Tr_step ?_ (fun _ => ?_)
      | with_reducible refine Tr_if (fun h => ?_) ?_ ?_
      | with_reducible refine Tr_last ?_
      | with_reducible refine Tr_wait (by decide) ?_
      | with_reducible refine Tr_wait_x (by decide) ?_
      | with_reducible refine Tr_send_x (by decide) ?_
      | with_reducible refine Tr_send_g (by decide) ?_
    all_goals (revert c; decide +kernel))

end Cert.KernelIdeal.Gather

end
-- ==== Proof.Ideal.Parts2.lean ====
/-
# The steps of parts 29 to 54 of the body

Each part takes a device from one step of its order to a later one, whatever scalars are passed to it.
-/
module

public import proofs.«01_k».proof.Proof.Ideal.Rules

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

set_option maxRecDepth 100000 in
set_option maxHeartbeats 0 in
/-- Parts 29 to 54: which steps each one takes. -/
theorem parts_2 (c : Dev nD) :
    (∀ v0 v1 v2 v3 v4 v5 v6, Tr (F := F) m ρ K c 83 86 (onM k0_part29 c v0 v1 v2 v3 v4 v5 v6))
    ∧ (∀ v0 v1 v2 v3 v4 v5 v6 v7 v8, Tr (F := F) m ρ K c 86 90 (onM k0_part30 c v0 v1 v2 v3 v4 v5 v6 v7 v8))
    ∧ (∀ v0 v1 v2 v3 v4 v5 v6 v7, Tr (F := F) m ρ K c 90 93 (onM k0_part31 c v0 v1 v2 v3 v4 v5 v6 v7))
    ∧ (∀ v0 v1 v2 v3 v4 v5, Tr (F := F) m ρ K c 93 97 (onM k0_part32 c v0 v1 v2 v3 v4 v5))
    ∧ (∀ v0 v1 v2 v3 v4 v5 v6 v7, Tr (F := F) m ρ K c 97 100 (onM k0_part33 c v0 v1 v2 v3 v4 v5 v6 v7))
    ∧ (∀ v0 v1 v2 v3 v4 v5, Tr (F := F) m ρ K c 100 104 (onM k0_part34 c v0 v1 v2 v3 v4 v5))
    ∧ (∀ v0 v1 v2 v3 v4, Tr (F := F) m ρ K c 104 107 (onM k0_part35 c v0 v1 v2 v3 v4))
    ∧ (∀ v0 v1 v2 v3 v4, Tr (F := F) m ρ K c 107 109 (onM k0_part36 c v0 v1 v2 v3 v4))
    ∧ (∀ v0 v1 v2 v3, Tr (F := F) m ρ K c 109 111 (onM k0_part37 c v0 v1 v2 v3))
    ∧ (∀ v0 v1 v2 v3 v4 v5, Tr (F := F) m ρ K c 111 113 (onM k0_part38 c v0 v1 v2 v3 v4 v5))
    ∧ (∀ v0 v1 v2, Tr (F := F) m ρ K c 113 116 (onM k0_part39 c v0 v1 v2))
    ∧ (∀ v0 v1 v2 v3 v4, Tr (F := F) m ρ K c 116 119 (onM k0_part40 c v0 v1 v2 v3 v4))
    ∧ (∀ v0 v1 v2 v3 v4 v5, Tr (F := F) m ρ K c 119 123 (onM k0_part41 c v0 v1 v2 v3 v4 v5))
    ∧ (∀ v0 v1 v2 v3 v4 v5 v6 v7 v8, Tr (F := F) m ρ K c 123 126 (onM k0_part42 c v0 v1 v2 v3 v4 v5 v6 v7 v8))
    ∧ (∀ v0 v1 v2 v3 v4 v5 v6, Tr (F := F) m ρ K c 126 129 (onM k0_part43 c v0 v1 v2 v3 v4 v5 v6))
    ∧ (∀ v0 v1 v2 v3 v4 v5 v6, Tr (F := F) m ρ K c 129 133 (onM k0_part44 c v0 v1 v2 v3 v4 v5 v6))
    ∧ (∀ v0 v1 v2 v3 v4 v5, Tr (F := F) m ρ K c 133 136 (onM k0_part45 c v0 v1 v2 v3 v4 v5))
    ∧ (∀ v0 v1 v2 v3 v4 v5 v6 v7, Tr (F := F) m ρ K c 136 140 (onM k0_part46 c v0 v1 v2 v3 v4 v5 v6 v7))
    ∧ (∀ v0 v1 v2 v3, Tr (F := F) m ρ K c 140 143 (onM k0_part47 c v0 v1 v2 v3))
    ∧ (∀ v0 v1 v2 v3 v4, Tr (F := F) m ρ K c 143 147 (onM k0_part48 c v0 v1 v2 v3 v4))
    ∧ (∀ v0 v1 v2 v3 v4 v5 v6 v7, Tr (F := F) m ρ K c 147 150 (onM k0_part49 c v0 v1 v2 v3 v4 v5 v6 v7))
    ∧ (∀ v0 v1 v2 v3 v4 v5 v6 v7, Tr (F := F) m ρ K c 150 154 (onM k0_part50 c v0 v1 v2 v3 v4 v5 v6 v7))
    ∧ (∀ v0 v1 v2 v3 v4 v5 v6 v7, Tr (F := F) m ρ K c 154 157 (onM k0_part51 c v0 v1 v2 v3 v4 v5 v6 v7))
    ∧ (∀ v0 v1 v2 v3 v4 v5, Tr (F := F) m ρ K c 157 160 (onM k0_part52 c v0 v1 v2 v3 v4 v5))
    ∧ (∀ v0 v1 v2 v3 v4 v5, Tr (F := F) m ρ K c 160 164 (onM k0_part53 c v0 v1 v2 v3 v4 v5))
    ∧ (∀ v0 v1 v2 v3 v4 v5 v6, Tr (F := F) m ρ K c 164 165 (onM k0_part54 c v0 v1 v2 v3 v4 v5 v6)) := by
  refine ⟨?_, ?_, ?_, ?_, ?_, ?_, ?_, ?_, ?_, ?_, ?_, ?_, ?_, ?_, ?_, ?_, ?_, ?_, ?_, ?_, ?_, ?_, ?_, ?_, ?_, ?_⟩ <;> intros <;> rw [onM] <;> (
    first
      | (rw [k0_part29_eq_skeleton]; unfold k0_part29_skel)
      | (rw [k0_part30_eq_skeleton]; unfold k0_part30_skel)
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)
      | (rw [k0_part45_eq_skeleton]; unfold k0_part45_skel)
      | (rw [k0_part46_eq_skeleton]; unfold k0_part46_skel)
      | (rw [k0_part47_eq_skeleton]; unfold k0_part47_skel)
      | (rw [k0_part48_eq_skeleton]; unfold k0_part48_skel)
      | (rw [k0_part49_eq_skeleton]; unfold k0_part49_skel)
      | (rw [k0_part50_eq_skeleton]; unfold k0_part50_skel)
      | (rw [k0_part51_eq_skeleton]; unfold k0_part51_skel)
      | (rw [k0_part52_eq_skeleton]; unfold k0_part52_skel)
      | (rw [k0_part53_eq_skeleton]; unfold k0_part53_skel)
      | (rw [k0_part54_eq_skeleton]; unfold k0_part54_skel)
    repeat' first
      | with_reducible exact Tr_pure _
      | with_reducible refine Tr_step ?_ (fun _ => ?_)
      | with_reducible refine Tr_if (fun h => ?_) ?_ ?_
      | with_reducible refine Tr_last ?_
      | with_reducible refine Tr_wait (by decide) ?_
      | with_reducible refine Tr_wait_x (by decide) ?_
      | with_reducible refine Tr_send_x (by decide) ?_
      | with_reducible refine Tr_send_g (by decide) ?_
    all_goals (revert c; decide +kernel))

end Cert.KernelIdeal.Gather

end
-- ==== Proof.Ideal.Parts3.lean ====
/-
# The steps of parts 55 to 81 of the body

Each part takes a device from one step of its order to a later one, whatever scalars are passed to it.
-/
module

public import proofs.«01_k».proof.Proof.Ideal.Rules

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

set_option maxRecDepth 100000 in
set_option maxHeartbeats 0 in
/-- Parts 55 to 81: which steps each one takes. -/
theorem parts_3 (c : Dev nD) :
    (∀ v0 v1 v2 v3 v4, Tr (F := F) m ρ K c 165 168 (onM k0_part55 c v0 v1 v2 v3 v4))
    ∧ (∀ v0 v1 v2 v3 v4 v5, Tr (F := F) m ρ K c 168 171 (onM k0_part56 c v0 v1 v2 v3 v4 v5))
    ∧ (∀ v0 v1 v2 v3 v4 v5 v6 v7 v8, Tr (F := F) m ρ K c 171 174 (onM k0_part57 c v0 v1 v2 v3 v4 v5 v6 v7 v8))
    ∧ (∀ v0 v1 v2 v3 v4 v5 v6 v7, Tr (F := F) m ρ K c 174 177 (onM k0_part58 c v0 v1 v2 v3 v4 v5 v6 v7))
    ∧ (∀ v0 v1 v2 v3 v4 v5 v6, Tr (F := F) m ρ K c 177 180 (onM k0_part59 c v0 v1 v2 v3 v4 v5 v6))
    ∧ (∀ v0 v1 v2 v3 v4, Tr (F := F) m ρ K c 180 183 (onM k0_part60 c v0 v1 v2 v3 v4))
    ∧ (∀ v0 v1 v2 v3 v4 v5 v6, Tr (F := F) m ρ K c 183 187 (onM k0_part61 c v0 v1 v2 v3 v4 v5 v6))
    ∧ (∀ v0 v1 v2 v3 v4 v5 v6 v7, Tr (F := F) m ρ K c 187 190 (onM k0_part62 c v0 v1 v2 v3 v4 v5 v6 v7))
    ∧ (∀ v0 v1 v2 v3 v4 v5 v6 v7, Tr (F := F) m ρ K c 190 193 (onM k0_part63 c v0 v1 v2 v3 v4 v5 v6 v7))
    ∧ (∀ v0 v1 v2 v3 v4 v5 v6 v7, Tr (F := F) m ρ K c 193 196 (onM k0_part64 c v0 v1 v2 v3 v4 v5 v6 v7))
    ∧ (∀ v0 v1 v2 v3 v4, Tr (F := F) m ρ K c 196 199 (onM k0_part65 c v0 v1 v2 v3 v4))
    ∧ (∀ v0 v1 v2 v3 v4 v5, Tr (F := F) m ρ K c 199 203 (onM k0_part66 c v0 v1 v2 v3 v4 v5))
    ∧ (∀ v0 v1 v2 v3 v4 v5 v6 v7, Tr (F := F) m ρ K c 203 206 (onM k0_part67 c v0 v1 v2 v3 v4 v5 v6 v7))
    ∧ (∀ v0 v1 v2 v3 v4 v5 v6, Tr (F := F) m ρ K c 206 209 (onM k0_part68 c v0 v1 v2 v3 v4 v5 v6))
    ∧ (∀ v0 v1 v2 v3 v4 v5 v6 v7, Tr (F := F) m ρ K c 209 212 (onM k0_part69 c v0 v1 v2 v3 v4 v5 v6 v7))
    ∧ (∀ v0 v1 v2 v3 v4, Tr (F := F) m ρ K c 212 215 (onM k0_part70 c v0 v1 v2 v3 v4))
    ∧ (∀ v0 v1 v2 v3 v4 v5 v6, Tr (F := F) m ρ K c 215 219 (onM k0_part71 c v0 v1 v2 v3 v4 v5 v6))
    ∧ (∀ v0 v1 v2 v3 v4 v5 v6 v7, Tr (F := F) m ρ K c 219 221 (onM k0_part72 c v0 v1 v2 v3 v4 v5 v6 v7))
    ∧ (∀ v0 v1 v2 v3 v4 v5 v6 v7, Tr (F := F) m ρ K c 221 224 (onM k0_part73 c v0 v1 v2 v3 v4 v5 v6 v7))
    ∧ (∀ v0 v1 v2 v3 v4 v5 v6, Tr (F := F) m ρ K c 224 227 (onM k0_part74 c v0 v1 v2 v3 v4 v5 v6))
    ∧ (∀ v0 v1 v2 v3 v4 v5 v6 v7, Tr (F := F) m ρ K c 227 230 (onM k0_part75 c v0 v1 v2 v3 v4 v5 v6 v7))
    ∧ (∀ v0 v1 v2 v3 v4 v5 v6, Tr (F := F) m ρ K c 230 232 (onM k0_part76 c v0 v1 v2 v3 v4 v5 v6))
    ∧ (∀ v0 v1 v2 v3 v4 v5 v6 v7 v8, Tr (F := F) m ρ K c 232 235 (onM k0_part77 c v0 v1 v2 v3 v4 v5 v6 v7 v8))
    ∧ (∀ v0 v1 v2 v3 v4, Tr (F := F) m ρ K c 235 238 (onM k0_part78 c v0 v1 v2 v3 v4))
    ∧ (∀ v0 v1 v2 v3 v4 v5 v6 v7 v8 v9, Tr (F := F) m ρ K c 238 241 (onM k0_part79 c v0 v1 v2 v3 v4 v5 v6 v7 v8 v9))
    ∧ (∀ v0 v1 v2 v3 v4 v5 v6 v7 v8, Tr (F := F) m ρ K c 241 244 (onM k0_part80 c v0 v1 v2 v3 v4 v5 v6 v7 v8))
    ∧ (∀ v0 v1 v2 v3 v4 v5, Tr (F := F) m ρ K c 244 246 (onM k0_part81 c v0 v1 v2 v3 v4 v5)) := by
  refine ⟨?_, ?_, ?_, ?_, ?_, ?_, ?_, ?_, ?_, ?_, ?_, ?_, ?_, ?_, ?_, ?_, ?_, ?_, ?_, ?_, ?_, ?_, ?_, ?_, ?_, ?_, ?_⟩ <;> intros <;> rw [onM] <;> (
    first
      | (rw [k0_part55_eq_skeleton]; unfold k0_part55_skel)
      | (rw [k0_part56_eq_skeleton]; unfold k0_part56_skel)
      | (rw [k0_part57_eq_skeleton]; unfold k0_part57_skel)
      | (rw [k0_part58_eq_skeleton]; unfold k0_part58_skel)
      | (rw [k0_part59_eq_skeleton]; unfold k0_part59_skel)
      | (rw [k0_part60_eq_skeleton]; unfold k0_part60_skel)
      | (rw [k0_part61_eq_skeleton]; unfold k0_part61_skel)
      | (rw [k0_part62_eq_skeleton]; unfold k0_part62_skel)
      | (rw [k0_part63_eq_skeleton]; unfold k0_part63_skel)
      | (rw [k0_part64_eq_skeleton]; unfold k0_part64_skel)
      | (rw [k0_part65_eq_skeleton]; unfold k0_part65_skel)
      | (rw [k0_part66_eq_skeleton]; unfold k0_part66_skel)
      | (rw [k0_part67_eq_skeleton]; unfold k0_part67_skel)
      | (rw [k0_part68_eq_skeleton]; unfold k0_part68_skel)
      | (rw [k0_part69_eq_skeleton]; unfold k0_part69_skel)
      | (rw [k0_part70_eq_skeleton]; unfold k0_part70_skel)
      | (rw [k0_part71_eq_skeleton]; unfold k0_part71_skel)
      | (rw [k0_part72_eq_skeleton]; unfold k0_part72_skel)
      | (rw [k0_part73_eq_skeleton]; unfold k0_part73_skel)
      | (rw [k0_part74_eq_skeleton]; unfold k0_part74_skel)
      | (rw [k0_part75_eq_skeleton]; unfold k0_part75_skel)
      | (rw [k0_part76_eq_skeleton]; unfold k0_part76_skel)
      | (rw [k0_part77_eq_skeleton]; unfold k0_part77_skel)
      | (rw [k0_part78_eq_skeleton]; unfold k0_part78_skel)
      | (rw [k0_part79_eq_skeleton]; unfold k0_part79_skel)
      | (rw [k0_part80_eq_skeleton]; unfold k0_part80_skel)
      | (rw [k0_part81_eq_skeleton]; unfold k0_part81_skel)
    repeat' first
      | with_reducible exact Tr_pure _
      | with_reducible refine Tr_step ?_ (fun _ => ?_)
      | with_reducible refine Tr_if (fun h => ?_) ?_ ?_
      | with_reducible refine Tr_last ?_
      | with_reducible refine Tr_wait (by decide) ?_
      | with_reducible refine Tr_wait_x (by decide) ?_
      | with_reducible refine Tr_send_x (by decide) ?_
      | with_reducible refine Tr_send_g (by decide) ?_
    all_goals (revert c; decide +kernel))

end Cert.KernelIdeal.Gather

end
-- ==== Proof.Ideal.Parts4.lean ====
/-
# The steps of parts 82 to 90 of the body

Each part takes a device from one step of its order to a later one, whatever scalars are passed to it.
-/
module

public import proofs.«01_k».proof.Proof.Ideal.Rules

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

set_option maxRecDepth 100000 in
set_option maxHeartbeats 0 in
/-- Parts 82 to 90: which steps each one takes. -/
theorem parts_4 (c : Dev nD) :
    (∀ v0 v1 v2 v3 v4 v5 v6 v7, Tr (F := F) m ρ K c 246 253 (onM k0_part82 c v0 v1 v2 v3 v4 v5 v6 v7))
    ∧ (∀ v0 v1 v2 v3 v4, Tr (F := F) m ρ K c 253 264 (onM k0_part83 c v0 v1 v2 v3 v4))
    ∧ (∀ v0 v1 v2 v3 v4 v5 v6 v7, Tr (F := F) m ρ K c 264 277 (onM k0_part84 c v0 v1 v2 v3 v4 v5 v6 v7))
    ∧ (∀ v0 v1 v2 v3, Tr (F := F) m ρ K c 277 290 (onM k0_part85 c v0 v1 v2 v3))
    ∧ (∀ v0 v1 v2, Tr (F := F) m ρ K c 290 303 (onM k0_part86 c v0 v1 v2))
    ∧ (∀ v0 v1 v2 v3, Tr (F := F) m ρ K c 303 317 (onM k0_part87 c v0 v1 v2 v3))
    ∧ (∀ v0 v1 v2, Tr (F := F) m ρ K c 317 329 (onM k0_part88 c v0 v1 v2))
    ∧ (∀ v0 v1 v2 v3 v4 v5, Tr (F := F) m ρ K c 329 344 (onM k0_part89 c v0 v1 v2 v3 v4 v5))
    ∧ (∀ v0 v1 v2 v3 v4 v5 v6 v7 v8 v9 v10 v11 v12 v13 v14 v15, Tr (F := F) m ρ K c 344 359 (onM k0_part90 c v0 v1 v2 v3 v4 v5 v6 v7 v8 v9 v10 v11 v12 v13 v14 v15)) := by
  refine ⟨?_, ?_, ?_, ?_, ?_, ?_, ?_, ?_, ?_⟩ <;> intros <;> rw [onM] <;> (
    first
      | (rw [k0_part82_eq_skeleton]; unfold k0_part82_skel)
      | (rw [k0_part83_eq_skeleton]; unfold k0_part83_skel)
      | (rw [k0_part84_eq_skeleton]; unfold k0_part84_skel)
      | (rw [k0_part85_eq_skeleton]; unfold k0_part85_skel)
      | (rw [k0_part86_eq_skeleton]; unfold k0_part86_skel)
      | (rw [k0_part87_eq_skeleton]; unfold k0_part87_skel)
      | (rw [k0_part88_eq_skeleton]; unfold k0_part88_skel)
      | (rw [k0_part89_eq_skeleton]; unfold k0_part89_skel)
      | (rw [k0_part90_eq_skeleton]; unfold k0_part90_skel)
    repeat' first
      | with_reducible exact Tr_pure _
      | with_reducible refine Tr_step ?_ (fun _ => ?_)
      | with_reducible refine Tr_if (fun h => ?_) ?_ ?_
      | with_reducible refine Tr_last ?_
      | with_reducible refine Tr_wait (by decide) ?_
      | with_reducible refine Tr_wait_x (by decide) ?_
      | with_reducible refine Tr_send_x (by decide) ?_
      | with_reducible refine Tr_send_g (by decide) ?_
    all_goals (revert c; decide +kernel))

end Cert.KernelIdeal.Gather

end
-- ==== Proof.Ideal.Body.lean ====
/-
# The whole body

The parts in order: the barrier, the steps, the product and the stores.
-/
module

public import proofs.«01_k».proof.Proof.Ideal.Out
public import proofs.«01_k».proof.Proof.Ideal.Parts1
public import proofs.«01_k».proof.Proof.Ideal.Parts2
public import proofs.«01_k».proof.Proof.Ideal.Parts3
public import proofs.«01_k».proof.Proof.Ideal.Parts4

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × CI → ℕ}

section Seq
variable {α β : Type} {c : Dev nD}

/-- The body's first stretch computes the device's place and does nothing else. -/
theorem W_part1 {P : sProp 𝕄} {Q : β → sProp 𝕄}
    {k : (Σ' (d0 : Dev nD) (v2 : BitVec 32) (v19 : BitVec 32) (v20 : BitVec 32) (v21 : BitVec 32) (v28 : BitVec 32), BitVec 32)
      → Prog (TpuEff nD τ sig (Elt F) Λ₀ .tc) β}
    (h : ∀ v2 v20 v21 v28 v36 : BitVec 32, W c P (k ⟨c, v2, rowW c, v20, v21, v28, v36⟩) Q) : W c P (onM (k0_part1 (F := F)) >>= k) Q := by
  unfold W at *
  rw [wp_bind]
  exact part1_spec c h

/-- A program of known result, then the rest. -/
theorem W_eq {P R S : sProp 𝕄} {Q : β → sProp 𝕄} {a : α} {p : Prog (TpuEff nD τ sig (Elt F) Λ₀ .tc) α} {k : α → Prog (TpuEff nD τ sig (Elt F) Λ₀ .tc) β}
    (h1 : W c P p (fun v => iprop(⌜v = a⌝ ∗ R))) (h2 : W c iprop(R ∗ S) (k a) Q) : W c iprop(P ∗ S) (p >>= k) Q := by
  refine W_bind (W_frame h1) fun v => ?_
  unfold W at *
  iintro ⟨⟨%e, HR⟩, HS⟩
  rw [e]
  iapply h2
  isplitl [HR]; · iexact HR
  iexact HS

/-- A program one component of whose result is known, then the rest. -/
theorem W_known {γ : Type} {P R : sProp 𝕄} {Q : β → sProp 𝕄} {g : α → γ} {a : γ} {p : Prog (TpuEff nD τ sig (Elt F) Λ₀ .tc) α} {k : α → Prog (TpuEff nD τ sig (Elt F) Λ₀ .tc) β}
    (h1 : W c P p (fun v => iprop(⌜g v = a⌝ ∗ R))) (h2 : ∀ v, g v = a → W c R (k v) Q) : W c P (p >>= k) Q := by
  refine W_bind h1 fun v => ?_
  unfold W at *
  iintro ⟨%e, HR⟩
  iapply (h2 v e) $$ HR

end Seq

/-- What the body begins with. -/
def BodyPre (m : (ℓ : Loc nD τ sig) → Buf (Elt F) ℓ) (ρ : Dev nD → PrngReg) (K : Dev nD × CI → ℕ) (c : Dev nD)
    (f : (cc0_scratch0 : Ref sig .tc).ty.Contents (Elt F)) (fo : (cc0_stg2_0 : Ref sig .tc).ty.Contents (Elt F)) : sProp 𝕄 :=
  iprop(SW m ρ K c (nbrs c) ∗ ((bigSep Finset.univ fun i : Fin 76 => TkS c i) ∗ (bigSep Finset.univ fun i : Fin 76 => rcvP c (bits0 c.val) i)
    ∗ xW m ρ c ∗ ownG c f ∗ wW m ρ c ∗ oW c fo))

/-- What the steps leave alone. -/
def Rest (m : (ℓ : Loc nD τ sig) → Buf (Elt F) ℓ) (ρ : Dev nD → PrngReg) (c : Dev nD) (fo : (cc0_stg2_0 : Ref sig .tc).ty.Contents (Elt F)) : sProp 𝕄 :=
  iprop(ownG c (gath m ρ) ∗ semVal (barCell c) 0 ∗ wW m ρ c ∗ oW c fo)

/-- The result's block. -/
def resV (m : (ℓ : Loc nD τ sig) → Buf (Elt F) ℓ) (ρ : Dev nD → PrngReg) (c : Dev nD) : (cc0_stg2_0 : Ref sig .tc).ty.Contents (Elt F) :=
  outV (k0_pay9 (prodV m ρ c))

/-- What the body ends with, but for the result. -/
def Fini (m : (ℓ : Loc nD τ sig) → Buf (Elt F) ℓ) (ρ : Dev nD → PrngReg) (c : Dev nD) : sProp 𝕄 :=
  iprop(Done c ∗ xW m ρ c ∗ gW c (gath m ρ) ∗ wW m ρ c ∗ semVal (barCell c) 0)

set_option maxRecDepth 100000 in
set_option maxHeartbeats 0 in
/-- The body up to its first 183 steps. -/
theorem part94_W (c : Dev nD) (f : (cc0_scratch0 : Ref sig .tc).ty.Contents (Elt F)) (fo : (cc0_stg2_0 : Ref sig .tc).ty.Contents (Elt F)) :
    W (F := F) c (BodyPre m ρ K c f fo) (onM k0_part94) (fun v => iprop(⌜v.1 = c⌝ ∗ (Inv m ρ K c 183 ∗ Rest m ρ c fo))) := by
  obtain ⟨h4, h5, h6, h7, h8, h9, h10, h11, h12, h13, h14, h15, h16, h17, h18, h19, h20, h21, h22, h23, h24, h25, h26, h27, h28⟩ := parts_1 (F := F) (m := m) (ρ := ρ) (K := K) c
  obtain ⟨h29, h30, h31, h32, h33, h34, h35, h36, h37, h38, h39, h40, h41, h42, h43, h44, h45, h46, h47, h48, h49, h50, h51, h52, h53, h54⟩ := parts_2 (F := F) (m := m) (ρ := ρ) (K := K) c
  obtain ⟨h55, h56, h57, h58, h59, h60, h61, h62, h63, h64, h65, h66, h67, h68, h69, h70, h71, h72, h73, h74, h75, h76, h77, h78, h79, h80, h81⟩ := parts_3 (F := F) (m := m) (ρ := ρ) (K := K) c
  rw [onM, k0_part94_eq_skeleton]; unfold k0_part94_skel
  refine W_part1 fun v2 v20 v21 v28 v36 => ?_
  refine W_bind (W_frame (part2_T (m := m) (ρ := ρ) (K := K) c v2 v20 v21 v28 v36)) fun ⟨v37, v46, v47, v48, v49, v50, v65⟩ => ?_
  refine W_pre (P := iprop(((Pre3 m ρ K c ∗ xW m ρ c) ∗ ownG c f) ∗ (semVal (barCell c) 0 ∗ wW m ρ c ∗ oW c fo))) ?_ ?_
  · unfold BarPost Pre3
    iintro ⟨⟨HC, HO, Hz, Hb⟩, Ht, Hr, Hx, Hg, Hw, Ho⟩
    isplitr [Hz Hw Ho]
    · isplitr [Hg]
      · isplitr [Hx]
        · isplitl [HC]; · iexact HC
          isplitl [HO]; · iexact HO
          isplitl [Hb]; · iexact Hb
          isplitl [Ht]; · iexact Ht
          iexact Hr
        iexact Hx
      iexact Hg
    isplitl [Hz]; · iexact Hz
    isplitl [Hw]; · iexact Hw
    iexact Ho
  refine W_bind (W_frame (part3_T (m := m) (ρ := ρ) (K := K) c f _ v37 v47 v48 v49 v50 v65)) fun ⟨_, _⟩ => ?_
  refine W_pre (P := iprop(Inv m ρ K c 3 ∗ Rest m ρ c fo)) ?_ ?_
  · unfold Rest
    iintro ⟨⟨HI, Hg⟩, HS⟩
    isplitl [HI]; · iexact HI
    isplitl [Hg]; · iexact Hg
    iexact HS
  with_reducible refine W_tr (h4 _ _ _ _ _ _ _ _ _ _) fun _ => ?_
  with_reducible refine W_tr (h5 _ _ _ _ _ _) fun ⟨_, _, _, _, _, _⟩ => ?_
  with_reducible refine W_tr (h6 _ _ _ _ _ _ _ _ _ _) fun ⟨_, _⟩ => ?_
  with_reducible refine W_tr (h7 _ _ _ _ _ _ _ _ _ _) fun ⟨_, _, _, _⟩ => ?_
  with_reducible refine W_tr (h8 _ _ _ _ _ _ _ _) fun _ => ?_
  with_reducible refine W_tr (h9 _ _ _ _ _ _ _ _) fun ⟨_, _, _⟩ => ?_
  with_reducible refine W_tr (h10 _ _ _ _ _ _ _ _ _) fun ⟨_, _, _, _⟩ => ?_
  with_reducible refine W_tr (h11 _ _ _ _ _ _ _) fun ⟨_, _⟩ => ?_
  with_reducible refine W_tr (h12 _ _ _ _ _ _ _ _ _ _ _) fun ⟨_, _, _, _, _⟩ => ?_
  with_reducible refine W_tr (h13 _ _ _ _ _ _ _ _) fun ⟨_, _⟩ => ?_
  with_reducible refine W_tr (h14 _ _ _ _ _ _ _ _ _ _) fun ⟨_, _, _⟩ => ?_
  with_reducible refine W_tr (h15 _ _ _ _ _ _) fun _ => ?_
  with_reducible refine W_tr (h16 _ _ _ _ _ _ _ _ _) fun ⟨_, _, _, _⟩ => ?_
  with_reducible refine W_tr (h17 _ _ _ _ _ _ _) fun ⟨_, _⟩ => ?_
  with_reducible refine W_tr (h18 _ _ _ _ _ _ _ _) fun ⟨_, _, _, _, _⟩ => ?_
  with_reducible refine W_tr (h19 _ _ _ _ _) fun _ => ?_
  with_reducible refine W_tr (h20 _ _ _ _ _ _) fun ⟨_, _, _⟩ => ?_
  with_reducible refine W_tr (h21 _ _ _ _ _) fun _ => ?_
  with_reducible refine W_tr (h22 _ _ _) fun ⟨_, _, _, _⟩ => ?_
  with_reducible refine W_tr (h23 _ _ _ _ _ _ _) fun ⟨_, _, _⟩ => ?_
  with_reducible refine W_tr (h24 _ _ _ _ _ _ _ _) fun ⟨_, _, _⟩ => ?_
  with_reducible refine W_tr (h25 _ _ _ _ _ _) fun ⟨_, _, _⟩ => ?_
  with_reducible refine W_tr (h26 _ _ _ _ _ _ _ _) fun ⟨_, _, _, _⟩ => ?_
  with_reducible refine W_tr (h27 _ _ _ _ _ _) fun _ => ?_
  with_reducible refine W_tr (h28 _ _ _ _) fun ⟨_, _⟩ => ?_
  with_reducible refine W_tr (h29 _ _ _ _ _ _ _) fun ⟨_, _, _, _, _, _⟩ => ?_
  with_reducible refine W_tr (h30 _ _ _ _ _ _ _ _ _) fun ⟨_, _, _⟩ => ?_
  with_reducible refine W_tr (h31 _ _ _ _ _ _ _ _) fun ⟨_, _, _⟩ => ?_
  with_reducible refine W_tr (h32 _ _ _ _ _ _) fun ⟨_, _, _⟩ => ?_
  with_reducible refine W_tr (h33 _ _ _ _ _ _ _ _) fun ⟨_, _, _, _⟩ => ?_
  with_reducible refine W_tr (h34 _ _ _ _ _ _) fun ⟨_, _⟩ => ?_
  with_reducible refine W_tr (h35 _ _ _ _ _) fun _ => ?_
  with_reducible refine W_tr (h36 _ _ _ _ _) fun ⟨_, _, _, _⟩ => ?_
  with_reducible refine W_tr (h37 _ _ _ _) fun ⟨_, _⟩ => ?_
  with_reducible refine W_tr (h38 _ _ _ _ _ _) fun _ => ?_
  with_reducible refine W_tr (h39 _ _ _) fun ⟨_, _, _⟩ => ?_
  with_reducible refine W_tr (h40 _ _ _ _ _) fun _ => ?_
  with_reducible refine W_tr (h41 _ _ _ _ _ _) fun ⟨_, _, _, _⟩ => ?_
  with_reducible refine W_tr (h42 _ _ _ _ _ _ _ _ _) fun ⟨_, _, _, _⟩ => ?_
  with_reducible refine W_tr (h43 _ _ _ _ _ _ _) fun _ => ?_
  with_reducible refine W_tr (h44 _ _ _ _ _ _ _) fun ⟨_, _, _, _⟩ => ?_
  with_reducible refine W_tr (h45 _ _ _ _ _ _) fun ⟨_, _, _⟩ => ?_
  with_reducible refine W_tr (h46 _ _ _ _ _ _ _ _) fun ⟨_, _, _⟩ => ?_
  with_reducible refine W_tr (h47 _ _ _ _) fun _ => ?_
  with_reducible refine W_tr (h48 _ _ _ _ _) fun ⟨_, _, _⟩ => ?_
  with_reducible refine W_tr (h49 _ _ _ _ _ _ _ _) fun ⟨_, _, _, _, _⟩ => ?_
  with_reducible refine W_tr (h50 _ _ _ _ _ _ _ _) fun ⟨_, _, _⟩ => ?_
  with_reducible refine W_tr (h51 _ _ _ _ _ _ _ _) fun ⟨_, _, _, _⟩ => ?_
  with_reducible refine W_tr (h52 _ _ _ _ _ _) fun ⟨_, _⟩ => ?_
  with_reducible refine W_tr (h53 _ _ _ _ _ _) fun ⟨_, _, _, _⟩ => ?_
  with_reducible refine W_tr (h54 _ _ _ _ _ _ _) fun ⟨_, _, _, _⟩ => ?_
  with_reducible refine W_tr (h55 _ _ _ _ _) fun ⟨_, _, _, _, _⟩ => ?_
  with_reducible refine W_tr (h56 _ _ _ _ _ _) fun ⟨_, _, _, _, _⟩ => ?_
  with_reducible refine W_tr (h57 _ _ _ _ _ _ _ _ _) fun ⟨_, _, _, _, _, _⟩ => ?_
  with_reducible refine W_tr (h58 _ _ _ _ _ _ _ _) fun ⟨_, _, _⟩ => ?_
  with_reducible refine W_tr (h59 _ _ _ _ _ _ _) fun ⟨_, _, _, _, _⟩ => ?_
  with_reducible refine W_tr (h60 _ _ _ _ _) fun ⟨_, _, _, _⟩ => ?_
  refine W_pure ?_
  iintro H
  isplitr; · ipureintro; rfl
  iexact H

set_option maxRecDepth 100000 in
set_option maxHeartbeats 0 in
/-- The rest of the body: the other steps, the product and all but the last six stores. -/
theorem part95_W (c : Dev nD) (fo : (cc0_stg2_0 : Ref sig .tc).ty.Contents (Elt F))
    (v19 : BitVec 32) (v28 : BitVec 32) (v37 : BitVec 32) (v46 : BitVec 32) (v49 : BitVec 1) (v50 : BitVec 1) (v146 : BitVec 1) (v153 : BitVec 1) (v184 : BitVec 1) (v212 : BitVec 1) (v219 : BitVec 1) (v250 : BitVec 1) (v278 : BitVec 1) (v285 : BitVec 1) (v316 : BitVec 1) (v344 : BitVec 1) (v351 : BitVec 1) (v382 : BitVec 1) (v410 : BitVec 1) (v462 : BitVec 1) (v638 : BitVec 1) (v709 : BitVec 1) (v779 : BitVec 1) (v850 : BitVec 1) (v920 : BitVec 1) (v991 : BitVec 1) (v1186 : BitVec 1) (v1257 : BitVec 1) (v1327 : BitVec 1) (v1398 : BitVec 1) (v1468 : BitVec 1) (v1539 : BitVec 1) (v1617 : BitVec 32) (v1625 : BitVec 32) (v1640 : BitVec 1) (v1661 : BitVec 1) (v1684 : BitVec 1) (v1705 : BitVec 1) (v1727 : BitVec 1) (v1745 : BitVec 1) (v1765 : BitVec 1) (v1783 : BitVec 1) (v1793 : BitVec 1) (v1794 : BitVec 32) (v1806 : BitVec 1) (v1824 : BitVec 1) (v1831 : BitVec 32) (c0_i32_1558 : BitVec 32) :
    W (F := F) c iprop(Inv m ρ K c 183 ∗ Rest m ρ c fo) (onM k0_part95 c v19 v28 v37 v46 v49 v50 v146 v153 v184 v212 v219 v250 v278 v285 v316 v344 v351 v382 v410 v462 v638 v709 v779 v850 v920 v991 v1186 v1257 v1327 v1398 v1468 v1539 v1617 v1625 v1640 v1661 v1684 v1705 v1727 v1745 v1765 v1783 v1793 v1794 v1806 v1824 v1831 c0_i32_1558)
      (fun v => iprop(⌜v = k0_pay9 (prodV m ρ c)⌝ ∗ (Fini m ρ c ∗ OutP c (k0_pay9 (prodV m ρ c)) 26))) := by
  obtain ⟨h55, h56, h57, h58, h59, h60, h61, h62, h63, h64, h65, h66, h67, h68, h69, h70, h71, h72, h73, h74, h75, h76, h77, h78, h79, h80, h81⟩ := parts_3 (F := F) (m := m) (ρ := ρ) (K := K) c
  obtain ⟨h82, h83, h84, h85, h86, h87, h88, h89, h90⟩ := parts_4 (F := F) (m := m) (ρ := ρ) (K := K) c
  rw [onM, k0_part95_eq_skeleton]; unfold k0_part95_skel
  with_reducible refine W_tr (h61 _ _ _ _ _ _ _) fun ⟨_, _, _, _, _⟩ => ?_
  with_reducible refine W_tr (h62 _ _ _ _ _ _ _ _) fun ⟨_, _, _, _, _, _⟩ => ?_
  with_reducible refine W_tr (h63 _ _ _ _ _ _ _ _) fun ⟨_, _, _, _⟩ => ?_
  with_reducible refine W_tr (h64 _ _ _ _ _ _ _ _) fun ⟨_, _, _, _, _⟩ => ?_
  with_reducible refine W_tr (h65 _ _ _ _ _) fun ⟨_, _⟩ => ?_
  with_reducible refine W_tr (h66 _ _ _ _ _ _) fun ⟨_, _, _, _⟩ => ?_
  with_reducible refine W_tr (h67 _ _ _ _ _ _ _ _) fun ⟨_, _, _, _, _, _⟩ => ?_
  with_reducible refine W_tr (h68 _ _ _ _ _ _ _) fun ⟨_, _, _, _⟩ => ?_
  with_reducible refine W_tr (h69 _ _ _ _ _ _ _ _) fun ⟨_, _, _, _, _⟩ => ?_
  with_reducible refine W_tr (h70 _ _ _ _ _) fun ⟨_, _, _⟩ => ?_
  with_reducible refine W_tr (h71 _ _ _ _ _ _ _) fun ⟨_, _, _⟩ => ?_
  with_reducible refine W_tr (h72 _ _ _ _ _ _ _ _) fun ⟨_, _, _, _, _, _⟩ => ?_
  with_reducible refine W_tr (h73 _ _ _ _ _ _ _ _) fun ⟨_, _, _, _⟩ => ?_
  with_reducible refine W_tr (h74 _ _ _ _ _ _ _) fun ⟨_, _, _⟩ => ?_
  with_reducible refine W_tr (h75 _ _ _ _ _ _ _ _) fun ⟨_, _, _⟩ => ?_
  with_reducible refine W_tr (h76 _ _ _ _ _ _ _) fun ⟨_, _, _, _, _, _⟩ => ?_
  with_reducible refine W_tr (h77 _ _ _ _ _ _ _ _ _) fun _ => ?_
  with_reducible refine W_tr (h78 _ _ _ _ _) fun ⟨_, _, _, _, _, _⟩ => ?_
  with_reducible refine W_tr (h79 _ _ _ _ _ _ _ _ _ _) fun ⟨_, _, _, _, _⟩ => ?_
  with_reducible refine W_tr (h80 _ _ _ _ _ _ _ _ _) fun ⟨_, _, _⟩ => ?_
  with_reducible refine W_tr (h81 _ _ _ _ _ _) fun _ => ?_
  with_reducible refine W_tr (h82 _ _ _ _ _ _ _ _) fun _ => ?_
  with_reducible refine W_tr (h83 _ _ _ _ _) fun _ => ?_
  with_reducible refine W_tr (h84 _ _ _ _ _ _ _ _) fun _ => ?_
  with_reducible refine W_tr (h85 _ _ _ _) fun _ => ?_
  with_reducible refine W_tr (h86 _ _ _) fun _ => ?_
  with_reducible refine W_tr (h87 _ _ _ _) fun _ => ?_
  with_reducible refine W_tr (h88 _ _ _) fun _ => ?_
  with_reducible refine W_tr (h89 _ _ _ _ _ _) fun _ => ?_
  with_reducible refine W_tr (h90 _ _ _ _ _ _ _ _ _ _ _ _ _ _ _ _) fun _ => ?_
  refine W_pre (P := iprop((Inv m ρ K c 359 ∗ (ownG c (gath m ρ) ∗ wW m ρ c)) ∗ (semVal (barCell c) 0 ∗ oW c fo))) ?_ ?_
  · unfold Rest
    iintro ⟨HI, Hg, Hz, Hw, Ho⟩
    isplitl [HI Hg Hw]
    · isplitl [HI]; · iexact HI
      isplitl [Hg]; · iexact Hg
      iexact Hw
    isplitl [Hz]; · iexact Hz
    iexact Ho
  refine W_eq (part91_W (K := K) c _ _ _ _ _ _ _ _ _ _ _ _ _) ?_
  refine W_pre (P := iprop(OutP c (k0_pay9 (prodV m ρ c)) 0 ∗ Fini m ρ c)) ?_ ?_
  · unfold Fini
    iintro ⟨⟨HD, Hx, Hg, Hw⟩, Hz, Ho⟩
    isplitl [Ho]; · iapply (out_begin c _ fo) $$ Ho
    isplitl [HD]; · iexact HD
    isplitl [Hx]; · iexact Hx
    isplitl [Hg]; · iexact Hg
    isplitl [Hw]; · iexact Hw
    iexact Hz
  refine W_eq (part92_W c (prodV m ρ c)) ?_
  refine W_eq (part93_W c (prodV m ρ c)) ?_
  refine W_pre sep_comm.1 ?_
  refine W_out c 20 (k0_pay9 (prodV m ρ c)) (rfl : k0_pay30 (k0_pay9 (prodV m ρ c)) = _) (by decide) ?_
  refine W_out c 21 (k0_pay9 (prodV m ρ c)) (rfl : k0_pay31 (k0_pay9 (prodV m ρ c)) = _) (by decide) ?_
  refine W_out c 22 (k0_pay9 (prodV m ρ c)) (rfl : k0_pay32 (k0_pay9 (prodV m ρ c)) = _) (by decide) ?_
  refine W_out c 23 (k0_pay9 (prodV m ρ c)) (rfl : k0_pay33 (k0_pay9 (prodV m ρ c)) = _) (by decide) ?_
  refine W_out c 24 (k0_pay9 (prodV m ρ c)) (rfl : k0_pay34 (k0_pay9 (prodV m ρ c)) = _) (by decide) ?_
  refine W_out c 25 (k0_pay9 (prodV m ρ c)) (rfl : k0_pay35 (k0_pay9 (prodV m ρ c)) = _) (by decide) ?_
  refine W_pure ?_
  iintro H
  isplitr; · ipureintro; rfl
  iexact H

set_option maxRecDepth 100000 in
set_option maxHeartbeats 0 in
/-- The body takes `BodyPre` to the result. -/
theorem body_W (c : Dev nD) (f : (cc0_scratch0 : Ref sig .tc).ty.Contents (Elt F)) (fo : (cc0_stg2_0 : Ref sig .tc).ty.Contents (Elt F)) :
    W (F := F) c (BodyPre m ρ K c f fo) (onM cc0_body) (fun _ => iprop(Fini m ρ c ∗ oW c (resV m ρ c))) := by
  rw [onM, cc0_body_eq_skeleton]; unfold cc0_body_skel
  refine W_known (part94_W (K := K) c f fo) ?_
  rintro ⟨d0, v19, v28, v37, v46, v49, v50, v146, v153, v184, v212, v219, v250, v278, v285, v316, v344, v351, v382, v410, v462, v638, v709, v779, v850, v920, v991, v1186, v1257, v1327, v1398, v1468, v1539, v1617, v1625, v1640, v1661, v1684, v1705, v1727, v1745, v1765, v1783, v1793, v1794, v1806, v1824, v1831, c0_i32_1558⟩ e
  obtain rfl : d0 = c := e
  refine W_pre (P := iprop((Inv m ρ K d0 183 ∗ Rest m ρ d0 fo) ∗ emp)) ?_ ?_
  · iintro H; isplitl [H]; · iexact H
    iempintro
  refine W_eq (part95_W (K := K) d0 fo _ _ _ _ _ _ _ _ _ _ _ _ _ _ _ _ _ _ _ _ _ _ _ _ _ _ _ _ _ _ _ _ _ _ _ _ _ _ _ _ _ _ _ _ _ _ _ _) ?_
  refine W_pre sep_elim_left ?_
  refine W_out d0 26 (k0_pay9 (prodV m ρ d0)) (rfl : k0_pay1 (k0_pay9 (prodV m ρ d0)) = _) (by decide) ?_
  refine W_out d0 27 (k0_pay9 (prodV m ρ d0)) (rfl : k0_pay2 (k0_pay9 (prodV m ρ d0)) = _) (by decide) ?_
  refine W_out d0 28 (k0_pay9 (prodV m ρ d0)) (rfl : k0_pay3 (k0_pay9 (prodV m ρ d0)) = _) (by decide) ?_
  refine W_out d0 29 (k0_pay9 (prodV m ρ d0)) (rfl : k0_pay4 (k0_pay9 (prodV m ρ d0)) = _) (by decide) ?_
  refine W_out d0 30 (k0_pay9 (prodV m ρ d0)) (rfl : k0_pay5 (k0_pay9 (prodV m ρ d0)) = _) (by decide) ?_
  refine W_out d0 31 (k0_pay9 (prodV m ρ d0)) (rfl : k0_pay6 (k0_pay9 (prodV m ρ d0)) = _) (by decide) ?_
  refine W_pure ?_
  iintro ⟨HF, HO⟩
  isplitl [HF]; · iexact HF
  unfold resV
  iapply (show OutP d0 (k0_pay9 (prodV m ρ d0)) ((31 : Fin 32).val + 1) ⊢ oW d0 (outV (k0_pay9 (prodV m ρ d0))) from out_end d0 (k0_pay9 (prodV m ρ d0))) $$ HO

end Cert.KernelIdeal.Gather

end
-- ==== Proof.Ideal.Oblig.lean ====
/-
# One device's region

What a device's body starts from and ends with, as the pipeline states it: its three windows' staging buffers, its
semaphores' tokens, the scratch array at any contents. The body's triple (`body_W`) is the obligation.
-/
module

public import proofs.«01_k».proof.Proof.Ideal.Body
public import proofs.«01_k».proof.Proof.Gen.KernelIdeal.Points

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device `c` starts from at some names of the invariants: the shared facts, the tokens of its barrier duties, its
    place at its own barrier and that barrier's credit, and its transfers' tokens. -/
def start (c : Dev nD) : sProp 𝕄 :=
  iprop(∃ K : Dev nD × CI → ℕ, Ctx m ρ K ∗ (bigSep (nbrs c) fun d => dutyTok ER (barCell (tgt c d)) 0 (opp d)) ∗ atPos ER (barCell c) 0 ∅ 0
    ∗ cred (tallyAt (barCell c) () ((nbrs c).card * 32768)) ∗ (bigSep Finset.univ fun i : Fin 76 => TkS c i)
    ∗ bigSep Finset.univ fun i : Fin 76 => rcvP c (bits0 c.val) i)

def Φ₀ (c : Dev nD) : sProp 𝕄 := iprop(start m ρ c ∗ ∃ f, gW c f)
/-- What it ends with: the gathered array, and every semaphore at zero. -/
def Φ₁ (c : Dev nD) : sProp 𝕄 :=
  iprop(gW c (gath m ρ) ∗ (bigSep Finset.univ fun i : Fin 76 => sDone c i) ∗ (bigSep Finset.univ fun i : Fin 76 => rDone c i) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => resV m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A staging buffer's ownership, with its contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- A staging buffer that is held. -/
theorem stg_intro (c : Dev nD) (b : Ref sig .tc) (X : b.ty.Contents (Elt F)) :
    (((c : Thread nD τ).loc b) ↦{fullShare} (X : Buf (Elt F) ((c : Thread nD τ).loc b)) : sProp 𝕄) ⊢ stg c b X := by
  iintro H; iexists _; isplitr; · (ipureintro; rfl)
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c) ∗ stg c cc0_stg2_0 (resV m ρ c))

variable {m ρ}

/-- What the pipeline hands the body is what the body's run starts from. -/
theorem pre_open (c : Dev nD) : bodyPre (F := F) m ρ c ⊢ iprop(∃ (K : Dev nD × CI → ℕ) (f : (cc0_scratch0 : Ref sig .tc).ty.Contents (Elt F)) (fo : (cc0_stg2_0 : Ref sig .tc).ty.Contents (Elt F)), BodyPre m ρ K c f fo) := by
  unfold bodyPre Φ₀ start Dat.owesAt Pipeline.owesWithin
  rw [show (dats (F := F) m ρ 0 c).owed t0_0.castSucc = O₀ c from rfl]
  iintro ⟨⟨⟨%K, HC, Hd, Hat, Hcr, Ht, Hr⟩, ⟨%f, Hg⟩⟩, ⟨%W, -, HO⟩, ⟨%d0, %g0, %hg0, Hx⟩, ⟨%d1, %g1, %hg1, Hw⟩, ⟨%d2, %g2, %hg2, Ho⟩⟩
  have hx : g0 = xstg m ρ c := by rw [hg0]; unfold Dat.before; rw [if_pos (fetch0_0 t0_0)]; rfl
  subst hx
  have hw : g1 = wstg m ρ c := by rw [hg1]; unfold Dat.before; rw [if_pos (fetch0_1 t0_0)]; rfl
  subst hw
  iexists K; iexists f; iexists g2
  unfold BodyPre SW SigSt xW wW oW
  unfold gW
  ihave Hg := (Entails.of_eq (g_whole c f)) $$ Hg
  icases Hg with ⟨Hown, Hoth⟩
  ihave Hb := (bar_pay_intro c f) $$ Hoth
  isplitl [HC HO Hd Hat Hcr Hb]
  · isplitl [HC HO Hd Hb]
    · isplitl [HC]; · iexact HC
      isplitl [HO]; · iexists W; unfold O₀; iexact HO
      isplitl [Hd]; · iexact Hd
      iexact Hb
    isplitl [Hat]; · iexact Hat
    iexact Hcr
  isplitl [Ht]; · iexact Ht
  isplitl [Hr]; · iexact Hr
  isplitl [Hx]; · iexact Hx
  isplitl [Hown]; · iexact Hown
  isplitl [Hw]; · iexact Hw
  iexact Ho

/-- What the body's run ends with is what the pipeline takes back. -/
theorem post_close (c : Dev nD) : iprop(Fini (F := F) m ρ c ∗ oW c (resV m ρ c)) ⊢ bodyPost m ρ c := by
  unfold Fini Done bodyPost Φ₁ Dat.owesAt Pipeline.owesWithin xW wW oW
  rw [show (dats (F := F) m ρ 0 c).owed t0_0.succ = 0 from rfl]
  iintro ⟨⟨⟨Hs, Hr, ⟨%W, HO⟩⟩, Hx, Hg, Hw, Hb⟩, Ho⟩
  isplitl [Hs Hr Hg Hb]
  · isplitl [Hg]; · iexact Hg
    isplitl [Hs]; · iexact Hs
    isplitl [Hr]; · iexact Hr
    iexact Hb
  isplitl [HO]
  · iexists W
    isplitr; · ipureintro; exact fun _ _ => Or.inl trivial
    iexact HO
  isplitl [Hx]; · iapply (stg_intro c cc0_stg0_0 _) $$ Hx
  isplitl [Hw]; · iapply (stg_intro c cc0_stg1_0 _) $$ Hw
  iapply (stg_intro c cc0_stg2_0 _) $$ Ho

variable (m ρ)

set_option maxRecDepth 8000 in
/-- The obligation the pipeline asks of the body. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_stg]
  show bodyPre m ρ c ⊢ wp frame (wpE (defs₀ (F := F)) 𝒱₀ c none) Set.univ (onM cc0_body) (fun _ => bodyPost m ρ c)
  refine (pre_open c).trans ?_
  iintro ⟨%K, %f, %fo, H⟩
  iapply ((body_W (m := m) (ρ := ρ) (K := K) c f fo).trans (wp_mono _ _ _ fun _ => post_close c)) $$ H

end Cert.KernelIdeal.Gather

end
-- ==== Proof.Ideal.Credit.lean ====
/-
# The launch credit

What all devices together owe a cell at launch: its barrier's credit, one neighbour's share from each, and a receive
cell's credit from the one device whose transfer arrives there. And that no wait of the pipeline's own is held up.
-/
module

public import proofs.«01_k».proof.Proof.Ideal.Oblig

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells apart -/

/-- Transfers have semaphores of their own. -/
theorem dsem_inj {b b' : Bool} {i i' : Fin 76} (h : dsem b i = dsem b' i') : b = b' ∧ i = i' := by
  have h1 : semNo b i.val = semNo b' i'.val := congrArg Fin.val h
  have h2 := ofNo_semNo b i
  rw [h1, ofNo_semNo] at h2
  have h3 := Option.some.inj h2
  exact ⟨(congrArg Prod.fst h3).symm, (congrArg Prod.snd h3).symm⟩

/-- So have all the cells of a device, -/
theorem csem_injective : Function.Injective csem := by
  rintro (u | ⟨b, i⟩) (u' | ⟨b', i'⟩) h
  · rfl
  · cases h
  · cases h
  · obtain ⟨rfl, rfl⟩ := dsem_inj (SemLoc.dma.inj h); rfl

/-- and all the cells of the mesh. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Barriers are told apart by their devices, -/
theorem barCell_iff {a b : Dev nD} : (barCell a = barCell b) ↔ a = b :=
  ⟨fun h => congrArg (fun g : GSem nD τ sig => g.1.1) h, fun h => h ▸ rfl⟩
/-- and receive cells by their devices and transfers. -/
theorem recvCell_iff {a b : Dev nD} {i j : Fin 76} : (recvCell a i = recvCell b j) ↔ a = b ∧ i = j :=
  ⟨fun h => ⟨congrArg (fun g : GSem nD τ sig => g.1.1) h, (dsem_inj (SemLoc.dma.inj (congrArg Prod.snd h))).2⟩, fun h => by rw [h.1, h.2]⟩
/-- A barrier is no transfer's cell. -/
theorem bar_ne_dma (a b : Dev nD) (p : Bool) (i : Fin 76) : barCell a ≠ dcell p b i := fun h => by
  have := congrArg Prod.snd h; cases this

/-! ## What is owed each cell -/

/-- A transfer owes nothing to a barrier. -/
theorem owedX_bar (d c : Dev nD) (s : ℕ) (u : Unit) : owedX d s (barCell c) u = 0 := by
  by_contra h
  obtain ⟨i, -, hi⟩ := owedX_pos (Nat.pos_of_ne_zero h)
  exact bar_ne_dma _ _ _ _ hi
/-- A barrier signal owes nothing to a receive cell. -/
theorem owedB_recv (d c : Dev nD) (i : Fin 76) (D : Finset (Fin 4)) (u : Unit) : owedB d D (recvCell c i) u = 0 := by
  by_contra h
  obtain ⟨e, he⟩ := owedB_pos (Nat.pos_of_ne_zero h)
  exact bar_ne_dma _ _ _ _ he.symm

/-- What a device owes a barrier at the start. -/
theorem owed_bar (d c : Dev nD) (u : Unit) : O₀ d (barCell c) u = ∑ e ∈ nbrs d, if tgt d e = c then 32768 else 0 := by
  unfold O₀
  rw [Pi.add_apply, Finsupp.add_apply, owedX_bar, zero_add]
  unfold owedB
  rw [Finset.sum_apply, Finsupp.finset_sum_apply]
  refine Finset.sum_congr rfl fun e _ => ?_
  rw [tallyAt_apply]
  by_cases h : tgt d e = c
  · rw [if_pos ⟨by rw [h], rfl⟩, if_pos h]
  · rw [if_neg fun h' => h (barCell_iff.mp h'.1).symm, if_neg h]

/-- A tally that is there only under a condition, read at a cell. -/
theorem ite_tally (p : Bool) (g g' : GSem nD τ sig) (n : ℕ) (u : Unit) :
    (if p then tallyAt g () n else (0 : CellTallies nD τ sig Unit)) g' u = if p = true ∧ g' = g then n else 0 := by
  cases p
  · rfl
  · rw [if_pos rfl, tallyAt_apply]
    exact if_congr ⟨fun h => ⟨rfl, h.1⟩, fun h => ⟨h.2, rfl⟩⟩ rfl rfl

/-- What the transfers owe, read at a cell. -/
theorem owedX_apply (c : Dev nD) (s : ℕ) (g : GSem nD τ sig) (u : Unit) :
    owedX c s g u = ∑ i : Fin 76, (if s.testBit i.val then tallyAt (recvCell (tgt c (dir i)) i) () N else (0 : CellTallies nD τ sig Unit)) g u := by
  unfold owedX
  rw [Finset.sum_apply, Finsupp.finset_sum_apply]

/-- A transfer comes to a cell from its source alone. -/
theorem comes_iff (d c : Dev nD) (i : Fin 76) : ((bits0 d.val).s.testBit i.val = true ∧ recvCell c i = recvCell (tgt d (dir i)) i) ↔ (d = src c i ∧ usedIn c i = true) := by
  rw [bits0_s, recvCell_iff]
  constructor
  · rintro ⟨h1, rfl, -⟩
    refine ⟨(src_tgt d i).symm, ?_⟩
    unfold usedIn; rw [src_tgt]; exact h1
  · rintro ⟨rfl, h2⟩
    exact ⟨h2, (tgt_src c i).symm, rfl⟩

/-- What the transfers owe a receive cell. -/
theorem owedX_recv (d c : Dev nD) (i : Fin 76) (u : Unit) : owedX d (bits0 d.val).s (recvCell c i) u = if d = src c i ∧ usedIn c i = true then N else 0 := by
  have h : ∀ j : Fin 76, j ≠ i → (if (bits0 d.val).s.testBit j.val then tallyAt (recvCell (tgt d (dir j)) j) () N else (0 : CellTallies nD τ sig Unit)) (recvCell c i) u = 0 := fun j hj => by
    rw [ite_tally]
    exact if_neg fun h => hj (recvCell_iff.mp h.2).2.symm
  have h' : (if (bits0 d.val).s.testBit i.val then tallyAt (recvCell (tgt d (dir i)) i) () N else (0 : CellTallies nD τ sig Unit)) (recvCell c i) u
      = if d = src c i ∧ usedIn c i = true then N else 0 := by
    rw [ite_tally]
    exact if_congr (comes_iff d c i) rfl rfl
  have e := Finset.sum_eq_single (s := Finset.univ) i (fun j _ hj => h j hj) fun h => absurd (Finset.mem_univ _) h
  rw [owedX_apply, e, h']

/-- What a device owes a receive cell at the start. -/
theorem owed_recv (d c : Dev nD) (i : Fin 76) (u : Unit) : O₀ d (recvCell c i) u = if d = src c i then (if usedIn c i then N else 0) else 0 := by
  unfold O₀
  rw [Pi.add_apply, Finsupp.add_apply, owedB_recv, add_zero, owedX_recv, ite_and]

/-- A tally with one label, read at it. -/
theorem single_unit (n : ℕ) (u : Unit) : (Finsupp.single () n : Tally Unit) u = n := by
  cases u; exact Finsupp.single_eq_same

/-- What all owe a cell is its credit. -/
theorem launch_cell (g : GSem nD τ sig) (n : ℕ) (h : ∀ u, (∑ d : Dev nD, O₀ d g u) = n) :
    tallyOn g (launchCredit (Pipeline.owing O₀) 0 g) = (tallyAt g () n : CellTallies nD τ sig Unit) := by
  have e : launchCredit (Pipeline.owing O₀) 0 g = (Finsupp.single () n : Tally Unit) := Finsupp.ext fun u => by
    rw [Pipeline.launchCredit_owing, h, single_unit]
  rw [e]; rfl

/-- A sum of equal amounts is their number times the amount. -/
theorem sum_mul_ite {I J : Type} (S : Finset I) (T : I → Finset J) (p : I → J → Prop) [∀ i j, Decidable (p i j)] (n : ℕ) :
    (∑ i ∈ S, ∑ j ∈ T i, if p i j then n else 0) = (∑ i ∈ S, ∑ j ∈ T i, if p i j then 1 else 0) * n := by
  rw [Finset.sum_mul]
  refine Finset.sum_congr rfl fun i _ => ?_
  rw [Finset.sum_mul]
  refine Finset.sum_congr rfl fun j _ => ?_
  split
  · rw [one_mul]
  · rw [zero_mul]

/-- A device is signalled once by each of its neighbours. -/
theorem bar_total : ∀ c : Fin 32, (∑ d : Fin 32, ∑ e ∈ Finset.univ.filter (fun e => has d e = true), if tgt d e = c then 1 else 0)
    = (Finset.univ.filter (fun e => has c e = true)).card := by decide +kernel

/-- The credit that a barrier starts with. -/
theorem launch_bar (c : Dev nD) :
    tallyOn (barCell c) (launchCredit (Pipeline.owing O₀) 0 (barCell c)) = (tallyAt (barCell c) () ((nbrs c).card * 32768) : CellTallies nD τ sig Unit) :=
  launch_cell _ _ fun u => ((Finset.sum_congr rfl fun d _ => owed_bar d c u).trans ((sum_mul_ite Finset.univ nbrs (fun d e => tgt d e = c) 32768).trans
    (congrArg (· * 32768) (bar_total c))))

/-- The credit that a receive cell starts with. -/
theorem launch_recv (c : Dev nD) (i : Fin 76) :
    tallyOn (recvCell c i) (launchCredit (Pipeline.owing O₀) 0 (recvCell c i))
      = (tallyAt (recvCell c i) () (if usedIn c i then N else 0) : CellTallies nD τ sig Unit) :=
  launch_cell _ _ fun u => ((Finset.sum_congr rfl fun d _ => owed_recv d c i u).trans
    ((Finset.sum_ite_eq' Finset.univ (src c i) fun _ => if usedIn c i then N else 0).trans (if_pos (Finset.mem_univ _))))

omit [FloatOps F] in
/-- A device's credit is its barrier's and its receive cells'. -/
theorem creds (c : Dev nD) :
    (Pipeline.launchCred O₀ c : sProp 𝕄) ⊢ iprop(cred (tallyAt (barCell c) () ((nbrs c).card * 32768))
      ∗ bigSep Finset.univ fun i : Fin 76 => cred (tallyAt (recvCell c i) () (if usedIn c i then N else 0))) := by
  unfold Pipeline.launchCred
  rw [bigSep_univ_at _ (SemLoc.reg barS), launch_bar]
  refine sep_mono_right ?_
  refine (bigSep_subset (t := Finset.univ.map ⟨fun i : Fin 76 => (SemLoc.dma (dsem true i) : SemLoc sig), fun i j h => (dsem_inj (SemLoc.dma.inj h)).2⟩) ?_).trans ?_
  · intro x hx
    obtain ⟨i, -, rfl⟩ := Finset.mem_map.mp hx
    exact Finset.mem_erase.mpr ⟨(fun h => by cases h), Finset.mem_univ _⟩
  rw [bigSep_map]
  refine bigSep_mono fun i _ => ?_
  rw [← launch_recv]
  exact Entails.refl _

/-! ## The pipeline's own waits -/

/-- The staging's waits are below everything owed. -/
theorem waits (c : Dev nD) : (levAts L lv : sProp 𝕄) ⊢ Pipeline.cellsWaits cfgs (dats (F := F) m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Gather

end
-- ==== Proof.Ideal.Launch.lean ====
/-
# The launch

Every cell's state and tokens are made at launch, the tokens dealt to the devices that pay with them, each device's
invariants allocated; the cells of transfers that do not happen are closed at once. Then the region runs.
-/
module

public import proofs.«01_k».proof.Proof.Ideal.Credit
public import Idealize.ShloMosaic.Lib.Pipeline.CollectiveSegs

@[expose] public section

set_option backward.proofsInPublic true

noncomputable section

namespace Cert.KernelIdeal.Gather

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

abbrev osem : Bool × Fin 76 → SemLoc sig := fun p => .dma (dsem p.1 p.2)

/-- The transfers' semaphores are the kernel's own. -/
theorem ownSemFacts : Pipeline.OwnSemFacts cfg0.spec osem where
  isScoped := by decide +kernel
  inj := fun p p' h => by obtain ⟨h1, h2⟩ := dsem_inj (SemLoc.dma.inj h); exact Prod.ext h1 h2
  disj := fun k w s h => by
    have h1 : semNo k.1 k.2.val = ((cfg0.spec w).sem s).val := congrArg Fin.val (SemLoc.dma.inj h)
    have h2 := semNo_ge k.1 k.2
    have h3 : ((cfg0.spec w).sem s).val < 3 := by clear h1 h; revert s; revert w; decide
    omega

/-- Every window's array is held whole. -/
theorem share_eq (c : Dev nD) (w : Fin cfg0.W) : (dats (F := F) m ρ 0 c).share w = fullShare := by unfold Dat.share; split <;> rfl

/-! ## Sums over the cells -/

section Sums
variable {M : Type} [URA M]

/-- A sum over both kinds of cells is two sums. -/
theorem bigSep_bi (Φ : Bool × Fin 76 → sProp M) :
    bigSep Finset.univ Φ = iprop((bigSep Finset.univ fun i : Fin 76 => Φ (false, i)) ∗ bigSep Finset.univ fun i : Fin 76 => Φ (true, i)) := by
  rw [bigSep_univ_prod]
  exact bigSep_univ_eq_bigSepL [false, true] (by decide) (by decide) _

/-- A sum over a device's cells is the barrier's summand and the others. -/
theorem bigSep_ci (Φ : CI → sProp M) :
    bigSep Finset.univ Φ = iprop(Φ (.inl ()) ∗ bigSep Finset.univ fun p : Bool × Fin 76 => Φ (.inr p)) := by
  rw [bigSep_univ_sum, show (bigSep Finset.univ fun u : Unit => Φ (.inl u)) = Φ (.inl ()) from bigSep_univ_eq_bigSepL [()] (by decide) (by decide) _]
  rfl

end Sums

/-! ## The launch element -/

def ringCells : Finset (GSem nD τ sig) := Finset.univ.map ⟨kcell, kcell_injective⟩

abbrev TI : Type := Fin 4 ⊕ (Bool × Fin 76)
/-- A device's own cells' duty tokens: its barrier's four, and one per transfer's semaphore. -/
def tokOf (ck : Dev nD × TI) : GSem nD τ sig × ℕ × Fin 4 := match ck.2 with
  | .inl d => (barCell ck.1, 0, d)
  | .inr p => (dcell p.1 ck.1 p.2, 0, 0)
/-- The duties' tokens are told apart. -/
theorem tokOf_injective : Function.Injective tokOf := by
  rintro ⟨c, (d | ⟨b, i⟩)⟩ ⟨c', (d' | ⟨b', i'⟩)⟩ h
  · have h1 : barCell c = barCell c' := congrArg Prod.fst h
    have h2 : d = d' := congrArg (fun x : GSem nD τ sig × ℕ × Fin 4 => x.2.2) h
    rw [barCell_iff.mp h1, h2]
  · exact absurd (congrArg Prod.fst h) (bar_ne_dma _ _ _ _)
  · exact absurd (congrArg Prod.fst h).symm (bar_ne_dma _ _ _ _)
  · have h1 : kcell (c, .inr (b, i)) = kcell (c', .inr (b', i')) := congrArg Prod.fst h
    have h2 := kcell_injective h1
    have h3 : c = c' := congrArg Prod.fst h2
    have h4 : (b, i) = (b', i') := Sum.inr.inj (congrArg Prod.snd h2)
    rw [h3, h4]
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 4 => dutyTok ER (barCell c) 0 d) ∗ bigSep Finset.univ fun p : Bool × Fin 76 => dutyTok ER (dcell p.1 c p.2) 0 0)

/-- What the launch element deals device `c`. -/
def G (c : Dev nD) : sProp 𝕄 :=
  iprop((bigSep Finset.univ fun k : CI => roundState ER (rd m ρ) (kcell (c, k)) 0)
    ∗ (bigSep Finset.univ fun k : CI => reached ER (kcell (c, k)) 0) ∗ (bigSep Finset.univ fun k : CI => atPos ER (kcell (c, k)) 0 ∅ 0) ∗ toks c)

omit [FloatOps F] in
/-- The ghost state of the rounds gives each device its cells' rounds and tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by rw [bigSep_univ_sum]; rfl
  have he : iprop((bigSep ringCells fun g => roundState ER (rd m ρ) g 0) ∗ (bigSep ringCells fun g => reached ER g 0)
      ∗ (bigSep ringCells fun g => atPos ER g 0 ∅ 0) ∗ bigSep ringToks fun x => dutyTok ER x.1 x.2.1 x.2.2) = (bigSep Finset.univ (G m ρ) : sProp 𝕄) := by
    unfold G
    rw [hX, hX, hX, hT]
    simp only [bigSep_sep']
  iintro H
  imod (Rounds.fund ER (rd m ρ) ringCells ringToks) $$ H with H
  imodintro
  iapply (Entails.of_eq he) $$ H

/-! ## The invariants -/

omit [FloatOps F] in
/-- The kernel's own semaphores, all at zero, are the send and the receive semaphores. -/
theorem ownSems0_eq (c : Dev nD) : (Pipeline.ownSems0 (Ix := Unit) (Name := ℕ) (U := UU) (Lvl := ℕ) (Val := Elt F) (τ := τ) osem c : sProp 𝕄)
    = bigSep Finset.univ fun p : Bool × Fin 76 => semVal (dcell p.1 c p.2) 0 := by
  unfold Pipeline.ownSems0; rfl
omit [FloatOps F] in
/-- The only other semaphore is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's cells allocated, its places and its cells' tokens. -/
def Al (c : Dev nD) : sProp 𝕄 :=
  iprop((bigSep Finset.univ fun k : CI => iprop(∃ κ : ℕ, cellInv ER (rd m ρ) κ (kcell (c, k))))
    ∗ (bigSep Finset.univ fun k : CI => reached ER (kcell (c, k)) 0) ∗ (bigSep Finset.univ fun k : CI => atPos ER (kcell (c, k)) 0 ∅ 0) ∗ toks c)

omit [FloatOps F] in
/-- The invariants of a device's cells are set up. -/
theorem cells_alloc (c : Dev nD) :
    iprop((bigSep Finset.univ fun k : CI => semVal (kcell (c, k)) 0) ∗ bigSep Finset.univ fun k : CI => roundState ER (rd m ρ) (kcell (c, k)) 0)
      ⊢ (|={Set.univ}=> bigSep Finset.univ fun k : CI => iprop(∃ κ : ℕ, cellInv ER (rd m ρ) κ (kcell (c, k))) : sProp 𝕄) := by
  rw [← bigSep_sep']
  exact (bigSep_mono fun k _ => (Rounds.body_intro ER (rd m ρ) (kcell (c, k))).trans inv_alloc).trans (bigSep_fupd _ _)

omit [FloatOps F] in
/-- So a device's semaphores become its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> Al m ρ c := by
  have hs : (bigSep Finset.univ fun k : CI => (semVal (kcell (c, k)) 0 : sProp 𝕄))
      = iprop(semVal (barCell c) 0 ∗ bigSep Finset.univ fun p : Bool × Fin 76 => semVal (dcell p.1 c p.2) 0) := bigSep_ci _
  unfold G Al
  rw [ownSems0_eq, unscopedSems0_eq]
  iintro ⟨Hos, Hus, Hst, Hre, Hat, Htok⟩
  imod (cells_alloc m ρ c) $$ [Hos Hus Hst] with Hinv
  · isplitr [Hst]
    · rw [hs]; isplitl [Hus] <;> iassumption
    iexact Hst
  imodintro
  isplitl [Hinv]; · iexact Hinv
  isplitl [Hre]; · iexact Hre
  isplitl [Hat] <;> iassumption

/-! ## The tokens, dealt -/

/-- The tokens of the duties device `c` pays: one at each neighbour's barrier, its own send cells', and its targets'
    receive cells'. -/
def payToks (c : Dev nD) : sProp 𝕄 :=
  iprop((bigSep Finset.univ fun d : Fin 4 => dutyTok ER (barCell (tgt c d)) 0 (opp d))
    ∗ (bigSep Finset.univ fun i : Fin 76 => dutyTok ER (sendCell c i) 0 0) ∗ bigSep Finset.univ fun i : Fin 76 => dutyTok ER (recvCell (tgt c (dir i)) i) 0 0)

def oppE : Fin 4 ≃ Fin 4 := ⟨opp, opp, opp_opp, opp_opp⟩

omit [FloatOps F] in
/-- The tokens of the barriers' duties, given to the devices that signal. -/
theorem bar_around : (bigSep Finset.univ fun c : Dev nD => bigSep Finset.univ fun d : Fin 4 => (dutyTok ER (barCell c) 0 d : sProp 𝕄))
    = bigSep Finset.univ fun c : Dev nD => bigSep Finset.univ fun d : Fin 4 => dutyTok ER (barCell (tgt c d)) 0 (opp d) := by
  rw [bigSep_univ_comm, bigSep_univ_comm (fun (c : Dev nD) (d : Fin 4) => (dutyTok ER (barCell (tgt c d)) 0 (opp d) : sProp 𝕄)),
    bigSep_univ_equiv oppE]
  refine bigSep_congr fun d _ => ?_
  exact bigSep_univ_equiv (step d) fun c : Dev nD => (dutyTok ER (barCell c) 0 (opp d) : sProp 𝕄)

omit [FloatOps F] in
/-- The tokens of the landings, given to the devices that send. -/
theorem recv_around : (bigSep Finset.univ fun c : Dev nD => bigSep Finset.univ fun i : Fin 76 => (dutyTok ER (recvCell c i) 0 0 : sProp 𝕄))
    = bigSep Finset.univ fun c : Dev nD => bigSep Finset.univ fun i : Fin 76 => dutyTok ER (recvCell (tgt c (dir i)) i) 0 0 := by
  rw [bigSep_univ_comm, bigSep_univ_comm (fun (c : Dev nD) (i : Fin 76) => (dutyTok ER (recvCell (tgt c (dir i)) i) 0 0 : sProp 𝕄))]
  refine bigSep_congr fun i _ => ?_
  exact bigSep_univ_equiv (step (dir i)) fun c : Dev nD => (dutyTok ER (recvCell c i) 0 0 : sProp 𝕄)

omit [FloatOps F] in
/-- So every device gets the tokens of what it is to pay. -/
theorem toks_around : (bigSep Finset.univ fun c : Dev nD => (toks c : sProp 𝕄)) = bigSep Finset.univ fun c : Dev nD => payToks c := by
  have h (c : Dev nD) : (toks c : sProp 𝕄) = iprop((bigSep Finset.univ fun d : Fin 4 => dutyTok ER (barCell c) 0 d)
      ∗ (bigSep Finset.univ fun i : Fin 76 => dutyTok ER (sendCell c i) 0 0) ∗ bigSep Finset.univ fun i : Fin 76 => dutyTok ER (recvCell c i) 0 0) := by
    unfold toks; rw [bigSep_bi]
  rw [bigSep_congr fun c _ => h c]
  unfold payToks
  rw [bigSep_sep', bigSep_sep', bigSep_sep', bigSep_sep', bar_around, recv_around]

/-- What the global step leaves each device. -/
def G' (c : Dev nD) : sProp 𝕄 :=
  iprop(∃ K : Dev nD × CI → ℕ, recs m ρ K ∗ (bigSep Finset.univ fun k : CI => atPos ER (kcell (c, k)) 0 ∅ 0) ∗ payToks c)

/-- A fact that lasts may be used in every summand. -/
theorem with_persistent {M : Type} [URA M] {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- What a device starts with, from its parts. -/
theorem g'_intro (K : Dev nD × CI → ℕ) (c : Dev nD) :
    iprop(recs m ρ K ∗ ((bigSep Finset.univ fun k : CI => atPos ER (kcell (c, k)) 0 ∅ 0) ∗ payToks c)) ⊢ G' m ρ c := by
  unfold G'
  iintro ⟨HR, Hat, Ht⟩
  iexists K
  isplitl [HR]; · iexact HR
  isplitl [Hat] <;> iassumption

omit [FloatOps F] in
/-- What all the devices know of all the cells. -/
theorem recs_intro (K : Dev nD × CI → ℕ) :
    iprop((bigSep Finset.univ fun ck : Dev nD × CI => cellInv ER (rd m ρ) (K ck) (kcell ck)) ∗ bigSep Finset.univ fun ck : Dev nD × CI => reached ER (kcell ck) 0)
      ⊢ recs m ρ K := by
  unfold recs
  rw [bigSep_sep']

omit [FloatOps F] in
/-- The devices' cells, known to all, and the tokens given to those who pay. -/
theorem regroup : (bigSep Finset.univ fun c : Dev nD => (Al m ρ c : sProp 𝕄)) ⊢ bigSep Finset.univ (G' m ρ) := by
  unfold Al
  rw [bigSep_sep', bigSep_sep', bigSep_sep', toks_around, ← bigSep_univ_prod (fun ck : Dev nD × CI => iprop(∃ κ : ℕ, cellInv ER (rd m ρ) κ (kcell ck))),
    ← bigSep_univ_prod (fun ck : Dev nD × CI => (reached ER (kcell ck) 0 : sProp 𝕄))]
  iintro ⟨HI, HR, Hat, Htok⟩
  ihave HK := (BI.bigSep_exists_pi Finset.univ (fun (ck : Dev nD × CI) (κ : ℕ) => (cellInv ER (rd m ρ) κ (kcell ck) : sProp 𝕄))) $$ HI
  icases HK with ⟨%K, HI⟩
  ihave HC := (recs_intro m ρ K) $$ [HI HR]
  · isplitl [HI] <;> iassumption
  iapply (with_persistent (R := recs m ρ K) fun c _ => g'_intro m ρ K c)
  isplitl [HC]; · iexact HC
  iapply (Entails.of_eq (bigSep_sep' Finset.univ (fun c : Dev nD => bigSep Finset.univ fun k : CI => (atPos ER (kcell (c, k)) 0 ∅ 0 : sProp 𝕄)) payToks).symm)
  isplitl [Hat] <;> iassumption

omit [FloatOps F] in
/-- The global step: every device's cells allocated, every token dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## A device's start -/

omit [FloatOps F] in
/-- A cell that is not used has no duty at all. -/
theorem duties_unused (b : Bool) (c : Dev nD) (i : Fin 76) (h : (if b then usedIn c i else used c i) ≠ true) :
    ∀ r, 0 ≤ r → (rd (F := F) m ρ).duties (dcell b c i) r = ∅ := fun r _ => by
  rcases Nat.eq_zero_or_pos r with rfl | hr
  · rw [duties_dma]; unfold dmaDuties; exact if_neg h
  · exact duties_later m ρ _ r hr

omit [FloatOps F] in
/-- A transfer's token, or its idle cell. -/
theorem tk_one (K : Dev nD × CI → ℕ) (c : Dev nD) (i : Fin 76) :
    iprop(Ctx (F := F) m ρ K ∗ (atPos ER (sendCell c i) 0 ∅ 0 ∗ dutyTok ER (sendCell c i) 0 0 ∗ dutyTok ER (recvCell (tgt c (dir i)) i) 0 0))
      ⊢ |={Set.univ}=> TkS c i := by
  unfold TkS
  by_cases h : used c i = true
  · rw [if_pos h]
    iintro ⟨-, H⟩; imodintro; iexact H
  · rw [if_neg h]
    unfold sDone
    iintro ⟨#HC, Hat, -, -⟩
    ihave HI := (ctx_cell m ρ K c false i) $$ HC
    icases HI with ⟨#HI, -⟩
    imod (Rounds.cell_close ER (rd m ρ) (Set.mem_univ (K (c, .inr (false, i)))) (fun h => h) (R := 0) (duties_unused m ρ false c i h)) $$ [Hat] with Hz
    · isplitr; · iexact HI
      iexact Hat
    imodintro; iexact Hz

omit [FloatOps F] in
/-- A landing's place, or its idle cell. -/
theorem rcv_one (K : Dev nD × CI → ℕ) (c : Dev nD) (i : Fin 76) :
    iprop(Ctx (F := F) m ρ K ∗ (atPos ER (recvCell c i) 0 ∅ 0 ∗ cred (tallyAt (recvCell c i) () (if usedIn c i then N else 0))))
      ⊢ |={Set.univ}=> rcvP c (bits0 c.val) i := by
  unfold rcvP
  rw [bits0_r]
  by_cases h : usedIn c i = true
  · rw [if_pos h, if_pos h]
    unfold rTodo
    iintro ⟨-, H⟩; imodintro; iexact H
  · rw [if_neg h, if_neg h]
    unfold rDone
    iintro ⟨#HC, Hat, -⟩
    ihave HI := (ctx_cell m ρ K c true i) $$ HC
    icases HI with ⟨#HI, -⟩
    imod (Rounds.cell_close ER (rd m ρ) (Set.mem_univ (K (c, .inr (true, i)))) (fun h => h) (R := 0) (duties_unused m ρ true c i h)) $$ [Hat] with Hz
    · isplitr; · iexact HI
      iexact Hat
    imodintro; iexact Hz

omit [FloatOps F] in
/-- So for all that a device sends, -/
theorem tk_all (K : Dev nD × CI → ℕ) (c : Dev nD) :
    iprop(Ctx (F := F) m ρ K ∗ ((bigSep Finset.univ fun i : Fin 76 => atPos ER (sendCell c i) 0 ∅ 0)
      ∗ (bigSep Finset.univ fun i : Fin 76 => dutyTok ER (sendCell c i) 0 0) ∗ bigSep Finset.univ fun i : Fin 76 => dutyTok ER (recvCell (tgt c (dir i)) i) 0 0))
      ⊢ |={Set.univ}=> bigSep Finset.univ fun i : Fin 76 => TkS c i := by
  rw [← bigSep_sep', ← bigSep_sep']
  exact (with_persistent fun i _ => tk_one m ρ K c i).trans (bigSep_fupd _ _)

omit [FloatOps F] in
/-- and for all that comes to it. -/
theorem rcv_all (K : Dev nD × CI → ℕ) (c : Dev nD) :
    iprop(Ctx (F := F) m ρ K ∗ ((bigSep Finset.univ fun i : Fin 76 => atPos ER (recvCell c i) 0 ∅ 0)
      ∗ bigSep Finset.univ fun i : Fin 76 => cred (tallyAt (recvCell c i) () (if usedIn c i then N else 0))))
      ⊢ |={Set.univ}=> bigSep Finset.univ fun i : Fin 76 => rcvP c (bits0 c.val) i := by
  rw [← bigSep_sep']
  exact (with_persistent fun i _ => rcv_one m ρ K c i).trans (bigSep_fupd _ _)

omit [FloatOps F] in
/-- A device's places at its cells, by the kinds of cells. -/
theorem at_split (c : Dev nD) : (bigSep Finset.univ fun k : CI => (atPos ER (kcell (c, k)) 0 ∅ 0 : sProp 𝕄))
    = iprop(atPos ER (barCell c) 0 ∅ 0 ∗ (bigSep Finset.univ fun i : Fin 76 => atPos ER (sendCell c i) 0 ∅ 0) ∗ bigSep Finset.univ fun i : Fin 76 => atPos ER (recvCell c i) 0 ∅ 0) := by
  rw [bigSep_ci, bigSep_bi]; rfl

omit [FloatOps F] in
/-- The tokens towards the neighbours, of all the directions' tokens. -/
theorem nbrs_toks (c : Dev nD) : (bigSep Finset.univ fun d : Fin 4 => (dutyTok ER (barCell (tgt c d)) 0 (opp d) : sProp 𝕄))
    ⊢ bigSep (nbrs c) fun d => dutyTok ER (barCell (tgt c d)) 0 (opp d) := bigSep_subset (Finset.subset_univ _)

omit [FloatOps F] in
/-- The launch gives every device what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' payToks
  rw [at_split, ← lev_eq]
  iintro ⟨-, Hlev, Hcr, -, ⟨%K, HR, ⟨HaB, HaS, HaR⟩, HtB, HtS, HtR⟩⟩
  ihave Hc := (creds (F := F) c) $$ Hcr
  icases Hc with ⟨HcB, HcR⟩
  ihave HC := (show iprop(recs (F := F) m ρ K ∗ Lev) ⊢ Ctx m ρ K from by unfold Ctx; exact Entails.refl _) $$ [HR Hlev]
  · isplitl [HR] <;> iassumption
  icases HC with #HC
  imod (tk_all m ρ K c) $$ [HaS HtS HtR] with HT
  · isplitr; · iexact HC
    isplitl [HaS]; · iexact HaS
    isplitl [HtS] <;> iassumption
  imod (rcv_all m ρ K c) $$ [HaR HcR] with Hr
  · isplitr; · iexact HC
    isplitl [HaR] <;> iassumption
  imodintro
  isplitl
  · unfold start
    iexists K
    isplitr; · iexact HC
    isplitl [HtB]; · iapply (nbrs_toks (F := F) c) $$ HtB
    isplitl [HaB]; · iexact HaB
    isplitl [HcB]; · iexact HcB
    isplitl [HT]; · iexact HT
    iexact Hr
  · iempintro

/-- With its scratch that is the first condition of the pipeline. -/
theorem phi0_intro (c : Dev nD) :
    iprop(start m ρ c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ m ρ c from rfl, scopedRest0_eq]
  unfold Φ₀
  iintro ⟨Hs, -, ⟨%f, Hr⟩⟩
  isplitl [Hs]; · iexact Hs
  iexists f; unfold gW; iexact Hr

/-- The last condition gives the semaphores back at zero. -/
theorem phi1_exit (c : Dev nD) :
    (dats (F := F) m ρ 0 c).Φ (Fin.last cfg0.N) ⊢ iprop(unscopedSems0 c ∗ Pipeline.ownSems0 osem c ∗ Pipeline.scopedRest cfg0.spec c) := by
  rw [show (dats (F := F) m ρ 0 c).Φ (Fin.last cfg0.N) = Φ₁ m ρ c from rfl, scopedRest0_eq, ownSems0_eq, unscopedSems0_eq, bigSep_bi]
  unfold Φ₁ gW
  iintro ⟨Hg, HzS, HzV, HzB⟩
  isplitl [HzB]; · iexact HzB
  isplitl [HzS HzV]
  · isplitl [HzS]; · iexact HzS
    iexact HzV
  iexists (gath m ρ); iexact Hg

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the thirty-two devices ends, with each device's
    arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The blocks of `x` and of `w` are left as they were; -/
theorem finalA_x (c : Dev nD) : finalA m ρ c (0 : Fin 3) = (s₀ m ρ).mem (win0_0.arr.view.loc (c : Thread nD τ)) :=
  (dats (F := F) m ρ 0 c).arrAt_in (0 : Fin 3) rfl _
/-- and so are the blocks of `w`. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.KernelIdeal.Gather

end
-- ==== Proof.Value.lean ====
/-
# What the result is

Over the extended reals the kernel's block of the result, on the device that holds block `c`, is block `c` of the activated
product of the two whole arrays, and the reference computes that activated product. The activation's cube is multiplied out
in another order by the two; multiplication of extended reals is associative.
-/
module

public import proofs.«01_k».proof.Proof.Ideal.Launch
public import proofs.«01_k».proof.Proof.Gen.ReferenceIdeal.Run
public import Idealize.ShloMosaic.Lib.Layout
public import Idealize.ShloMosaic.Lib.MatmulPlain
public import Idealize.ShloMosaic.Lib.StackMember

@[expose] public section

set_option backward.proofsInPublic true

noncomputable section

namespace Cert.Gather.Value

open Cert.KernelIdeal Cert.KernelIdeal.Gen Cert.KernelIdeal.Gather Cert.Gather
open Idealize.ShloMosaic hiding ix2 eq_ix2
open Idealize.ShloMosaic.TcCoe Idealize.ShloMosaic.ValueIdx
open Idealize.SL.Sem

/-- The whole arrays' shape and a block's. -/
abbrev T : Shape := ⟨2, ![1024, 1024]⟩
abbrev B : Shape := ⟨2, ![1024, 32]⟩

/-- The activation, as the reference writes it. -/
def act (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The activated product of two whole arrays. -/
def whole (X W : FVec Ideal T .f32) : FVec Ideal T .f32 := fun j =>
  act (∑ k : Fin 1024, X (ix2 (n0 := 1024) (n1 := 1024) (j 0) k) * W (ix2 (n0 := 1024) (n1 := 1024) k (j 1)))

/-! ## The kernel's arithmetic at an index -/

/-- The kernel's activation is the reference's. -/
theorem act_kernel (Y : FVec Ideal B .f32) (i : B.Idx) : k0_pay9 (F := Ideal) Y i = act (Y i) := by
  have e : k0_pay9 (F := Ideal) Y i = Ideal.ofBits .f32 0x3F000000#32 * Y i * (Ideal.ofBits .f32 0x3F800000#32
      + Ideal.tanh (Ideal.ofBits .f32 0x3F4C422A#32 * (Y i + Ideal.ofBits .f32 0x3D372713#32 * Y i * Y i * Y i))) := rfl
  rw [e]
  unfold act
  generalize Y i = y
  generalize Ideal.ofBits .f32 0x3D372713#32 = k
  rw [show k * y * y * y = k * (y * y * y) by rw [mul_assoc k y y, mul_assoc k (y * y) y]]

/-- The kernel's product is the sum over the contracted coordinate. -/
theorem prod_kernel (X : FVec Ideal T .f32) (W : FVec Ideal B .f32) (r : Fin 1024) (j : Fin 32) :
    k0_pay8 (F := Ideal) X W (ix2 r j) = ∑ k : Fin 1024, X (ix2 r k) * W (ix2 k j) := by
  unfold k0_pay8
  rw [shapeCast_self]
  show FloatOps.matmul (DotDims.plain 1024 1024 32) none X W (constant B .f32 0x00000000#32) (ix2 r j) = _
  rw [Ideal.matmul_plain_apply]
  show Ideal.ofBits .f32 0x00000000#32 + _ = _
  rw [Ideal.ofBits_zero_f32, zero_add]

/-! ## The kernel's blocks as blocks of the whole arrays -/

variable {m : (ℓ : Loc nD τ sig) → Buf (Elt Ideal) ℓ} {ρ : Dev nD → PrngReg}

/-- A staged block is the argument's array on that device. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> rfl
  exact Memref.read_access_unit_zero (Elt Ideal) main_arg0 hz (fun a => by fin_cases a <;> decide) _
/-- So is the staged block of the second argument. -/
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> rfl
  exact Memref.read_access_unit_zero (Elt Ideal) main_arg1 hz (fun a => by fin_cases a <;> decide) _

/-- The result's array after the run is the block that the body leaves. -/
theorem finalA_o (c : Dev nD) : finalA m ρ c (2 : Fin 3) = resV m ρ c := by
  have h : (win0_2.blk (0 : Fin 1)).view.read (Elt Ideal) (finalA m ρ c (2 : Fin 3)) = resV m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  have hz : (fun a => (win0_2.index (0 : Fin 1)) a * main_v1.ty.shape.size a) = fun _ => 0 :=
    funext fun a => by fin_cases a <;> rfl
  exact (Memref.read_access_unit_zero (Elt Ideal) main_v1 hz (fun a => by fin_cases a <;> decide) _).symm.trans h

section Agree

variable {X W : FVec Ideal T .f32}
  (hX : ∀ c : Dev nD, m ((c : Thread nD τ).loc main_arg0) = Layout.block ⟨2, ![32, 1024]⟩ T 0 32 c X)
  (hW : ∀ c : Dev nD, m ((c : Thread nD τ).loc main_arg1) = Layout.block B T 1 32 c W)
/-- A row of the gathered array is a row of the block whose slot it is in. -/
theorem gath_at (R : ℕ) (hR : R < 1024) (k : Fin 1024) (s : Fin 32) (hs : R / 32 = s.val) :
    gath m ρ (ix2 (n0 := 1024) (n1 := 1024) ⟨R, hR⟩ k) = xstg m ρ (devOf s) (xIdx (R % 32) (Nat.mod_lt _ (by decide)) k.val k.isLt) := by
  have e : (⟨R / 32 % 32, Nat.mod_lt _ (by decide)⟩ : Fin 32) = s := by
    apply Fin.ext
    show R / 32 % 32 = s.val
    have := s.isLt
    omega
  subst e
  rfl

include hX in
/-- The gathered row that becomes row `r` of the result is row `r` of the whole first array. -/
theorem gath_row (r k : Fin 1024) :
    gath m ρ (ix2 (n0 := 1024) (n1 := 1024) ⟨rowOf r.val r.isLt, rowOf_lt _ _⟩ k) = X (ix2 r k) := by
  have hr := r.isLt
  have e : rowOf r.val r.isLt / 32 = (own ⟨r.val / 32, by omega⟩).val := by unfold rowOf; omega
  have e' : rowOf r.val r.isLt % 32 = r.val % 32 := by unfold rowOf; omega
  rw [gath_at _ _ k _ e, devOf_own, xstg_eq, hX, Layout.block_apply]
  congr 1
  funext a
  apply Fin.ext
  match a with
  | 0 =>
    show r.val / 32 * 32 + rowOf r.val r.isLt % 32 = r.val
    rw [e']; omega
  | 1 => rfl

include hW in
/-- Device `c`'s column `j` of the second array is column `32 c + j` of the whole. -/
theorem w_col (c : Dev nD) (k : Fin 1024) (j : Fin 32) (q : Fin 1024) (hq : q.val = c.val * 32 + j.val) :
    wstg m ρ c (ix2 (n0 := 1024) (n1 := 32) k j) = W (ix2 k q) := by
  rw [wstg_eq, hW, Layout.block_apply]
  congr 1
  funext a
  apply Fin.ext
  match a with
  | 0 => rfl
  | 1 => exact hq.symm

include hX hW in
/-- Device `c`'s result at row `r`, column `j` is the activated product at row `r`, column `32 c + j`. -/
theorem res_at (c : Dev nD) (r : Fin 1024) (j : Fin 32) (q : Fin 1024) (hq : q.val = c.val * 32 + j.val) :
    resV m ρ c (ix2 (n0 := 1024) (n1 := 32) r j) = whole X W (ix2 r q) := by
  have e : resV m ρ c (ix2 (n0 := 1024) (n1 := 32) r j)
      = k0_pay9 (prodV m ρ c) (ix2 (n0 := 1024) (n1 := 32) ⟨rowOf r.val r.isLt, rowOf_lt _ _⟩ j) := by
    unfold resV outV
    congr 1
    funext a
    match a with
    | 0 => rfl
    | 1 => rfl
  have e' : whole X W (ix2 r q) = act (∑ k : Fin 1024, X (ix2 r k) * W (ix2 k q)) := rfl
  rw [e, e', act_kernel]
  unfold prodV
  rw [prod_kernel (gath m ρ) (wstg m ρ c)]
  congr 1
  refine Finset.sum_congr rfl fun k _ => ?_
  rw [gath_row hX r k, w_col hW c k j q hq]

include hX hW in
/-- Device `c`'s block of the result is block `c` of the activated product of the whole arrays. -/
theorem res_block (c : Dev nD) : resV m ρ c = Layout.block B T 1 32 c (whole X W) := by
  have key : ∀ i : B.Idx, resV m ρ c i = Layout.block B T 1 32 c (whole X W) (by decide) i := by
    intro i
    obtain ⟨r, j, rfl⟩ : ∃ (r : Fin 1024) (j : Fin 32), i = ix2 r j := ⟨i 0, i 1, eq_ix2 i⟩
    have hq : c.val * 32 + j.val < 1024 := by
      have h : j.val < 32 := j.isLt
      have h' : c.val < 32 := c.isLt
      omega
    refine (res_at hX hW c r j ⟨c.val * 32 + j.val, hq⟩ rfl).trans (congrArg (whole X W) (funext fun a => Fin.ext ?_))
    match a with
    | 0 => rfl
    | 1 => rfl
  exact funext key

end Agree

/-! ## The reference -/

/-- The reference's product at an index. -/
theorem prod_ref (X W : FVec Ideal T .f32) (j : T.Idx) :
    Host.dotGeneral Cert.ReferenceIdeal.dot_S1024x1024_S1024x1024_S1024x1024_1_0_0_1_n_n none X W j
      = ∑ k : Fin 1024, X (ix2 (n0 := 1024) (n1 := 1024) (j 0) k) * W (ix2 (n0 := 1024) (n1 := 1024) k (j 1)) := by
  obtain ⟨r, q, rfl⟩ : ∃ (r q : Fin 1024), j = ix2 r q := ⟨j 0, j 1, eq_ix2 j⟩
  exact StackMember.dotGeneral_plain_apply (m := 1024) (k := 1024) (n := 1024) none X W r q

/-- The reference's result, as its run states it. -/
abbrev refOut (X W : FVec Ideal T .f32) : FVec Ideal T .f32 :=
  mulf (mulf (broadcastInDim T ![] Cert.ReferenceIdeal.Facts₀.bcast_S_S1024x1024 (constant Cert.ReferenceIdeal.S_ .f32 0x3F000000#32))
      (Host.dotGeneral Cert.ReferenceIdeal.dot_S1024x1024_S1024x1024_S1024x1024_1_0_0_1_n_n none X W))
    (addf (broadcastInDim T ![] Cert.ReferenceIdeal.Facts₀.bcast_S_S1024x1024 (constant Cert.ReferenceIdeal.S_ .f32 0x3F800000#32))
      (Host.tanh (mulf (broadcastInDim T ![] Cert.ReferenceIdeal.Facts₀.bcast_S_S1024x1024 (constant Cert.ReferenceIdeal.S_ .f32 0x3F4C422A#32))
        (addf (Host.dotGeneral Cert.ReferenceIdeal.dot_S1024x1024_S1024x1024_S1024x1024_1_0_0_1_n_n none X W)
          (mulf (broadcastInDim T ![] Cert.ReferenceIdeal.Facts₀.bcast_S_S1024x1024 (constant Cert.ReferenceIdeal.S_ .f32 0x3D372713#32))
            (mulf (mulf (Host.dotGeneral Cert.ReferenceIdeal.dot_S1024x1024_S1024x1024_S1024x1024_1_0_0_1_n_n none X W)
                (Host.dotGeneral Cert.ReferenceIdeal.dot_S1024x1024_S1024x1024_S1024x1024_1_0_0_1_n_n none X W))
              (Host.dotGeneral Cert.ReferenceIdeal.dot_S1024x1024_S1024x1024_S1024x1024_1_0_0_1_n_n none X W)))))))

/-- It is the activated product. -/
theorem ref_whole (X W : FVec Ideal T .f32) : refOut X W = whole X W := by
  funext j
  have h := prod_ref X W j
  unfold whole
  rw [← h]
  rfl

end Cert.Gather.Value

end
-- ==== Proof.lean ====
/-
# The certificate

Each claim is closed from the run of the program that it is about: the kernel's run, in the modules under Bits for the
machine's floats and under Ideal for the extended reals, and the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value
public import Idealize.ShloMosaic.Lib.Quiescent

@[expose] public section

noncomputable section

namespace Cert.Proof

open Idealize.ShloMosaic Idealize.ShloMosaic.TcCoe Idealize.SL.Sem

/-- The kernel, over the bit-exact floats, runs, leaves its arguments as they were and every semaphore at zero. -/
theorem frame_kernel : Cert.quiescent_Kernel := by
  intro m ρ _
  exact (θ_run Cert.Kernel.defs _ _).mono
    (fun _ h => ⟨fun c => ⟨(h.1 c (0 : Fin 3)).trans (Cert.Kernel.Gather.finalA_x m ρ c),
      (h.1 c (1 : Fin 3)).trans (Cert.Kernel.Gather.finalA_w m ρ c)⟩, h.2⟩)
    (Cert.Kernel.Gather.run_main (F := Bits) m ρ)

/-- So does the kernel over the extended reals. -/
theorem frame_ideal : Cert.quiescent_KernelIdeal := by
  intro m ρ _
  exact (θ_run Cert.KernelIdeal.defs _ _).mono
    (fun _ h => ⟨fun c => ⟨(h.1 c (0 : Fin 3)).trans (Cert.KernelIdeal.Gather.finalA_x m ρ c),
      (h.1 c (1 : Fin 3)).trans (Cert.KernelIdeal.Gather.finalA_w m ρ c)⟩, h.2⟩)
    (Cert.KernelIdeal.Gather.run_main (F := Ideal) m ρ)

/-- So does the reference, which has no semaphore. -/
theorem frame_reference : Cert.quiescent_ReferenceIdeal := by
  intro m ρ _
  exact (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- Over the extended reals each device's block of the kernel's result is its block of the reference's result. -/
theorem value : Cert.algebraic_KernelIdeal_ReferenceIdeal := by
  intro m ρ m' ρ' _ hm
  refine ⟨Cert.Gather.Value.whole
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨?_,
      (h.1 c (0 : Fin 3)).trans (Cert.KernelIdeal.Gather.finalA_x m ρ c),
      (h.1 c (1 : Fin 3)).trans (Cert.KernelIdeal.Gather.finalA_w m ρ c)⟩)
      (Cert.KernelIdeal.Gather.run_main (F := Ideal) m ρ)
    exact (h.1 c (2 : Fin 3)).trans ((Cert.Gather.Value.finalA_o c).trans
      (Cert.Gather.Value.res_block (fun c => (hm c).1) (fun c => (hm c).2) c))
  · exact (θ_run Cert.ReferenceIdeal.defs _ _).mono
      (fun _ h => ⟨(h 0).1.trans (Cert.Gather.Value.ref_whole _ _), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
